-- ==== Defs.lean ====
def Pre_FfTwoDw (m : (ℓ : Loc Cert.FfTwoDw.nD Cert.FfTwoDw.τ Cert.FfTwoDw.sig) → Buf (Elt Bits) ℓ) : Prop :=
  True

def Pre_FfTwoDwIdeal (m : (ℓ : Loc Cert.FfTwoDwIdeal.nD Cert.FfTwoDwIdeal.τ Cert.FfTwoDwIdeal.sig) → Buf (Elt Ideal) ℓ) : Prop :=
  True

def Pre_FfTwoDwRefIdeal (m : (ℓ : Loc Cert.FfTwoDwRefIdeal.nD Cert.FfTwoDwRefIdeal.τ Cert.FfTwoDwRefIdeal.sig) → Buf (Elt Ideal) ℓ) : Prop :=
  True

def Pre_FfOneDw (m : (ℓ : Loc Cert.FfOneDw.nD Cert.FfOneDw.τ Cert.FfOneDw.sig) → Buf (Elt Bits) ℓ) : Prop :=
  True

def Pre_FfOneDwIdeal (m : (ℓ : Loc Cert.FfOneDwIdeal.nD Cert.FfOneDwIdeal.τ Cert.FfOneDwIdeal.sig) → Buf (Elt Ideal) ℓ) : Prop :=
  True

def Pre_FfOneDwRefIdeal (m : (ℓ : Loc Cert.FfOneDwRefIdeal.nD Cert.FfOneDwRefIdeal.τ Cert.FfOneDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_FfOneDx (m : (ℓ : Loc Cert.FfOneDx.nD Cert.FfOneDx.τ Cert.FfOneDx.sig) → Buf (Elt Bits) ℓ) : Prop :=
  True

def Pre_FfOneDxIdeal (m : (ℓ : Loc Cert.FfOneDxIdeal.nD Cert.FfOneDxIdeal.τ Cert.FfOneDxIdeal.sig) → Buf (Elt Ideal) ℓ) : Prop :=
  True

def Pre_FfOneDxRefIdeal (m : (ℓ : Loc Cert.FfOneDxRefIdeal.nD Cert.FfOneDxRefIdeal.τ Cert.FfOneDxRefIdeal.sig) → Buf (Elt Ideal) ℓ) : Prop :=
  True

def Pre_FfTwoDx (m : (ℓ : Loc Cert.FfTwoDx.nD Cert.FfTwoDx.τ Cert.FfTwoDx.sig) → Buf (Elt Bits) ℓ) : Prop :=
  True

def Pre_FfTwoDxIdeal (m : (ℓ : Loc Cert.FfTwoDxIdeal.nD Cert.FfTwoDxIdeal.τ Cert.FfTwoDxIdeal.sig) → Buf (Elt Ideal) ℓ) : Prop :=
  True

def Pre_FfTwoDxRefIdeal (m : (ℓ : Loc Cert.FfTwoDxRefIdeal.nD Cert.FfTwoDxRefIdeal.τ Cert.FfTwoDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_WideDx (m : (ℓ : Loc Cert.WideDx.nD Cert.WideDx.τ Cert.WideDx.sig) → Buf (Elt Bits) ℓ) : Prop :=
  True

def Pre_WideDxIdeal (m : (ℓ : Loc Cert.WideDxIdeal.nD Cert.WideDxIdeal.τ Cert.WideDxIdeal.sig) → Buf (Elt Ideal) ℓ) : Prop :=
  True

def Pre_WideDxRefIdeal (m : (ℓ : Loc Cert.WideDxRefIdeal.nD Cert.WideDxRefIdeal.τ Cert.WideDxRefIdeal.sig) → Buf (Elt Ideal) ℓ) : Prop :=
  True

def Pre_NarrowDx (m : (ℓ : Loc Cert.NarrowDx.nD Cert.NarrowDx.τ Cert.NarrowDx.sig) → Buf (Elt Bits) ℓ) : Prop :=
  True

def Pre_NarrowDxIdeal (m : (ℓ : Loc Cert.NarrowDxIdeal.nD Cert.NarrowDxIdeal.τ Cert.NarrowDxIdeal.sig) → Buf (Elt Ideal) ℓ) : Prop :=
  True

def Pre_NarrowDxRefIdeal (m : (ℓ : Loc Cert.NarrowDxRefIdeal.nD Cert.NarrowDxRefIdeal.τ Cert.NarrowDxRefIdeal.sig) → Buf (Elt Ideal) ℓ) : Prop :=
  True

def Pre_WideDw (m : (ℓ : Loc Cert.WideDw.nD Cert.WideDw.τ Cert.WideDw.sig) → Buf (Elt Bits) ℓ) : Prop :=
  True

def Pre_WideDwIdeal (m : (ℓ : Loc Cert.WideDwIdeal.nD Cert.WideDwIdeal.τ Cert.WideDwIdeal.sig) → Buf (Elt Ideal) ℓ) : Prop :=
  True

def Pre_WideDwRefIdeal (m : (ℓ : Loc Cert.WideDwRefIdeal.nD Cert.WideDwRefIdeal.τ Cert.WideDwRefIdeal.sig) → Buf (Elt Ideal) ℓ) : Prop :=
  True

def Pre_NarrowDw (m : (ℓ : Loc Cert.NarrowDw.nD Cert.NarrowDw.τ Cert.NarrowDw.sig) → Buf (Elt Bits) ℓ) : Prop :=
  True

def Pre_NarrowDwIdeal (m : (ℓ : Loc Cert.NarrowDwIdeal.nD Cert.NarrowDwIdeal.τ Cert.NarrowDwIdeal.sig) → Buf (Elt Ideal) ℓ) : Prop :=
  True

def Pre_NarrowDwRefIdeal (m : (ℓ : Loc Cert.NarrowDwRefIdeal.nD Cert.NarrowDwRefIdeal.τ Cert.NarrowDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_FfOneFwd (m : (ℓ : Loc Cert.FfOneFwd.nD Cert.FfOneFwd.τ Cert.FfOneFwd.sig) → Buf (Elt Bits) ℓ) : Prop :=
  True

def Pre_FfOneFwdIdeal (m : (ℓ : Loc Cert.FfOneFwdIdeal.nD Cert.FfOneFwdIdeal.τ Cert.FfOneFwdIdeal.sig) → Buf (Elt Ideal) ℓ) : Prop :=
  True

def Pre_FfOneFwdRefIdeal (m : (ℓ : Loc Cert.FfOneFwdRefIdeal.nD Cert.FfOneFwdRefIdeal.τ Cert.FfOneFwdRefIdeal.sig) → Buf (Elt Ideal) ℓ) : Prop :=
  True

def Pre_FfTwoFwd (m : (ℓ : Loc Cert.FfTwoFwd.nD Cert.FfTwoFwd.τ Cert.FfTwoFwd.sig) → Buf (Elt Bits) ℓ) : Prop :=
  True

def Pre_FfTwoFwdIdeal (m : (ℓ : Loc Cert.FfTwoFwdIdeal.nD Cert.FfTwoFwdIdeal.τ Cert.FfTwoFwdIdeal.sig) → Buf (Elt Ideal) ℓ) : Prop :=
  True

def Pre_FfTwoFwdRefIdeal (m : (ℓ : Loc Cert.FfTwoFwdRefIdeal.nD Cert.FfTwoFwdRefIdeal.τ Cert.FfTwoFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_WideFwd (m : (ℓ : Loc Cert.WideFwd.nD Cert.WideFwd.τ Cert.WideFwd.sig) → Buf (Elt Bits) ℓ) : Prop :=
  True

def Pre_WideFwdIdeal (m : (ℓ : Loc Cert.WideFwdIdeal.nD Cert.WideFwdIdeal.τ Cert.WideFwdIdeal.sig) → Buf (Elt Ideal) ℓ) : Prop :=
  True

def Pre_WideFwdRefIdeal (m : (ℓ : Loc Cert.WideFwdRefIdeal.nD Cert.WideFwdRefIdeal.τ Cert.WideFwdRefIdeal.sig) → Buf (Elt Ideal) ℓ) : Prop :=
  True

def Pre_NarrowFwd (m : (ℓ : Loc Cert.NarrowFwd.nD Cert.NarrowFwd.τ Cert.NarrowFwd.sig) → Buf (Elt Bits) ℓ) : Prop :=
  True

def Pre_NarrowFwdIdeal (m : (ℓ : Loc Cert.NarrowFwdIdeal.nD Cert.NarrowFwdIdeal.τ Cert.NarrowFwdIdeal.sig) → Buf (Elt Ideal) ℓ) : Prop :=
  True

def Pre_NarrowFwdRefIdeal (m : (ℓ : Loc Cert.NarrowFwdRefIdeal.nD Cert.NarrowFwdRefIdeal.τ Cert.NarrowFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamRest (m : (ℓ : Loc Cert.AdamRest.nD Cert.AdamRest.τ Cert.AdamRest.sig) → Buf (Elt Bits) ℓ) : Prop :=
  True

def Pre_AdamRestIdeal (m : (ℓ : Loc Cert.AdamRestIdeal.nD Cert.AdamRestIdeal.τ Cert.AdamRestIdeal.sig) → Buf (Elt Ideal) ℓ) : Prop :=
  True

def Pre_AdamRestRefIdeal (m : (ℓ : Loc Cert.AdamRestRefIdeal.nD Cert.AdamRestRefIdeal.τ Cert.AdamRestRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_FfTwoDw [hFfTwoDw : Cert.FfTwoDw.Facts] : Prop :=
  ∀ (m : (ℓ : Loc Cert.FfTwoDw.nD Cert.FfTwoDw.τ Cert.FfTwoDw.sig) → Buf (Elt Bits) ℓ) (g : Dev Cert.FfTwoDw.nD → PrngReg), Pre_FfTwoDw m →
    θ_run (Cert.FfTwoDw.defs (F := Bits)) (onTc (τ := Cert.FfTwoDw.τ) (Cert.FfTwoDw.main (F := Bits))) ⟨m, fun _ => 0, g⟩ (fun r => (∀ c : Dev Cert.FfTwoDw.nD,
      r.2.mem ((c.tc : Thread Cert.FfTwoDw.nD Cert.FfTwoDw.τ).loc Cert.FfTwoDw.main_arg0) = m ((c.tc : Thread Cert.FfTwoDw.nD Cert.FfTwoDw.τ).loc Cert.FfTwoDw.main_arg0)
      ∧ r.2.mem ((c.tc : Thread Cert.FfTwoDw.nD Cert.FfTwoDw.τ).loc Cert.FfTwoDw.main_arg1) = m ((c.tc : Thread Cert.FfTwoDw.nD Cert.FfTwoDw.τ).loc Cert.FfTwoDw.main_arg1))
      ∧ r.2.sem = fun _ => 0)

def quiescent_FfTwoDwIdeal [hFfTwoDwIdeal : Cert.FfTwoDwIdeal.Facts] : Prop :=
  ∀ (m : (ℓ : Loc Cert.FfTwoDwIdeal.nD Cert.FfTwoDwIdeal.τ Cert.FfTwoDwIdeal.sig) → Buf (Elt Ideal) ℓ) (g : Dev Cert.FfTwoDwIdeal.nD → PrngReg), Pre_FfTwoDwIdeal m →
    θ_run (Cert.FfTwoDwIdeal.defs (F := Ideal)) (onTc (τ := Cert.FfTwoDwIdeal.τ) (Cert.FfTwoDwIdeal.main (F := Ideal))) ⟨m, fun _ => 0, g⟩ (fun r => (∀ c : Dev Cert.FfTwoDwIdeal.nD,
      r.2.mem ((c.tc : Thread Cert.FfTwoDwIdeal.nD Cert.FfTwoDwIdeal.τ).loc Cert.FfTwoDwIdeal.main_arg0) = m ((c.tc : Thread Cert.FfTwoDwIdeal.nD Cert.FfTwoDwIdeal.τ).loc Cert.FfTwoDwIdeal.main_arg0)
      ∧ r.2.mem ((c.tc : Thread Cert.FfTwoDwIdeal.nD Cert.FfTwoDwIdeal.τ).loc Cert.FfTwoDwIdeal.main_arg1) = m ((c.tc : Thread Cert.FfTwoDwIdeal.nD Cert.FfTwoDwIdeal.τ).loc Cert.FfTwoDwIdeal.main_arg1))
      ∧ r.2.sem = fun _ => 0)

def quiescent_FfTwoDwRefIdeal [hFfTwoDwRefIdeal : Cert.FfTwoDwRefIdeal.Facts] : Prop :=
  ∀ (m : (ℓ : Loc Cert.FfTwoDwRefIdeal.nD Cert.FfTwoDwRefIdeal.τ Cert.FfTwoDwRefIdeal.sig) → Buf (Elt Ideal) ℓ) (g : Dev Cert.FfTwoDwRefIdeal.nD → PrngReg), Pre_FfTwoDwRefIdeal m →
    θ_run (Cert.FfTwoDwRefIdeal.defs (F := Ideal)) (onTc (τ := Cert.FfTwoDwRefIdeal.τ) (Cert.FfTwoDwRefIdeal.main (F := Ideal))) ⟨m, fun _ => 0, g⟩ (fun r => (∀ c : Dev Cert.FfTwoDwRefIdeal.nD,
      r.2.mem ((c.tc : Thread Cert.FfTwoDwRefIdeal.nD Cert.FfTwoDwRefIdeal.τ).loc Cert.FfTwoDwRefIdeal.main_arg0) = m ((c.tc : Thread Cert.FfTwoDwRefIdeal.nD Cert.FfTwoDwRefIdeal.τ).loc Cert.FfTwoDwRefIdeal.main_arg0)
      ∧ r.2.mem ((c.tc : Thread Cert.FfTwoDwRefIdeal.nD Cert.FfTwoDwRefIdeal.τ).loc Cert.FfTwoDwRefIdeal.main_arg1) = m ((c.tc : Thread Cert.FfTwoDwRefIdeal.nD Cert.FfTwoDwRefIdeal.τ).loc Cert.FfTwoDwRefIdeal.main_arg1))
      ∧ r.2.sem = fun _ => 0)

def quiescent_FfOneDw [hFfOneDw : Cert.FfOneDw.Facts] : Prop :=
  ∀ (m : (ℓ : Loc Cert.FfOneDw.nD Cert.FfOneDw.τ Cert.FfOneDw.sig) → Buf (Elt Bits) ℓ) (g : Dev Cert.FfOneDw.nD → PrngReg), Pre_FfOneDw m →
    θ_run (Cert.FfOneDw.defs (F := Bits)) (onTc (τ := Cert.FfOneDw.τ) (Cert.FfOneDw.main (F := Bits))) ⟨m, fun _ => 0, g⟩ (fun r => (∀ c : Dev Cert.FfOneDw.nD,
      r.2.mem ((c.tc : Thread Cert.FfOneDw.nD Cert.FfOneDw.τ).loc Cert.FfOneDw.main_arg0) = m ((c.tc : Thread Cert.FfOneDw.nD Cert.FfOneDw.τ).loc Cert.FfOneDw.main_arg0)
      ∧ r.2.mem ((c.tc : Thread Cert.FfOneDw.nD Cert.FfOneDw.τ).loc Cert.FfOneDw.main_arg1) = m ((c.tc : Thread Cert.FfOneDw.nD Cert.FfOneDw.τ).loc Cert.FfOneDw.main_arg1))
      ∧ r.2.sem = fun _ => 0)

def quiescent_FfOneDwIdeal [hFfOneDwIdeal : Cert.FfOneDwIdeal.Facts] : Prop :=
  ∀ (m : (ℓ : Loc Cert.FfOneDwIdeal.nD Cert.FfOneDwIdeal.τ Cert.FfOneDwIdeal.sig) → Buf (Elt Ideal) ℓ) (g : Dev Cert.FfOneDwIdeal.nD → PrngReg), Pre_FfOneDwIdeal m →
    θ_run (Cert.FfOneDwIdeal.defs (F := Ideal)) (onTc (τ := Cert.FfOneDwIdeal.τ) (Cert.FfOneDwIdeal.main (F := Ideal))) ⟨m, fun _ => 0, g⟩ (fun r => (∀ c : Dev Cert.FfOneDwIdeal.nD,
      r.2.mem ((c.tc : Thread Cert.FfOneDwIdeal.nD Cert.FfOneDwIdeal.τ).loc Cert.FfOneDwIdeal.main_arg0) = m ((c.tc : Thread Cert.FfOneDwIdeal.nD Cert.FfOneDwIdeal.τ).loc Cert.FfOneDwIdeal.main_arg0)
      ∧ r.2.mem ((c.tc : Thread Cert.FfOneDwIdeal.nD Cert.FfOneDwIdeal.τ).loc Cert.FfOneDwIdeal.main_arg1) = m ((c.tc : Thread Cert.FfOneDwIdeal.nD Cert.FfOneDwIdeal.τ).loc Cert.FfOneDwIdeal.main_arg1))
      ∧ r.2.sem = fun _ => 0)

def quiescent_FfOneDwRefIdeal [hFfOneDwRefIdeal : Cert.FfOneDwRefIdeal.Facts] : Prop :=
  ∀ (m : (ℓ : Loc Cert.FfOneDwRefIdeal.nD Cert.FfOneDwRefIdeal.τ Cert.FfOneDwRefIdeal.sig) → Buf (Elt Ideal) ℓ) (g : Dev Cert.FfOneDwRefIdeal.nD → PrngReg), Pre_FfOneDwRefIdeal m →
    θ_run (Cert.FfOneDwRefIdeal.defs (F := Ideal)) (onTc (τ := Cert.FfOneDwRefIdeal.τ) (Cert.FfOneDwRefIdeal.main (F := Ideal))) ⟨m, fun _ => 0, g⟩ (fun r => (∀ c : Dev Cert.FfOneDwRefIdeal.nD,
      r.2.mem ((c.tc : Thread Cert.FfOneDwRefIdeal.nD Cert.FfOneDwRefIdeal.τ).loc Cert.FfOneDwRefIdeal.main_arg0) = m ((c.tc : Thread Cert.FfOneDwRefIdeal.nD Cert.FfOneDwRefIdeal.τ).loc Cert.FfOneDwRefIdeal.main_arg0)
      ∧ r.2.mem ((c.tc : Thread Cert.FfOneDwRefIdeal.nD Cert.FfOneDwRefIdeal.τ).loc Cert.FfOneDwRefIdeal.main_arg1) = m ((c.tc : Thread Cert.FfOneDwRefIdeal.nD Cert.FfOneDwRefIdeal.τ).loc Cert.FfOneDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6))
      ∧ r.2.sem = fun _ => 0)

def quiescent_FfOneDx [hFfOneDx : Cert.FfOneDx.Facts] : Prop :=
  ∀ (m : (ℓ : Loc Cert.FfOneDx.nD Cert.FfOneDx.τ Cert.FfOneDx.sig) → Buf (Elt Bits) ℓ) (g : Dev Cert.FfOneDx.nD → PrngReg), Pre_FfOneDx m →
    θ_run (Cert.FfOneDx.defs (F := Bits)) (onTc (τ := Cert.FfOneDx.τ) (Cert.FfOneDx.main (F := Bits))) ⟨m, fun _ => 0, g⟩ (fun r => (∀ c : Dev Cert.FfOneDx.nD,
      r.2.mem ((c.tc : Thread Cert.FfOneDx.nD Cert.FfOneDx.τ).loc Cert.FfOneDx.main_arg0) = m ((c.tc : Thread Cert.FfOneDx.nD Cert.FfOneDx.τ).loc Cert.FfOneDx.main_arg0)
      ∧ r.2.mem ((c.tc : Thread Cert.FfOneDx.nD Cert.FfOneDx.τ).loc Cert.FfOneDx.main_arg1) = m ((c.tc : Thread Cert.FfOneDx.nD Cert.FfOneDx.τ).loc Cert.FfOneDx.main_arg1)
      ∧ r.2.mem ((c.tc : Thread Cert.FfOneDx.nD Cert.FfOneDx.τ).loc Cert.FfOneDx.main_arg2) = m ((c.tc : Thread Cert.FfOneDx.nD Cert.FfOneDx.τ).loc Cert.FfOneDx.main_arg2)
      ∧ r.2.mem ((c.tc : Thread Cert.FfOneDx.nD Cert.FfOneDx.τ).loc Cert.FfOneDx.main_arg3) = m ((c.tc : Thread Cert.FfOneDx.nD Cert.FfOneDx.τ).loc Cert.FfOneDx.main_arg3)
      ∧ r.2.mem ((c.tc : Thread Cert.FfOneDx.nD Cert.FfOneDx.τ).loc Cert.FfOneDx.main_arg4) = m ((c.tc : Thread Cert.FfOneDx.nD Cert.FfOneDx.τ).loc Cert.FfOneDx.main_arg4)
      ∧ r.2.mem ((c.tc : Thread Cert.FfOneDx.nD Cert.FfOneDx.τ).loc Cert.FfOneDx.main_arg5) = m ((c.tc : Thread Cert.FfOneDx.nD Cert.FfOneDx.τ).loc Cert.FfOneDx.main_arg5)
      ∧ r.2.mem ((c.tc : Thread Cert.FfOneDx.nD Cert.FfOneDx.τ).loc Cert.FfOneDx.main_arg6) = m ((c.tc : Thread Cert.FfOneDx.nD Cert.FfOneDx.τ).loc Cert.FfOneDx.main_arg6))
      ∧ r.2.sem = fun _ => 0)

def quiescent_FfOneDxIdeal [hFfOneDxIdeal : Cert.FfOneDxIdeal.Facts] : Prop :=
  ∀ (m : (ℓ : Loc Cert.FfOneDxIdeal.nD Cert.FfOneDxIdeal.τ Cert.FfOneDxIdeal.sig) → Buf (Elt Ideal) ℓ) (g : Dev Cert.FfOneDxIdeal.nD → PrngReg), Pre_FfOneDxIdeal m →
    θ_run (Cert.FfOneDxIdeal.defs (F := Ideal)) (onTc (τ := Cert.FfOneDxIdeal.τ) (Cert.FfOneDxIdeal.main (F := Ideal))) ⟨m, fun _ => 0, g⟩ (fun r => (∀ c : Dev Cert.FfOneDxIdeal.nD,
      r.2.mem ((c.tc : Thread Cert.FfOneDxIdeal.nD Cert.FfOneDxIdeal.τ).loc Cert.FfOneDxIdeal.main_arg0) = m ((c.tc : Thread Cert.FfOneDxIdeal.nD Cert.FfOneDxIdeal.τ).loc Cert.FfOneDxIdeal.main_arg0)
      ∧ r.2.mem ((c.tc : Thread Cert.FfOneDxIdeal.nD Cert.FfOneDxIdeal.τ).loc Cert.FfOneDxIdeal.main_arg1) = m ((c.tc : Thread Cert.FfOneDxIdeal.nD Cert.FfOneDxIdeal.τ).loc Cert.FfOneDxIdeal.main_arg1)
      ∧ r.2.mem ((c.tc : Thread Cert.FfOneDxIdeal.nD Cert.FfOneDxIdeal.τ).loc Cert.FfOneDxIdeal.main_arg2) = m ((c.tc : Thread Cert.FfOneDxIdeal.nD Cert.FfOneDxIdeal.τ).loc Cert.FfOneDxIdeal.main_arg2)
      ∧ r.2.mem ((c.tc : Thread Cert.FfOneDxIdeal.nD Cert.FfOneDxIdeal.τ).loc Cert.FfOneDxIdeal.main_arg3) = m ((c.tc : Thread Cert.FfOneDxIdeal.nD Cert.FfOneDxIdeal.τ).loc Cert.FfOneDxIdeal.main_arg3)
      ∧ r.2.mem ((c.tc : Thread Cert.FfOneDxIdeal.nD Cert.FfOneDxIdeal.τ).loc Cert.FfOneDxIdeal.main_arg4) = m ((c.tc : Thread Cert.FfOneDxIdeal.nD Cert.FfOneDxIdeal.τ).loc Cert.FfOneDxIdeal.main_arg4)
      ∧ r.2.mem ((c.tc : Thread Cert.FfOneDxIdeal.nD Cert.FfOneDxIdeal.τ).loc Cert.FfOneDxIdeal.main_arg5) = m ((c.tc : Thread Cert.FfOneDxIdeal.nD Cert.FfOneDxIdeal.τ).loc Cert.FfOneDxIdeal.main_arg5)
      ∧ r.2.mem ((c.tc : Thread Cert.FfOneDxIdeal.nD Cert.FfOneDxIdeal.τ).loc Cert.FfOneDxIdeal.main_arg6) = m ((c.tc : Thread Cert.FfOneDxIdeal.nD Cert.FfOneDxIdeal.τ).loc Cert.FfOneDxIdeal.main_arg6))
      ∧ r.2.sem = fun _ => 0)

def quiescent_FfOneDxRefIdeal [hFfOneDxRefIdeal : Cert.FfOneDxRefIdeal.Facts] : Prop :=
  ∀ (m : (ℓ : Loc Cert.FfOneDxRefIdeal.nD Cert.FfOneDxRefIdeal.τ Cert.FfOneDxRefIdeal.sig) → Buf (Elt Ideal) ℓ) (g : Dev Cert.FfOneDxRefIdeal.nD → PrngReg), Pre_FfOneDxRefIdeal m →
    θ_run (Cert.FfOneDxRefIdeal.defs (F := Ideal)) (onTc (τ := Cert.FfOneDxRefIdeal.τ) (Cert.FfOneDxRefIdeal.main (F := Ideal))) ⟨m, fun _ => 0, g⟩ (fun r => (∀ c : Dev Cert.FfOneDxRefIdeal.nD,
      r.2.mem ((c.tc : Thread Cert.FfOneDxRefIdeal.nD Cert.FfOneDxRefIdeal.τ).loc Cert.FfOneDxRefIdeal.main_arg0) = m ((c.tc : Thread Cert.FfOneDxRefIdeal.nD Cert.FfOneDxRefIdeal.τ).loc Cert.FfOneDxRefIdeal.main_arg0)
      ∧ r.2.mem ((c.tc : Thread Cert.FfOneDxRefIdeal.nD Cert.FfOneDxRefIdeal.τ).loc Cert.FfOneDxRefIdeal.main_arg1) = m ((c.tc : Thread Cert.FfOneDxRefIdeal.nD Cert.FfOneDxRefIdeal.τ).loc Cert.FfOneDxRefIdeal.main_arg1)
      ∧ r.2.mem ((c.tc : Thread Cert.FfOneDxRefIdeal.nD Cert.FfOneDxRefIdeal.τ).loc Cert.FfOneDxRefIdeal.main_arg2) = m ((c.tc : Thread Cert.FfOneDxRefIdeal.nD Cert.FfOneDxRefIdeal.τ).loc Cert.FfOneDxRefIdeal.main_arg2)
      ∧ r.2.mem ((c.tc : Thread Cert.FfOneDxRefIdeal.nD Cert.FfOneDxRefIdeal.τ).loc Cert.FfOneDxRefIdeal.main_arg3) = m ((c.tc : Thread Cert.FfOneDxRefIdeal.nD Cert.FfOneDxRefIdeal.τ).loc Cert.FfOneDxRefIdeal.main_arg3)
      ∧ r.2.mem ((c.tc : Thread Cert.FfOneDxRefIdeal.nD Cert.FfOneDxRefIdeal.τ).loc Cert.FfOneDxRefIdeal.main_arg4) = m ((c.tc : Thread Cert.FfOneDxRefIdeal.nD Cert.FfOneDxRefIdeal.τ).loc Cert.FfOneDxRefIdeal.main_arg4)
      ∧ r.2.mem ((c.tc : Thread Cert.FfOneDxRefIdeal.nD Cert.FfOneDxRefIdeal.τ).loc Cert.FfOneDxRefIdeal.main_arg5) = m ((c.tc : Thread Cert.FfOneDxRefIdeal.nD Cert.FfOneDxRefIdeal.τ).loc Cert.FfOneDxRefIdeal.main_arg5)
      ∧ r.2.mem ((c.tc : Thread Cert.FfOneDxRefIdeal.nD Cert.FfOneDxRefIdeal.τ).loc Cert.FfOneDxRefIdeal.main_arg6) = m ((c.tc : Thread Cert.FfOneDxRefIdeal.nD Cert.FfOneDxRefIdeal.τ).loc Cert.FfOneDxRefIdeal.main_arg6))
      ∧ r.2.sem = fun _ => 0)

def quiescent_FfTwoDx [hFfTwoDx : Cert.FfTwoDx.Facts] : Prop :=
  ∀ (m : (ℓ : Loc Cert.FfTwoDx.nD Cert.FfTwoDx.τ Cert.FfTwoDx.sig) → Buf (Elt Bits) ℓ) (g : Dev Cert.FfTwoDx.nD → PrngReg), Pre_FfTwoDx m →
    θ_run (Cert.FfTwoDx.defs (F := Bits)) (onTc (τ := Cert.FfTwoDx.τ) (Cert.FfTwoDx.main (F := Bits))) ⟨m, fun _ => 0, g⟩ (fun r => (∀ c : Dev Cert.FfTwoDx.nD,
      r.2.mem ((c.tc : Thread Cert.FfTwoDx.nD Cert.FfTwoDx.τ).loc Cert.FfTwoDx.main_arg0) = m ((c.tc : Thread Cert.FfTwoDx.nD Cert.FfTwoDx.τ).loc Cert.FfTwoDx.main_arg0)
      ∧ r.2.mem ((c.tc : Thread Cert.FfTwoDx.nD Cert.FfTwoDx.τ).loc Cert.FfTwoDx.main_arg1) = m ((c.tc : Thread Cert.FfTwoDx.nD Cert.FfTwoDx.τ).loc Cert.FfTwoDx.main_arg1)
      ∧ r.2.mem ((c.tc : Thread Cert.FfTwoDx.nD Cert.FfTwoDx.τ).loc Cert.FfTwoDx.main_arg2) = m ((c.tc : Thread Cert.FfTwoDx.nD Cert.FfTwoDx.τ).loc Cert.FfTwoDx.main_arg2)
      ∧ r.2.mem ((c.tc : Thread Cert.FfTwoDx.nD Cert.FfTwoDx.τ).loc Cert.FfTwoDx.main_arg3) = m ((c.tc : Thread Cert.FfTwoDx.nD Cert.FfTwoDx.τ).loc Cert.FfTwoDx.main_arg3)
      ∧ r.2.mem ((c.tc : Thread Cert.FfTwoDx.nD Cert.FfTwoDx.τ).loc Cert.FfTwoDx.main_arg4) = m ((c.tc : Thread Cert.FfTwoDx.nD Cert.FfTwoDx.τ).loc Cert.FfTwoDx.main_arg4)
      ∧ r.2.mem ((c.tc : Thread Cert.FfTwoDx.nD Cert.FfTwoDx.τ).loc Cert.FfTwoDx.main_arg5) = m ((c.tc : Thread Cert.FfTwoDx.nD Cert.FfTwoDx.τ).loc Cert.FfTwoDx.main_arg5))
      ∧ r.2.sem = fun _ => 0)

def quiescent_FfTwoDxIdeal [hFfTwoDxIdeal : Cert.FfTwoDxIdeal.Facts] : Prop :=
  ∀ (m : (ℓ : Loc Cert.FfTwoDxIdeal.nD Cert.FfTwoDxIdeal.τ Cert.FfTwoDxIdeal.sig) → Buf (Elt Ideal) ℓ) (g : Dev Cert.FfTwoDxIdeal.nD → PrngReg), Pre_FfTwoDxIdeal m →
    θ_run (Cert.FfTwoDxIdeal.defs (F := Ideal)) (onTc (τ := Cert.FfTwoDxIdeal.τ) (Cert.FfTwoDxIdeal.main (F := Ideal))) ⟨m, fun _ => 0, g⟩ (fun r => (∀ c : Dev Cert.FfTwoDxIdeal.nD,
      r.2.mem ((c.tc : Thread Cert.FfTwoDxIdeal.nD Cert.FfTwoDxIdeal.τ).loc Cert.FfTwoDxIdeal.main_arg0) = m ((c.tc : Thread Cert.FfTwoDxIdeal.nD Cert.FfTwoDxIdeal.τ).loc Cert.FfTwoDxIdeal.main_arg0)
      ∧ r.2.mem ((c.tc : Thread Cert.FfTwoDxIdeal.nD Cert.FfTwoDxIdeal.τ).loc Cert.FfTwoDxIdeal.main_arg1) = m ((c.tc : Thread Cert.FfTwoDxIdeal.nD Cert.FfTwoDxIdeal.τ).loc Cert.FfTwoDxIdeal.main_arg1)
      ∧ r.2.mem ((c.tc : Thread Cert.FfTwoDxIdeal.nD Cert.FfTwoDxIdeal.τ).loc Cert.FfTwoDxIdeal.main_arg2) = m ((c.tc : Thread Cert.FfTwoDxIdeal.nD Cert.FfTwoDxIdeal.τ).loc Cert.FfTwoDxIdeal.main_arg2)
      ∧ r.2.mem ((c.tc : Thread Cert.FfTwoDxIdeal.nD Cert.FfTwoDxIdeal.τ).loc Cert.FfTwoDxIdeal.main_arg3) = m ((c.tc : Thread Cert.FfTwoDxIdeal.nD Cert.FfTwoDxIdeal.τ).loc Cert.FfTwoDxIdeal.main_arg3)
      ∧ r.2.mem ((c.tc : Thread Cert.FfTwoDxIdeal.nD Cert.FfTwoDxIdeal.τ).loc Cert.FfTwoDxIdeal.main_arg4) = m ((c.tc : Thread Cert.FfTwoDxIdeal.nD Cert.FfTwoDxIdeal.τ).loc Cert.FfTwoDxIdeal.main_arg4)
      ∧ r.2.mem ((c.tc : Thread Cert.FfTwoDxIdeal.nD Cert.FfTwoDxIdeal.τ).loc Cert.FfTwoDxIdeal.main_arg5) = m ((c.tc : Thread Cert.FfTwoDxIdeal.nD Cert.FfTwoDxIdeal.τ).loc Cert.FfTwoDxIdeal.main_arg5))
      ∧ r.2.sem = fun _ => 0)

def quiescent_FfTwoDxRefIdeal [hFfTwoDxRefIdeal : Cert.FfTwoDxRefIdeal.Facts] : Prop :=
  ∀ (m : (ℓ : Loc Cert.FfTwoDxRefIdeal.nD Cert.FfTwoDxRefIdeal.τ Cert.FfTwoDxRefIdeal.sig) → Buf (Elt Ideal) ℓ) (g : Dev Cert.FfTwoDxRefIdeal.nD → PrngReg), Pre_FfTwoDxRefIdeal m →
    θ_run (Cert.FfTwoDxRefIdeal.defs (F := Ideal)) (onTc (τ := Cert.FfTwoDxRefIdeal.τ) (Cert.FfTwoDxRefIdeal.main (F := Ideal))) ⟨m, fun _ => 0, g⟩ (fun r => (∀ c : Dev Cert.FfTwoDxRefIdeal.nD,
      r.2.mem ((c.tc : Thread Cert.FfTwoDxRefIdeal.nD Cert.FfTwoDxRefIdeal.τ).loc Cert.FfTwoDxRefIdeal.main_arg0) = m ((c.tc : Thread Cert.FfTwoDxRefIdeal.nD Cert.FfTwoDxRefIdeal.τ).loc Cert.FfTwoDxRefIdeal.main_arg0)
      ∧ r.2.mem ((c.tc : Thread Cert.FfTwoDxRefIdeal.nD Cert.FfTwoDxRefIdeal.τ).loc Cert.FfTwoDxRefIdeal.main_arg1) = m ((c.tc : Thread Cert.FfTwoDxRefIdeal.nD Cert.FfTwoDxRefIdeal.τ).loc Cert.FfTwoDxRefIdeal.main_arg1)
      ∧ r.2.mem ((c.tc : Thread Cert.FfTwoDxRefIdeal.nD Cert.FfTwoDxRefIdeal.τ).loc Cert.FfTwoDxRefIdeal.main_arg2) = m ((c.tc : Thread Cert.FfTwoDxRefIdeal.nD Cert.FfTwoDxRefIdeal.τ).loc Cert.FfTwoDxRefIdeal.main_arg2)
      ∧ r.2.mem ((c.tc : Thread Cert.FfTwoDxRefIdeal.nD Cert.FfTwoDxRefIdeal.τ).loc Cert.FfTwoDxRefIdeal.main_arg3) = m ((c.tc : Thread Cert.FfTwoDxRefIdeal.nD Cert.FfTwoDxRefIdeal.τ).loc Cert.FfTwoDxRefIdeal.main_arg3)
      ∧ r.2.mem ((c.tc : Thread Cert.FfTwoDxRefIdeal.nD Cert.FfTwoDxRefIdeal.τ).loc Cert.FfTwoDxRefIdeal.main_arg4) = m ((c.tc : Thread Cert.FfTwoDxRefIdeal.nD Cert.FfTwoDxRefIdeal.τ).loc Cert.FfTwoDxRefIdeal.main_arg4)
      ∧ r.2.mem ((c.tc : Thread Cert.FfTwoDxRefIdeal.nD Cert.FfTwoDxRefIdeal.τ).loc Cert.FfTwoDxRefIdeal.main_arg5) = m ((c.tc : Thread Cert.FfTwoDxRefIdeal.nD Cert.FfTwoDxRefIdeal.τ).loc Cert.FfTwoDxRefIdeal.main_arg5))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3)
      ∧ r.2.mem ((c.tc : Thread Cert.OutDx.nD Cert.OutDx.τ).loc Cert.OutDx.main_arg4) = m ((c.tc : Thread Cert.OutDx.nD Cert.OutDx.τ).loc Cert.OutDx.main_arg4)
      ∧ r.2.mem ((c.tc : Thread Cert.OutDx.nD Cert.OutDx.τ).loc Cert.OutDx.main_arg5) = m ((c.tc : Thread Cert.OutDx.nD Cert.OutDx.τ).loc Cert.OutDx.main_arg5)
      ∧ r.2.mem ((c.tc : Thread Cert.OutDx.nD Cert.OutDx.τ).loc Cert.OutDx.main_arg6) = m ((c.tc : Thread Cert.OutDx.nD Cert.OutDx.τ).loc Cert.OutDx.main_arg6)
      ∧ r.2.mem ((c.tc : Thread Cert.OutDx.nD Cert.OutDx.τ).loc Cert.OutDx.main_arg7) = m ((c.tc : Thread Cert.OutDx.nD Cert.OutDx.τ).loc Cert.OutDx.main_arg7)
      ∧ r.2.mem ((c.tc : Thread Cert.OutDx.nD Cert.OutDx.τ).loc Cert.OutDx.main_arg8) = m ((c.tc : Thread Cert.OutDx.nD Cert.OutDx.τ).loc Cert.OutDx.main_arg8))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3)
      ∧ r.2.mem ((c.tc : Thread Cert.OutDxIdeal.nD Cert.OutDxIdeal.τ).loc Cert.OutDxIdeal.main_arg4) = m ((c.tc : Thread Cert.OutDxIdeal.nD Cert.OutDxIdeal.τ).loc Cert.OutDxIdeal.main_arg4)
      ∧ r.2.mem ((c.tc : Thread Cert.OutDxIdeal.nD Cert.OutDxIdeal.τ).loc Cert.OutDxIdeal.main_arg5) = m ((c.tc : Thread Cert.OutDxIdeal.nD Cert.OutDxIdeal.τ).loc Cert.OutDxIdeal.main_arg5)
      ∧ r.2.mem ((c.tc : Thread Cert.OutDxIdeal.nD Cert.OutDxIdeal.τ).loc Cert.OutDxIdeal.main_arg6) = m ((c.tc : Thread Cert.OutDxIdeal.nD Cert.OutDxIdeal.τ).loc Cert.OutDxIdeal.main_arg6)
      ∧ r.2.mem ((c.tc : Thread Cert.OutDxIdeal.nD Cert.OutDxIdeal.τ).loc Cert.OutDxIdeal.main_arg7) = m ((c.tc : Thread Cert.OutDxIdeal.nD Cert.OutDxIdeal.τ).loc Cert.OutDxIdeal.main_arg7)
      ∧ r.2.mem ((c.tc : Thread Cert.OutDxIdeal.nD Cert.OutDxIdeal.τ).loc Cert.OutDxIdeal.main_arg8) = m ((c.tc : Thread Cert.OutDxIdeal.nD Cert.OutDxIdeal.τ).loc Cert.OutDxIdeal.main_arg8))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2)
      ∧ r.2.mem ((c.tc : Thread Cert.OutDxRefIdeal.nD Cert.OutDxRefIdeal.τ).loc Cert.OutDxRefIdeal.main_arg3) = m ((c.tc : Thread Cert.OutDxRefIdeal.nD Cert.OutDxRefIdeal.τ).loc Cert.OutDxRefIdeal.main_arg3)
      ∧ r.2.mem ((c.tc : Thread Cert.OutDxRefIdeal.nD Cert.OutDxRefIdeal.τ).loc Cert.OutDxRefIdeal.main_arg4) = m ((c.tc : Thread Cert.OutDxRefIdeal.nD Cert.OutDxRefIdeal.τ).loc Cert.OutDxRefIdeal.main_arg4)
      ∧ r.2.mem ((c.tc : Thread Cert.OutDxRefIdeal.nD Cert.OutDxRefIdeal.τ).loc Cert.OutDxRefIdeal.main_arg5) = m ((c.tc : Thread Cert.OutDxRefIdeal.nD Cert.OutDxRefIdeal.τ).loc Cert.OutDxRefIdeal.main_arg5)
      ∧ r.2.mem ((c.tc : Thread Cert.OutDxRefIdeal.nD Cert.OutDxRefIdeal.τ).loc Cert.OutDxRefIdeal.main_arg6) = m ((c.tc : Thread Cert.OutDxRefIdeal.nD Cert.OutDxRefIdeal.τ).loc Cert.OutDxRefIdeal.main_arg6)
      ∧ r.2.mem ((c.tc : Thread Cert.OutDxRefIdeal.nD Cert.OutDxRefIdeal.τ).loc Cert.OutDxRefIdeal.main_arg7) = m ((c.tc : Thread Cert.OutDxRefIdeal.nD Cert.OutDxRefIdeal.τ).loc Cert.OutDxRefIdeal.main_arg7)
      ∧ r.2.mem ((c.tc : Thread Cert.OutDxRefIdeal.nD Cert.OutDxRefIdeal.τ).loc Cert.OutDxRefIdeal.main_arg8) = m ((c.tc : Thread Cert.OutDxRefIdeal.nD Cert.OutDxRefIdeal.τ).loc Cert.OutDxRefIdeal.main_arg8))
      ∧ r.2.sem = fun _ => 0)

def quiescent_WideDx [hWideDx : Cert.WideDx.Facts] : Prop :=
  ∀ (m : (ℓ : Loc Cert.WideDx.nD Cert.WideDx.τ Cert.WideDx.sig) → Buf (Elt Bits) ℓ) (g : Dev Cert.WideDx.nD → PrngReg), Pre_WideDx m →
    θ_run (Cert.WideDx.defs (F := Bits)) (onTc (τ := Cert.WideDx.τ) (Cert.WideDx.main (F := Bits))) ⟨m, fun _ => 0, g⟩ (fun r => (∀ c : Dev Cert.WideDx.nD,
      r.2.mem ((c.tc : Thread Cert.WideDx.nD Cert.WideDx.τ).loc Cert.WideDx.main_arg0) = m ((c.tc : Thread Cert.WideDx.nD Cert.WideDx.τ).loc Cert.WideDx.main_arg0)
      ∧ r.2.mem ((c.tc : Thread Cert.WideDx.nD Cert.WideDx.τ).loc Cert.WideDx.main_arg1) = m ((c.tc : Thread Cert.WideDx.nD Cert.WideDx.τ).loc Cert.WideDx.main_arg1))
      ∧ r.2.sem = fun _ => 0)

def quiescent_WideDxIdeal [hWideDxIdeal : Cert.WideDxIdeal.Facts] : Prop :=
  ∀ (m : (ℓ : Loc Cert.WideDxIdeal.nD Cert.WideDxIdeal.τ Cert.WideDxIdeal.sig) → Buf (Elt Ideal) ℓ) (g : Dev Cert.WideDxIdeal.nD → PrngReg), Pre_WideDxIdeal m →
    θ_run (Cert.WideDxIdeal.defs (F := Ideal)) (onTc (τ := Cert.WideDxIdeal.τ) (Cert.WideDxIdeal.main (F := Ideal))) ⟨m, fun _ => 0, g⟩ (fun r => (∀ c : Dev Cert.WideDxIdeal.nD,
      r.2.mem ((c.tc : Thread Cert.WideDxIdeal.nD Cert.WideDxIdeal.τ).loc Cert.WideDxIdeal.main_arg0) = m ((c.tc : Thread Cert.WideDxIdeal.nD Cert.WideDxIdeal.τ).loc Cert.WideDxIdeal.main_arg0)
      ∧ r.2.mem ((c.tc : Thread Cert.WideDxIdeal.nD Cert.WideDxIdeal.τ).loc Cert.WideDxIdeal.main_arg1) = m ((c.tc : Thread Cert.WideDxIdeal.nD Cert.WideDxIdeal.τ).loc Cert.WideDxIdeal.main_arg1))
      ∧ r.2.sem = fun _ => 0)

def quiescent_WideDxRefIdeal [hWideDxRefIdeal : Cert.WideDxRefIdeal.Facts] : Prop :=
  ∀ (m : (ℓ : Loc Cert.WideDxRefIdeal.nD Cert.WideDxRefIdeal.τ Cert.WideDxRefIdeal.sig) → Buf (Elt Ideal) ℓ) (g : Dev Cert.WideDxRefIdeal.nD → PrngReg), Pre_WideDxRefIdeal m →
    θ_run (Cert.WideDxRefIdeal.defs (F := Ideal)) (onTc (τ := Cert.WideDxRefIdeal.τ) (Cert.WideDxRefIdeal.main (F := Ideal))) ⟨m, fun _ => 0, g⟩ (fun r => (∀ c : Dev Cert.WideDxRefIdeal.nD,
      r.2.mem ((c.tc : Thread Cert.WideDxRefIdeal.nD Cert.WideDxRefIdeal.τ).loc Cert.WideDxRefIdeal.main_arg0) = m ((c.tc : Thread Cert.WideDxRefIdeal.nD Cert.WideDxRefIdeal.τ).loc Cert.WideDxRefIdeal.main_arg0)
      ∧ r.2.mem ((c.tc : Thread Cert.WideDxRefIdeal.nD Cert.WideDxRefIdeal.τ).loc Cert.WideDxRefIdeal.main_arg1) = m ((c.tc : Thread Cert.WideDxRefIdeal.nD Cert.WideDxRefIdeal.τ).loc Cert.WideDxRefIdeal.main_arg1))
      ∧ r.2.sem = fun _ => 0)

def quiescent_NarrowDx [hNarrowDx : Cert.NarrowDx.Facts] : Prop :=
  ∀ (m : (ℓ : Loc Cert.NarrowDx.nD Cert.NarrowDx.τ Cert.NarrowDx.sig) → Buf (Elt Bits) ℓ) (g : Dev Cert.NarrowDx.nD → PrngReg), Pre_NarrowDx m →
    θ_run (Cert.NarrowDx.defs (F := Bits)) (onTc (τ := Cert.NarrowDx.τ) (Cert.NarrowDx.main (F := Bits))) ⟨m, fun _ => 0, g⟩ (fun r => (∀ c : Dev Cert.NarrowDx.nD,
      r.2.mem ((c.tc : Thread Cert.NarrowDx.nD Cert.NarrowDx.τ).loc Cert.NarrowDx.main_arg0) = m ((c.tc : Thread Cert.NarrowDx.nD Cert.NarrowDx.τ).loc Cert.NarrowDx.main_arg0)
      ∧ r.2.mem ((c.tc : Thread Cert.NarrowDx.nD Cert.NarrowDx.τ).loc Cert.NarrowDx.main_arg1) = m ((c.tc : Thread Cert.NarrowDx.nD Cert.NarrowDx.τ).loc Cert.NarrowDx.main_arg1))
      ∧ r.2.sem = fun _ => 0)

def quiescent_NarrowDxIdeal [hNarrowDxIdeal : Cert.NarrowDxIdeal.Facts] : Prop :=
  ∀ (m : (ℓ : Loc Cert.NarrowDxIdeal.nD Cert.NarrowDxIdeal.τ Cert.NarrowDxIdeal.sig) → Buf (Elt Ideal) ℓ) (g : Dev Cert.NarrowDxIdeal.nD → PrngReg), Pre_NarrowDxIdeal m →
    θ_run (Cert.NarrowDxIdeal.defs (F := Ideal)) (onTc (τ := Cert.NarrowDxIdeal.τ) (Cert.NarrowDxIdeal.main (F := Ideal))) ⟨m, fun _ => 0, g⟩ (fun r => (∀ c : Dev Cert.NarrowDxIdeal.nD,
      r.2.mem ((c.tc : Thread Cert.NarrowDxIdeal.nD Cert.NarrowDxIdeal.τ).loc Cert.NarrowDxIdeal.main_arg0) = m ((c.tc : Thread Cert.NarrowDxIdeal.nD Cert.NarrowDxIdeal.τ).loc Cert.NarrowDxIdeal.main_arg0)
      ∧ r.2.mem ((c.tc : Thread Cert.NarrowDxIdeal.nD Cert.NarrowDxIdeal.τ).loc Cert.NarrowDxIdeal.main_arg1) = m ((c.tc : Thread Cert.NarrowDxIdeal.nD Cert.NarrowDxIdeal.τ).loc Cert.NarrowDxIdeal.main_arg1))
      ∧ r.2.sem = fun _ => 0)

def quiescent_NarrowDxRefIdeal [hNarrowDxRefIdeal : Cert.NarrowDxRefIdeal.Facts] : Prop :=
  ∀ (m : (ℓ : Loc Cert.NarrowDxRefIdeal.nD Cert.NarrowDxRefIdeal.τ Cert.NarrowDxRefIdeal.sig) → Buf (Elt Ideal) ℓ) (g : Dev Cert.NarrowDxRefIdeal.nD → PrngReg), Pre_NarrowDxRefIdeal m →
    θ_run (Cert.NarrowDxRefIdeal.defs (F := Ideal)) (onTc (τ := Cert.NarrowDxRefIdeal.τ) (Cert.NarrowDxRefIdeal.main (F := Ideal))) ⟨m, fun _ => 0, g⟩ (fun r => (∀ c : Dev Cert.NarrowDxRefIdeal.nD,
      r.2.mem ((c.tc : Thread Cert.NarrowDxRefIdeal.nD Cert.NarrowDxRefIdeal.τ).loc Cert.NarrowDxRefIdeal.main_arg0) = m ((c.tc : Thread Cert.NarrowDxRefIdeal.nD Cert.NarrowDxRefIdeal.τ).loc Cert.NarrowDxRefIdeal.main_arg0)
      ∧ r.2.mem ((c.tc : Thread Cert.NarrowDxRefIdeal.nD Cert.NarrowDxRefIdeal.τ).loc Cert.NarrowDxRefIdeal.main_arg1) = m ((c.tc : Thread Cert.NarrowDxRefIdeal.nD Cert.NarrowDxRefIdeal.τ).loc Cert.NarrowDxRefIdeal.main_arg1))
      ∧ r.2.sem = fun _ => 0)

def quiescent_WideDw [hWideDw : Cert.WideDw.Facts] : Prop :=
  ∀ (m : (ℓ : Loc Cert.WideDw.nD Cert.WideDw.τ Cert.WideDw.sig) → Buf (Elt Bits) ℓ) (g : Dev Cert.WideDw.nD → PrngReg), Pre_WideDw m →
    θ_run (Cert.WideDw.defs (F := Bits)) (onTc (τ := Cert.WideDw.τ) (Cert.WideDw.main (F := Bits))) ⟨m, fun _ => 0, g⟩ (fun r => (∀ c : Dev Cert.WideDw.nD,
      r.2.mem ((c.tc : Thread Cert.WideDw.nD Cert.WideDw.τ).loc Cert.WideDw.main_arg0) = m ((c.tc : Thread Cert.WideDw.nD Cert.WideDw.τ).loc Cert.WideDw.main_arg0)
      ∧ r.2.mem ((c.tc : Thread Cert.WideDw.nD Cert.WideDw.τ).loc Cert.WideDw.main_arg1) = m ((c.tc : Thread Cert.WideDw.nD Cert.WideDw.τ).loc Cert.WideDw.main_arg1))
      ∧ r.2.sem = fun _ => 0)

def quiescent_WideDwIdeal [hWideDwIdeal : Cert.WideDwIdeal.Facts] : Prop :=
  ∀ (m : (ℓ : Loc Cert.WideDwIdeal.nD Cert.WideDwIdeal.τ Cert.WideDwIdeal.sig) → Buf (Elt Ideal) ℓ) (g : Dev Cert.WideDwIdeal.nD → PrngReg), Pre_WideDwIdeal m →
    θ_run (Cert.WideDwIdeal.defs (F := Ideal)) (onTc (τ := Cert.WideDwIdeal.τ) (Cert.WideDwIdeal.main (F := Ideal))) ⟨m, fun _ => 0, g⟩ (fun r => (∀ c : Dev Cert.WideDwIdeal.nD,
      r.2.mem ((c.tc : Thread Cert.WideDwIdeal.nD Cert.WideDwIdeal.τ).loc Cert.WideDwIdeal.main_arg0) = m ((c.tc : Thread Cert.WideDwIdeal.nD Cert.WideDwIdeal.τ).loc Cert.WideDwIdeal.main_arg0)
      ∧ r.2.mem ((c.tc : Thread Cert.WideDwIdeal.nD Cert.WideDwIdeal.τ).loc Cert.WideDwIdeal.main_arg1) = m ((c.tc : Thread Cert.WideDwIdeal.nD Cert.WideDwIdeal.τ).loc Cert.WideDwIdeal.main_arg1))
      ∧ r.2.sem = fun _ => 0)

def quiescent_WideDwRefIdeal [hWideDwRefIdeal : Cert.WideDwRefIdeal.Facts] : Prop :=
  ∀ (m : (ℓ : Loc Cert.WideDwRefIdeal.nD Cert.WideDwRefIdeal.τ Cert.WideDwRefIdeal.sig) → Buf (Elt Ideal) ℓ) (g : Dev Cert.WideDwRefIdeal.nD → PrngReg), Pre_WideDwRefIdeal m →
    θ_run (Cert.WideDwRefIdeal.defs (F := Ideal)) (onTc (τ := Cert.WideDwRefIdeal.τ) (Cert.WideDwRefIdeal.main (F := Ideal))) ⟨m, fun _ => 0, g⟩ (fun r => (∀ c : Dev Cert.WideDwRefIdeal.nD,
      r.2.mem ((c.tc : Thread Cert.WideDwRefIdeal.nD Cert.WideDwRefIdeal.τ).loc Cert.WideDwRefIdeal.main_arg0) = m ((c.tc : Thread Cert.WideDwRefIdeal.nD Cert.WideDwRefIdeal.τ).loc Cert.WideDwRefIdeal.main_arg0)
      ∧ r.2.mem ((c.tc : Thread Cert.WideDwRefIdeal.nD Cert.WideDwRefIdeal.τ).loc Cert.WideDwRefIdeal.main_arg1) = m ((c.tc : Thread Cert.WideDwRefIdeal.nD Cert.WideDwRefIdeal.τ).loc Cert.WideDwRefIdeal.main_arg1))
      ∧ r.2.sem = fun _ => 0)

def quiescent_NarrowDw [hNarrowDw : Cert.NarrowDw.Facts] : Prop :=
  ∀ (m : (ℓ : Loc Cert.NarrowDw.nD Cert.NarrowDw.τ Cert.NarrowDw.sig) → Buf (Elt Bits) ℓ) (g : Dev Cert.NarrowDw.nD → PrngReg), Pre_NarrowDw m →
    θ_run (Cert.NarrowDw.defs (F := Bits)) (onTc (τ := Cert.NarrowDw.τ) (Cert.NarrowDw.main (F := Bits))) ⟨m, fun _ => 0, g⟩ (fun r => (∀ c : Dev Cert.NarrowDw.nD,
      r.2.mem ((c.tc : Thread Cert.NarrowDw.nD Cert.NarrowDw.τ).loc Cert.NarrowDw.main_arg0) = m ((c.tc : Thread Cert.NarrowDw.nD Cert.NarrowDw.τ).loc Cert.NarrowDw.main_arg0)
      ∧ r.2.mem ((c.tc : Thread Cert.NarrowDw.nD Cert.NarrowDw.τ).loc Cert.NarrowDw.main_arg1) = m ((c.tc : Thread Cert.NarrowDw.nD Cert.NarrowDw.τ).loc Cert.NarrowDw.main_arg1))
      ∧ r.2.sem = fun _ => 0)

def quiescent_NarrowDwIdeal [hNarrowDwIdeal : Cert.NarrowDwIdeal.Facts] : Prop :=
  ∀ (m : (ℓ : Loc Cert.NarrowDwIdeal.nD Cert.NarrowDwIdeal.τ Cert.NarrowDwIdeal.sig) → Buf (Elt Ideal) ℓ) (g : Dev Cert.NarrowDwIdeal.nD → PrngReg), Pre_NarrowDwIdeal m →
    θ_run (Cert.NarrowDwIdeal.defs (F := Ideal)) (onTc (τ := Cert.NarrowDwIdeal.τ) (Cert.NarrowDwIdeal.main (F := Ideal))) ⟨m, fun _ => 0, g⟩ (fun r => (∀ c : Dev Cert.NarrowDwIdeal.nD,
      r.2.mem ((c.tc : Thread Cert.NarrowDwIdeal.nD Cert.NarrowDwIdeal.τ).loc Cert.NarrowDwIdeal.main_arg0) = m ((c.tc : Thread Cert.NarrowDwIdeal.nD Cert.NarrowDwIdeal.τ).loc Cert.NarrowDwIdeal.main_arg0)
      ∧ r.2.mem ((c.tc : Thread Cert.NarrowDwIdeal.nD Cert.NarrowDwIdeal.τ).loc Cert.NarrowDwIdeal.main_arg1) = m ((c.tc : Thread Cert.NarrowDwIdeal.nD Cert.NarrowDwIdeal.τ).loc Cert.NarrowDwIdeal.main_arg1))
      ∧ r.2.sem = fun _ => 0)

def quiescent_NarrowDwRefIdeal [hNarrowDwRefIdeal : Cert.NarrowDwRefIdeal.Facts] : Prop :=
  ∀ (m : (ℓ : Loc Cert.NarrowDwRefIdeal.nD Cert.NarrowDwRefIdeal.τ Cert.NarrowDwRefIdeal.sig) → Buf (Elt Ideal) ℓ) (g : Dev Cert.NarrowDwRefIdeal.nD → PrngReg), Pre_NarrowDwRefIdeal m →
    θ_run (Cert.NarrowDwRefIdeal.defs (F := Ideal)) (onTc (τ := Cert.NarrowDwRefIdeal.τ) (Cert.NarrowDwRefIdeal.main (F := Ideal))) ⟨m, fun _ => 0, g⟩ (fun r => (∀ c : Dev Cert.NarrowDwRefIdeal.nD,
      r.2.mem ((c.tc : Thread Cert.NarrowDwRefIdeal.nD Cert.NarrowDwRefIdeal.τ).loc Cert.NarrowDwRefIdeal.main_arg0) = m ((c.tc : Thread Cert.NarrowDwRefIdeal.nD Cert.NarrowDwRefIdeal.τ).loc Cert.NarrowDwRefIdeal.main_arg0)
      ∧ r.2.mem ((c.tc : Thread Cert.NarrowDwRefIdeal.nD Cert.NarrowDwRefIdeal.τ).loc Cert.NarrowDwRefIdeal.main_arg1) = m ((c.tc : Thread Cert.NarrowDwRefIdeal.nD Cert.NarrowDwRefIdeal.τ).loc Cert.NarrowDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4))
      ∧ r.2.sem = fun _ => 0)

def quiescent_FfOneFwd [hFfOneFwd : Cert.FfOneFwd.Facts] : Prop :=
  ∀ (m : (ℓ : Loc Cert.FfOneFwd.nD Cert.FfOneFwd.τ Cert.FfOneFwd.sig) → Buf (Elt Bits) ℓ) (g : Dev Cert.FfOneFwd.nD → PrngReg), Pre_FfOneFwd m →
    θ_run (Cert.FfOneFwd.defs (F := Bits)) (onTc (τ := Cert.FfOneFwd.τ) (Cert.FfOneFwd.main (F := Bits))) ⟨m, fun _ => 0, g⟩ (fun r => (∀ c : Dev Cert.FfOneFwd.nD,
      r.2.mem ((c.tc : Thread Cert.FfOneFwd.nD Cert.FfOneFwd.τ).loc Cert.FfOneFwd.main_arg0) = m ((c.tc : Thread Cert.FfOneFwd.nD Cert.FfOneFwd.τ).loc Cert.FfOneFwd.main_arg0)
      ∧ r.2.mem ((c.tc : Thread Cert.FfOneFwd.nD Cert.FfOneFwd.τ).loc Cert.FfOneFwd.main_arg1) = m ((c.tc : Thread Cert.FfOneFwd.nD Cert.FfOneFwd.τ).loc Cert.FfOneFwd.main_arg1)
      ∧ r.2.mem ((c.tc : Thread Cert.FfOneFwd.nD Cert.FfOneFwd.τ).loc Cert.FfOneFwd.main_arg2) = m ((c.tc : Thread Cert.FfOneFwd.nD Cert.FfOneFwd.τ).loc Cert.FfOneFwd.main_arg2)
      ∧ r.2.mem ((c.tc : Thread Cert.FfOneFwd.nD Cert.FfOneFwd.τ).loc Cert.FfOneFwd.main_arg3) = m ((c.tc : Thread Cert.FfOneFwd.nD Cert.FfOneFwd.τ).loc Cert.FfOneFwd.main_arg3)
      ∧ r.2.mem ((c.tc : Thread Cert.FfOneFwd.nD Cert.FfOneFwd.τ).loc Cert.FfOneFwd.main_arg4) = m ((c.tc : Thread Cert.FfOneFwd.nD Cert.FfOneFwd.τ).loc Cert.FfOneFwd.main_arg4))
      ∧ r.2.sem = fun _ => 0)

def quiescent_FfOneFwdIdeal [hFfOneFwdIdeal : Cert.FfOneFwdIdeal.Facts] : Prop :=
  ∀ (m : (ℓ : Loc Cert.FfOneFwdIdeal.nD Cert.FfOneFwdIdeal.τ Cert.FfOneFwdIdeal.sig) → Buf (Elt Ideal) ℓ) (g : Dev Cert.FfOneFwdIdeal.nD → PrngReg), Pre_FfOneFwdIdeal m →
    θ_run (Cert.FfOneFwdIdeal.defs (F := Ideal)) (onTc (τ := Cert.FfOneFwdIdeal.τ) (Cert.FfOneFwdIdeal.main (F := Ideal))) ⟨m, fun _ => 0, g⟩ (fun r => (∀ c : Dev Cert.FfOneFwdIdeal.nD,
      r.2.mem ((c.tc : Thread Cert.FfOneFwdIdeal.nD Cert.FfOneFwdIdeal.τ).loc Cert.FfOneFwdIdeal.main_arg0) = m ((c.tc : Thread Cert.FfOneFwdIdeal.nD Cert.FfOneFwdIdeal.τ).loc Cert.FfOneFwdIdeal.main_arg0)
      ∧ r.2.mem ((c.tc : Thread Cert.FfOneFwdIdeal.nD Cert.FfOneFwdIdeal.τ).loc Cert.FfOneFwdIdeal.main_arg1) = m ((c.tc : Thread Cert.FfOneFwdIdeal.nD Cert.FfOneFwdIdeal.τ).loc Cert.FfOneFwdIdeal.main_arg1)
      ∧ r.2.mem ((c.tc : Thread Cert.FfOneFwdIdeal.nD Cert.FfOneFwdIdeal.τ).loc Cert.FfOneFwdIdeal.main_arg2) = m ((c.tc : Thread Cert.FfOneFwdIdeal.nD Cert.FfOneFwdIdeal.τ).loc Cert.FfOneFwdIdeal.main_arg2)
      ∧ r.2.mem ((c.tc : Thread Cert.FfOneFwdIdeal.nD Cert.FfOneFwdIdeal.τ).loc Cert.FfOneFwdIdeal.main_arg3) = m ((c.tc : Thread Cert.FfOneFwdIdeal.nD Cert.FfOneFwdIdeal.τ).loc Cert.FfOneFwdIdeal.main_arg3)
      ∧ r.2.mem ((c.tc : Thread Cert.FfOneFwdIdeal.nD Cert.FfOneFwdIdeal.τ).loc Cert.FfOneFwdIdeal.main_arg4) = m ((c.tc : Thread Cert.FfOneFwdIdeal.nD Cert.FfOneFwdIdeal.τ).loc Cert.FfOneFwdIdeal.main_arg4))
      ∧ r.2.sem = fun _ => 0)

def quiescent_FfOneFwdRefIdeal [hFfOneFwdRefIdeal : Cert.FfOneFwdRefIdeal.Facts] : Prop :=
  ∀ (m : (ℓ : Loc Cert.FfOneFwdRefIdeal.nD Cert.FfOneFwdRefIdeal.τ Cert.FfOneFwdRefIdeal.sig) → Buf (Elt Ideal) ℓ) (g : Dev Cert.FfOneFwdRefIdeal.nD → PrngReg), Pre_FfOneFwdRefIdeal m →
    θ_run (Cert.FfOneFwdRefIdeal.defs (F := Ideal)) (onTc (τ := Cert.FfOneFwdRefIdeal.τ) (Cert.FfOneFwdRefIdeal.main (F := Ideal))) ⟨m, fun _ => 0, g⟩ (fun r => (∀ c : Dev Cert.FfOneFwdRefIdeal.nD,
      r.2.mem ((c.tc : Thread Cert.FfOneFwdRefIdeal.nD Cert.FfOneFwdRefIdeal.τ).loc Cert.FfOneFwdRefIdeal.main_arg0) = m ((c.tc : Thread Cert.FfOneFwdRefIdeal.nD Cert.FfOneFwdRefIdeal.τ).loc Cert.FfOneFwdRefIdeal.main_arg0)
      ∧ r.2.mem ((c.tc : Thread Cert.FfOneFwdRefIdeal.nD Cert.FfOneFwdRefIdeal.τ).loc Cert.FfOneFwdRefIdeal.main_arg1) = m ((c.tc : Thread Cert.FfOneFwdRefIdeal.nD Cert.FfOneFwdRefIdeal.τ).loc Cert.FfOneFwdRefIdeal.main_arg1)
      ∧ r.2.mem ((c.tc : Thread Cert.FfOneFwdRefIdeal.nD Cert.FfOneFwdRefIdeal.τ).loc Cert.FfOneFwdRefIdeal.main_arg2) = m ((c.tc : Thread Cert.FfOneFwdRefIdeal.nD Cert.FfOneFwdRefIdeal.τ).loc Cert.FfOneFwdRefIdeal.main_arg2)
      ∧ r.2.mem ((c.tc : Thread Cert.FfOneFwdRefIdeal.nD Cert.FfOneFwdRefIdeal.τ).loc Cert.FfOneFwdRefIdeal.main_arg3) = m ((c.tc : Thread Cert.FfOneFwdRefIdeal.nD Cert.FfOneFwdRefIdeal.τ).loc Cert.FfOneFwdRefIdeal.main_arg3)
      ∧ r.2.mem ((c.tc : Thread Cert.FfOneFwdRefIdeal.nD Cert.FfOneFwdRefIdeal.τ).loc Cert.FfOneFwdRefIdeal.main_arg4) = m ((c.tc : Thread Cert.FfOneFwdRefIdeal.nD Cert.FfOneFwdRefIdeal.τ).loc Cert.FfOneFwdRefIdeal.main_arg4))
      ∧ r.2.sem = fun _ => 0)

def quiescent_FfTwoFwd [hFfTwoFwd : Cert.FfTwoFwd.Facts] : Prop :=
  ∀ (m : (ℓ : Loc Cert.FfTwoFwd.nD Cert.FfTwoFwd.τ Cert.FfTwoFwd.sig) → Buf (Elt Bits) ℓ) (g : Dev Cert.FfTwoFwd.nD → PrngReg), Pre_FfTwoFwd m →
    θ_run (Cert.FfTwoFwd.defs (F := Bits)) (onTc (τ := Cert.FfTwoFwd.τ) (Cert.FfTwoFwd.main (F := Bits))) ⟨m, fun _ => 0, g⟩ (fun r => (∀ c : Dev Cert.FfTwoFwd.nD,
      r.2.mem ((c.tc : Thread Cert.FfTwoFwd.nD Cert.FfTwoFwd.τ).loc Cert.FfTwoFwd.main_arg0) = m ((c.tc : Thread Cert.FfTwoFwd.nD Cert.FfTwoFwd.τ).loc Cert.FfTwoFwd.main_arg0)
      ∧ r.2.mem ((c.tc : Thread Cert.FfTwoFwd.nD Cert.FfTwoFwd.τ).loc Cert.FfTwoFwd.main_arg1) = m ((c.tc : Thread Cert.FfTwoFwd.nD Cert.FfTwoFwd.τ).loc Cert.FfTwoFwd.main_arg1)
      ∧ r.2.mem ((c.tc : Thread Cert.FfTwoFwd.nD Cert.FfTwoFwd.τ).loc Cert.FfTwoFwd.main_arg2) = m ((c.tc : Thread Cert.FfTwoFwd.nD Cert.FfTwoFwd.τ).loc Cert.FfTwoFwd.main_arg2)
      ∧ r.2.mem ((c.tc : Thread Cert.FfTwoFwd.nD Cert.FfTwoFwd.τ).loc Cert.FfTwoFwd.main_arg3) = m ((c.tc : Thread Cert.FfTwoFwd.nD Cert.FfTwoFwd.τ).loc Cert.FfTwoFwd.main_arg3)
      ∧ r.2.mem ((c.tc : Thread Cert.FfTwoFwd.nD Cert.FfTwoFwd.τ).loc Cert.FfTwoFwd.main_arg4) = m ((c.tc : Thread Cert.FfTwoFwd.nD Cert.FfTwoFwd.τ).loc Cert.FfTwoFwd.main_arg4))
      ∧ r.2.sem = fun _ => 0)

def quiescent_FfTwoFwdIdeal [hFfTwoFwdIdeal : Cert.FfTwoFwdIdeal.Facts] : Prop :=
  ∀ (m : (ℓ : Loc Cert.FfTwoFwdIdeal.nD Cert.FfTwoFwdIdeal.τ Cert.FfTwoFwdIdeal.sig) → Buf (Elt Ideal) ℓ) (g : Dev Cert.FfTwoFwdIdeal.nD → PrngReg), Pre_FfTwoFwdIdeal m →
    θ_run (Cert.FfTwoFwdIdeal.defs (F := Ideal)) (onTc (τ := Cert.FfTwoFwdIdeal.τ) (Cert.FfTwoFwdIdeal.main (F := Ideal))) ⟨m, fun _ => 0, g⟩ (fun r => (∀ c : Dev Cert.FfTwoFwdIdeal.nD,
      r.2.mem ((c.tc : Thread Cert.FfTwoFwdIdeal.nD Cert.FfTwoFwdIdeal.τ).loc Cert.FfTwoFwdIdeal.main_arg0) = m ((c.tc : Thread Cert.FfTwoFwdIdeal.nD Cert.FfTwoFwdIdeal.τ).loc Cert.FfTwoFwdIdeal.main_arg0)
      ∧ r.2.mem ((c.tc : Thread Cert.FfTwoFwdIdeal.nD Cert.FfTwoFwdIdeal.τ).loc Cert.FfTwoFwdIdeal.main_arg1) = m ((c.tc : Thread Cert.FfTwoFwdIdeal.nD Cert.FfTwoFwdIdeal.τ).loc Cert.FfTwoFwdIdeal.main_arg1)
      ∧ r.2.mem ((c.tc : Thread Cert.FfTwoFwdIdeal.nD Cert.FfTwoFwdIdeal.τ).loc Cert.FfTwoFwdIdeal.main_arg2) = m ((c.tc : Thread Cert.FfTwoFwdIdeal.nD Cert.FfTwoFwdIdeal.τ).loc Cert.FfTwoFwdIdeal.main_arg2)
      ∧ r.2.mem ((c.tc : Thread Cert.FfTwoFwdIdeal.nD Cert.FfTwoFwdIdeal.τ).loc Cert.FfTwoFwdIdeal.main_arg3) = m ((c.tc : Thread Cert.FfTwoFwdIdeal.nD Cert.FfTwoFwdIdeal.τ).loc Cert.FfTwoFwdIdeal.main_arg3)
      ∧ r.2.mem ((c.tc : Thread Cert.FfTwoFwdIdeal.nD Cert.FfTwoFwdIdeal.τ).loc Cert.FfTwoFwdIdeal.main_arg4) = m ((c.tc : Thread Cert.FfTwoFwdIdeal.nD Cert.FfTwoFwdIdeal.τ).loc Cert.FfTwoFwdIdeal.main_arg4))
      ∧ r.2.sem = fun _ => 0)

def quiescent_FfTwoFwdRefIdeal [hFfTwoFwdRefIdeal : Cert.FfTwoFwdRefIdeal.Facts] : Prop :=
  ∀ (m : (ℓ : Loc Cert.FfTwoFwdRefIdeal.nD Cert.FfTwoFwdRefIdeal.τ Cert.FfTwoFwdRefIdeal.sig) → Buf (Elt Ideal) ℓ) (g : Dev Cert.FfTwoFwdRefIdeal.nD → PrngReg), Pre_FfTwoFwdRefIdeal m →
    θ_run (Cert.FfTwoFwdRefIdeal.defs (F := Ideal)) (onTc (τ := Cert.FfTwoFwdRefIdeal.τ) (Cert.FfTwoFwdRefIdeal.main (F := Ideal))) ⟨m, fun _ => 0, g⟩ (fun r => (∀ c : Dev Cert.FfTwoFwdRefIdeal.nD,
      r.2.mem ((c.tc : Thread Cert.FfTwoFwdRefIdeal.nD Cert.FfTwoFwdRefIdeal.τ).loc Cert.FfTwoFwdRefIdeal.main_arg0) = m ((c.tc : Thread Cert.FfTwoFwdRefIdeal.nD Cert.FfTwoFwdRefIdeal.τ).loc Cert.FfTwoFwdRefIdeal.main_arg0)
      ∧ r.2.mem ((c.tc : Thread Cert.FfTwoFwdRefIdeal.nD Cert.FfTwoFwdRefIdeal.τ).loc Cert.FfTwoFwdRefIdeal.main_arg1) = m ((c.tc : Thread Cert.FfTwoFwdRefIdeal.nD Cert.FfTwoFwdRefIdeal.τ).loc Cert.FfTwoFwdRefIdeal.main_arg1)
      ∧ r.2.mem ((c.tc : Thread Cert.FfTwoFwdRefIdeal.nD Cert.FfTwoFwdRefIdeal.τ).loc Cert.FfTwoFwdRefIdeal.main_arg2) = m ((c.tc : Thread Cert.FfTwoFwdRefIdeal.nD Cert.FfTwoFwdRefIdeal.τ).loc Cert.FfTwoFwdRefIdeal.main_arg2)
      ∧ r.2.mem ((c.tc : Thread Cert.FfTwoFwdRefIdeal.nD Cert.FfTwoFwdRefIdeal.τ).loc Cert.FfTwoFwdRefIdeal.main_arg3) = m ((c.tc : Thread Cert.FfTwoFwdRefIdeal.nD Cert.FfTwoFwdRefIdeal.τ).loc Cert.FfTwoFwdRefIdeal.main_arg3)
      ∧ r.2.mem ((c.tc : Thread Cert.FfTwoFwdRefIdeal.nD Cert.FfTwoFwdRefIdeal.τ).loc Cert.FfTwoFwdRefIdeal.main_arg4) = m ((c.tc : Thread Cert.FfTwoFwdRefIdeal.nD Cert.FfTwoFwdRefIdeal.τ).loc Cert.FfTwoFwdRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4))
      ∧ r.2.sem = fun _ => 0)

def quiescent_WideFwd [hWideFwd : Cert.WideFwd.Facts] : Prop :=
  ∀ (m : (ℓ : Loc Cert.WideFwd.nD Cert.WideFwd.τ Cert.WideFwd.sig) → Buf (Elt Bits) ℓ) (g : Dev Cert.WideFwd.nD → PrngReg), Pre_WideFwd m →
    θ_run (Cert.WideFwd.defs (F := Bits)) (onTc (τ := Cert.WideFwd.τ) (Cert.WideFwd.main (F := Bits))) ⟨m, fun _ => 0, g⟩ (fun r => (∀ c : Dev Cert.WideFwd.nD,
      r.2.mem ((c.tc : Thread Cert.WideFwd.nD Cert.WideFwd.τ).loc Cert.WideFwd.main_arg0) = m ((c.tc : Thread Cert.WideFwd.nD Cert.WideFwd.τ).loc Cert.WideFwd.main_arg0)
      ∧ r.2.mem ((c.tc : Thread Cert.WideFwd.nD Cert.WideFwd.τ).loc Cert.WideFwd.main_arg1) = m ((c.tc : Thread Cert.WideFwd.nD Cert.WideFwd.τ).loc Cert.WideFwd.main_arg1))
      ∧ r.2.sem = fun _ => 0)

def quiescent_WideFwdIdeal [hWideFwdIdeal : Cert.WideFwdIdeal.Facts] : Prop :=
  ∀ (m : (ℓ : Loc Cert.WideFwdIdeal.nD Cert.WideFwdIdeal.τ Cert.WideFwdIdeal.sig) → Buf (Elt Ideal) ℓ) (g : Dev Cert.WideFwdIdeal.nD → PrngReg), Pre_WideFwdIdeal m →
    θ_run (Cert.WideFwdIdeal.defs (F := Ideal)) (onTc (τ := Cert.WideFwdIdeal.τ) (Cert.WideFwdIdeal.main (F := Ideal))) ⟨m, fun _ => 0, g⟩ (fun r => (∀ c : Dev Cert.WideFwdIdeal.nD,
      r.2.mem ((c.tc : Thread Cert.WideFwdIdeal.nD Cert.WideFwdIdeal.τ).loc Cert.WideFwdIdeal.main_arg0) = m ((c.tc : Thread Cert.WideFwdIdeal.nD Cert.WideFwdIdeal.τ).loc Cert.WideFwdIdeal.main_arg0)
      ∧ r.2.mem ((c.tc : Thread Cert.WideFwdIdeal.nD Cert.WideFwdIdeal.τ).loc Cert.WideFwdIdeal.main_arg1) = m ((c.tc : Thread Cert.WideFwdIdeal.nD Cert.WideFwdIdeal.τ).loc Cert.WideFwdIdeal.main_arg1))
      ∧ r.2.sem = fun _ => 0)

def quiescent_WideFwdRefIdeal [hWideFwdRefIdeal : Cert.WideFwdRefIdeal.Facts] : Prop :=
  ∀ (m : (ℓ : Loc Cert.WideFwdRefIdeal.nD Cert.WideFwdRefIdeal.τ Cert.WideFwdRefIdeal.sig) → Buf (Elt Ideal) ℓ) (g : Dev Cert.WideFwdRefIdeal.nD → PrngReg), Pre_WideFwdRefIdeal m →
    θ_run (Cert.WideFwdRefIdeal.defs (F := Ideal)) (onTc (τ := Cert.WideFwdRefIdeal.τ) (Cert.WideFwdRefIdeal.main (F := Ideal))) ⟨m, fun _ => 0, g⟩ (fun r => (∀ c : Dev Cert.WideFwdRefIdeal.nD,
      r.2.mem ((c.tc : Thread Cert.WideFwdRefIdeal.nD Cert.WideFwdRefIdeal.τ).loc Cert.WideFwdRefIdeal.main_arg0) = m ((c.tc : Thread Cert.WideFwdRefIdeal.nD Cert.WideFwdRefIdeal.τ).loc Cert.WideFwdRefIdeal.main_arg0)
      ∧ r.2.mem ((c.tc : Thread Cert.WideFwdRefIdeal.nD Cert.WideFwdRefIdeal.τ).loc Cert.WideFwdRefIdeal.main_arg1) = m ((c.tc : Thread Cert.WideFwdRefIdeal.nD Cert.WideFwdRefIdeal.τ).loc Cert.WideFwdRefIdeal.main_arg1))
      ∧ r.2.sem = fun _ => 0)

def quiescent_NarrowFwd [hNarrowFwd : Cert.NarrowFwd.Facts] : Prop :=
  ∀ (m : (ℓ : Loc Cert.NarrowFwd.nD Cert.NarrowFwd.τ Cert.NarrowFwd.sig) → Buf (Elt Bits) ℓ) (g : Dev Cert.NarrowFwd.nD → PrngReg), Pre_NarrowFwd m →
    θ_run (Cert.NarrowFwd.defs (F := Bits)) (onTc (τ := Cert.NarrowFwd.τ) (Cert.NarrowFwd.main (F := Bits))) ⟨m, fun _ => 0, g⟩ (fun r => (∀ c : Dev Cert.NarrowFwd.nD,
      r.2.mem ((c.tc : Thread Cert.NarrowFwd.nD Cert.NarrowFwd.τ).loc Cert.NarrowFwd.main_arg0) = m ((c.tc : Thread Cert.NarrowFwd.nD Cert.NarrowFwd.τ).loc Cert.NarrowFwd.main_arg0)
      ∧ r.2.mem ((c.tc : Thread Cert.NarrowFwd.nD Cert.NarrowFwd.τ).loc Cert.NarrowFwd.main_arg1) = m ((c.tc : Thread Cert.NarrowFwd.nD Cert.NarrowFwd.τ).loc Cert.NarrowFwd.main_arg1))
      ∧ r.2.sem = fun _ => 0)

def quiescent_NarrowFwdIdeal [hNarrowFwdIdeal : Cert.NarrowFwdIdeal.Facts] : Prop :=
  ∀ (m : (ℓ : Loc Cert.NarrowFwdIdeal.nD Cert.NarrowFwdIdeal.τ Cert.NarrowFwdIdeal.sig) → Buf (Elt Ideal) ℓ) (g : Dev Cert.NarrowFwdIdeal.nD → PrngReg), Pre_NarrowFwdIdeal m →
    θ_run (Cert.NarrowFwdIdeal.defs (F := Ideal)) (onTc (τ := Cert.NarrowFwdIdeal.τ) (Cert.NarrowFwdIdeal.main (F := Ideal))) ⟨m, fun _ => 0, g⟩ (fun r => (∀ c : Dev Cert.NarrowFwdIdeal.nD,
      r.2.mem ((c.tc : Thread Cert.NarrowFwdIdeal.nD Cert.NarrowFwdIdeal.τ).loc Cert.NarrowFwdIdeal.main_arg0) = m ((c.tc : Thread Cert.NarrowFwdIdeal.nD Cert.NarrowFwdIdeal.τ).loc Cert.NarrowFwdIdeal.main_arg0)
      ∧ r.2.mem ((c.tc : Thread Cert.NarrowFwdIdeal.nD Cert.NarrowFwdIdeal.τ).loc Cert.NarrowFwdIdeal.main_arg1) = m ((c.tc : Thread Cert.NarrowFwdIdeal.nD Cert.NarrowFwdIdeal.τ).loc Cert.NarrowFwdIdeal.main_arg1))
      ∧ r.2.sem = fun _ => 0)

def quiescent_NarrowFwdRefIdeal [hNarrowFwdRefIdeal : Cert.NarrowFwdRefIdeal.Facts] : Prop :=
  ∀ (m : (ℓ : Loc Cert.NarrowFwdRefIdeal.nD Cert.NarrowFwdRefIdeal.τ Cert.NarrowFwdRefIdeal.sig) → Buf (Elt Ideal) ℓ) (g : Dev Cert.NarrowFwdRefIdeal.nD → PrngReg), Pre_NarrowFwdRefIdeal m →
    θ_run (Cert.NarrowFwdRefIdeal.defs (F := Ideal)) (onTc (τ := Cert.NarrowFwdRefIdeal.τ) (Cert.NarrowFwdRefIdeal.main (F := Ideal))) ⟨m, fun _ => 0, g⟩ (fun r => (∀ c : Dev Cert.NarrowFwdRefIdeal.nD,
      r.2.mem ((c.tc : Thread Cert.NarrowFwdRefIdeal.nD Cert.NarrowFwdRefIdeal.τ).loc Cert.NarrowFwdRefIdeal.main_arg0) = m ((c.tc : Thread Cert.NarrowFwdRefIdeal.nD Cert.NarrowFwdRefIdeal.τ).loc Cert.NarrowFwdRefIdeal.main_arg0)
      ∧ r.2.mem ((c.tc : Thread Cert.NarrowFwdRefIdeal.nD Cert.NarrowFwdRefIdeal.τ).loc Cert.NarrowFwdRefIdeal.main_arg1) = m ((c.tc : Thread Cert.NarrowFwdRefIdeal.nD Cert.NarrowFwdRefIdeal.τ).loc Cert.NarrowFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamRest [hAdamRest : Cert.AdamRest.Facts] : Prop :=
  ∀ (m : (ℓ : Loc Cert.AdamRest.nD Cert.AdamRest.τ Cert.AdamRest.sig) → Buf (Elt Bits) ℓ) (g : Dev Cert.AdamRest.nD → PrngReg), Pre_AdamRest m →
    θ_run (Cert.AdamRest.defs (F := Bits)) (onTc (τ := Cert.AdamRest.τ) (Cert.AdamRest.main (F := Bits))) ⟨m, fun _ => 0, g⟩ (fun r => (∀ c : Dev Cert.AdamRest.nD,
      r.2.mem ((c.tc : Thread Cert.AdamRest.nD Cert.AdamRest.τ).loc Cert.AdamRest.main_arg0) = m ((c.tc : Thread Cert.AdamRest.nD Cert.AdamRest.τ).loc Cert.AdamRest.main_arg0)
      ∧ r.2.mem ((c.tc : Thread Cert.AdamRest.nD Cert.AdamRest.τ).loc Cert.AdamRest.main_arg1) = m ((c.tc : Thread Cert.AdamRest.nD Cert.AdamRest.τ).loc Cert.AdamRest.main_arg1)
      ∧ r.2.mem ((c.tc : Thread Cert.AdamRest.nD Cert.AdamRest.τ).loc Cert.AdamRest.main_arg2) = m ((c.tc : Thread Cert.AdamRest.nD Cert.AdamRest.τ).loc Cert.AdamRest.main_arg2)
      ∧ r.2.mem ((c.tc : Thread Cert.AdamRest.nD Cert.AdamRest.τ).loc Cert.AdamRest.main_arg3) = m ((c.tc : Thread Cert.AdamRest.nD Cert.AdamRest.τ).loc Cert.AdamRest.main_arg3))
      ∧ r.2.sem = fun _ => 0)

def quiescent_AdamRestIdeal [hAdamRestIdeal : Cert.AdamRestIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg), Pre_AdamRestIdeal m →
    θ_run (Cert.AdamRestIdeal.defs (F := Ideal)) (onTc (τ := Cert.AdamRestIdeal.τ) (Cert.AdamRestIdeal.main (F := Ideal))) ⟨m, fun _ => 0, g⟩ (fun r => (∀ c : Dev Cert.AdamRestIdeal.nD,
      r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
      ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
      ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
      ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3))
      ∧ r.2.sem = fun _ => 0)

def quiescent_AdamRestRefIdeal [hAdamRestRefIdeal : Cert.AdamRestRefIdeal.Facts] : Prop :=
  ∀ (m : (ℓ : Loc Cert.AdamRestRefIdeal.nD Cert.AdamRestRefIdeal.τ Cert.AdamRestRefIdeal.sig) → Buf (Elt Ideal) ℓ) (g : Dev Cert.AdamRestRefIdeal.nD → PrngReg), Pre_AdamRestRefIdeal m →
    θ_run (Cert.AdamRestRefIdeal.defs (F := Ideal)) (onTc (τ := Cert.AdamRestRefIdeal.τ) (Cert.AdamRestRefIdeal.main (F := Ideal))) ⟨m, fun _ => 0, g⟩ (fun r => (∀ c : Dev Cert.AdamRestRefIdeal.nD,
      r.2.mem ((c.tc : Thread Cert.AdamRestRefIdeal.nD Cert.AdamRestRefIdeal.τ).loc Cert.AdamRestRefIdeal.main_arg0) = m ((c.tc : Thread Cert.AdamRestRefIdeal.nD Cert.AdamRestRefIdeal.τ).loc Cert.AdamRestRefIdeal.main_arg0)
      ∧ r.2.mem ((c.tc : Thread Cert.AdamRestRefIdeal.nD Cert.AdamRestRefIdeal.τ).loc Cert.AdamRestRefIdeal.main_arg1) = m ((c.tc : Thread Cert.AdamRestRefIdeal.nD Cert.AdamRestRefIdeal.τ).loc Cert.AdamRestRefIdeal.main_arg1)
      ∧ r.2.mem ((c.tc : Thread Cert.AdamRestRefIdeal.nD Cert.AdamRestRefIdeal.τ).loc Cert.AdamRestRefIdeal.main_arg2) = m ((c.tc : Thread Cert.AdamRestRefIdeal.nD Cert.AdamRestRefIdeal.τ).loc Cert.AdamRestRefIdeal.main_arg2)
      ∧ r.2.mem ((c.tc : Thread Cert.AdamRestRefIdeal.nD Cert.AdamRestRefIdeal.τ).loc Cert.AdamRestRefIdeal.main_arg3) = m ((c.tc : Thread Cert.AdamRestRefIdeal.nD Cert.AdamRestRefIdeal.τ).loc Cert.AdamRestRefIdeal.main_arg3))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def preserves_FfTwoDw_FfTwoDwIdeal : Prop :=
  True

def algebraic_FfTwoDwIdeal_FfTwoDwRefIdeal [hFfTwoDwIdeal : Cert.FfTwoDwIdeal.Facts] [hFfTwoDwRefIdeal : Cert.FfTwoDwRefIdeal.Facts] : Prop :=
  ∀ (m : (ℓ : Loc Cert.FfTwoDwIdeal.nD Cert.FfTwoDwIdeal.τ Cert.FfTwoDwIdeal.sig) → Buf (Elt Ideal) ℓ) (g : Dev Cert.FfTwoDwIdeal.nD → PrngReg)
    (m' : (ℓ : Loc Cert.FfTwoDwRefIdeal.nD Cert.FfTwoDwRefIdeal.τ Cert.FfTwoDwRefIdeal.sig) → Buf (Elt Ideal) ℓ) (g' : Dev Cert.FfTwoDwRefIdeal.nD → PrngReg), Pre_FfTwoDwIdeal m →
    (∀ c : Dev Cert.FfTwoDwIdeal.nD,
      m' ((c.tc : Thread Cert.FfTwoDwRefIdeal.nD Cert.FfTwoDwRefIdeal.τ).loc Cert.FfTwoDwRefIdeal.main_arg0) = m ((c.tc : Thread Cert.FfTwoDwIdeal.nD Cert.FfTwoDwIdeal.τ).loc Cert.FfTwoDwIdeal.main_arg0)
      ∧ m' ((c.tc : Thread Cert.FfTwoDwRefIdeal.nD Cert.FfTwoDwRefIdeal.τ).loc Cert.FfTwoDwRefIdeal.main_arg1) = m ((c.tc : Thread Cert.FfTwoDwIdeal.nD Cert.FfTwoDwIdeal.τ).loc Cert.FfTwoDwIdeal.main_arg1)) →
    ∃ (v0 : (c : Dev Cert.FfTwoDwIdeal.nD) → Buf (Elt Ideal) ((c.tc : Thread Cert.FfTwoDwIdeal.nD Cert.FfTwoDwIdeal.τ).loc Cert.FfTwoDwIdeal.main_v0)),
      θ_run (Cert.FfTwoDwIdeal.defs (F := Ideal)) (onTc (τ := Cert.FfTwoDwIdeal.τ) (Cert.FfTwoDwIdeal.main (F := Ideal))) ⟨m, fun _ => 0, g⟩ (fun r => ∀ c : Dev Cert.FfTwoDwIdeal.nD,
          r.2.mem ((c.tc : Thread Cert.FfTwoDwIdeal.nD Cert.FfTwoDwIdeal.τ).loc Cert.FfTwoDwIdeal.main_v0) = v0 c
          ∧ r.2.mem ((c.tc : Thread Cert.FfTwoDwIdeal.nD Cert.FfTwoDwIdeal.τ).loc Cert.FfTwoDwIdeal.main_arg0) = m ((c.tc : Thread Cert.FfTwoDwIdeal.nD Cert.FfTwoDwIdeal.τ).loc Cert.FfTwoDwIdeal.main_arg0)
          ∧ r.2.mem ((c.tc : Thread Cert.FfTwoDwIdeal.nD Cert.FfTwoDwIdeal.τ).loc Cert.FfTwoDwIdeal.main_arg1) = m ((c.tc : Thread Cert.FfTwoDwIdeal.nD Cert.FfTwoDwIdeal.τ).loc Cert.FfTwoDwIdeal.main_arg1))
      ∧ θ_run (Cert.FfTwoDwRefIdeal.defs (F := Ideal)) (onTc (τ := Cert.FfTwoDwRefIdeal.τ) (Cert.FfTwoDwRefIdeal.main (F := Ideal))) ⟨m', fun _ => 0, g'⟩ (fun r => ∀ c : Dev Cert.FfTwoDwRefIdeal.nD,
          r.2.mem ((c.tc : Thread Cert.FfTwoDwRefIdeal.nD Cert.FfTwoDwRefIdeal.τ).loc Cert.FfTwoDwRefIdeal.main_v6) = v0 c
          ∧ r.2.mem ((c.tc : Thread Cert.FfTwoDwRefIdeal.nD Cert.FfTwoDwRefIdeal.τ).loc Cert.FfTwoDwRefIdeal.main_arg0) = m' ((c.tc : Thread Cert.FfTwoDwRefIdeal.nD Cert.FfTwoDwRefIdeal.τ).loc Cert.FfTwoDwRefIdeal.main_arg0)
          ∧ r.2.mem ((c.tc : Thread Cert.FfTwoDwRefIdeal.nD Cert.FfTwoDwRefIdeal.τ).loc Cert.FfTwoDwRefIdeal.main_arg1) = m' ((c.tc : Thread Cert.FfTwoDwRefIdeal.nD Cert.FfTwoDwRefIdeal.τ).loc Cert.FfTwoDwRefIdeal.main_arg1))

def preserves_FfOneDw_FfOneDwIdeal : Prop :=
  True

def algebraic_FfOneDwIdeal_FfOneDwRefIdeal [hFfOneDwIdeal : Cert.FfOneDwIdeal.Facts] [hFfOneDwRefIdeal : Cert.FfOneDwRefIdeal.Facts] : Prop :=
  ∀ (m : (ℓ : Loc Cert.FfOneDwIdeal.nD Cert.FfOneDwIdeal.τ Cert.FfOneDwIdeal.sig) → Buf (Elt Ideal) ℓ) (g : Dev Cert.FfOneDwIdeal.nD → PrngReg)
    (m' : (ℓ : Loc Cert.FfOneDwRefIdeal.nD Cert.FfOneDwRefIdeal.τ Cert.FfOneDwRefIdeal.sig) → Buf (Elt Ideal) ℓ) (g' : Dev Cert.FfOneDwRefIdeal.nD → PrngReg), Pre_FfOneDwIdeal m →
    (∀ c : Dev Cert.FfOneDwIdeal.nD,
      m' ((c.tc : Thread Cert.FfOneDwRefIdeal.nD Cert.FfOneDwRefIdeal.τ).loc Cert.FfOneDwRefIdeal.main_arg0) = m ((c.tc : Thread Cert.FfOneDwIdeal.nD Cert.FfOneDwIdeal.τ).loc Cert.FfOneDwIdeal.main_arg0)
      ∧ m' ((c.tc : Thread Cert.FfOneDwRefIdeal.nD Cert.FfOneDwRefIdeal.τ).loc Cert.FfOneDwRefIdeal.main_arg1) = m ((c.tc : Thread Cert.FfOneDwIdeal.nD Cert.FfOneDwIdeal.τ).loc Cert.FfOneDwIdeal.main_arg1)) →
    ∃ (v0 : (c : Dev Cert.FfOneDwIdeal.nD) → Buf (Elt Ideal) ((c.tc : Thread Cert.FfOneDwIdeal.nD Cert.FfOneDwIdeal.τ).loc Cert.FfOneDwIdeal.main_v0)),
      θ_run (Cert.FfOneDwIdeal.defs (F := Ideal)) (onTc (τ := Cert.FfOneDwIdeal.τ) (Cert.FfOneDwIdeal.main (F := Ideal))) ⟨m, fun _ => 0, g⟩ (fun r => ∀ c : Dev Cert.FfOneDwIdeal.nD,
          r.2.mem ((c.tc : Thread Cert.FfOneDwIdeal.nD Cert.FfOneDwIdeal.τ).loc Cert.FfOneDwIdeal.main_v0) = v0 c
          ∧ r.2.mem ((c.tc : Thread Cert.FfOneDwIdeal.nD Cert.FfOneDwIdeal.τ).loc Cert.FfOneDwIdeal.main_arg0) = m ((c.tc : Thread Cert.FfOneDwIdeal.nD Cert.FfOneDwIdeal.τ).loc Cert.FfOneDwIdeal.main_arg0)
          ∧ r.2.mem ((c.tc : Thread Cert.FfOneDwIdeal.nD Cert.FfOneDwIdeal.τ).loc Cert.FfOneDwIdeal.main_arg1) = m ((c.tc : Thread Cert.FfOneDwIdeal.nD Cert.FfOneDwIdeal.τ).loc Cert.FfOneDwIdeal.main_arg1))
      ∧ θ_run (Cert.FfOneDwRefIdeal.defs (F := Ideal)) (onTc (τ := Cert.FfOneDwRefIdeal.τ) (Cert.FfOneDwRefIdeal.main (F := Ideal))) ⟨m', fun _ => 0, g'⟩ (fun r => ∀ c : Dev Cert.FfOneDwRefIdeal.nD,
          r.2.mem ((c.tc : Thread Cert.FfOneDwRefIdeal.nD Cert.FfOneDwRefIdeal.τ).loc Cert.FfOneDwRefIdeal.main_v8) = v0 c
          ∧ r.2.mem ((c.tc : Thread Cert.FfOneDwRefIdeal.nD Cert.FfOneDwRefIdeal.τ).loc Cert.FfOneDwRefIdeal.main_arg0) = m' ((c.tc : Thread Cert.FfOneDwRefIdeal.nD Cert.FfOneDwRefIdeal.τ).loc Cert.FfOneDwRefIdeal.main_arg0)
          ∧ r.2.mem ((c.tc : Thread Cert.FfOneDwRefIdeal.nD Cert.FfOneDwRefIdeal.τ).loc Cert.FfOneDwRefIdeal.main_arg1) = m' ((c.tc : Thread Cert.FfOneDwRefIdeal.nD Cert.FfOneDwRefIdeal.τ).loc Cert.FfOneDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)) →
    ∃ (v0 : (c : Dev Cert.InDxIdeal.nD) → Buf (Elt Ideal) ((c.tc : Thread Cert.InDxIdeal.nD Cert.InDxIdeal.τ).loc Cert.InDxIdeal.main_v7_0)) (v1 : (c : Dev Cert.InDxIdeal.nD) → Buf (Elt Ideal) ((c.tc : Thread Cert.InDxIdeal.nD Cert.InDxIdeal.τ).loc Cert.InDxIdeal.main_v7_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v7_0) = v0 c
          ∧ r.2.mem ((c.tc : Thread Cert.InDxIdeal.nD Cert.InDxIdeal.τ).loc Cert.InDxIdeal.main_v7_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v62) = v0 c
          ∧ r.2.mem ((c.tc : Thread Cert.InDxRefIdeal.nD Cert.InDxRefIdeal.τ).loc Cert.InDxRefIdeal.main_v63) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6))

def preserves_FfOneDx_FfOneDxIdeal : Prop :=
  True

def algebraic_FfOneDxIdeal_FfOneDxRefIdeal [hFfOneDxIdeal : Cert.FfOneDxIdeal.Facts] [hFfOneDxRefIdeal : Cert.FfOneDxRefIdeal.Facts] : Prop :=
  ∀ (m : (ℓ : Loc Cert.FfOneDxIdeal.nD Cert.FfOneDxIdeal.τ Cert.FfOneDxIdeal.sig) → Buf (Elt Ideal) ℓ) (g : Dev Cert.FfOneDxIdeal.nD → PrngReg)
    (m' : (ℓ : Loc Cert.FfOneDxRefIdeal.nD Cert.FfOneDxRefIdeal.τ Cert.FfOneDxRefIdeal.sig) → Buf (Elt Ideal) ℓ) (g' : Dev Cert.FfOneDxRefIdeal.nD → PrngReg), Pre_FfOneDxIdeal m →
    (∀ c : Dev Cert.FfOneDxIdeal.nD,
      m' ((c.tc : Thread Cert.FfOneDxRefIdeal.nD Cert.FfOneDxRefIdeal.τ).loc Cert.FfOneDxRefIdeal.main_arg0) = m ((c.tc : Thread Cert.FfOneDxIdeal.nD Cert.FfOneDxIdeal.τ).loc Cert.FfOneDxIdeal.main_arg0)
      ∧ m' ((c.tc : Thread Cert.FfOneDxRefIdeal.nD Cert.FfOneDxRefIdeal.τ).loc Cert.FfOneDxRefIdeal.main_arg1) = m ((c.tc : Thread Cert.FfOneDxIdeal.nD Cert.FfOneDxIdeal.τ).loc Cert.FfOneDxIdeal.main_arg1)
      ∧ m' ((c.tc : Thread Cert.FfOneDxRefIdeal.nD Cert.FfOneDxRefIdeal.τ).loc Cert.FfOneDxRefIdeal.main_arg2) = m ((c.tc : Thread Cert.FfOneDxIdeal.nD Cert.FfOneDxIdeal.τ).loc Cert.FfOneDxIdeal.main_arg2)
      ∧ m' ((c.tc : Thread Cert.FfOneDxRefIdeal.nD Cert.FfOneDxRefIdeal.τ).loc Cert.FfOneDxRefIdeal.main_arg3) = m ((c.tc : Thread Cert.FfOneDxIdeal.nD Cert.FfOneDxIdeal.τ).loc Cert.FfOneDxIdeal.main_arg3)
      ∧ m' ((c.tc : Thread Cert.FfOneDxRefIdeal.nD Cert.FfOneDxRefIdeal.τ).loc Cert.FfOneDxRefIdeal.main_arg4) = m ((c.tc : Thread Cert.FfOneDxIdeal.nD Cert.FfOneDxIdeal.τ).loc Cert.FfOneDxIdeal.main_arg4)
      ∧ m' ((c.tc : Thread Cert.FfOneDxRefIdeal.nD Cert.FfOneDxRefIdeal.τ).loc Cert.FfOneDxRefIdeal.main_arg5) = m ((c.tc : Thread Cert.FfOneDxIdeal.nD Cert.FfOneDxIdeal.τ).loc Cert.FfOneDxIdeal.main_arg5)
      ∧ m' ((c.tc : Thread Cert.FfOneDxRefIdeal.nD Cert.FfOneDxRefIdeal.τ).loc Cert.FfOneDxRefIdeal.main_arg6) = m ((c.tc : Thread Cert.FfOneDxIdeal.nD Cert.FfOneDxIdeal.τ).loc Cert.FfOneDxIdeal.main_arg6)) →
    ∃ (v0 : (c : Dev Cert.FfOneDxIdeal.nD) → Buf (Elt Ideal) ((c.tc : Thread Cert.FfOneDxIdeal.nD Cert.FfOneDxIdeal.τ).loc Cert.FfOneDxIdeal.main_v9_0)) (v1 : (c : Dev Cert.FfOneDxIdeal.nD) → Buf (Elt Ideal) ((c.tc : Thread Cert.FfOneDxIdeal.nD Cert.FfOneDxIdeal.τ).loc Cert.FfOneDxIdeal.main_v9_1)),
      θ_run (Cert.FfOneDxIdeal.defs (F := Ideal)) (onTc (τ := Cert.FfOneDxIdeal.τ) (Cert.FfOneDxIdeal.main (F := Ideal))) ⟨m, fun _ => 0, g⟩ (fun r => ∀ c : Dev Cert.FfOneDxIdeal.nD,
          r.2.mem ((c.tc : Thread Cert.FfOneDxIdeal.nD Cert.FfOneDxIdeal.τ).loc Cert.FfOneDxIdeal.main_v9_0) = v0 c
          ∧ r.2.mem ((c.tc : Thread Cert.FfOneDxIdeal.nD Cert.FfOneDxIdeal.τ).loc Cert.FfOneDxIdeal.main_v9_1) = v1 c
          ∧ r.2.mem ((c.tc : Thread Cert.FfOneDxIdeal.nD Cert.FfOneDxIdeal.τ).loc Cert.FfOneDxIdeal.main_arg0) = m ((c.tc : Thread Cert.FfOneDxIdeal.nD Cert.FfOneDxIdeal.τ).loc Cert.FfOneDxIdeal.main_arg0)
          ∧ r.2.mem ((c.tc : Thread Cert.FfOneDxIdeal.nD Cert.FfOneDxIdeal.τ).loc Cert.FfOneDxIdeal.main_arg1) = m ((c.tc : Thread Cert.FfOneDxIdeal.nD Cert.FfOneDxIdeal.τ).loc Cert.FfOneDxIdeal.main_arg1)
          ∧ r.2.mem ((c.tc : Thread Cert.FfOneDxIdeal.nD Cert.FfOneDxIdeal.τ).loc Cert.FfOneDxIdeal.main_arg2) = m ((c.tc : Thread Cert.FfOneDxIdeal.nD Cert.FfOneDxIdeal.τ).loc Cert.FfOneDxIdeal.main_arg2)
          ∧ r.2.mem ((c.tc : Thread Cert.FfOneDxIdeal.nD Cert.FfOneDxIdeal.τ).loc Cert.FfOneDxIdeal.main_arg3) = m ((c.tc : Thread Cert.FfOneDxIdeal.nD Cert.FfOneDxIdeal.τ).loc Cert.FfOneDxIdeal.main_arg3)
          ∧ r.2.mem ((c.tc : Thread Cert.FfOneDxIdeal.nD Cert.FfOneDxIdeal.τ).loc Cert.FfOneDxIdeal.main_arg4) = m ((c.tc : Thread Cert.FfOneDxIdeal.nD Cert.FfOneDxIdeal.τ).loc Cert.FfOneDxIdeal.main_arg4)
          ∧ r.2.mem ((c.tc : Thread Cert.FfOneDxIdeal.nD Cert.FfOneDxIdeal.τ).loc Cert.FfOneDxIdeal.main_arg5) = m ((c.tc : Thread Cert.FfOneDxIdeal.nD Cert.FfOneDxIdeal.τ).loc Cert.FfOneDxIdeal.main_arg5)
          ∧ r.2.mem ((c.tc : Thread Cert.FfOneDxIdeal.nD Cert.FfOneDxIdeal.τ).loc Cert.FfOneDxIdeal.main_arg6) = m ((c.tc : Thread Cert.FfOneDxIdeal.nD Cert.FfOneDxIdeal.τ).loc Cert.FfOneDxIdeal.main_arg6))
      ∧ θ_run (Cert.FfOneDxRefIdeal.defs (F := Ideal)) (onTc (τ := Cert.FfOneDxRefIdeal.τ) (Cert.FfOneDxRefIdeal.main (F := Ideal))) ⟨m', fun _ => 0, g'⟩ (fun r => ∀ c : Dev Cert.FfOneDxRefIdeal.nD,
          r.2.mem ((c.tc : Thread Cert.FfOneDxRefIdeal.nD Cert.FfOneDxRefIdeal.τ).loc Cert.FfOneDxRefIdeal.main_v63) = v0 c
          ∧ r.2.mem ((c.tc : Thread Cert.FfOneDxRefIdeal.nD Cert.FfOneDxRefIdeal.τ).loc Cert.FfOneDxRefIdeal.main_v64) = v1 c
          ∧ r.2.mem ((c.tc : Thread Cert.FfOneDxRefIdeal.nD Cert.FfOneDxRefIdeal.τ).loc Cert.FfOneDxRefIdeal.main_arg0) = m' ((c.tc : Thread Cert.FfOneDxRefIdeal.nD Cert.FfOneDxRefIdeal.τ).loc Cert.FfOneDxRefIdeal.main_arg0)
          ∧ r.2.mem ((c.tc : Thread Cert.FfOneDxRefIdeal.nD Cert.FfOneDxRefIdeal.τ).loc Cert.FfOneDxRefIdeal.main_arg1) = m' ((c.tc : Thread Cert.FfOneDxRefIdeal.nD Cert.FfOneDxRefIdeal.τ).loc Cert.FfOneDxRefIdeal.main_arg1)
          ∧ r.2.mem ((c.tc : Thread Cert.FfOneDxRefIdeal.nD Cert.FfOneDxRefIdeal.τ).loc Cert.FfOneDxRefIdeal.main_arg2) = m' ((c.tc : Thread Cert.FfOneDxRefIdeal.nD Cert.FfOneDxRefIdeal.τ).loc Cert.FfOneDxRefIdeal.main_arg2)
          ∧ r.2.mem ((c.tc : Thread Cert.FfOneDxRefIdeal.nD Cert.FfOneDxRefIdeal.τ).loc Cert.FfOneDxRefIdeal.main_arg3) = m' ((c.tc : Thread Cert.FfOneDxRefIdeal.nD Cert.FfOneDxRefIdeal.τ).loc Cert.FfOneDxRefIdeal.main_arg3)
          ∧ r.2.mem ((c.tc : Thread Cert.FfOneDxRefIdeal.nD Cert.FfOneDxRefIdeal.τ).loc Cert.FfOneDxRefIdeal.main_arg4) = m' ((c.tc : Thread Cert.FfOneDxRefIdeal.nD Cert.FfOneDxRefIdeal.τ).loc Cert.FfOneDxRefIdeal.main_arg4)
          ∧ r.2.mem ((c.tc : Thread Cert.FfOneDxRefIdeal.nD Cert.FfOneDxRefIdeal.τ).loc Cert.FfOneDxRefIdeal.main_arg5) = m' ((c.tc : Thread Cert.FfOneDxRefIdeal.nD Cert.FfOneDxRefIdeal.τ).loc Cert.FfOneDxRefIdeal.main_arg5)
          ∧ r.2.mem ((c.tc : Thread Cert.FfOneDxRefIdeal.nD Cert.FfOneDxRefIdeal.τ).loc Cert.FfOneDxRefIdeal.main_arg6) = m' ((c.tc : Thread Cert.FfOneDxRefIdeal.nD Cert.FfOneDxRefIdeal.τ).loc Cert.FfOneDxRefIdeal.main_arg6))

def preserves_FfTwoDx_FfTwoDxIdeal : Prop :=
  True

def algebraic_FfTwoDxIdeal_FfTwoDxRefIdeal [hFfTwoDxIdeal : Cert.FfTwoDxIdeal.Facts] [hFfTwoDxRefIdeal : Cert.FfTwoDxRefIdeal.Facts] : Prop :=
  ∀ (m : (ℓ : Loc Cert.FfTwoDxIdeal.nD Cert.FfTwoDxIdeal.τ Cert.FfTwoDxIdeal.sig) → Buf (Elt Ideal) ℓ) (g : Dev Cert.FfTwoDxIdeal.nD → PrngReg)
    (m' : (ℓ : Loc Cert.FfTwoDxRefIdeal.nD Cert.FfTwoDxRefIdeal.τ Cert.FfTwoDxRefIdeal.sig) → Buf (Elt Ideal) ℓ) (g' : Dev Cert.FfTwoDxRefIdeal.nD → PrngReg), Pre_FfTwoDxIdeal m →
    (∀ c : Dev Cert.FfTwoDxIdeal.nD,
      m' ((c.tc : Thread Cert.FfTwoDxRefIdeal.nD Cert.FfTwoDxRefIdeal.τ).loc Cert.FfTwoDxRefIdeal.main_arg0) = m ((c.tc : Thread Cert.FfTwoDxIdeal.nD Cert.FfTwoDxIdeal.τ).loc Cert.FfTwoDxIdeal.main_arg0)
      ∧ m' ((c.tc : Thread Cert.FfTwoDxRefIdeal.nD Cert.FfTwoDxRefIdeal.τ).loc Cert.FfTwoDxRefIdeal.main_arg1) = m ((c.tc : Thread Cert.FfTwoDxIdeal.nD Cert.FfTwoDxIdeal.τ).loc Cert.FfTwoDxIdeal.main_arg1)
      ∧ m' ((c.tc : Thread Cert.FfTwoDxRefIdeal.nD Cert.FfTwoDxRefIdeal.τ).loc Cert.FfTwoDxRefIdeal.main_arg2) = m ((c.tc : Thread Cert.FfTwoDxIdeal.nD Cert.FfTwoDxIdeal.τ).loc Cert.FfTwoDxIdeal.main_arg2)
      ∧ m' ((c.tc : Thread Cert.FfTwoDxRefIdeal.nD Cert.FfTwoDxRefIdeal.τ).loc Cert.FfTwoDxRefIdeal.main_arg3) = m ((c.tc : Thread Cert.FfTwoDxIdeal.nD Cert.FfTwoDxIdeal.τ).loc Cert.FfTwoDxIdeal.main_arg3)
      ∧ m' ((c.tc : Thread Cert.FfTwoDxRefIdeal.nD Cert.FfTwoDxRefIdeal.τ).loc Cert.FfTwoDxRefIdeal.main_arg4) = m ((c.tc : Thread Cert.FfTwoDxIdeal.nD Cert.FfTwoDxIdeal.τ).loc Cert.FfTwoDxIdeal.main_arg4)
      ∧ m' ((c.tc : Thread Cert.FfTwoDxRefIdeal.nD Cert.FfTwoDxRefIdeal.τ).loc Cert.FfTwoDxRefIdeal.main_arg5) = m ((c.tc : Thread Cert.FfTwoDxIdeal.nD Cert.FfTwoDxIdeal.τ).loc Cert.FfTwoDxIdeal.main_arg5)) →
    ∃ (v0 : (c : Dev Cert.FfTwoDxIdeal.nD) → Buf (Elt Ideal) ((c.tc : Thread Cert.FfTwoDxIdeal.nD Cert.FfTwoDxIdeal.τ).loc Cert.FfTwoDxIdeal.main_v8_0)) (v1 : (c : Dev Cert.FfTwoDxIdeal.nD) → Buf (Elt Ideal) ((c.tc : Thread Cert.FfTwoDxIdeal.nD Cert.FfTwoDxIdeal.τ).loc Cert.FfTwoDxIdeal.main_v8_1)) (v2 : (c : Dev Cert.FfTwoDxIdeal.nD) → Buf (Elt Ideal) ((c.tc : Thread Cert.FfTwoDxIdeal.nD Cert.FfTwoDxIdeal.τ).loc Cert.FfTwoDxIdeal.main_v8_2)),
      θ_run (Cert.FfTwoDxIdeal.defs (F := Ideal)) (onTc (τ := Cert.FfTwoDxIdeal.τ) (Cert.FfTwoDxIdeal.main (F := Ideal))) ⟨m, fun _ => 0, g⟩ (fun r => ∀ c : Dev Cert.FfTwoDxIdeal.nD,
          r.2.mem ((c.tc : Thread Cert.FfTwoDxIdeal.nD Cert.FfTwoDxIdeal.τ).loc Cert.FfTwoDxIdeal.main_v8_0) = v0 c
          ∧ r.2.mem ((c.tc : Thread Cert.FfTwoDxIdeal.nD Cert.FfTwoDxIdeal.τ).loc Cert.FfTwoDxIdeal.main_v8_1) = v1 c
          ∧ r.2.mem ((c.tc : Thread Cert.FfTwoDxIdeal.nD Cert.FfTwoDxIdeal.τ).loc Cert.FfTwoDxIdeal.main_v8_2) = v2 c
          ∧ r.2.mem ((c.tc : Thread Cert.FfTwoDxIdeal.nD Cert.FfTwoDxIdeal.τ).loc Cert.FfTwoDxIdeal.main_arg0) = m ((c.tc : Thread Cert.FfTwoDxIdeal.nD Cert.FfTwoDxIdeal.τ).loc Cert.FfTwoDxIdeal.main_arg0)
          ∧ r.2.mem ((c.tc : Thread Cert.FfTwoDxIdeal.nD Cert.FfTwoDxIdeal.τ).loc Cert.FfTwoDxIdeal.main_arg1) = m ((c.tc : Thread Cert.FfTwoDxIdeal.nD Cert.FfTwoDxIdeal.τ).loc Cert.FfTwoDxIdeal.main_arg1)
          ∧ r.2.mem ((c.tc : Thread Cert.FfTwoDxIdeal.nD Cert.FfTwoDxIdeal.τ).loc Cert.FfTwoDxIdeal.main_arg2) = m ((c.tc : Thread Cert.FfTwoDxIdeal.nD Cert.FfTwoDxIdeal.τ).loc Cert.FfTwoDxIdeal.main_arg2)
          ∧ r.2.mem ((c.tc : Thread Cert.FfTwoDxIdeal.nD Cert.FfTwoDxIdeal.τ).loc Cert.FfTwoDxIdeal.main_arg3) = m ((c.tc : Thread Cert.FfTwoDxIdeal.nD Cert.FfTwoDxIdeal.τ).loc Cert.FfTwoDxIdeal.main_arg3)
          ∧ r.2.mem ((c.tc : Thread Cert.FfTwoDxIdeal.nD Cert.FfTwoDxIdeal.τ).loc Cert.FfTwoDxIdeal.main_arg4) = m ((c.tc : Thread Cert.FfTwoDxIdeal.nD Cert.FfTwoDxIdeal.τ).loc Cert.FfTwoDxIdeal.main_arg4)
          ∧ r.2.mem ((c.tc : Thread Cert.FfTwoDxIdeal.nD Cert.FfTwoDxIdeal.τ).loc Cert.FfTwoDxIdeal.main_arg5) = m ((c.tc : Thread Cert.FfTwoDxIdeal.nD Cert.FfTwoDxIdeal.τ).loc Cert.FfTwoDxIdeal.main_arg5))
      ∧ θ_run (Cert.FfTwoDxRefIdeal.defs (F := Ideal)) (onTc (τ := Cert.FfTwoDxRefIdeal.τ) (Cert.FfTwoDxRefIdeal.main (F := Ideal))) ⟨m', fun _ => 0, g'⟩ (fun r => ∀ c : Dev Cert.FfTwoDxRefIdeal.nD,
          r.2.mem ((c.tc : Thread Cert.FfTwoDxRefIdeal.nD Cert.FfTwoDxRefIdeal.τ).loc Cert.FfTwoDxRefIdeal.main_v63) = v0 c
          ∧ r.2.mem ((c.tc : Thread Cert.FfTwoDxRefIdeal.nD Cert.FfTwoDxRefIdeal.τ).loc Cert.FfTwoDxRefIdeal.main_v64) = v1 c
          ∧ r.2.mem ((c.tc : Thread Cert.FfTwoDxRefIdeal.nD Cert.FfTwoDxRefIdeal.τ).loc Cert.FfTwoDxRefIdeal.main_v48) = v2 c
          ∧ r.2.mem ((c.tc : Thread Cert.FfTwoDxRefIdeal.nD Cert.FfTwoDxRefIdeal.τ).loc Cert.FfTwoDxRefIdeal.main_arg0) = m' ((c.tc : Thread Cert.FfTwoDxRefIdeal.nD Cert.FfTwoDxRefIdeal.τ).loc Cert.FfTwoDxRefIdeal.main_arg0)
          ∧ r.2.mem ((c.tc : Thread Cert.FfTwoDxRefIdeal.nD Cert.FfTwoDxRefIdeal.τ).loc Cert.FfTwoDxRefIdeal.main_arg1) = m' ((c.tc : Thread Cert.FfTwoDxRefIdeal.nD Cert.FfTwoDxRefIdeal.τ).loc Cert.FfTwoDxRefIdeal.main_arg1)
          ∧ r.2.mem ((c.tc : Thread Cert.FfTwoDxRefIdeal.nD Cert.FfTwoDxRefIdeal.τ).loc Cert.FfTwoDxRefIdeal.main_arg2) = m' ((c.tc : Thread Cert.FfTwoDxRefIdeal.nD Cert.FfTwoDxRefIdeal.τ).loc Cert.FfTwoDxRefIdeal.main_arg2)
          ∧ r.2.mem ((c.tc : Thread Cert.FfTwoDxRefIdeal.nD Cert.FfTwoDxRefIdeal.τ).loc Cert.FfTwoDxRefIdeal.main_arg3) = m' ((c.tc : Thread Cert.FfTwoDxRefIdeal.nD Cert.FfTwoDxRefIdeal.τ).loc Cert.FfTwoDxRefIdeal.main_arg3)
          ∧ r.2.mem ((c.tc : Thread Cert.FfTwoDxRefIdeal.nD Cert.FfTwoDxRefIdeal.τ).loc Cert.FfTwoDxRefIdeal.main_arg4) = m' ((c.tc : Thread Cert.FfTwoDxRefIdeal.nD Cert.FfTwoDxRefIdeal.τ).loc Cert.FfTwoDxRefIdeal.main_arg4)
          ∧ r.2.mem ((c.tc : Thread Cert.FfTwoDxRefIdeal.nD Cert.FfTwoDxRefIdeal.τ).loc Cert.FfTwoDxRefIdeal.main_arg5) = m' ((c.tc : Thread Cert.FfTwoDxRefIdeal.nD Cert.FfTwoDxRefIdeal.τ).loc Cert.FfTwoDxRefIdeal.main_arg5))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)
      ∧ m' ((c.tc : Thread Cert.OutDxRefIdeal.nD Cert.OutDxRefIdeal.τ).loc Cert.OutDxRefIdeal.main_arg3) = m ((c.tc : Thread Cert.OutDxIdeal.nD Cert.OutDxIdeal.τ).loc Cert.OutDxIdeal.main_arg3)
      ∧ m' ((c.tc : Thread Cert.OutDxRefIdeal.nD Cert.OutDxRefIdeal.τ).loc Cert.OutDxRefIdeal.main_arg4) = m ((c.tc : Thread Cert.OutDxIdeal.nD Cert.OutDxIdeal.τ).loc Cert.OutDxIdeal.main_arg4)
      ∧ m' ((c.tc : Thread Cert.OutDxRefIdeal.nD Cert.OutDxRefIdeal.τ).loc Cert.OutDxRefIdeal.main_arg5) = m ((c.tc : Thread Cert.OutDxIdeal.nD Cert.OutDxIdeal.τ).loc Cert.OutDxIdeal.main_arg5)
      ∧ m' ((c.tc : Thread Cert.OutDxRefIdeal.nD Cert.OutDxRefIdeal.τ).loc Cert.OutDxRefIdeal.main_arg6) = m ((c.tc : Thread Cert.OutDxIdeal.nD Cert.OutDxIdeal.τ).loc Cert.OutDxIdeal.main_arg6)
      ∧ m' ((c.tc : Thread Cert.OutDxRefIdeal.nD Cert.OutDxRefIdeal.τ).loc Cert.OutDxRefIdeal.main_arg7) = m ((c.tc : Thread Cert.OutDxIdeal.nD Cert.OutDxIdeal.τ).loc Cert.OutDxIdeal.main_arg7)
      ∧ m' ((c.tc : Thread Cert.OutDxRefIdeal.nD Cert.OutDxRefIdeal.τ).loc Cert.OutDxRefIdeal.main_arg8) = m ((c.tc : Thread Cert.OutDxIdeal.nD Cert.OutDxIdeal.τ).loc Cert.OutDxIdeal.main_arg8)) →
    ∃ (v0 : (c : Dev Cert.OutDxIdeal.nD) → Buf (Elt Ideal) ((c.tc : Thread Cert.OutDxIdeal.nD Cert.OutDxIdeal.τ).loc Cert.OutDxIdeal.main_v8_0)) (v1 : (c : Dev Cert.OutDxIdeal.nD) → Buf (Elt Ideal) ((c.tc : Thread Cert.OutDxIdeal.nD Cert.OutDxIdeal.τ).loc Cert.OutDxIdeal.main_v8_1)) (v2 : (c : Dev Cert.OutDxIdeal.nD) → Buf (Elt Ideal) ((c.tc : Thread Cert.OutDxIdeal.nD Cert.OutDxIdeal.τ).loc Cert.OutDxIdeal.main_v8_2)) (v3 : (c : Dev Cert.OutDxIdeal.nD) → Buf (Elt Ideal) ((c.tc : Thread Cert.OutDxIdeal.nD Cert.OutDxIdeal.τ).loc Cert.OutDxIdeal.main_v8_3)) (v4 : (c : Dev Cert.OutDxIdeal.nD) → Buf (Elt Ideal) ((c.tc : Thread Cert.OutDxIdeal.nD Cert.OutDxIdeal.τ).loc Cert.OutDxIdeal.main_v8_4)) (v5 : (c : Dev Cert.OutDxIdeal.nD) → Buf (Elt Ideal) ((c.tc : Thread Cert.OutDxIdeal.nD Cert.OutDxIdeal.τ).loc Cert.OutDxIdeal.main_v8_5)) (v6 : (c : Dev Cert.OutDxIdeal.nD) → Buf (Elt Ideal) ((c.tc : Thread Cert.OutDxIdeal.nD Cert.OutDxIdeal.τ).loc Cert.OutDxIdeal.main_v8_6)) (v7 : (c : Dev Cert.OutDxIdeal.nD) → Buf (Elt Ideal) ((c.tc : Thread Cert.OutDxIdeal.nD Cert.OutDxIdeal.τ).loc Cert.OutDxIdeal.main_v8_7)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v8_0) = v0 c
          ∧ r.2.mem ((c.tc : Thread Cert.OutDxIdeal.nD Cert.OutDxIdeal.τ).loc Cert.OutDxIdeal.main_v8_1) = v1 c
          ∧ r.2.mem ((c.tc : Thread Cert.OutDxIdeal.nD Cert.OutDxIdeal.τ).loc Cert.OutDxIdeal.main_v8_2) = v2 c
          ∧ r.2.mem ((c.tc : Thread Cert.OutDxIdeal.nD Cert.OutDxIdeal.τ).loc Cert.OutDxIdeal.main_v8_3) = v3 c
          ∧ r.2.mem ((c.tc : Thread Cert.OutDxIdeal.nD Cert.OutDxIdeal.τ).loc Cert.OutDxIdeal.main_v8_4) = v4 c
          ∧ r.2.mem ((c.tc : Thread Cert.OutDxIdeal.nD Cert.OutDxIdeal.τ).loc Cert.OutDxIdeal.main_v8_5) = v5 c
          ∧ r.2.mem ((c.tc : Thread Cert.OutDxIdeal.nD Cert.OutDxIdeal.τ).loc Cert.OutDxIdeal.main_v8_6) = v6 c
          ∧ r.2.mem ((c.tc : Thread Cert.OutDxIdeal.nD Cert.OutDxIdeal.τ).loc Cert.OutDxIdeal.main_v8_7) = v7 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3)
          ∧ r.2.mem ((c.tc : Thread Cert.OutDxIdeal.nD Cert.OutDxIdeal.τ).loc Cert.OutDxIdeal.main_arg4) = m ((c.tc : Thread Cert.OutDxIdeal.nD Cert.OutDxIdeal.τ).loc Cert.OutDxIdeal.main_arg4)
          ∧ r.2.mem ((c.tc : Thread Cert.OutDxIdeal.nD Cert.OutDxIdeal.τ).loc Cert.OutDxIdeal.main_arg5) = m ((c.tc : Thread Cert.OutDxIdeal.nD Cert.OutDxIdeal.τ).loc Cert.OutDxIdeal.main_arg5)
          ∧ r.2.mem ((c.tc : Thread Cert.OutDxIdeal.nD Cert.OutDxIdeal.τ).loc Cert.OutDxIdeal.main_arg6) = m ((c.tc : Thread Cert.OutDxIdeal.nD Cert.OutDxIdeal.τ).loc Cert.OutDxIdeal.main_arg6)
          ∧ r.2.mem ((c.tc : Thread Cert.OutDxIdeal.nD Cert.OutDxIdeal.τ).loc Cert.OutDxIdeal.main_arg7) = m ((c.tc : Thread Cert.OutDxIdeal.nD Cert.OutDxIdeal.τ).loc Cert.OutDxIdeal.main_arg7)
          ∧ r.2.mem ((c.tc : Thread Cert.OutDxIdeal.nD Cert.OutDxIdeal.τ).loc Cert.OutDxIdeal.main_arg8) = m ((c.tc : Thread Cert.OutDxIdeal.nD Cert.OutDxIdeal.τ).loc Cert.OutDxIdeal.main_arg8))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v99) = v0 c
          ∧ r.2.mem ((c.tc : Thread Cert.OutDxRefIdeal.nD Cert.OutDxRefIdeal.τ).loc Cert.OutDxRefIdeal.main_v100) = v1 c
          ∧ r.2.mem ((c.tc : Thread Cert.OutDxRefIdeal.nD Cert.OutDxRefIdeal.τ).loc Cert.OutDxRefIdeal.main_v101) = v2 c
          ∧ r.2.mem ((c.tc : Thread Cert.OutDxRefIdeal.nD Cert.OutDxRefIdeal.τ).loc Cert.OutDxRefIdeal.main_v102) = v3 c
          ∧ r.2.mem ((c.tc : Thread Cert.OutDxRefIdeal.nD Cert.OutDxRefIdeal.τ).loc Cert.OutDxRefIdeal.main_v103) = v4 c
          ∧ r.2.mem ((c.tc : Thread Cert.OutDxRefIdeal.nD Cert.OutDxRefIdeal.τ).loc Cert.OutDxRefIdeal.main_v104) = v5 c
          ∧ r.2.mem ((c.tc : Thread Cert.OutDxRefIdeal.nD Cert.OutDxRefIdeal.τ).loc Cert.OutDxRefIdeal.main_v105) = v6 c
          ∧ r.2.mem ((c.tc : Thread Cert.OutDxRefIdeal.nD Cert.OutDxRefIdeal.τ).loc Cert.OutDxRefIdeal.main_v48) = v7 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2)
          ∧ r.2.mem ((c.tc : Thread Cert.OutDxRefIdeal.nD Cert.OutDxRefIdeal.τ).loc Cert.OutDxRefIdeal.main_arg3) = m' ((c.tc : Thread Cert.OutDxRefIdeal.nD Cert.OutDxRefIdeal.τ).loc Cert.OutDxRefIdeal.main_arg3)
          ∧ r.2.mem ((c.tc : Thread Cert.OutDxRefIdeal.nD Cert.OutDxRefIdeal.τ).loc Cert.OutDxRefIdeal.main_arg4) = m' ((c.tc : Thread Cert.OutDxRefIdeal.nD Cert.OutDxRefIdeal.τ).loc Cert.OutDxRefIdeal.main_arg4)
          ∧ r.2.mem ((c.tc : Thread Cert.OutDxRefIdeal.nD Cert.OutDxRefIdeal.τ).loc Cert.OutDxRefIdeal.main_arg5) = m' ((c.tc : Thread Cert.OutDxRefIdeal.nD Cert.OutDxRefIdeal.τ).loc Cert.OutDxRefIdeal.main_arg5)
          ∧ r.2.mem ((c.tc : Thread Cert.OutDxRefIdeal.nD Cert.OutDxRefIdeal.τ).loc Cert.OutDxRefIdeal.main_arg6) = m' ((c.tc : Thread Cert.OutDxRefIdeal.nD Cert.OutDxRefIdeal.τ).loc Cert.OutDxRefIdeal.main_arg6)
          ∧ r.2.mem ((c.tc : Thread Cert.OutDxRefIdeal.nD Cert.OutDxRefIdeal.τ).loc Cert.OutDxRefIdeal.main_arg7) = m' ((c.tc : Thread Cert.OutDxRefIdeal.nD Cert.OutDxRefIdeal.τ).loc Cert.OutDxRefIdeal.main_arg7)
          ∧ r.2.mem ((c.tc : Thread Cert.OutDxRefIdeal.nD Cert.OutDxRefIdeal.τ).loc Cert.OutDxRefIdeal.main_arg8) = m' ((c.tc : Thread Cert.OutDxRefIdeal.nD Cert.OutDxRefIdeal.τ).loc Cert.OutDxRefIdeal.main_arg8))

def preserves_WideDx_WideDxIdeal : Prop :=
  True

def algebraic_WideDxIdeal_WideDxRefIdeal [hWideDxIdeal : Cert.WideDxIdeal.Facts] [hWideDxRefIdeal : Cert.WideDxRefIdeal.Facts] : Prop :=
  ∀ (m : (ℓ : Loc Cert.WideDxIdeal.nD Cert.WideDxIdeal.τ Cert.WideDxIdeal.sig) → Buf (Elt Ideal) ℓ) (g : Dev Cert.WideDxIdeal.nD → PrngReg)
    (m' : (ℓ : Loc Cert.WideDxRefIdeal.nD Cert.WideDxRefIdeal.τ Cert.WideDxRefIdeal.sig) → Buf (Elt Ideal) ℓ) (g' : Dev Cert.WideDxRefIdeal.nD → PrngReg), Pre_WideDxIdeal m →
    (∀ c : Dev Cert.WideDxIdeal.nD,
      m' ((c.tc : Thread Cert.WideDxRefIdeal.nD Cert.WideDxRefIdeal.τ).loc Cert.WideDxRefIdeal.main_arg0) = m ((c.tc : Thread Cert.WideDxIdeal.nD Cert.WideDxIdeal.τ).loc Cert.WideDxIdeal.main_arg0)
      ∧ m' ((c.tc : Thread Cert.WideDxRefIdeal.nD Cert.WideDxRefIdeal.τ).loc Cert.WideDxRefIdeal.main_arg1) = m ((c.tc : Thread Cert.WideDxIdeal.nD Cert.WideDxIdeal.τ).loc Cert.WideDxIdeal.main_arg1)) →
    ∃ (v0 : (c : Dev Cert.WideDxIdeal.nD) → Buf (Elt Ideal) ((c.tc : Thread Cert.WideDxIdeal.nD Cert.WideDxIdeal.τ).loc Cert.WideDxIdeal.main_v0)),
      θ_run (Cert.WideDxIdeal.defs (F := Ideal)) (onTc (τ := Cert.WideDxIdeal.τ) (Cert.WideDxIdeal.main (F := Ideal))) ⟨m, fun _ => 0, g⟩ (fun r => ∀ c : Dev Cert.WideDxIdeal.nD,
          r.2.mem ((c.tc : Thread Cert.WideDxIdeal.nD Cert.WideDxIdeal.τ).loc Cert.WideDxIdeal.main_v0) = v0 c
          ∧ r.2.mem ((c.tc : Thread Cert.WideDxIdeal.nD Cert.WideDxIdeal.τ).loc Cert.WideDxIdeal.main_arg0) = m ((c.tc : Thread Cert.WideDxIdeal.nD Cert.WideDxIdeal.τ).loc Cert.WideDxIdeal.main_arg0)
          ∧ r.2.mem ((c.tc : Thread Cert.WideDxIdeal.nD Cert.WideDxIdeal.τ).loc Cert.WideDxIdeal.main_arg1) = m ((c.tc : Thread Cert.WideDxIdeal.nD Cert.WideDxIdeal.τ).loc Cert.WideDxIdeal.main_arg1))
      ∧ θ_run (Cert.WideDxRefIdeal.defs (F := Ideal)) (onTc (τ := Cert.WideDxRefIdeal.τ) (Cert.WideDxRefIdeal.main (F := Ideal))) ⟨m', fun _ => 0, g'⟩ (fun r => ∀ c : Dev Cert.WideDxRefIdeal.nD,
          r.2.mem ((c.tc : Thread Cert.WideDxRefIdeal.nD Cert.WideDxRefIdeal.τ).loc Cert.WideDxRefIdeal.main_v4) = v0 c
          ∧ r.2.mem ((c.tc : Thread Cert.WideDxRefIdeal.nD Cert.WideDxRefIdeal.τ).loc Cert.WideDxRefIdeal.main_arg0) = m' ((c.tc : Thread Cert.WideDxRefIdeal.nD Cert.WideDxRefIdeal.τ).loc Cert.WideDxRefIdeal.main_arg0)
          ∧ r.2.mem ((c.tc : Thread Cert.WideDxRefIdeal.nD Cert.WideDxRefIdeal.τ).loc Cert.WideDxRefIdeal.main_arg1) = m' ((c.tc : Thread Cert.WideDxRefIdeal.nD Cert.WideDxRefIdeal.τ).loc Cert.WideDxRefIdeal.main_arg1))

def preserves_NarrowDx_NarrowDxIdeal : Prop :=
  True

def algebraic_NarrowDxIdeal_NarrowDxRefIdeal [hNarrowDxIdeal : Cert.NarrowDxIdeal.Facts] [hNarrowDxRefIdeal : Cert.NarrowDxRefIdeal.Facts] : Prop :=
  ∀ (m : (ℓ : Loc Cert.NarrowDxIdeal.nD Cert.NarrowDxIdeal.τ Cert.NarrowDxIdeal.sig) → Buf (Elt Ideal) ℓ) (g : Dev Cert.NarrowDxIdeal.nD → PrngReg)
    (m' : (ℓ : Loc Cert.NarrowDxRefIdeal.nD Cert.NarrowDxRefIdeal.τ Cert.NarrowDxRefIdeal.sig) → Buf (Elt Ideal) ℓ) (g' : Dev Cert.NarrowDxRefIdeal.nD → PrngReg), Pre_NarrowDxIdeal m →
    (∀ c : Dev Cert.NarrowDxIdeal.nD,
      m' ((c.tc : Thread Cert.NarrowDxRefIdeal.nD Cert.NarrowDxRefIdeal.τ).loc Cert.NarrowDxRefIdeal.main_arg0) = m ((c.tc : Thread Cert.NarrowDxIdeal.nD Cert.NarrowDxIdeal.τ).loc Cert.NarrowDxIdeal.main_arg0)
      ∧ m' ((c.tc : Thread Cert.NarrowDxRefIdeal.nD Cert.NarrowDxRefIdeal.τ).loc Cert.NarrowDxRefIdeal.main_arg1) = m ((c.tc : Thread Cert.NarrowDxIdeal.nD Cert.NarrowDxIdeal.τ).loc Cert.NarrowDxIdeal.main_arg1)) →
    ∃ (v0 : (c : Dev Cert.NarrowDxIdeal.nD) → Buf (Elt Ideal) ((c.tc : Thread Cert.NarrowDxIdeal.nD Cert.NarrowDxIdeal.τ).loc Cert.NarrowDxIdeal.main_v0)),
      θ_run (Cert.NarrowDxIdeal.defs (F := Ideal)) (onTc (τ := Cert.NarrowDxIdeal.τ) (Cert.NarrowDxIdeal.main (F := Ideal))) ⟨m, fun _ => 0, g⟩ (fun r => ∀ c : Dev Cert.NarrowDxIdeal.nD,
          r.2.mem ((c.tc : Thread Cert.NarrowDxIdeal.nD Cert.NarrowDxIdeal.τ).loc Cert.NarrowDxIdeal.main_v0) = v0 c
          ∧ r.2.mem ((c.tc : Thread Cert.NarrowDxIdeal.nD Cert.NarrowDxIdeal.τ).loc Cert.NarrowDxIdeal.main_arg0) = m ((c.tc : Thread Cert.NarrowDxIdeal.nD Cert.NarrowDxIdeal.τ).loc Cert.NarrowDxIdeal.main_arg0)
          ∧ r.2.mem ((c.tc : Thread Cert.NarrowDxIdeal.nD Cert.NarrowDxIdeal.τ).loc Cert.NarrowDxIdeal.main_arg1) = m ((c.tc : Thread Cert.NarrowDxIdeal.nD Cert.NarrowDxIdeal.τ).loc Cert.NarrowDxIdeal.main_arg1))
      ∧ θ_run (Cert.NarrowDxRefIdeal.defs (F := Ideal)) (onTc (τ := Cert.NarrowDxRefIdeal.τ) (Cert.NarrowDxRefIdeal.main (F := Ideal))) ⟨m', fun _ => 0, g'⟩ (fun r => ∀ c : Dev Cert.NarrowDxRefIdeal.nD,
          r.2.mem ((c.tc : Thread Cert.NarrowDxRefIdeal.nD Cert.NarrowDxRefIdeal.τ).loc Cert.NarrowDxRefIdeal.main_v4) = v0 c
          ∧ r.2.mem ((c.tc : Thread Cert.NarrowDxRefIdeal.nD Cert.NarrowDxRefIdeal.τ).loc Cert.NarrowDxRefIdeal.main_arg0) = m' ((c.tc : Thread Cert.NarrowDxRefIdeal.nD Cert.NarrowDxRefIdeal.τ).loc Cert.NarrowDxRefIdeal.main_arg0)
          ∧ r.2.mem ((c.tc : Thread Cert.NarrowDxRefIdeal.nD Cert.NarrowDxRefIdeal.τ).loc Cert.NarrowDxRefIdeal.main_arg1) = m' ((c.tc : Thread Cert.NarrowDxRefIdeal.nD Cert.NarrowDxRefIdeal.τ).loc Cert.NarrowDxRefIdeal.main_arg1))

def preserves_WideDw_WideDwIdeal : Prop :=
  True

def algebraic_WideDwIdeal_WideDwRefIdeal [hWideDwIdeal : Cert.WideDwIdeal.Facts] [hWideDwRefIdeal : Cert.WideDwRefIdeal.Facts] : Prop :=
  ∀ (m : (ℓ : Loc Cert.WideDwIdeal.nD Cert.WideDwIdeal.τ Cert.WideDwIdeal.sig) → Buf (Elt Ideal) ℓ) (g : Dev Cert.WideDwIdeal.nD → PrngReg)
    (m' : (ℓ : Loc Cert.WideDwRefIdeal.nD Cert.WideDwRefIdeal.τ Cert.WideDwRefIdeal.sig) → Buf (Elt Ideal) ℓ) (g' : Dev Cert.WideDwRefIdeal.nD → PrngReg), Pre_WideDwIdeal m →
    (∀ c : Dev Cert.WideDwIdeal.nD,
      m' ((c.tc : Thread Cert.WideDwRefIdeal.nD Cert.WideDwRefIdeal.τ).loc Cert.WideDwRefIdeal.main_arg0) = m ((c.tc : Thread Cert.WideDwIdeal.nD Cert.WideDwIdeal.τ).loc Cert.WideDwIdeal.main_arg0)
      ∧ m' ((c.tc : Thread Cert.WideDwRefIdeal.nD Cert.WideDwRefIdeal.τ).loc Cert.WideDwRefIdeal.main_arg1) = m ((c.tc : Thread Cert.WideDwIdeal.nD Cert.WideDwIdeal.τ).loc Cert.WideDwIdeal.main_arg1)) →
    ∃ (v0 : (c : Dev Cert.WideDwIdeal.nD) → Buf (Elt Ideal) ((c.tc : Thread Cert.WideDwIdeal.nD Cert.WideDwIdeal.τ).loc Cert.WideDwIdeal.main_v0)),
      θ_run (Cert.WideDwIdeal.defs (F := Ideal)) (onTc (τ := Cert.WideDwIdeal.τ) (Cert.WideDwIdeal.main (F := Ideal))) ⟨m, fun _ => 0, g⟩ (fun r => ∀ c : Dev Cert.WideDwIdeal.nD,
          r.2.mem ((c.tc : Thread Cert.WideDwIdeal.nD Cert.WideDwIdeal.τ).loc Cert.WideDwIdeal.main_v0) = v0 c
          ∧ r.2.mem ((c.tc : Thread Cert.WideDwIdeal.nD Cert.WideDwIdeal.τ).loc Cert.WideDwIdeal.main_arg0) = m ((c.tc : Thread Cert.WideDwIdeal.nD Cert.WideDwIdeal.τ).loc Cert.WideDwIdeal.main_arg0)
          ∧ r.2.mem ((c.tc : Thread Cert.WideDwIdeal.nD Cert.WideDwIdeal.τ).loc Cert.WideDwIdeal.main_arg1) = m ((c.tc : Thread Cert.WideDwIdeal.nD Cert.WideDwIdeal.τ).loc Cert.WideDwIdeal.main_arg1))
      ∧ θ_run (Cert.WideDwRefIdeal.defs (F := Ideal)) (onTc (τ := Cert.WideDwRefIdeal.τ) (Cert.WideDwRefIdeal.main (F := Ideal))) ⟨m', fun _ => 0, g'⟩ (fun r => ∀ c : Dev Cert.WideDwRefIdeal.nD,
          r.2.mem ((c.tc : Thread Cert.WideDwRefIdeal.nD Cert.WideDwRefIdeal.τ).loc Cert.WideDwRefIdeal.main_v5) = v0 c
          ∧ r.2.mem ((c.tc : Thread Cert.WideDwRefIdeal.nD Cert.WideDwRefIdeal.τ).loc Cert.WideDwRefIdeal.main_arg0) = m' ((c.tc : Thread Cert.WideDwRefIdeal.nD Cert.WideDwRefIdeal.τ).loc Cert.WideDwRefIdeal.main_arg0)
          ∧ r.2.mem ((c.tc : Thread Cert.WideDwRefIdeal.nD Cert.WideDwRefIdeal.τ).loc Cert.WideDwRefIdeal.main_arg1) = m' ((c.tc : Thread Cert.WideDwRefIdeal.nD Cert.WideDwRefIdeal.τ).loc Cert.WideDwRefIdeal.main_arg1))

def preserves_NarrowDw_NarrowDwIdeal : Prop :=
  True

def algebraic_NarrowDwIdeal_NarrowDwRefIdeal [hNarrowDwIdeal : Cert.NarrowDwIdeal.Facts] [hNarrowDwRefIdeal : Cert.NarrowDwRefIdeal.Facts] : Prop :=
  ∀ (m : (ℓ : Loc Cert.NarrowDwIdeal.nD Cert.NarrowDwIdeal.τ Cert.NarrowDwIdeal.sig) → Buf (Elt Ideal) ℓ) (g : Dev Cert.NarrowDwIdeal.nD → PrngReg)
    (m' : (ℓ : Loc Cert.NarrowDwRefIdeal.nD Cert.NarrowDwRefIdeal.τ Cert.NarrowDwRefIdeal.sig) → Buf (Elt Ideal) ℓ) (g' : Dev Cert.NarrowDwRefIdeal.nD → PrngReg), Pre_NarrowDwIdeal m →
    (∀ c : Dev Cert.NarrowDwIdeal.nD,
      m' ((c.tc : Thread Cert.NarrowDwRefIdeal.nD Cert.NarrowDwRefIdeal.τ).loc Cert.NarrowDwRefIdeal.main_arg0) = m ((c.tc : Thread Cert.NarrowDwIdeal.nD Cert.NarrowDwIdeal.τ).loc Cert.NarrowDwIdeal.main_arg0)
      ∧ m' ((c.tc : Thread Cert.NarrowDwRefIdeal.nD Cert.NarrowDwRefIdeal.τ).loc Cert.NarrowDwRefIdeal.main_arg1) = m ((c.tc : Thread Cert.NarrowDwIdeal.nD Cert.NarrowDwIdeal.τ).loc Cert.NarrowDwIdeal.main_arg1)) →
    ∃ (v0 : (c : Dev Cert.NarrowDwIdeal.nD) → Buf (Elt Ideal) ((c.tc : Thread Cert.NarrowDwIdeal.nD Cert.NarrowDwIdeal.τ).loc Cert.NarrowDwIdeal.main_v0)),
      θ_run (Cert.NarrowDwIdeal.defs (F := Ideal)) (onTc (τ := Cert.NarrowDwIdeal.τ) (Cert.NarrowDwIdeal.main (F := Ideal))) ⟨m, fun _ => 0, g⟩ (fun r => ∀ c : Dev Cert.NarrowDwIdeal.nD,
          r.2.mem ((c.tc : Thread Cert.NarrowDwIdeal.nD Cert.NarrowDwIdeal.τ).loc Cert.NarrowDwIdeal.main_v0) = v0 c
          ∧ r.2.mem ((c.tc : Thread Cert.NarrowDwIdeal.nD Cert.NarrowDwIdeal.τ).loc Cert.NarrowDwIdeal.main_arg0) = m ((c.tc : Thread Cert.NarrowDwIdeal.nD Cert.NarrowDwIdeal.τ).loc Cert.NarrowDwIdeal.main_arg0)
          ∧ r.2.mem ((c.tc : Thread Cert.NarrowDwIdeal.nD Cert.NarrowDwIdeal.τ).loc Cert.NarrowDwIdeal.main_arg1) = m ((c.tc : Thread Cert.NarrowDwIdeal.nD Cert.NarrowDwIdeal.τ).loc Cert.NarrowDwIdeal.main_arg1))
      ∧ θ_run (Cert.NarrowDwRefIdeal.defs (F := Ideal)) (onTc (τ := Cert.NarrowDwRefIdeal.τ) (Cert.NarrowDwRefIdeal.main (F := Ideal))) ⟨m', fun _ => 0, g'⟩ (fun r => ∀ c : Dev Cert.NarrowDwRefIdeal.nD,
          r.2.mem ((c.tc : Thread Cert.NarrowDwRefIdeal.nD Cert.NarrowDwRefIdeal.τ).loc Cert.NarrowDwRefIdeal.main_v5) = v0 c
          ∧ r.2.mem ((c.tc : Thread Cert.NarrowDwRefIdeal.nD Cert.NarrowDwRefIdeal.τ).loc Cert.NarrowDwRefIdeal.main_arg0) = m' ((c.tc : Thread Cert.NarrowDwRefIdeal.nD Cert.NarrowDwRefIdeal.τ).loc Cert.NarrowDwRefIdeal.main_arg0)
          ∧ r.2.mem ((c.tc : Thread Cert.NarrowDwRefIdeal.nD Cert.NarrowDwRefIdeal.τ).loc Cert.NarrowDwRefIdeal.main_arg1) = m' ((c.tc : Thread Cert.NarrowDwRefIdeal.nD Cert.NarrowDwRefIdeal.τ).loc Cert.NarrowDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)) →
    ∃ (v0 : (c : Dev Cert.InFwdIdeal.nD) → Buf (Elt Ideal) ((c.tc : Thread Cert.InFwdIdeal.nD Cert.InFwdIdeal.τ).loc Cert.InFwdIdeal.main_v7_0)) (v1 : (c : Dev Cert.InFwdIdeal.nD) → Buf (Elt Ideal) ((c.tc : Thread Cert.InFwdIdeal.nD Cert.InFwdIdeal.τ).loc Cert.InFwdIdeal.main_v7_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v7_0) = v0 c
          ∧ r.2.mem ((c.tc : Thread Cert.InFwdIdeal.nD Cert.InFwdIdeal.τ).loc Cert.InFwdIdeal.main_v7_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v23) = v0 c
          ∧ r.2.mem ((c.tc : Thread Cert.InFwdRefIdeal.nD Cert.InFwdRefIdeal.τ).loc Cert.InFwdRefIdeal.main_v24) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4))

def preserves_FfOneFwd_FfOneFwdIdeal : Prop :=
  True

def algebraic_FfOneFwdIdeal_FfOneFwdRefIdeal [hFfOneFwdIdeal : Cert.FfOneFwdIdeal.Facts] [hFfOneFwdRefIdeal : Cert.FfOneFwdRefIdeal.Facts] : Prop :=
  ∀ (m : (ℓ : Loc Cert.FfOneFwdIdeal.nD Cert.FfOneFwdIdeal.τ Cert.FfOneFwdIdeal.sig) → Buf (Elt Ideal) ℓ) (g : Dev Cert.FfOneFwdIdeal.nD → PrngReg)
    (m' : (ℓ : Loc Cert.FfOneFwdRefIdeal.nD Cert.FfOneFwdRefIdeal.τ Cert.FfOneFwdRefIdeal.sig) → Buf (Elt Ideal) ℓ) (g' : Dev Cert.FfOneFwdRefIdeal.nD → PrngReg), Pre_FfOneFwdIdeal m →
    (∀ c : Dev Cert.FfOneFwdIdeal.nD,
      m' ((c.tc : Thread Cert.FfOneFwdRefIdeal.nD Cert.FfOneFwdRefIdeal.τ).loc Cert.FfOneFwdRefIdeal.main_arg0) = m ((c.tc : Thread Cert.FfOneFwdIdeal.nD Cert.FfOneFwdIdeal.τ).loc Cert.FfOneFwdIdeal.main_arg0)
      ∧ m' ((c.tc : Thread Cert.FfOneFwdRefIdeal.nD Cert.FfOneFwdRefIdeal.τ).loc Cert.FfOneFwdRefIdeal.main_arg1) = m ((c.tc : Thread Cert.FfOneFwdIdeal.nD Cert.FfOneFwdIdeal.τ).loc Cert.FfOneFwdIdeal.main_arg1)
      ∧ m' ((c.tc : Thread Cert.FfOneFwdRefIdeal.nD Cert.FfOneFwdRefIdeal.τ).loc Cert.FfOneFwdRefIdeal.main_arg2) = m ((c.tc : Thread Cert.FfOneFwdIdeal.nD Cert.FfOneFwdIdeal.τ).loc Cert.FfOneFwdIdeal.main_arg2)
      ∧ m' ((c.tc : Thread Cert.FfOneFwdRefIdeal.nD Cert.FfOneFwdRefIdeal.τ).loc Cert.FfOneFwdRefIdeal.main_arg3) = m ((c.tc : Thread Cert.FfOneFwdIdeal.nD Cert.FfOneFwdIdeal.τ).loc Cert.FfOneFwdIdeal.main_arg3)
      ∧ m' ((c.tc : Thread Cert.FfOneFwdRefIdeal.nD Cert.FfOneFwdRefIdeal.τ).loc Cert.FfOneFwdRefIdeal.main_arg4) = m ((c.tc : Thread Cert.FfOneFwdIdeal.nD Cert.FfOneFwdIdeal.τ).loc Cert.FfOneFwdIdeal.main_arg4)) →
    ∃ (v0 : (c : Dev Cert.FfOneFwdIdeal.nD) → Buf (Elt Ideal) ((c.tc : Thread Cert.FfOneFwdIdeal.nD Cert.FfOneFwdIdeal.τ).loc Cert.FfOneFwdIdeal.main_v9_0)) (v1 : (c : Dev Cert.FfOneFwdIdeal.nD) → Buf (Elt Ideal) ((c.tc : Thread Cert.FfOneFwdIdeal.nD Cert.FfOneFwdIdeal.τ).loc Cert.FfOneFwdIdeal.main_v9_1)) (v2 : (c : Dev Cert.FfOneFwdIdeal.nD) → Buf (Elt Ideal) ((c.tc : Thread Cert.FfOneFwdIdeal.nD Cert.FfOneFwdIdeal.τ).loc Cert.FfOneFwdIdeal.main_v9_2)),
      θ_run (Cert.FfOneFwdIdeal.defs (F := Ideal)) (onTc (τ := Cert.FfOneFwdIdeal.τ) (Cert.FfOneFwdIdeal.main (F := Ideal))) ⟨m, fun _ => 0, g⟩ (fun r => ∀ c : Dev Cert.FfOneFwdIdeal.nD,
          r.2.mem ((c.tc : Thread Cert.FfOneFwdIdeal.nD Cert.FfOneFwdIdeal.τ).loc Cert.FfOneFwdIdeal.main_v9_0) = v0 c
          ∧ r.2.mem ((c.tc : Thread Cert.FfOneFwdIdeal.nD Cert.FfOneFwdIdeal.τ).loc Cert.FfOneFwdIdeal.main_v9_1) = v1 c
          ∧ r.2.mem ((c.tc : Thread Cert.FfOneFwdIdeal.nD Cert.FfOneFwdIdeal.τ).loc Cert.FfOneFwdIdeal.main_v9_2) = v2 c
          ∧ r.2.mem ((c.tc : Thread Cert.FfOneFwdIdeal.nD Cert.FfOneFwdIdeal.τ).loc Cert.FfOneFwdIdeal.main_arg0) = m ((c.tc : Thread Cert.FfOneFwdIdeal.nD Cert.FfOneFwdIdeal.τ).loc Cert.FfOneFwdIdeal.main_arg0)
          ∧ r.2.mem ((c.tc : Thread Cert.FfOneFwdIdeal.nD Cert.FfOneFwdIdeal.τ).loc Cert.FfOneFwdIdeal.main_arg1) = m ((c.tc : Thread Cert.FfOneFwdIdeal.nD Cert.FfOneFwdIdeal.τ).loc Cert.FfOneFwdIdeal.main_arg1)
          ∧ r.2.mem ((c.tc : Thread Cert.FfOneFwdIdeal.nD Cert.FfOneFwdIdeal.τ).loc Cert.FfOneFwdIdeal.main_arg2) = m ((c.tc : Thread Cert.FfOneFwdIdeal.nD Cert.FfOneFwdIdeal.τ).loc Cert.FfOneFwdIdeal.main_arg2)
          ∧ r.2.mem ((c.tc : Thread Cert.FfOneFwdIdeal.nD Cert.FfOneFwdIdeal.τ).loc Cert.FfOneFwdIdeal.main_arg3) = m ((c.tc : Thread Cert.FfOneFwdIdeal.nD Cert.FfOneFwdIdeal.τ).loc Cert.FfOneFwdIdeal.main_arg3)
          ∧ r.2.mem ((c.tc : Thread Cert.FfOneFwdIdeal.nD Cert.FfOneFwdIdeal.τ).loc Cert.FfOneFwdIdeal.main_arg4) = m ((c.tc : Thread Cert.FfOneFwdIdeal.nD Cert.FfOneFwdIdeal.τ).loc Cert.FfOneFwdIdeal.main_arg4))
      ∧ θ_run (Cert.FfOneFwdRefIdeal.defs (F := Ideal)) (onTc (τ := Cert.FfOneFwdRefIdeal.τ) (Cert.FfOneFwdRefIdeal.main (F := Ideal))) ⟨m', fun _ => 0, g'⟩ (fun r => ∀ c : Dev Cert.FfOneFwdRefIdeal.nD,
          r.2.mem ((c.tc : Thread Cert.FfOneFwdRefIdeal.nD Cert.FfOneFwdRefIdeal.τ).loc Cert.FfOneFwdRefIdeal.main_v24) = v0 c
          ∧ r.2.mem ((c.tc : Thread Cert.FfOneFwdRefIdeal.nD Cert.FfOneFwdRefIdeal.τ).loc Cert.FfOneFwdRefIdeal.main_v27) = v1 c
          ∧ r.2.mem ((c.tc : Thread Cert.FfOneFwdRefIdeal.nD Cert.FfOneFwdRefIdeal.τ).loc Cert.FfOneFwdRefIdeal.main_v28) = v2 c
          ∧ r.2.mem ((c.tc : Thread Cert.FfOneFwdRefIdeal.nD Cert.FfOneFwdRefIdeal.τ).loc Cert.FfOneFwdRefIdeal.main_arg0) = m' ((c.tc : Thread Cert.FfOneFwdRefIdeal.nD Cert.FfOneFwdRefIdeal.τ).loc Cert.FfOneFwdRefIdeal.main_arg0)
          ∧ r.2.mem ((c.tc : Thread Cert.FfOneFwdRefIdeal.nD Cert.FfOneFwdRefIdeal.τ).loc Cert.FfOneFwdRefIdeal.main_arg1) = m' ((c.tc : Thread Cert.FfOneFwdRefIdeal.nD Cert.FfOneFwdRefIdeal.τ).loc Cert.FfOneFwdRefIdeal.main_arg1)
          ∧ r.2.mem ((c.tc : Thread Cert.FfOneFwdRefIdeal.nD Cert.FfOneFwdRefIdeal.τ).loc Cert.FfOneFwdRefIdeal.main_arg2) = m' ((c.tc : Thread Cert.FfOneFwdRefIdeal.nD Cert.FfOneFwdRefIdeal.τ).loc Cert.FfOneFwdRefIdeal.main_arg2)
          ∧ r.2.mem ((c.tc : Thread Cert.FfOneFwdRefIdeal.nD Cert.FfOneFwdRefIdeal.τ).loc Cert.FfOneFwdRefIdeal.main_arg3) = m' ((c.tc : Thread Cert.FfOneFwdRefIdeal.nD Cert.FfOneFwdRefIdeal.τ).loc Cert.FfOneFwdRefIdeal.main_arg3)
          ∧ r.2.mem ((c.tc : Thread Cert.FfOneFwdRefIdeal.nD Cert.FfOneFwdRefIdeal.τ).loc Cert.FfOneFwdRefIdeal.main_arg4) = m' ((c.tc : Thread Cert.FfOneFwdRefIdeal.nD Cert.FfOneFwdRefIdeal.τ).loc Cert.FfOneFwdRefIdeal.main_arg4))

def preserves_FfTwoFwd_FfTwoFwdIdeal : Prop :=
  True

def algebraic_FfTwoFwdIdeal_FfTwoFwdRefIdeal [hFfTwoFwdIdeal : Cert.FfTwoFwdIdeal.Facts] [hFfTwoFwdRefIdeal : Cert.FfTwoFwdRefIdeal.Facts] : Prop :=
  ∀ (m : (ℓ : Loc Cert.FfTwoFwdIdeal.nD Cert.FfTwoFwdIdeal.τ Cert.FfTwoFwdIdeal.sig) → Buf (Elt Ideal) ℓ) (g : Dev Cert.FfTwoFwdIdeal.nD → PrngReg)
    (m' : (ℓ : Loc Cert.FfTwoFwdRefIdeal.nD Cert.FfTwoFwdRefIdeal.τ Cert.FfTwoFwdRefIdeal.sig) → Buf (Elt Ideal) ℓ) (g' : Dev Cert.FfTwoFwdRefIdeal.nD → PrngReg), Pre_FfTwoFwdIdeal m →
    (∀ c : Dev Cert.FfTwoFwdIdeal.nD,
      m' ((c.tc : Thread Cert.FfTwoFwdRefIdeal.nD Cert.FfTwoFwdRefIdeal.τ).loc Cert.FfTwoFwdRefIdeal.main_arg0) = m ((c.tc : Thread Cert.FfTwoFwdIdeal.nD Cert.FfTwoFwdIdeal.τ).loc Cert.FfTwoFwdIdeal.main_arg0)
      ∧ m' ((c.tc : Thread Cert.FfTwoFwdRefIdeal.nD Cert.FfTwoFwdRefIdeal.τ).loc Cert.FfTwoFwdRefIdeal.main_arg1) = m ((c.tc : Thread Cert.FfTwoFwdIdeal.nD Cert.FfTwoFwdIdeal.τ).loc Cert.FfTwoFwdIdeal.main_arg1)
      ∧ m' ((c.tc : Thread Cert.FfTwoFwdRefIdeal.nD Cert.FfTwoFwdRefIdeal.τ).loc Cert.FfTwoFwdRefIdeal.main_arg2) = m ((c.tc : Thread Cert.FfTwoFwdIdeal.nD Cert.FfTwoFwdIdeal.τ).loc Cert.FfTwoFwdIdeal.main_arg2)
      ∧ m' ((c.tc : Thread Cert.FfTwoFwdRefIdeal.nD Cert.FfTwoFwdRefIdeal.τ).loc Cert.FfTwoFwdRefIdeal.main_arg3) = m ((c.tc : Thread Cert.FfTwoFwdIdeal.nD Cert.FfTwoFwdIdeal.τ).loc Cert.FfTwoFwdIdeal.main_arg3)
      ∧ m' ((c.tc : Thread Cert.FfTwoFwdRefIdeal.nD Cert.FfTwoFwdRefIdeal.τ).loc Cert.FfTwoFwdRefIdeal.main_arg4) = m ((c.tc : Thread Cert.FfTwoFwdIdeal.nD Cert.FfTwoFwdIdeal.τ).loc Cert.FfTwoFwdIdeal.main_arg4)) →
    ∃ (v0 : (c : Dev Cert.FfTwoFwdIdeal.nD) → Buf (Elt Ideal) ((c.tc : Thread Cert.FfTwoFwdIdeal.nD Cert.FfTwoFwdIdeal.τ).loc Cert.FfTwoFwdIdeal.main_v8_0)) (v1 : (c : Dev Cert.FfTwoFwdIdeal.nD) → Buf (Elt Ideal) ((c.tc : Thread Cert.FfTwoFwdIdeal.nD Cert.FfTwoFwdIdeal.τ).loc Cert.FfTwoFwdIdeal.main_v8_1)),
      θ_run (Cert.FfTwoFwdIdeal.defs (F := Ideal)) (onTc (τ := Cert.FfTwoFwdIdeal.τ) (Cert.FfTwoFwdIdeal.main (F := Ideal))) ⟨m, fun _ => 0, g⟩ (fun r => ∀ c : Dev Cert.FfTwoFwdIdeal.nD,
          r.2.mem ((c.tc : Thread Cert.FfTwoFwdIdeal.nD Cert.FfTwoFwdIdeal.τ).loc Cert.FfTwoFwdIdeal.main_v8_0) = v0 c
          ∧ r.2.mem ((c.tc : Thread Cert.FfTwoFwdIdeal.nD Cert.FfTwoFwdIdeal.τ).loc Cert.FfTwoFwdIdeal.main_v8_1) = v1 c
          ∧ r.2.mem ((c.tc : Thread Cert.FfTwoFwdIdeal.nD Cert.FfTwoFwdIdeal.τ).loc Cert.FfTwoFwdIdeal.main_arg0) = m ((c.tc : Thread Cert.FfTwoFwdIdeal.nD Cert.FfTwoFwdIdeal.τ).loc Cert.FfTwoFwdIdeal.main_arg0)
          ∧ r.2.mem ((c.tc : Thread Cert.FfTwoFwdIdeal.nD Cert.FfTwoFwdIdeal.τ).loc Cert.FfTwoFwdIdeal.main_arg1) = m ((c.tc : Thread Cert.FfTwoFwdIdeal.nD Cert.FfTwoFwdIdeal.τ).loc Cert.FfTwoFwdIdeal.main_arg1)
          ∧ r.2.mem ((c.tc : Thread Cert.FfTwoFwdIdeal.nD Cert.FfTwoFwdIdeal.τ).loc Cert.FfTwoFwdIdeal.main_arg2) = m ((c.tc : Thread Cert.FfTwoFwdIdeal.nD Cert.FfTwoFwdIdeal.τ).loc Cert.FfTwoFwdIdeal.main_arg2)
          ∧ r.2.mem ((c.tc : Thread Cert.FfTwoFwdIdeal.nD Cert.FfTwoFwdIdeal.τ).loc Cert.FfTwoFwdIdeal.main_arg3) = m ((c.tc : Thread Cert.FfTwoFwdIdeal.nD Cert.FfTwoFwdIdeal.τ).loc Cert.FfTwoFwdIdeal.main_arg3)
          ∧ r.2.mem ((c.tc : Thread Cert.FfTwoFwdIdeal.nD Cert.FfTwoFwdIdeal.τ).loc Cert.FfTwoFwdIdeal.main_arg4) = m ((c.tc : Thread Cert.FfTwoFwdIdeal.nD Cert.FfTwoFwdIdeal.τ).loc Cert.FfTwoFwdIdeal.main_arg4))
      ∧ θ_run (Cert.FfTwoFwdRefIdeal.defs (F := Ideal)) (onTc (τ := Cert.FfTwoFwdRefIdeal.τ) (Cert.FfTwoFwdRefIdeal.main (F := Ideal))) ⟨m', fun _ => 0, g'⟩ (fun r => ∀ c : Dev Cert.FfTwoFwdRefIdeal.nD,
          r.2.mem ((c.tc : Thread Cert.FfTwoFwdRefIdeal.nD Cert.FfTwoFwdRefIdeal.τ).loc Cert.FfTwoFwdRefIdeal.main_v2) = v0 c
          ∧ r.2.mem ((c.tc : Thread Cert.FfTwoFwdRefIdeal.nD Cert.FfTwoFwdRefIdeal.τ).loc Cert.FfTwoFwdRefIdeal.main_v19) = v1 c
          ∧ r.2.mem ((c.tc : Thread Cert.FfTwoFwdRefIdeal.nD Cert.FfTwoFwdRefIdeal.τ).loc Cert.FfTwoFwdRefIdeal.main_arg0) = m' ((c.tc : Thread Cert.FfTwoFwdRefIdeal.nD Cert.FfTwoFwdRefIdeal.τ).loc Cert.FfTwoFwdRefIdeal.main_arg0)
          ∧ r.2.mem ((c.tc : Thread Cert.FfTwoFwdRefIdeal.nD Cert.FfTwoFwdRefIdeal.τ).loc Cert.FfTwoFwdRefIdeal.main_arg1) = m' ((c.tc : Thread Cert.FfTwoFwdRefIdeal.nD Cert.FfTwoFwdRefIdeal.τ).loc Cert.FfTwoFwdRefIdeal.main_arg1)
          ∧ r.2.mem ((c.tc : Thread Cert.FfTwoFwdRefIdeal.nD Cert.FfTwoFwdRefIdeal.τ).loc Cert.FfTwoFwdRefIdeal.main_arg2) = m' ((c.tc : Thread Cert.FfTwoFwdRefIdeal.nD Cert.FfTwoFwdRefIdeal.τ).loc Cert.FfTwoFwdRefIdeal.main_arg2)
          ∧ r.2.mem ((c.tc : Thread Cert.FfTwoFwdRefIdeal.nD Cert.FfTwoFwdRefIdeal.τ).loc Cert.FfTwoFwdRefIdeal.main_arg3) = m' ((c.tc : Thread Cert.FfTwoFwdRefIdeal.nD Cert.FfTwoFwdRefIdeal.τ).loc Cert.FfTwoFwdRefIdeal.main_arg3)
          ∧ r.2.mem ((c.tc : Thread Cert.FfTwoFwdRefIdeal.nD Cert.FfTwoFwdRefIdeal.τ).loc Cert.FfTwoFwdRefIdeal.main_arg4) = m' ((c.tc : Thread Cert.FfTwoFwdRefIdeal.nD Cert.FfTwoFwdRefIdeal.τ).loc Cert.FfTwoFwdRefIdeal.main_arg4))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)) →
    ∃ (v0 : (c : Dev Cert.OutFwdIdeal.nD) → Buf (Elt Ideal) ((c.tc : Thread Cert.OutFwdIdeal.nD Cert.OutFwdIdeal.τ).loc Cert.OutFwdIdeal.main_v8_0)) (v1 : (c : Dev Cert.OutFwdIdeal.nD) → Buf (Elt Ideal) ((c.tc : Thread Cert.OutFwdIdeal.nD Cert.OutFwdIdeal.τ).loc Cert.OutFwdIdeal.main_v8_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v8_0) = v0 c
          ∧ r.2.mem ((c.tc : Thread Cert.OutFwdIdeal.nD Cert.OutFwdIdeal.τ).loc Cert.OutFwdIdeal.main_v8_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_v19) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4))

def preserves_WideFwd_WideFwdIdeal : Prop :=
  True

def algebraic_WideFwdIdeal_WideFwdRefIdeal [hWideFwdIdeal : Cert.WideFwdIdeal.Facts] [hWideFwdRefIdeal : Cert.WideFwdRefIdeal.Facts] : Prop :=
  ∀ (m : (ℓ : Loc Cert.WideFwdIdeal.nD Cert.WideFwdIdeal.τ Cert.WideFwdIdeal.sig) → Buf (Elt Ideal) ℓ) (g : Dev Cert.WideFwdIdeal.nD → PrngReg)
    (m' : (ℓ : Loc Cert.WideFwdRefIdeal.nD Cert.WideFwdRefIdeal.τ Cert.WideFwdRefIdeal.sig) → Buf (Elt Ideal) ℓ) (g' : Dev Cert.WideFwdRefIdeal.nD → PrngReg), Pre_WideFwdIdeal m →
    (∀ c : Dev Cert.WideFwdIdeal.nD,
      m' ((c.tc : Thread Cert.WideFwdRefIdeal.nD Cert.WideFwdRefIdeal.τ).loc Cert.WideFwdRefIdeal.main_arg0) = m ((c.tc : Thread Cert.WideFwdIdeal.nD Cert.WideFwdIdeal.τ).loc Cert.WideFwdIdeal.main_arg0)
      ∧ m' ((c.tc : Thread Cert.WideFwdRefIdeal.nD Cert.WideFwdRefIdeal.τ).loc Cert.WideFwdRefIdeal.main_arg1) = m ((c.tc : Thread Cert.WideFwdIdeal.nD Cert.WideFwdIdeal.τ).loc Cert.WideFwdIdeal.main_arg1)) →
    ∃ (v0 : (c : Dev Cert.WideFwdIdeal.nD) → Buf (Elt Ideal) ((c.tc : Thread Cert.WideFwdIdeal.nD Cert.WideFwdIdeal.τ).loc Cert.WideFwdIdeal.main_v0)),
      θ_run (Cert.WideFwdIdeal.defs (F := Ideal)) (onTc (τ := Cert.WideFwdIdeal.τ) (Cert.WideFwdIdeal.main (F := Ideal))) ⟨m, fun _ => 0, g⟩ (fun r => ∀ c : Dev Cert.WideFwdIdeal.nD,
          r.2.mem ((c.tc : Thread Cert.WideFwdIdeal.nD Cert.WideFwdIdeal.τ).loc Cert.WideFwdIdeal.main_v0) = v0 c
          ∧ r.2.mem ((c.tc : Thread Cert.WideFwdIdeal.nD Cert.WideFwdIdeal.τ).loc Cert.WideFwdIdeal.main_arg0) = m ((c.tc : Thread Cert.WideFwdIdeal.nD Cert.WideFwdIdeal.τ).loc Cert.WideFwdIdeal.main_arg0)
          ∧ r.2.mem ((c.tc : Thread Cert.WideFwdIdeal.nD Cert.WideFwdIdeal.τ).loc Cert.WideFwdIdeal.main_arg1) = m ((c.tc : Thread Cert.WideFwdIdeal.nD Cert.WideFwdIdeal.τ).loc Cert.WideFwdIdeal.main_arg1))
      ∧ θ_run (Cert.WideFwdRefIdeal.defs (F := Ideal)) (onTc (τ := Cert.WideFwdRefIdeal.τ) (Cert.WideFwdRefIdeal.main (F := Ideal))) ⟨m', fun _ => 0, g'⟩ (fun r => ∀ c : Dev Cert.WideFwdRefIdeal.nD,
          r.2.mem ((c.tc : Thread Cert.WideFwdRefIdeal.nD Cert.WideFwdRefIdeal.τ).loc Cert.WideFwdRefIdeal.main_v2) = v0 c
          ∧ r.2.mem ((c.tc : Thread Cert.WideFwdRefIdeal.nD Cert.WideFwdRefIdeal.τ).loc Cert.WideFwdRefIdeal.main_arg0) = m' ((c.tc : Thread Cert.WideFwdRefIdeal.nD Cert.WideFwdRefIdeal.τ).loc Cert.WideFwdRefIdeal.main_arg0)
          ∧ r.2.mem ((c.tc : Thread Cert.WideFwdRefIdeal.nD Cert.WideFwdRefIdeal.τ).loc Cert.WideFwdRefIdeal.main_arg1) = m' ((c.tc : Thread Cert.WideFwdRefIdeal.nD Cert.WideFwdRefIdeal.τ).loc Cert.WideFwdRefIdeal.main_arg1))

def preserves_NarrowFwd_NarrowFwdIdeal : Prop :=
  True

def algebraic_NarrowFwdIdeal_NarrowFwdRefIdeal [hNarrowFwdIdeal : Cert.NarrowFwdIdeal.Facts] [hNarrowFwdRefIdeal : Cert.NarrowFwdRefIdeal.Facts] : Prop :=
  ∀ (m : (ℓ : Loc Cert.NarrowFwdIdeal.nD Cert.NarrowFwdIdeal.τ Cert.NarrowFwdIdeal.sig) → Buf (Elt Ideal) ℓ) (g : Dev Cert.NarrowFwdIdeal.nD → PrngReg)
    (m' : (ℓ : Loc Cert.NarrowFwdRefIdeal.nD Cert.NarrowFwdRefIdeal.τ Cert.NarrowFwdRefIdeal.sig) → Buf (Elt Ideal) ℓ) (g' : Dev Cert.NarrowFwdRefIdeal.nD → PrngReg), Pre_NarrowFwdIdeal m →
    (∀ c : Dev Cert.NarrowFwdIdeal.nD,
      m' ((c.tc : Thread Cert.NarrowFwdRefIdeal.nD Cert.NarrowFwdRefIdeal.τ).loc Cert.NarrowFwdRefIdeal.main_arg0) = m ((c.tc : Thread Cert.NarrowFwdIdeal.nD Cert.NarrowFwdIdeal.τ).loc Cert.NarrowFwdIdeal.main_arg0)
      ∧ m' ((c.tc : Thread Cert.NarrowFwdRefIdeal.nD Cert.NarrowFwdRefIdeal.τ).loc Cert.NarrowFwdRefIdeal.main_arg1) = m ((c.tc : Thread Cert.NarrowFwdIdeal.nD Cert.NarrowFwdIdeal.τ).loc Cert.NarrowFwdIdeal.main_arg1)) →
    ∃ (v0 : (c : Dev Cert.NarrowFwdIdeal.nD) → Buf (Elt Ideal) ((c.tc : Thread Cert.NarrowFwdIdeal.nD Cert.NarrowFwdIdeal.τ).loc Cert.NarrowFwdIdeal.main_v0)),
      θ_run (Cert.NarrowFwdIdeal.defs (F := Ideal)) (onTc (τ := Cert.NarrowFwdIdeal.τ) (Cert.NarrowFwdIdeal.main (F := Ideal))) ⟨m, fun _ => 0, g⟩ (fun r => ∀ c : Dev Cert.NarrowFwdIdeal.nD,
          r.2.mem ((c.tc : Thread Cert.NarrowFwdIdeal.nD Cert.NarrowFwdIdeal.τ).loc Cert.NarrowFwdIdeal.main_v0) = v0 c
          ∧ r.2.mem ((c.tc : Thread Cert.NarrowFwdIdeal.nD Cert.NarrowFwdIdeal.τ).loc Cert.NarrowFwdIdeal.main_arg0) = m ((c.tc : Thread Cert.NarrowFwdIdeal.nD Cert.NarrowFwdIdeal.τ).loc Cert.NarrowFwdIdeal.main_arg0)
          ∧ r.2.mem ((c.tc : Thread Cert.NarrowFwdIdeal.nD Cert.NarrowFwdIdeal.τ).loc Cert.NarrowFwdIdeal.main_arg1) = m ((c.tc : Thread Cert.NarrowFwdIdeal.nD Cert.NarrowFwdIdeal.τ).loc Cert.NarrowFwdIdeal.main_arg1))
      ∧ θ_run (Cert.NarrowFwdRefIdeal.defs (F := Ideal)) (onTc (τ := Cert.NarrowFwdRefIdeal.τ) (Cert.NarrowFwdRefIdeal.main (F := Ideal))) ⟨m', fun _ => 0, g'⟩ (fun r => ∀ c : Dev Cert.NarrowFwdRefIdeal.nD,
          r.2.mem ((c.tc : Thread Cert.NarrowFwdRefIdeal.nD Cert.NarrowFwdRefIdeal.τ).loc Cert.NarrowFwdRefIdeal.main_v2) = v0 c
          ∧ r.2.mem ((c.tc : Thread Cert.NarrowFwdRefIdeal.nD Cert.NarrowFwdRefIdeal.τ).loc Cert.NarrowFwdRefIdeal.main_arg0) = m' ((c.tc : Thread Cert.NarrowFwdRefIdeal.nD Cert.NarrowFwdRefIdeal.τ).loc Cert.NarrowFwdRefIdeal.main_arg0)
          ∧ r.2.mem ((c.tc : Thread Cert.NarrowFwdRefIdeal.nD Cert.NarrowFwdRefIdeal.τ).loc Cert.NarrowFwdRefIdeal.main_arg1) = m' ((c.tc : Thread Cert.NarrowFwdRefIdeal.nD Cert.NarrowFwdRefIdeal.τ).loc Cert.NarrowFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v2) = v0 c
          ∧ r.2.mem ((c.tc : Thread Cert.MergeFwdRefIdeal.nD Cert.MergeFwdRefIdeal.τ).loc Cert.MergeFwdRefIdeal.main_v31) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamRest_AdamRestIdeal : Prop :=
  True

def algebraic_AdamRestIdeal_AdamRestRefIdeal [hAdamRestIdeal : Cert.AdamRestIdeal.Facts] [hAdamRestRefIdeal : Cert.AdamRestRefIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg)
    (m' : (ℓ : Loc Cert.AdamRestRefIdeal.nD Cert.AdamRestRefIdeal.τ Cert.AdamRestRefIdeal.sig) → Buf (Elt Ideal) ℓ) (g' : Dev Cert.AdamRestRefIdeal.nD → PrngReg), Pre_AdamRestIdeal m →
    (∀ c : Dev Cert.AdamRestIdeal.nD,
      m' ((c.tc : Thread Cert.AdamRestRefIdeal.nD Cert.AdamRestRefIdeal.τ).loc Cert.AdamRestRefIdeal.main_arg0) = m ((c.tc : Thread Cert.AdamRestIdeal.nD Cert.AdamRestIdeal.τ).loc Cert.AdamRestIdeal.main_arg0)
      ∧ m' ((c.tc : Thread Cert.AdamRestRefIdeal.nD Cert.AdamRestRefIdeal.τ).loc Cert.AdamRestRefIdeal.main_arg1) = m ((c.tc : Thread Cert.AdamRestIdeal.nD Cert.AdamRestIdeal.τ).loc Cert.AdamRestIdeal.main_arg1)
      ∧ m' ((c.tc : Thread Cert.AdamRestRefIdeal.nD Cert.AdamRestRefIdeal.τ).loc Cert.AdamRestRefIdeal.main_arg2) = m ((c.tc : Thread Cert.AdamRestIdeal.nD Cert.AdamRestIdeal.τ).loc Cert.AdamRestIdeal.main_arg2)
      ∧ m' ((c.tc : Thread Cert.AdamRestRefIdeal.nD Cert.AdamRestRefIdeal.τ).loc Cert.AdamRestRefIdeal.main_arg3) = m ((c.tc : Thread Cert.AdamRestIdeal.nD Cert.AdamRestIdeal.τ).loc Cert.AdamRestIdeal.main_arg3)) →
    ∃ (v0 : (c : Dev Cert.AdamRestIdeal.nD) → Buf (Elt Ideal) ((c.tc : Thread Cert.AdamRestIdeal.nD Cert.AdamRestIdeal.τ).loc Cert.AdamRestIdeal.main_v0_0)) (v1 : (c : Dev Cert.AdamRestIdeal.nD) → Buf (Elt Ideal) ((c.tc : Thread Cert.AdamRestIdeal.nD Cert.AdamRestIdeal.τ).loc Cert.AdamRestIdeal.main_v0_1)) (v2 : (c : Dev Cert.AdamRestIdeal.nD) → Buf (Elt Ideal) ((c.tc : Thread Cert.AdamRestIdeal.nD Cert.AdamRestIdeal.τ).loc Cert.AdamRestIdeal.main_v0_2)),
      θ_run (Cert.AdamRestIdeal.defs (F := Ideal)) (onTc (τ := Cert.AdamRestIdeal.τ) (Cert.AdamRestIdeal.main (F := Ideal))) ⟨m, fun _ => 0, g⟩ (fun r => ∀ c : Dev Cert.AdamRestIdeal.nD,
          r.2.mem ((c.tc : Thread Cert.AdamRestIdeal.nD Cert.AdamRestIdeal.τ).loc Cert.AdamRestIdeal.main_v0_0) = v0 c
          ∧ r.2.mem ((c.tc : Thread Cert.AdamRestIdeal.nD Cert.AdamRestIdeal.τ).loc Cert.AdamRestIdeal.main_v0_1) = v1 c
          ∧ r.2.mem ((c.tc : Thread Cert.AdamRestIdeal.nD Cert.AdamRestIdeal.τ).loc Cert.AdamRestIdeal.main_v0_2) = v2 c
          ∧ r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
          ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
          ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
          ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3))
      ∧ θ_run (Cert.AdamRestRefIdeal.defs (F := Ideal)) (onTc (τ := Cert.AdamRestRefIdeal.τ) (Cert.AdamRestRefIdeal.main (F := Ideal))) ⟨m', fun _ => 0, g'⟩ (fun r => ∀ c : Dev Cert.AdamRestRefIdeal.nD,
          r.2.mem ((c.tc : Thread Cert.AdamRestRefIdeal.nD Cert.AdamRestRefIdeal.τ).loc Cert.AdamRestRefIdeal.main_v23) = v0 c
          ∧ r.2.mem ((c.tc : Thread Cert.AdamRestRefIdeal.nD Cert.AdamRestRefIdeal.τ).loc Cert.AdamRestRefIdeal.main_v4) = v1 c
          ∧ r.2.mem ((c.tc : Thread Cert.AdamRestRefIdeal.nD Cert.AdamRestRefIdeal.τ).loc Cert.AdamRestRefIdeal.main_v10) = v2 c
          ∧ r.2.mem ((c.tc : Thread Cert.AdamRestRefIdeal.nD Cert.AdamRestRefIdeal.τ).loc Cert.AdamRestRefIdeal.main_arg0) = m' ((c.tc : Thread Cert.AdamRestRefIdeal.nD Cert.AdamRestRefIdeal.τ).loc Cert.AdamRestRefIdeal.main_arg0)
          ∧ r.2.mem ((c.tc : Thread Cert.AdamRestRefIdeal.nD Cert.AdamRestRefIdeal.τ).loc Cert.AdamRestRefIdeal.main_arg1) = m' ((c.tc : Thread Cert.AdamRestRefIdeal.nD Cert.AdamRestRefIdeal.τ).loc Cert.AdamRestRefIdeal.main_arg1)
          ∧ r.2.mem ((c.tc : Thread Cert.AdamRestRefIdeal.nD Cert.AdamRestRefIdeal.τ).loc Cert.AdamRestRefIdeal.main_arg2) = m' ((c.tc : Thread Cert.AdamRestRefIdeal.nD Cert.AdamRestRefIdeal.τ).loc Cert.AdamRestRefIdeal.main_arg2)
          ∧ r.2.mem ((c.tc : Thread Cert.AdamRestRefIdeal.nD Cert.AdamRestRefIdeal.τ).loc Cert.AdamRestRefIdeal.main_arg3) = m' ((c.tc : Thread Cert.AdamRestRefIdeal.nD Cert.AdamRestRefIdeal.τ).loc Cert.AdamRestRefIdeal.main_arg3))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v2)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v2) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v6) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v16) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v21) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v54) = v0 c
          ∧ r.2.mem ((c.tc : Thread Cert.ConvRefIdeal.nD Cert.ConvRefIdeal.τ).loc Cert.ConvRefIdeal.main_v56) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def Claim : Prop :=
  ∃ (hFfTwoDw : Cert.FfTwoDw.Facts) (hFfTwoDwIdeal : Cert.FfTwoDwIdeal.Facts) (hFfTwoDwRefIdeal : Cert.FfTwoDwRefIdeal.Facts) (hFfOneDw : Cert.FfOneDw.Facts) (hFfOneDwIdeal : Cert.FfOneDwIdeal.Facts) (hFfOneDwRefIdeal : Cert.FfOneDwRefIdeal.Facts) (hInDw : Cert.InDw.Facts) (hInDwIdeal : Cert.InDwIdeal.Facts) (hInDwRefIdeal : Cert.InDwRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hFfOneDx : Cert.FfOneDx.Facts) (hFfOneDxIdeal : Cert.FfOneDxIdeal.Facts) (hFfOneDxRefIdeal : Cert.FfOneDxRefIdeal.Facts) (hFfTwoDx : Cert.FfTwoDx.Facts) (hFfTwoDxIdeal : Cert.FfTwoDxIdeal.Facts) (hFfTwoDxRefIdeal : Cert.FfTwoDxRefIdeal.Facts) (hOutDx : Cert.OutDx.Facts) (hOutDxIdeal : Cert.OutDxIdeal.Facts) (hOutDxRefIdeal : Cert.OutDxRefIdeal.Facts) (hWideDx : Cert.WideDx.Facts) (hWideDxIdeal : Cert.WideDxIdeal.Facts) (hWideDxRefIdeal : Cert.WideDxRefIdeal.Facts) (hNarrowDx : Cert.NarrowDx.Facts) (hNarrowDxIdeal : Cert.NarrowDxIdeal.Facts) (hNarrowDxRefIdeal : Cert.NarrowDxRefIdeal.Facts) (hWideDw : Cert.WideDw.Facts) (hWideDwIdeal : Cert.WideDwIdeal.Facts) (hWideDwRefIdeal : Cert.WideDwRefIdeal.Facts) (hNarrowDw : Cert.NarrowDw.Facts) (hNarrowDwIdeal : Cert.NarrowDwIdeal.Facts) (hNarrowDwRefIdeal : Cert.NarrowDwRefIdeal.Facts) (hInFwd : Cert.InFwd.Facts) (hInFwdIdeal : Cert.InFwdIdeal.Facts) (hInFwdRefIdeal : Cert.InFwdRefIdeal.Facts) (hFfOneFwd : Cert.FfOneFwd.Facts) (hFfOneFwdIdeal : Cert.FfOneFwdIdeal.Facts) (hFfOneFwdRefIdeal : Cert.FfOneFwdRefIdeal.Facts) (hFfTwoFwd : Cert.FfTwoFwd.Facts) (hFfTwoFwdIdeal : Cert.FfTwoFwdIdeal.Facts) (hFfTwoFwdRefIdeal : Cert.FfTwoFwdRefIdeal.Facts) (hOutFwd : Cert.OutFwd.Facts) (hOutFwdIdeal : Cert.OutFwdIdeal.Facts) (hOutFwdRefIdeal : Cert.OutFwdRefIdeal.Facts) (hWideFwd : Cert.WideFwd.Facts) (hWideFwdIdeal : Cert.WideFwdIdeal.Facts) (hWideFwdRefIdeal : Cert.WideFwdRefIdeal.Facts) (hNarrowFwd : Cert.NarrowFwd.Facts) (hNarrowFwdIdeal : Cert.NarrowFwdIdeal.Facts) (hNarrowFwdRefIdeal : Cert.NarrowFwdRefIdeal.Facts) (hMergeFwd : Cert.MergeFwd.Facts) (hMergeFwdIdeal : Cert.MergeFwdIdeal.Facts) (hMergeFwdRefIdeal : Cert.MergeFwdRefIdeal.Facts) (hAdamAda : Cert.AdamAda.Facts) (hAdamAdaIdeal : Cert.AdamAdaIdeal.Facts) (hAdamAdaRefIdeal : Cert.AdamAdaRefIdeal.Facts) (hAdamRest : Cert.AdamRest.Facts) (hAdamRestIdeal : Cert.AdamRestIdeal.Facts) (hAdamRestRefIdeal : Cert.AdamRestRefIdeal.Facts) (hAdaFwd : Cert.AdaFwd.Facts) (hAdaFwdIdeal : Cert.AdaFwdIdeal.Facts) (hAdaFwdRefIdeal : Cert.AdaFwdRefIdeal.Facts) (hAdaDw : Cert.AdaDw.Facts) (hAdaDwIdeal : Cert.AdaDwIdeal.Facts) (hAdaDwRefIdeal : Cert.AdaDwRefIdeal.Facts) (hSumSmall : Cert.SumSmall.Facts) (hSumSmallIdeal : Cert.SumSmallIdeal.Facts) (hSumSmallRefIdeal : Cert.SumSmallRefIdeal.Facts) (hLossHead : Cert.LossHead.Facts) (hLossHeadIdeal : Cert.LossHeadIdeal.Facts) (hLossHeadRefIdeal : Cert.LossHeadRefIdeal.Facts) (hConvFwd : Cert.ConvFwd.Facts) (hConvFwdIdeal : Cert.ConvFwdIdeal.Facts) (hConvFwdRefIdeal : Cert.ConvFwdRefIdeal.Facts) (hConv : Cert.Conv.Facts) (hConvIdeal : Cert.ConvIdeal.Facts) (hConvRefIdeal : Cert.ConvRefIdeal.Facts),
    quiescent_FfTwoDw (hFfTwoDw := hFfTwoDw)
    ∧ quiescent_FfTwoDwIdeal (hFfTwoDwIdeal := hFfTwoDwIdeal)
    ∧ quiescent_FfTwoDwRefIdeal (hFfTwoDwRefIdeal := hFfTwoDwRefIdeal)
    ∧ quiescent_FfOneDw (hFfOneDw := hFfOneDw)
    ∧ quiescent_FfOneDwIdeal (hFfOneDwIdeal := hFfOneDwIdeal)
    ∧ quiescent_FfOneDwRefIdeal (hFfOneDwRefIdeal := hFfOneDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_FfOneDx (hFfOneDx := hFfOneDx)
    ∧ quiescent_FfOneDxIdeal (hFfOneDxIdeal := hFfOneDxIdeal)
    ∧ quiescent_FfOneDxRefIdeal (hFfOneDxRefIdeal := hFfOneDxRefIdeal)
    ∧ quiescent_FfTwoDx (hFfTwoDx := hFfTwoDx)
    ∧ quiescent_FfTwoDxIdeal (hFfTwoDxIdeal := hFfTwoDxIdeal)
    ∧ quiescent_FfTwoDxRefIdeal (hFfTwoDxRefIdeal := hFfTwoDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_WideDx (hWideDx := hWideDx)
    ∧ quiescent_WideDxIdeal (hWideDxIdeal := hWideDxIdeal)
    ∧ quiescent_WideDxRefIdeal (hWideDxRefIdeal := hWideDxRefIdeal)
    ∧ quiescent_NarrowDx (hNarrowDx := hNarrowDx)
    ∧ quiescent_NarrowDxIdeal (hNarrowDxIdeal := hNarrowDxIdeal)
    ∧ quiescent_NarrowDxRefIdeal (hNarrowDxRefIdeal := hNarrowDxRefIdeal)
    ∧ quiescent_WideDw (hWideDw := hWideDw)
    ∧ quiescent_WideDwIdeal (hWideDwIdeal := hWideDwIdeal)
    ∧ quiescent_WideDwRefIdeal (hWideDwRefIdeal := hWideDwRefIdeal)
    ∧ quiescent_NarrowDw (hNarrowDw := hNarrowDw)
    ∧ quiescent_NarrowDwIdeal (hNarrowDwIdeal := hNarrowDwIdeal)
    ∧ quiescent_NarrowDwRefIdeal (hNarrowDwRefIdeal := hNarrowDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_FfOneFwd (hFfOneFwd := hFfOneFwd)
    ∧ quiescent_FfOneFwdIdeal (hFfOneFwdIdeal := hFfOneFwdIdeal)
    ∧ quiescent_FfOneFwdRefIdeal (hFfOneFwdRefIdeal := hFfOneFwdRefIdeal)
    ∧ quiescent_FfTwoFwd (hFfTwoFwd := hFfTwoFwd)
    ∧ quiescent_FfTwoFwdIdeal (hFfTwoFwdIdeal := hFfTwoFwdIdeal)
    ∧ quiescent_FfTwoFwdRefIdeal (hFfTwoFwdRefIdeal := hFfTwoFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_WideFwd (hWideFwd := hWideFwd)
    ∧ quiescent_WideFwdIdeal (hWideFwdIdeal := hWideFwdIdeal)
    ∧ quiescent_WideFwdRefIdeal (hWideFwdRefIdeal := hWideFwdRefIdeal)
    ∧ quiescent_NarrowFwd (hNarrowFwd := hNarrowFwd)
    ∧ quiescent_NarrowFwdIdeal (hNarrowFwdIdeal := hNarrowFwdIdeal)
    ∧ quiescent_NarrowFwdRefIdeal (hNarrowFwdRefIdeal := hNarrowFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamRest (hAdamRest := hAdamRest)
    ∧ quiescent_AdamRestIdeal (hAdamRestIdeal := hAdamRestIdeal)
    ∧ quiescent_AdamRestRefIdeal (hAdamRestRefIdeal := hAdamRestRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Conv (hConv := hConv)
    ∧ quiescent_ConvIdeal (hConvIdeal := hConvIdeal)
    ∧ quiescent_ConvRefIdeal (hConvRefIdeal := hConvRefIdeal)
    ∧ preserves_FfTwoDw_FfTwoDwIdeal
    ∧ algebraic_FfTwoDwIdeal_FfTwoDwRefIdeal (hFfTwoDwIdeal := hFfTwoDwIdeal) (hFfTwoDwRefIdeal := hFfTwoDwRefIdeal)
    ∧ preserves_FfOneDw_FfOneDwIdeal
    ∧ algebraic_FfOneDwIdeal_FfOneDwRefIdeal (hFfOneDwIdeal := hFfOneDwIdeal) (hFfOneDwRefIdeal := hFfOneDwRefIdeal)
    ∧ preserves_InDw_InDwIdeal
    ∧ algebraic_InDwIdeal_InDwRefIdeal (hInDwIdeal := hInDwIdeal) (hInDwRefIdeal := hInDwRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_FfOneDx_FfOneDxIdeal
    ∧ algebraic_FfOneDxIdeal_FfOneDxRefIdeal (hFfOneDxIdeal := hFfOneDxIdeal) (hFfOneDxRefIdeal := hFfOneDxRefIdeal)
    ∧ preserves_FfTwoDx_FfTwoDxIdeal
    ∧ algebraic_FfTwoDxIdeal_FfTwoDxRefIdeal (hFfTwoDxIdeal := hFfTwoDxIdeal) (hFfTwoDxRefIdeal := hFfTwoDxRefIdeal)
    ∧ preserves_OutDx_OutDxIdeal
    ∧ algebraic_OutDxIdeal_OutDxRefIdeal (hOutDxIdeal := hOutDxIdeal) (hOutDxRefIdeal := hOutDxRefIdeal)
    ∧ preserves_WideDx_WideDxIdeal
    ∧ algebraic_WideDxIdeal_WideDxRefIdeal (hWideDxIdeal := hWideDxIdeal) (hWideDxRefIdeal := hWideDxRefIdeal)
    ∧ preserves_NarrowDx_NarrowDxIdeal
    ∧ algebraic_NarrowDxIdeal_NarrowDxRefIdeal (hNarrowDxIdeal := hNarrowDxIdeal) (hNarrowDxRefIdeal := hNarrowDxRefIdeal)
    ∧ preserves_WideDw_WideDwIdeal
    ∧ algebraic_WideDwIdeal_WideDwRefIdeal (hWideDwIdeal := hWideDwIdeal) (hWideDwRefIdeal := hWideDwRefIdeal)
    ∧ preserves_NarrowDw_NarrowDwIdeal
    ∧ algebraic_NarrowDwIdeal_NarrowDwRefIdeal (hNarrowDwIdeal := hNarrowDwIdeal) (hNarrowDwRefIdeal := hNarrowDwRefIdeal)
    ∧ preserves_InFwd_InFwdIdeal
    ∧ algebraic_InFwdIdeal_InFwdRefIdeal (hInFwdIdeal := hInFwdIdeal) (hInFwdRefIdeal := hInFwdRefIdeal)
    ∧ preserves_FfOneFwd_FfOneFwdIdeal
    ∧ algebraic_FfOneFwdIdeal_FfOneFwdRefIdeal (hFfOneFwdIdeal := hFfOneFwdIdeal) (hFfOneFwdRefIdeal := hFfOneFwdRefIdeal)
    ∧ preserves_FfTwoFwd_FfTwoFwdIdeal
    ∧ algebraic_FfTwoFwdIdeal_FfTwoFwdRefIdeal (hFfTwoFwdIdeal := hFfTwoFwdIdeal) (hFfTwoFwdRefIdeal := hFfTwoFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_WideFwd_WideFwdIdeal
    ∧ algebraic_WideFwdIdeal_WideFwdRefIdeal (hWideFwdIdeal := hWideFwdIdeal) (hWideFwdRefIdeal := hWideFwdRefIdeal)
    ∧ preserves_NarrowFwd_NarrowFwdIdeal
    ∧ algebraic_NarrowFwdIdeal_NarrowFwdRefIdeal (hNarrowFwdIdeal := hNarrowFwdIdeal) (hNarrowFwdRefIdeal := hNarrowFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamRest_AdamRestIdeal
    ∧ algebraic_AdamRestIdeal_AdamRestRefIdeal (hAdamRestIdeal := hAdamRestIdeal) (hAdamRestRefIdeal := hAdamRestRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaDw_AdaDwIdeal
    ∧ algebraic_AdaDwIdeal_AdaDwRefIdeal (hAdaDwIdeal := hAdaDwIdeal) (hAdaDwRefIdeal := hAdaDwRefIdeal)
    ∧ preserves_SumSmall_SumSmallIdeal
    ∧ algebraic_SumSmallIdeal_SumSmallRefIdeal (hSumSmallIdeal := hSumSmallIdeal) (hSumSmallRefIdeal := hSumSmallRefIdeal)
    ∧ preserves_LossHead_LossHeadIdeal
    ∧ algebraic_LossHeadIdeal_LossHeadRefIdeal (hLossHeadIdeal := hLossHeadIdeal) (hLossHeadRefIdeal := hLossHeadRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Conv_ConvIdeal
    ∧ algebraic_ConvIdeal_ConvRefIdeal (hConvIdeal := hConvIdeal) (hConvRefIdeal := hConvRefIdeal)
-- ==== FfTwoDw.lean ====
abbrev S2048x4096 : Shape := ⟨2, ![2048, 4096]⟩
abbrev S2048x1024 : Shape := ⟨2, ![2048, 1024]⟩
abbrev S4096x1024 : Shape := ⟨2, ![4096, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfTwoDwRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfOneDw.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneDwRefIdeal.lean ====
abbrev S2048x1024 : Shape := ⟨2, ![2048, 1024]⟩
abbrev S2048x4096 : Shape := ⟨2, ![2048, 4096]⟩
abbrev S_ : Shape := ⟨0, ![]⟩
abbrev S8x1024x512 : Shape := ⟨3, ![8, 1024, 512]⟩
abbrev S2048x8x512 : Shape := ⟨3, ![2048, 8, 512]⟩
abbrev S8x512x1024 : Shape := ⟨3, ![8, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S8x1024x512, .f32⟩
  | .hbm, ⟨4, _⟩ => ⟨S2048x1024, .f32⟩
  | .hbm, ⟨5, _⟩ => ⟨S2048x8x512, .f32⟩
  | .hbm, ⟨6, _⟩ => ⟨S2048x4096, .f32⟩
  | .hbm, ⟨7, _⟩ => ⟨S2048x4096, .f32⟩
  | .hbm, ⟨8, _⟩ => ⟨S2048x8x512, .f32⟩
  | .hbm, ⟨9, _⟩ => ⟨S8x512x1024, .f32⟩
  | .hbm, ⟨10, _⟩ => ⟨S8x1024x512, .f32⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDw.lean ====
abbrev S2048x5760 : Shape := ⟨2, ![2048, 5760]⟩
abbrev S2048x1024 : Shape := ⟨2, ![2048, 1024]⟩
abbrev S5760x1024 : Shape := ⟨2, ![5760, 1024]⟩
abbrev S2048x1152 : Shape := ⟨2, ![2048, 1152]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x5760, .bf16⟩
  | .hbm, ⟨1, _⟩ => ⟨S2048x1024, .bf16⟩
  | .hbm, ⟨2, _⟩ => ⟨S5760x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S1152x1024, .bf16⟩
  | .local _ .vmem, ⟨4, _⟩ => ⟨S1152x1024, .bf16⟩
  | _, _ => ⟨S2048x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x5760 : Shape := ⟨2, ![2048, 5760]⟩
abbrev S2048x1024 : Shape := ⟨2, ![2048, 1024]⟩
abbrev S_ : Shape := ⟨0, ![]⟩
abbrev S5760x1024 : Shape := ⟨2, ![5760, 1024]⟩
abbrev S1024x5760 : Shape := ⟨2, ![1024, 5760]⟩

abbrev nBuf : Space → Nat
  | .hbm => 12
  | .vmem => 0
  | .smem => 0
  | _ => 0

abbrev bufTy : (tb : Table) → Fin (tcTables nBuf tb) → BufTy
  | .hbm, ⟨0, _⟩ => ⟨S2048x5760, .bf16⟩
  | .hbm, ⟨1, _⟩ => ⟨S2048x1024, .bf16⟩
  | .hbm, ⟨2, _⟩ => ⟨S_, .f32⟩
  | .hbm, ⟨3, _⟩ => ⟨S5760x1024, .f32⟩
  | .hbm, ⟨4, _⟩ => ⟨S2048x1024, .f32⟩
  | .hbm, ⟨5, _⟩ => ⟨S1024x5760, .f32⟩
  | .hbm, ⟨6, _⟩ => ⟨S2048x5760, .f32⟩
  | .hbm, ⟨7, _⟩ => ⟨S2048x5760, .f32⟩
  | .hbm, ⟨8, _⟩ => ⟨S5760x1024, .f32⟩
  | .hbm, ⟨9, _⟩ => ⟨S1024x5760, .f32⟩
  | .hbm, ⟨10, _⟩ => ⟨S5760x1024, .f32⟩
  | .hbm, ⟨11, _⟩ => ⟨S5760x1024, .bf16⟩
  | _, _ => ⟨S2048x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S2048x5760 : Shape := ⟨2, ![2048, 5760]⟩
abbrev S5760x1024 : Shape := ⟨2, ![5760, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S6x1024 : Shape := ⟨2, ![6, 1024]⟩
abbrev S16x1024 : Shape := ⟨2, ![16, 1024]⟩
abbrev S1024x1152 : Shape := ⟨2, ![1024, 1152]⟩
abbrev S1152x1024 : Shape := ⟨2, ![1152, 1024]⟩
abbrev S1024x1024 : Shape := ⟨2, ![1024, 1024]⟩
abbrev S1024x1 : Shape := ⟨2, ![1024, 1]⟩

abbrev nBuf : Space → Nat
  | .hbm => 18
  | .vmem => 15
  | .smem => 0
  | _ => 0

abbrev bufTy : (tb : Table) → Fin (tcTables nBuf tb) → BufTy
  | .hbm, ⟨0, _⟩ => ⟨S2048x5760, .bf16⟩
  | .hbm, ⟨1, _⟩ => ⟨S5760x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S8x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S6x1024, .f32⟩
  | .hbm, ⟨15, _⟩ => ⟨S8x1024, .f32⟩
  | .hbm, ⟨16, _⟩ => ⟨S2048x1024, .f32⟩
  | .hbm, ⟨17, _⟩ => ⟨S16x1024, .f32⟩
  | .local _ .vmem, ⟨0, _⟩ => ⟨S1024x1152, .bf16⟩
  | .local _ .vmem, ⟨1, _⟩ => ⟨S1024x1152, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S8x1024, .f32⟩
  | .local _ .vmem, ⟨13, _⟩ => ⟨S8x1024, .f32⟩
  | .local _ .vmem, ⟨14, _⟩ => ⟨S1024x1024, .f32⟩
  | _, _ => ⟨S2048x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== InDxRefIdeal.lean ====
abbrev S2048x5760 : Shape := ⟨2, ![2048, 5760]⟩
abbrev S5760x1024 : Shape := ⟨2, ![5760, 1024]⟩
abbrev S2048x1024 : Shape := ⟨2, ![2048, 1024]⟩
abbrev S1024 : Shape := ⟨1, ![1024]⟩
abbrev S2x1024x1024 : Shape := ⟨3, ![2, 1024, 1024]⟩
abbrev S2x1x1024 : Shape := ⟨3, ![2, 1, 1024]⟩
abbrev S_ : Shape := ⟨0, ![]⟩
abbrev S2x1024 : Shape := ⟨2, ![2, 1024]⟩
abbrev S2x1024x1 : Shape := ⟨3, ![2, 1024, 1]⟩
abbrev S1024x5760 : Shape := ⟨2, ![1024, 5760]⟩
abbrev S2x5x1024 : Shape := ⟨3, ![2, 5, 1024]⟩
abbrev S2x8x1024 : Shape := ⟨3, ![2, 8, 1024]⟩
abbrev S16x1024 : Shape := ⟨2, ![16, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2048x5760, .bf16⟩
  | .hbm, ⟨1, _⟩ => ⟨S5760x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2x1024x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1024x1024, .f32⟩
  | .hbm, ⟨12, _⟩ => ⟨S_, .f32⟩
  | .hbm, ⟨13, _⟩ => ⟨S2x1024, .f32⟩
  | .hbm, ⟨14, _⟩ => ⟨S2x1024x1, .f32⟩
  | .hbm, ⟨15, _⟩ => ⟨S_, .f32⟩
  | .hbm, ⟨16, _⟩ => ⟨S2x1024x1, .f32⟩
  | .hbm, ⟨17, _⟩ => ⟨S2x1024x1, .f32⟩
  | .hbm, ⟨18, _⟩ => ⟨S_, .f32⟩
  | .hbm, ⟨19, _⟩ => ⟨S2x1024x1, .f32⟩
  | .hbm, ⟨20, _⟩ => ⟨S2x1024x1, .f32⟩
  | .hbm, ⟨21, _⟩ => ⟨S2x1024x1, .f32⟩
  | .hbm, ⟨22, _⟩ => ⟨S2x1024x1, .f32⟩
  | .hbm, ⟨23, _⟩ => ⟨S_, .f32⟩
  | .hbm, ⟨24, _⟩ => ⟨S2x1024x1, .f32⟩
  | .hbm, ⟨25, _⟩ => ⟨S2x1024x1, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S2x1024x1024, .f32⟩
  | .hbm, ⟨37, _⟩ => ⟨S2048x1024, .f32⟩
  | .hbm, ⟨38, _⟩ => ⟨S5760x1024, .f32⟩
  | .hbm, ⟨39, _⟩ => ⟨S1024x5760, .f32⟩
  | .hbm, ⟨40, _⟩ => ⟨S2048x5760, .f32⟩
  | .hbm, ⟨41, _⟩ => ⟨S2x1024x1024, .f32⟩
  | .hbm, ⟨42, _⟩ => ⟨S2048x5760, .f32⟩
  | .hbm, ⟨43, _⟩ => ⟨S2048x1024, .f32⟩
  | .hbm, ⟨44, _⟩ => ⟨S2x1024x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x1024x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x1024x1024, .f32⟩
  | .hbm, ⟨53, _⟩ => ⟨S2x1024x1024, .f32⟩
  | .hbm, ⟨54, _⟩ => ⟨S2x1024x1024, .f32⟩
  | .hbm, ⟨55, _⟩ => ⟨S_, .f32⟩
  | .hbm, ⟨56, _⟩ => ⟨S2x1024, .f32⟩
  | .hbm, ⟨57, _⟩ => ⟨S2x1x1024, .f32⟩
  | .hbm, ⟨58, _⟩ => ⟨S2x1024x1024, .f32⟩
  | .hbm, ⟨59, _⟩ => ⟨S2x1024x1024, .f32⟩
  | .hbm, ⟨60, _⟩ => ⟨S2x1024x1024, .f32⟩
  | .hbm, ⟨61, _⟩ => ⟨S_, .f32⟩
  | .hbm, ⟨62, _⟩ => ⟨S2x1024, .f32⟩
  | .hbm, ⟨63, _⟩ => ⟨S2x1024x1, .f32⟩
  | .hbm, ⟨64, _⟩ => ⟨S2x1024x1024, .f32⟩
  | .hbm, ⟨65, _⟩ => ⟨S2x1024x1024, .f32⟩
  | .hbm, ⟨66, _⟩ => ⟨S2x1024x1024, .f32⟩
  | .hbm, ⟨67, _⟩ => ⟨S2x1024x1, .f32⟩
  | .hbm, ⟨68, _⟩ => ⟨S_, .f32⟩
  | .hbm, ⟨69, _⟩ => ⟨S2x1024x1, .f32⟩
  | .hbm, ⟨70, _⟩ => ⟨S2x1024x1, .f32⟩
  | .hbm, ⟨71, _⟩ => ⟨S_, .f32⟩
  | .hbm, ⟨72, _⟩ => ⟨S2x1024, .f32⟩
  | .hbm, ⟨73, _⟩ => ⟨S2x1024x1024, .f32⟩
  | .hbm, ⟨74, _⟩ => ⟨S2x1024x1024, .f32⟩
  | .hbm, ⟨75, _⟩ => ⟨S2x1024x1024, .f32⟩
  | .hbm, ⟨76, _⟩ => ⟨S2x1024x1024, .f32⟩
  | .hbm, ⟨77, _⟩ => ⟨S2x1024x1024, .f32⟩
  | .hbm, ⟨78, _⟩ => ⟨S_, .f32⟩
  | .hbm, ⟨79, _⟩ => ⟨S2x5x1024, .f32⟩
  | .hbm, ⟨80, _⟩ => ⟨S2x8x1024, .f32⟩
  | .hbm, ⟨81, _⟩ => ⟨S2048x1024, .f32⟩
  | .hbm, ⟨82, _⟩ => ⟨S16x1024, .f32⟩
  | _, _ => ⟨S2048x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== FfOneDx.lean ====
abbrev S2048x4096 : Shape := ⟨2, ![2048, 4096]⟩
abbrev S8x1024x512 : Shape := ⟨3, ![8, 1024, 512]⟩
abbrev S2048x1024 : Shape := ⟨2, ![2048, 1024]⟩
abbrev S1024 : Shape := ⟨1, ![1024]⟩
abbrev S_ : Shape := ⟨0, ![]⟩
abbrev S2x1024 : Shape := ⟨2, ![2, 1024]⟩
abbrev S1x1024 : Shape := ⟨2, ![1, 1024]⟩
abbrev S5x1024 : Shape := ⟨2, ![5, 1024]⟩
abbrev S8x1024 : Shape := ⟨2, ![8, 1024]⟩
abbrev S3x1024 : Shape := ⟨2, ![3, 1024]⟩
abbrev S16x1024 : Shape := ⟨2, ![16, 1024]⟩
abbrev S1024x1024 : Shape := ⟨2, ![1024, 1024]⟩
abbrev S2x1024x512 : Shape := ⟨3, ![2, 1024, 512]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 22
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S2x1024, .f32⟩
  | .hbm, ⟨9, _⟩ => ⟨S1x1024, .f32⟩
  | .hbm, ⟨10, _⟩ => ⟨S_, .f32⟩
  | .hbm, ⟨11, _⟩ => ⟨S5x1024, .f32⟩
  | .hbm, ⟨12, _⟩ => ⟨S8x1024, .f32⟩
  | .hbm, ⟨13, _⟩ => ⟨S_, .f32⟩
  | .hbm, ⟨14, _⟩ => ⟨S3x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S3x1024, .f32⟩
  | .hbm, ⟨19, _⟩ => ⟨S8x1024, .f32⟩
  | .hbm, ⟨20, _⟩ => ⟨S2048x1024, .f32⟩
  | .hbm, ⟨21, _⟩ => ⟨S16x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S8x1024, .f32⟩
  | .local _ .vmem, ⟨13, _⟩ => ⟨S8x1024, .f32⟩
  | .local _ .vmem, ⟨14, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfOneDxRefIdeal.lean ====
abbrev S2048x4096 : Shape := ⟨2, ![2048, 4096]⟩
abbrev S8x1024x512 : Shape := ⟨3, ![8, 1024, 512]⟩
abbrev S2048x1024 : Shape := ⟨2, ![2048, 1024]⟩
abbrev S1024 : Shape := ⟨1, ![1024]⟩
abbrev S2x1024x1024 : Shape := ⟨3, ![2, 1024, 1024]⟩
abbrev S2x1x1024 : Shape := ⟨3, ![2, 1, 1024]⟩
abbrev S_ : Shape := ⟨0, ![]⟩
abbrev S2x1024 : Shape := ⟨2, ![2, 1024]⟩
abbrev S2x1024x1 : Shape := ⟨3, ![2, 1024, 1]⟩
abbrev S2048x8x512 : Shape := ⟨3, ![2048, 8, 512]⟩
abbrev S2x5x1024 : Shape := ⟨3, ![2, 5, 1024]⟩
abbrev S2x8x1024 : Shape := ⟨3, ![2, 8, 1024]⟩
abbrev S16x1024 : Shape := ⟨2, ![16, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2x1024x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1024x1024, .f32⟩
  | .hbm, ⟨12, _⟩ => ⟨S_, .f32⟩
  | .hbm, ⟨13, _⟩ => ⟨S2x1024, .f32⟩
  | .hbm, ⟨14, _⟩ => ⟨S2x1024x1, .f32⟩
  | .hbm, ⟨15, _⟩ => ⟨S_, .f32⟩
  | .hbm, ⟨16, _⟩ => ⟨S2x1024x1, .f32⟩
  | .hbm, ⟨17, _⟩ => ⟨S2x1024x1, .f32⟩
  | .hbm, ⟨18, _⟩ => ⟨S_, .f32⟩
  | .hbm, ⟨19, _⟩ => ⟨S2x1024x1, .f32⟩
  | .hbm, ⟨20, _⟩ => ⟨S2x1024x1, .f32⟩
  | .hbm, ⟨21, _⟩ => ⟨S2x1024x1, .f32⟩
  | .hbm, ⟨22, _⟩ => ⟨S2x1024x1, .f32⟩
  | .hbm, ⟨23, _⟩ => ⟨S_, .f32⟩
  | .hbm, ⟨24, _⟩ => ⟨S2x1024x1, .f32⟩
  | .hbm, ⟨25, _⟩ => ⟨S2x1024x1, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S2x1024x1024, .f32⟩
  | .hbm, ⟨37, _⟩ => ⟨S2048x1024, .f32⟩
  | .hbm, ⟨38, _⟩ => ⟨S8x1024x512, .f32⟩
  | .hbm, ⟨39, _⟩ => ⟨S2048x8x512, .f32⟩
  | .hbm, ⟨40, _⟩ => ⟨S2048x4096, .f32⟩
  | .hbm, ⟨41, _⟩ => ⟨S2x1024x1024, .f32⟩
  | .hbm, ⟨42, _⟩ => ⟨S2048x4096, .f32⟩
  | .hbm, ⟨43, _⟩ => ⟨S2048x8x512, .f32⟩
  | .hbm, ⟨44, _⟩ => ⟨S2048x1024, .f32⟩
  | .hbm, ⟨45, _⟩ => ⟨S2x1024x1024, .f32⟩
  | .hbm, ⟨46, _⟩ => ⟨S_, .f32⟩
  | .hbm, ⟨47, _⟩ => ⟨S2x1024, .f32⟩
  | .hbm, ⟨48, _⟩ => ⟨S2x1x1024, .f32⟩
  | .hbm, ⟨49, _⟩ => ⟨S2x1024x1024, .f32⟩
  | .hbm, ⟨50, _⟩ => ⟨S_, .f32⟩
  | .hbm, ⟨51, _⟩ => ⟨S2x1024, .f32⟩
  | .hbm, ⟨52, _⟩ => ⟨S2x1x1024, .f32⟩
  | .hbm, ⟨53, _⟩ => ⟨S2x1024x1024, .f32⟩
  | .hbm, ⟨54, _⟩ => ⟨S2x1024x1024, .f32⟩
  | .hbm, ⟨55, _⟩ => ⟨S2x1024x1024, .f32⟩
  | .hbm, ⟨56, _⟩ => ⟨S_, .f32⟩
  | .hbm, ⟨57, _⟩ => ⟨S2x1024, .f32⟩
  | .hbm, ⟨58, _⟩ => ⟨S2x1x1024, .f32⟩
  | .hbm, ⟨59, _⟩ => ⟨S2x1024x1024, .f32⟩
  | .hbm, ⟨60, _⟩ => ⟨S2x1024x1024, .f32⟩
  | .hbm, ⟨61, _⟩ => ⟨S2x1024x1024, .f32⟩
  | .hbm, ⟨62, _⟩ => ⟨S_, .f32⟩
  | .hbm, ⟨63, _⟩ => ⟨S2x1024, .f32⟩
  | .hbm, ⟨64, _⟩ => ⟨S2x1024x1, .f32⟩
  | .hbm, ⟨65, _⟩ => ⟨S2x1024x1024, .f32⟩
  | .hbm, ⟨66, _⟩ => ⟨S2x1024x1024, .f32⟩
  | .hbm, ⟨67, _⟩ => ⟨S2x1024x1024, .f32⟩
  | .hbm, ⟨68, _⟩ => ⟨S2x1024x1, .f32⟩
  | .hbm, ⟨69, _⟩ => ⟨S_, .f32⟩
  | .hbm, ⟨70, _⟩ => ⟨S2x1024x1, .f32⟩
  | .hbm, ⟨71, _⟩ => ⟨S2x1024x1, .f32⟩
  | .hbm, ⟨72, _⟩ => ⟨S_, .f32⟩
  | .hbm, ⟨73, _⟩ => ⟨S2x1024, .f32⟩
  | .hbm, ⟨74, _⟩ => ⟨S2x1024x1024, .f32⟩
  | .hbm, ⟨75, _⟩ => ⟨S2x1024x1024, .f32⟩
  | .hbm, ⟨76, _⟩ => ⟨S2x1024x1024, .f32⟩
  | .hbm, ⟨77, _⟩ => ⟨S2x1024x1024, .f32⟩
  | .hbm, ⟨78, _⟩ => ⟨S2x1024x1024, .f32⟩
  | .hbm, ⟨79, _⟩ => ⟨S_, .f32⟩
  | .hbm, ⟨80, _⟩ => ⟨S2x5x1024, .f32⟩
  | .hbm, ⟨81, _⟩ => ⟨S2x8x1024, .f32⟩
  | .hbm, ⟨82, _⟩ => ⟨S2048x1024, .f32⟩
  | .hbm, ⟨83, _⟩ => ⟨S16x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== FfTwoDx.lean ====
abbrev S2048x1024 : Shape := ⟨2, ![2048, 1024]⟩
abbrev S4096x1024 : Shape := ⟨2, ![4096, 1024]⟩
abbrev S2048x4096 : Shape := ⟨2, ![2048, 4096]⟩
abbrev S1024 : Shape := ⟨1, ![1024]⟩
abbrev S_ : Shape := ⟨0, ![]⟩
abbrev S3x1024 : Shape := ⟨2, ![3, 1024]⟩
abbrev S1x1024 : Shape := ⟨2, ![1, 1024]⟩
abbrev S4x1024 : Shape := ⟨2, ![4, 1024]⟩
abbrev S8x1024 : Shape := ⟨2, ![8, 1024]⟩
abbrev S5x1024 : Shape := ⟨2, ![5, 1024]⟩
abbrev S2x1024 : Shape := ⟨2, ![2, 1024]⟩
abbrev S16x1024 : Shape := ⟨2, ![16, 1024]⟩
abbrev S1024x1024 : Shape := ⟨2, ![1024, 1024]⟩
abbrev S1024x1 : Shape := ⟨2, ![1024, 1]⟩

abbrev nBuf : Space → Nat
  | .hbm => 21
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S4096x1024, .bf16⟩
  | .hbm, ⟨2, _⟩ => ⟨S2048x4096, .bf16⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S3x1024, .f32⟩
  | .hbm, ⟨8, _⟩ => ⟨S1x1024, .f32⟩
  | .hbm, ⟨9, _⟩ => ⟨S_, .f32⟩
  | .hbm, ⟨10, _⟩ => ⟨S4x1024, .f32⟩
  | .hbm, ⟨11, _⟩ => ⟨S8x1024, .f32⟩
  | .hbm, ⟨12, _⟩ => ⟨S_, .f32⟩
  | .hbm, ⟨13, _⟩ => ⟨S5x1024, .f32⟩
  | .hbm, ⟨14, _⟩ => ⟨S1x1024, .f32⟩
  | .hbm, ⟨15, _⟩ => ⟨S_, .f32⟩
  | .hbm, ⟨16, _⟩ => ⟨S2x1024, .f32⟩
  | .hbm, ⟨17, _⟩ => ⟨S8x1024, .f32⟩
  | .hbm, ⟨18, _⟩ => ⟨S2048x4096, .bf16⟩
  | .hbm, ⟨19, _⟩ => ⟨S2048x1024, .bf16⟩
  | .hbm, ⟨20, _⟩ => ⟨S16x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x1024, .f32⟩
  | .local _ .vmem, ⟨15, _⟩ => ⟨S8x1024, .f32⟩
  | .local _ .vmem, ⟨16, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== FfTwoDxRefIdeal.lean ====
abbrev S2048x1024 : Shape := ⟨2, ![2048, 1024]⟩
abbrev S4096x1024 : Shape := ⟨2, ![4096, 1024]⟩
abbrev S2048x4096 : Shape := ⟨2, ![2048, 4096]⟩
abbrev S1024 : Shape := ⟨1, ![1024]⟩
abbrev S2x1024x1024 : Shape := ⟨3, ![2, 1024, 1024]⟩
abbrev S2x1x1024 : Shape := ⟨3, ![2, 1, 1024]⟩
abbrev S_ : Shape := ⟨0, ![]⟩
abbrev S2x1024 : Shape := ⟨2, ![2, 1024]⟩
abbrev S2x1024x1 : Shape := ⟨3, ![2, 1024, 1]⟩
abbrev S2x6x1024 : Shape := ⟨3, ![2, 6, 1024]⟩
abbrev S2x8x1024 : Shape := ⟨3, ![2, 8, 1024]⟩
abbrev S16x1024 : Shape := ⟨2, ![16, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .bf16⟩
  | .hbm, ⟨2, _⟩ => ⟨S2048x4096, .bf16⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2x1024x1024, .f32⟩
  | .hbm, ⟨7, _⟩ => ⟨S2x1x1024, .f32⟩
  | .hbm, ⟨8, _⟩ => ⟨S2x1x1024, .f32⟩
  | .hbm, ⟨9, _⟩ => ⟨S2x1024x1024, .f32⟩
  | .hbm, ⟨10, _⟩ => ⟨S_, .f32⟩
  | .hbm, ⟨11, _⟩ => ⟨S2x1024, .f32⟩
  | .hbm, ⟨12, _⟩ => ⟨S2x1024x1, .f32⟩
  | .hbm, ⟨13, _⟩ => ⟨S_, .f32⟩
  | .hbm, ⟨14, _⟩ => ⟨S2x1024x1, .f32⟩
  | .hbm, ⟨15, _⟩ => ⟨S2x1024x1, .f32⟩
  | .hbm, ⟨16, _⟩ => ⟨S_, .f32⟩
  | .hbm, ⟨17, _⟩ => ⟨S2x1024x1, .f32⟩
  | .hbm, ⟨18, _⟩ => ⟨S2x1024x1, .f32⟩
  | .hbm, ⟨19, _⟩ => ⟨S2x1024x1, .f32⟩
  | .hbm, ⟨20, _⟩ => ⟨S2x1024x1, .f32⟩
  | .hbm, ⟨21, _⟩ => ⟨S_, .f32⟩
  | .hbm, ⟨22, _⟩ => ⟨S2x1024x1, .f32⟩
  | .hbm, ⟨23, _⟩ => ⟨S2x1024x1, .f32⟩
  | .hbm, ⟨24, _⟩ => ⟨S2x1024x1024, .f32⟩
  | .hbm, ⟨25, _⟩ => ⟨S2x1024x1024, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S2x1024x1024, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024, .f32⟩
  | .hbm, ⟨36, _⟩ => ⟨S2x1x1024, .f32⟩
  | .hbm, ⟨37, _⟩ => ⟨S2x1024x1024, .f32⟩
  | .hbm, ⟨38, _⟩ => ⟨S_, .f32⟩
  | .hbm, ⟨39, _⟩ => ⟨S2x1024, .f32⟩
  | .hbm, ⟨40, _⟩ => ⟨S2x1x1024, .f32⟩
  | .hbm, ⟨41, _⟩ => ⟨S2x1024x1024, .f32⟩
  | .hbm, ⟨42, _⟩ => ⟨S2x1024x1024, .f32⟩
  | .hbm, ⟨43, _⟩ => ⟨S2x1024x1024, .f32⟩
  | .hbm, ⟨44, _⟩ => ⟨S_, .f32⟩
  | .hbm, ⟨45, _⟩ => ⟨S2x1024, .f32⟩
  | .hbm, ⟨46, _⟩ => ⟨S2x1024x1, .f32⟩
  | .hbm, ⟨47, _⟩ => ⟨S2x1024x1024, .f32⟩
  | .hbm, ⟨48, _⟩ => ⟨S2x1024x1024, .f32⟩
  | .hbm, ⟨49, _⟩ => ⟨S2x1024x1, .f32⟩
  | .hbm, ⟨50, _⟩ => ⟨S_, .f32⟩
  | .hbm, ⟨51, _⟩ => ⟨S2x1024x1, .f32⟩
  | .hbm, ⟨52, _⟩ => ⟨S2x1024x1, .f32⟩
  | .hbm, ⟨53, _⟩ => ⟨S_, .f32⟩
  | .hbm, ⟨54, _⟩ => ⟨S2x1024, .f32⟩
  | .hbm, ⟨55, _⟩ => ⟨S2x1024x1024, .f32⟩
  | .hbm, ⟨56, _⟩ => ⟨S2x1024x1024, .f32⟩
  | .hbm, ⟨57, _⟩ => ⟨S2x1024x1024, .f32⟩
  | .hbm, ⟨58, _⟩ => ⟨S2x1024x1024, .f32⟩
  | .hbm, ⟨59, _⟩ => ⟨S2x1024x1024, .f32⟩
  | .hbm, ⟨60, _⟩ => ⟨S_, .f32⟩
  | .hbm, ⟨61, _⟩ => ⟨S2x6x1024, .f32⟩
  | .hbm, ⟨62, _⟩ => ⟨S2x8x1024, .f32⟩
  | .hbm, ⟨63, _⟩ => ⟨S2048x1024, .f32⟩
  | .hbm, ⟨64, _⟩ => ⟨S16x1024, .f32⟩
  | .hbm, ⟨65, _⟩ => ⟨S2048x4096, .f32⟩
  | .hbm, ⟨66, _⟩ => ⟨S_, .f32⟩
  | .hbm, ⟨67, _⟩ => ⟨S2048x4096, .f32⟩
  | .hbm, ⟨68, _⟩ => ⟨S2048x4096, .f32⟩
  | .hbm, ⟨69, _⟩ => ⟨S_, .f32⟩
  | .hbm, ⟨70, _⟩ => ⟨S2048x4096, .f32⟩
  | .hbm, ⟨71, _⟩ => ⟨S2048x4096, .i1⟩
  | .hbm, ⟨72, _⟩ => ⟨S_, .f32⟩
  | .hbm, ⟨73, _⟩ => ⟨S2048x4096, .f32⟩
  | .hbm, ⟨74, _⟩ => ⟨S2048x4096, .f32⟩
  | .hbm, ⟨75, _⟩ => ⟨S_, .f32⟩
  | .hbm, ⟨76, _⟩ => ⟨S2048x4096, .f32⟩
  | .hbm, ⟨77, _⟩ => ⟨S2048x4096, .f32⟩
  | .hbm, ⟨78, _⟩ => ⟨S4096x1024, .f32⟩
  | .hbm, ⟨79, _⟩ => ⟨S2048x1024, .f32⟩
  | .hbm, ⟨80, _⟩ => ⟨S2048x4096, .f32⟩
  | .hbm, ⟨81, _⟩ => ⟨S2048x4096, .f32⟩
  | .hbm, ⟨82, _⟩ => ⟨S_, .f32⟩
  | .hbm, ⟨83, _⟩ => ⟨S2048x4096, .f32⟩
  | .hbm, ⟨84, _⟩ => ⟨S2048x4096, .f32⟩
  | .hbm, ⟨85, _⟩ => ⟨S2048x4096, .bf16⟩
  | .hbm, ⟨86, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩
abbrev S2048x5760 : Shape := ⟨2, ![2048, 5760]⟩
abbrev S1024 : Shape := ⟨1, ![1024]⟩
abbrev S_ : Shape := ⟨0, ![]⟩
abbrev S1x1024 : Shape := ⟨2, ![1, 1024]⟩
abbrev S6x1024 : Shape := ⟨2, ![6, 1024]⟩
abbrev S8x1024 : Shape := ⟨2, ![8, 1024]⟩
abbrev S2x1024 : Shape := ⟨2, ![2, 1024]⟩
abbrev S5x1024 : Shape := ⟨2, ![5, 1024]⟩
abbrev S32x1024 : Shape := ⟨2, ![32, 1024]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x5760, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S6x1024, .f32⟩
  | .hbm, ⟨14, _⟩ => ⟨S8x1024, .f32⟩
  | .hbm, ⟨15, _⟩ => ⟨S_, .f32⟩
  | .hbm, ⟨16, _⟩ => ⟨S2x1024, .f32⟩
  | .hbm, ⟨17, _⟩ => ⟨S1x1024, .f32⟩
  | .hbm, ⟨18, _⟩ => ⟨S_, .f32⟩
  | .hbm, ⟨19, _⟩ => ⟨S5x1024, .f32⟩
  | .hbm, ⟨20, _⟩ => ⟨S8x1024, .f32⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x1024, .bf16⟩
  | .hbm, ⟨28, _⟩ => ⟨S32x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S8x1024, .f32⟩
  | .local _ .vmem, ⟨34, _⟩ => ⟨S8x1024, .f32⟩
  | .local _ .vmem, ⟨35, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev main_v8_7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, false]

abbrev stage0_18 : Fin 2 → Memref sig .tc .vmem S8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false, false]
-- ==== OutDxRefIdeal.lean ====
abbrev S2048x1024 : Shape := ⟨2, ![2048, 1024]⟩
abbrev S1024x1024 : Shape := ⟨2, ![1024, 1024]⟩
abbrev S2048x5760 : Shape := ⟨2, ![2048, 5760]⟩
abbrev S1024 : Shape := ⟨1, ![1024]⟩
abbrev S4x512x1024 : Shape := ⟨3, ![4, 512, 1024]⟩
abbrev S4x1x1024 : Shape := ⟨3, ![4, 1, 1024]⟩
abbrev S_ : Shape := ⟨0, ![]⟩
abbrev S4x512 : Shape := ⟨2, ![4, 512]⟩
abbrev S4x512x1 : Shape := ⟨3, ![4, 512, 1]⟩
abbrev S4x1024 : Shape := ⟨2, ![4, 1024]⟩
abbrev S4x6x1024 : Shape := ⟨3, ![4, 6, 1024]⟩
abbrev S4x8x1024 : Shape := ⟨3, ![4, 8, 1024]⟩
abbrev S32x1024 : Shape := ⟨2, ![32, 1024]⟩

abbrev nBuf : Space → Nat
  | .hbm => 134
  | .vmem => 0
  | .smem => 0
  | _ => 0

abbrev hbmTy0_0 (i : Nat) : BufTy := match i % 128 with
  | 0 => ⟨S2048x1024, .f32⟩
  | 1 => ⟨S1024x1024, .bf16⟩
  | 2 => ⟨S2048x5760, .f32⟩
  | 3 => ⟨S2048x1024, .bf16⟩
  | 4 => ⟨S2048x1024, .bf16⟩
  | 5 => ⟨S2048x1024, .bf16⟩
  | 6 => ⟨S2048x1024, .f32⟩
  | 7 => ⟨S1024, .f32⟩
  | 8 => ⟨S1024, .f32⟩
  | 9 => ⟨S4x512x1024, .f32⟩
  | 10 => ⟨S4x1x1024, .f32⟩
  | 11 => ⟨S4x1x1024, .f32⟩
  | 12 => ⟨S4x512x1024, .f32⟩
  | 13 => ⟨S_, .f32⟩
  | 14 => ⟨S4x512, .f32⟩
  | 15 => ⟨S4x512x1, .f32⟩
  | 16 => ⟨S_, .f32⟩
  | 17 => ⟨S4x512x1, .f32⟩
  | 18 => ⟨S4x512x1, .f32⟩
  | 19 => ⟨S_, .f32⟩
  | 20 => ⟨S4x512x1, .f32⟩
  | 21 => ⟨S4x512x1, .f32⟩
  | 22 => ⟨S4x512x1, .f32⟩
  | 23 => ⟨S4x512x1, .f32⟩
  | 24 => ⟨S_, .f32⟩
  | 25 => ⟨S4x512x1, .f32⟩
  | 26 => ⟨S4x512x1, .f32⟩
  | 27 => ⟨S4x512x1024, .f32⟩
  | 28 => ⟨S4x512x1024, .f32⟩
  | 29 => ⟨S4x512x1024, .f32⟩
  | 30 => ⟨S4x512x1024, .f32⟩
  | 31 => ⟨S4x512x1024, .f32⟩
  | 32 => ⟨S4x512x1024, .f32⟩
  | 33 => ⟨S4x512x1024, .f32⟩
  | 34 => ⟨S4x512x1024, .f32⟩
  | 35 => ⟨S4x512x1024, .f32⟩
  | 36 => ⟨S4x512x1024, .f32⟩
  | 37 => ⟨S_, .f32⟩
  | 38 => ⟨S4x1024, .f32⟩
  | 39 => ⟨S4x1x1024, .f32⟩
  | 40 => ⟨S4x512x1024, .f32⟩
  | 41 => ⟨S_, .f32⟩
  | 42 => ⟨S4x1024, .f32⟩
  | 43 => ⟨S4x1x1024, .f32⟩
  | 44 => ⟨S4x512x1024, .f32⟩
  | 45 => ⟨S4x512x1024, .f32⟩
  | 46 => ⟨S4x512x1024, .f32⟩
  | 47 => ⟨S_, .f32⟩
  | 48 => ⟨S4x512, .f32⟩
  | 49 => ⟨S4x512x1, .f32⟩
  | 50 => ⟨S4x512x1024, .f32⟩
  | 51 => ⟨S4x512x1024, .f32⟩
  | 52 => ⟨S4x512x1, .f32⟩
  | 53 => ⟨S_, .f32⟩
  | 54 => ⟨S4x512x1, .f32⟩
  | 55 => ⟨S4x512x1, .f32⟩
  | 56 => ⟨S_, .f32⟩
  | 57 => ⟨S4x512, .f32⟩
  | 58 => ⟨S4x512x1024, .f32⟩
  | 59 => ⟨S4x512x1024, .f32⟩
  | 60 => ⟨S4x512x1024, .f32⟩
  | 61 => ⟨S4x512x1024, .f32⟩
  | 62 => ⟨S4x512x1024, .f32⟩
  | 63 => ⟨S_, .f32⟩
  | 64 => ⟨S4x6x1024, .f32⟩
  | 65 => ⟨S4x8x1024, .f32⟩
  | 66 => ⟨S2048x1024, .f32⟩
  | 67 => ⟨S32x1024, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S_, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S2048x1024, .f32⟩
  | 86 => ⟨S2048x1024, .f32⟩
  | 87 => ⟨S2048x1024, .f32⟩
  | 88 => ⟨S2048x1024, .f32⟩
  | 89 => ⟨S_, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S_, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S_, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S1024x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S2048x1024, .bf16⟩
  | _ => ⟨S2048x1024, .f32⟩

abbrev hbmTy0_1 (i : Nat) : BufTy := match i % 128 with
  | 0 => ⟨S2048x1024, .bf16⟩
  | 1 => ⟨S2048x1024, .bf16⟩
  | 2 => ⟨S2048x1024, .bf16⟩
  | 3 => ⟨S2048x1024, .bf16⟩
  | 4 => ⟨S2048x1024, .bf16⟩
  | 5 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩

abbrev nD : Nat := 1
abbrev τ : Topo := Topo.v7x

variable {F : FTy → Type} [FloatOps F]
-- ==== WideDx.lean ====
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WideDxIdeal.lean ====
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WideDxRefIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S_, .f32⟩
  | .hbm, ⟨3, _⟩ => ⟨S2048x512, .f32⟩
  | .hbm, ⟨4, _⟩ => ⟨S512x1024, .f32⟩
  | .hbm, ⟨5, _⟩ => ⟨S2048x1024, .f32⟩
  | .hbm, ⟨6, _⟩ => ⟨S2048x1024, .f32⟩
  | .hbm, ⟨7, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NarrowDx.lean ====
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S2048x256, .f32⟩
  | .local _ .vmem, ⟨0, _⟩ => ⟨S2048x1024, .bf16⟩
  | .local _ .vmem, ⟨1, _⟩ => ⟨S256x1024, .bf16⟩
  | .local _ .vmem, ⟨2, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== NarrowDxRefIdeal.lean ====
abbrev S2048x1024 : Shape := ⟨2, ![2048, 1024]⟩
abbrev S256x1024 : Shape := ⟨2, ![256, 1024]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S_, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S2048x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WideDw.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x1024, .bf16⟩
  | .hbm, ⟨2, _⟩ => ⟨S512x1024, .bf16⟩
  | .local _ .vmem, ⟨0, _⟩ => ⟨S2048x512, .f32⟩
  | .local _ .vmem, ⟨1, _⟩ => ⟨S2048x1024, .bf16⟩
  | .local _ .vmem, ⟨2, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WideDwIdeal.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x1024, .bf16⟩
  | .hbm, ⟨2, _⟩ => ⟨S512x1024, .bf16⟩
  | .local _ .vmem, ⟨0, _⟩ => ⟨S2048x512, .f32⟩
  | .local _ .vmem, ⟨1, _⟩ => ⟨S2048x1024, .bf16⟩
  | .local _ .vmem, ⟨2, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WideDwRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S2048x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NarrowDw.lean ====
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S256x1024, .bf16⟩
  | .local _ .vmem, ⟨0, _⟩ => ⟨S2048x256, .f32⟩
  | .local _ .vmem, ⟨1, _⟩ => ⟨S2048x1024, .bf16⟩
  | .local _ .vmem, ⟨2, _⟩ => ⟨S256x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== NarrowDwRefIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S2048x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFwd.lean ====
abbrev S2048x1024 : Shape := ⟨2, ![2048, 1024]⟩
abbrev S5760x1024 : Shape := ⟨2, ![5760, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S6x1024 : Shape := ⟨2, ![6, 1024]⟩
abbrev S2048x5760 : Shape := ⟨2, ![2048, 5760]⟩
abbrev S1024x1024 : Shape := ⟨2, ![1024, 1024]⟩
abbrev S1152x1024 : Shape := ⟨2, ![1152, 1024]⟩
abbrev S1024x1152 : Shape := ⟨2, ![1024, 1152]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S5760x1024, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S_, .f32⟩
  | .hbm, ⟨7, _⟩ => ⟨S7x1024, .f32⟩
  | .hbm, ⟨8, _⟩ => ⟨S8x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S6x1024, .f32⟩
  | .hbm, ⟨13, _⟩ => ⟨S8x1024, .f32⟩
  | .hbm, ⟨14, _⟩ => ⟨S2048x5760, .f32⟩
  | .hbm, ⟨15, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1152x1024, .bf16⟩
  | .local _ .vmem, ⟨3, _⟩ => ⟨S1152x1024, .bf16⟩
  | .local _ .vmem, ⟨4, _⟩ => ⟨S8x1024, .f32⟩
  | .local _ .vmem, ⟨5, _⟩ => ⟨S8x1024, .f32⟩
  | .local _ .vmem, ⟨6, _⟩ => ⟨S1024x1152, .f32⟩
  | .local _ .vmem, ⟨7, _⟩ => ⟨S1024x1152, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 5, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== InFwdRefIdeal.lean ====
abbrev S2048x1024 : Shape := ⟨2, ![2048, 1024]⟩
abbrev S5760x1024 : Shape := ⟨2, ![5760, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x5760 : Shape := ⟨2, ![1024, 5760]⟩
abbrev S2048x5760 : Shape := ⟨2, ![2048, 5760]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S5760x1024, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S5760x1024, .f32⟩
  | .hbm, ⟨31, _⟩ => ⟨S1024x5760, .f32⟩
  | .hbm, ⟨32, _⟩ => ⟨S2048x5760, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== FfOneFwd.lean ====
abbrev S2048x1024 : Shape := ⟨2, ![2048, 1024]⟩
abbrev S8x1024x512 : Shape := ⟨3, ![8, 1024, 512]⟩
abbrev S1024 : Shape := ⟨1, ![1024]⟩
abbrev S_ : Shape := ⟨0, ![]⟩
abbrev S2x1024 : Shape := ⟨2, ![2, 1024]⟩
abbrev S1x1024 : Shape := ⟨2, ![1, 1024]⟩
abbrev S5x1024 : Shape := ⟨2, ![5, 1024]⟩
abbrev S8x1024 : Shape := ⟨2, ![8, 1024]⟩
abbrev S3x1024 : Shape := ⟨2, ![3, 1024]⟩
abbrev S2048x4096 : Shape := ⟨2, ![2048, 4096]⟩
abbrev S1x1024x512 : Shape := ⟨3, ![1, 1024, 512]⟩
abbrev S2048x512 : Shape := ⟨2, ![2048, 512]⟩
abbrev S2048 : Shape := ⟨1, ![2048]⟩
abbrev S2048x1 : Shape := ⟨2, ![2048, 1]⟩
abbrev S1024x512 : Shape := ⟨2, ![1024, 512]⟩

abbrev nBuf : Space → Nat
  | .hbm => 21
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S8x1024x512, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2x1024, .f32⟩
  | .hbm, ⟨7, _⟩ => ⟨S1x1024, .f32⟩
  | .hbm, ⟨8, _⟩ => ⟨S_, .f32⟩
  | .hbm, ⟨9, _⟩ => ⟨S5x1024, .f32⟩
  | .hbm, ⟨10, _⟩ => ⟨S8x1024, .f32⟩
  | .hbm, ⟨11, _⟩ => ⟨S_, .f32⟩
  | .hbm, ⟨12, _⟩ => ⟨S3x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S3x1024, .f32⟩
  | .hbm, ⟨17, _⟩ => ⟨S8x1024, .f32⟩
  | .hbm, ⟨18, _⟩ => ⟨S2048x4096, .bf16⟩
  | .hbm, ⟨19, _⟩ => ⟨S2048x4096, .bf16⟩
  | .hbm, ⟨20, _⟩ => ⟨S2048x1024, .bf16⟩
  | .local _ .vmem, ⟨0, _⟩ => ⟨S2048x1024, .f32⟩
  | .local _ .vmem, ⟨1, _⟩ => ⟨S1x1024x512, .bf16⟩
  | .local _ .vmem, ⟨2, _⟩ => ⟨S1x1024x512, .bf16⟩
  | .local _ .vmem, ⟨3, _⟩ => ⟨S8x1024, .f32⟩
  | .local _ .vmem, ⟨4, _⟩ => ⟨S8x1024, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x1024, .bf16⟩
  | .local _ .vmem, ⟨10, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== FfOneFwdRefIdeal.lean ====
abbrev S2048x1024 : Shape := ⟨2, ![2048, 1024]⟩
abbrev S8x1024x512 : Shape := ⟨3, ![8, 1024, 512]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x8x512 : Shape := ⟨3, ![2048, 8, 512]⟩
abbrev S2048x4096 : Shape := ⟨2, ![2048, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024x512, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S8x1024x512, .f32⟩
  | .hbm, ⟨31, _⟩ => ⟨S2048x8x512, .f32⟩
  | .hbm, ⟨32, _⟩ => ⟨S2048x4096, .f32⟩
  | .hbm, ⟨33, _⟩ => ⟨S2048x4096, .bf16⟩
  | .hbm, ⟨34, _⟩ => ⟨S_, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S2048x4096, .bf16⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== FfTwoFwd.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S3x1024 : Shape := ⟨2, ![3, 1024]⟩
abbrev S1x1024 : Shape := ⟨2, ![1, 1024]⟩
abbrev S4x1024 : Shape := ⟨2, ![4, 1024]⟩
abbrev S8x1024 : Shape := ⟨2, ![8, 1024]⟩
abbrev S5x1024 : Shape := ⟨2, ![5, 1024]⟩
abbrev S2x1024 : Shape := ⟨2, ![2, 1024]⟩
abbrev S1024x1024 : Shape := ⟨2, ![1024, 1024]⟩
abbrev S1024x1 : Shape := ⟨2, ![1024, 1]⟩

abbrev nBuf : Space → Nat
  | .hbm => 19
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S3x1024, .f32⟩
  | .hbm, ⟨7, _⟩ => ⟨S1x1024, .f32⟩
  | .hbm, ⟨8, _⟩ => ⟨S_, .f32⟩
  | .hbm, ⟨9, _⟩ => ⟨S4x1024, .f32⟩
  | .hbm, ⟨10, _⟩ => ⟨S8x1024, .f32⟩
  | .hbm, ⟨11, _⟩ => ⟨S_, .f32⟩
  | .hbm, ⟨12, _⟩ => ⟨S5x1024, .f32⟩
  | .hbm, ⟨13, _⟩ => ⟨S1x1024, .f32⟩
  | .hbm, ⟨14, _⟩ => ⟨S_, .f32⟩
  | .hbm, ⟨15, _⟩ => ⟨S2x1024, .f32⟩
  | .hbm, ⟨16, _⟩ => ⟨S8x1024, .f32⟩
  | .hbm, ⟨17, _⟩ => ⟨S2048x1024, .f32⟩
  | .hbm, ⟨18, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfTwoFwdRefIdeal.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x4096, .f32⟩
  | .hbm, ⟨6, _⟩ => ⟨S4096x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OutFwd.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S6x1024 : Shape := ⟨2, ![6, 1024]⟩
abbrev S8x1024 : Shape := ⟨2, ![8, 1024]⟩
abbrev S2x1024 : Shape := ⟨2, ![2, 1024]⟩
abbrev S5x1024 : Shape := ⟨2, ![5, 1024]⟩
abbrev S1024x1 : Shape := ⟨2, ![1024, 1]⟩

abbrev nBuf : Space → Nat
  | .hbm => 19
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S6x1024, .f32⟩
  | .hbm, ⟨10, _⟩ => ⟨S8x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S_, .f32⟩
  | .hbm, ⟨15, _⟩ => ⟨S5x1024, .f32⟩
  | .hbm, ⟨16, _⟩ => ⟨S8x1024, .f32⟩
  | .hbm, ⟨17, _⟩ => ⟨S2048x1024, .f32⟩
  | .hbm, ⟨18, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x1024, .f32⟩
  | .local _ .vmem, ⟨6, _⟩ => ⟨S8x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutFwdRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== WideFwd.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S512x1024, .bf16⟩
  | .hbm, ⟨2, _⟩ => ⟨S2048x1024, .bf16⟩
  | .local _ .vmem, ⟨0, _⟩ => ⟨S2048x512, .f32⟩
  | .local _ .vmem, ⟨1, _⟩ => ⟨S512x1024, .bf16⟩
  | .local _ .vmem, ⟨2, _⟩ => ⟨S2048x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WideFwdIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S512x1024, .bf16⟩
  | .hbm, ⟨2, _⟩ => ⟨S2048x1024, .bf16⟩
  | .local _ .vmem, ⟨0, _⟩ => ⟨S2048x512, .f32⟩
  | .local _ .vmem, ⟨1, _⟩ => ⟨S512x1024, .bf16⟩
  | .local _ .vmem, ⟨2, _⟩ => ⟨S2048x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WideFwdRefIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .bf16⟩
  | .hbm, ⟨2, _⟩ => ⟨S512x1024, .f32⟩
  | .hbm, ⟨3, _⟩ => ⟨S2048x1024, .f32⟩
  | .hbm, ⟨4, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NarrowFwd.lean ====
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .f32⟩
  | .hbm, ⟨1, _⟩ => ⟨S256x1024, .bf16⟩
  | .hbm, ⟨2, _⟩ => ⟨S2048x1024, .bf16⟩
  | .local _ .vmem, ⟨0, _⟩ => ⟨S2048x256, .f32⟩
  | .local _ .vmem, ⟨1, _⟩ => ⟨S256x1024, .bf16⟩
  | .local _ .vmem, ⟨2, _⟩ => ⟨S2048x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== NarrowFwdRefIdeal.lean ====
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .bf16⟩
  | .hbm, ⟨2, _⟩ => ⟨S256x1024, .f32⟩
  | .hbm, ⟨3, _⟩ => ⟨S2048x1024, .f32⟩
  | .hbm, ⟨4, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeFwd.lean ====
abbrev S2048x256 : Shape := ⟨2, ![2048, 256]⟩
abbrev S256x1024 : Shape := ⟨2, ![256, 1024]⟩
abbrev S2048x5760 : Shape := ⟨2, ![2048, 5760]⟩
abbrev S2048x1024 : Shape := ⟨2, ![2048, 1024]⟩
abbrev S512x256 : Shape := ⟨2, ![512, 256]⟩
abbrev S512x1024 : Shape := ⟨2, ![512, 1024]⟩

abbrev nBuf : Space → Nat
  | .hbm => 7
  | .vmem => 17
  | .smem => 0
  | _ => 0

abbrev bufTy : (tb : Table) → Fin (tcTables nBuf tb) → BufTy
  | .hbm, ⟨0, _⟩ => ⟨S2048x256, .f32⟩
  | .hbm, ⟨1, _⟩ => ⟨S256x1024, .bf16⟩
  | .hbm, ⟨2, _⟩ => ⟨S2048x5760, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MergeFwdRefIdeal.lean ====
abbrev S2048x256 : Shape := ⟨2, ![2048, 256]⟩
abbrev S256x1024 : Shape := ⟨2, ![256, 1024]⟩
abbrev S2048x5760 : Shape := ⟨2, ![2048, 5760]⟩
abbrev S2048x1024 : Shape := ⟨2, ![2048, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .bf16⟩
  | .hbm, ⟨2, _⟩ => ⟨S2048x5760, .f32⟩
  | .hbm, ⟨3, _⟩ => ⟨S2048x1024, .bf16⟩
  | .hbm, ⟨4, _⟩ => ⟨S2048x1024, .bf16⟩
  | .hbm, ⟨5, _⟩ => ⟨S256x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== AdamAda.lean ====
abbrev S2x1024x768 : Shape := ⟨3, ![2, 1024, 768]⟩
abbrev S1x256x768 : Shape := ⟨3, ![1, 256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAdaIdeal.lean ====
abbrev S2x1024x768 : Shape := ⟨3, ![2, 1024, 768]⟩
abbrev S1x256x768 : Shape := ⟨3, ![1, 256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAdaRefIdeal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRest.lean ====
abbrev S1x56x1024 : Shape := ⟨3, ![1, 56, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x56x1024, .f32⟩
  | .hbm, ⟨1, _⟩ => ⟨S1x56x1024, .f32⟩
  | .hbm, ⟨2, _⟩ => ⟨S1x56x1024, .f32⟩
  | .hbm, ⟨3, _⟩ => ⟨S1x56x1024, .f32⟩
  | .hbm, ⟨4, _⟩ => ⟨S1x56x1024, .f32⟩
  | .hbm, ⟨5, _⟩ => ⟨S1x56x1024, .f32⟩
  | .hbm, ⟨6, _⟩ => ⟨S1x56x1024, .f32⟩
  | .local _ .vmem, ⟨0, _⟩ => ⟨S1x56x1024, .f32⟩
  | .local _ .vmem, ⟨1, _⟩ => ⟨S1x56x1024, .f32⟩
  | .local _ .vmem, ⟨2, _⟩ => ⟨S1x56x1024, .f32⟩
  | .local _ .vmem, ⟨3, _⟩ => ⟨S1x56x1024, .f32⟩
  | .local _ .vmem, ⟨4, _⟩ => ⟨S1x56x1024, .f32⟩
  | .local _ .vmem, ⟨5, _⟩ => ⟨S1x56x1024, .f32⟩
  | .local _ .vmem, ⟨6, _⟩ => ⟨S1x56x1024, .f32⟩
  | _, _ => ⟨S1x56x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x56x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x56x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x56x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x56x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x56x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamRestRefIdeal.lean ====
abbrev S1x56x1024 : Shape := ⟨3, ![1, 56, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x56x1024, .f32⟩
  | .hbm, ⟨1, _⟩ => ⟨S1x56x1024, .f32⟩
  | .hbm, ⟨2, _⟩ => ⟨S1x56x1024, .f32⟩
  | .hbm, ⟨3, _⟩ => ⟨S1x56x1024, .f32⟩
  | .hbm, ⟨4, _⟩ => ⟨S_, .f32⟩
  | .hbm, ⟨5, _⟩ => ⟨S1x56x1024, .f32⟩
  | .hbm, ⟨6, _⟩ => ⟨S1x56x1024, .f32⟩
  | .hbm, ⟨7, _⟩ => ⟨S_, .f32⟩
  | .hbm, ⟨8, _⟩ => ⟨S1x56x1024, .f32⟩
  | .hbm, ⟨9, _⟩ => ⟨S1x56x1024, .f32⟩
  | .hbm, ⟨10, _⟩ => ⟨S1x56x1024, .f32⟩
  | .hbm, ⟨11, _⟩ => ⟨S_, .f32⟩
  | .hbm, ⟨12, _⟩ => ⟨S1x56x1024, .f32⟩
  | .hbm, ⟨13, _⟩ => ⟨S1x56x1024, .f32⟩
  | .hbm, ⟨14, _⟩ => ⟨S1x56x1024, .f32⟩
  | .hbm, ⟨15, _⟩ => ⟨S_, .f32⟩
  | .hbm, ⟨16, _⟩ => ⟨S1x56x1024, .f32⟩
  | .hbm, ⟨17, _⟩ => ⟨S1x56x1024, .f32⟩
  | .hbm, ⟨18, _⟩ => ⟨S1x56x1024, .f32⟩
  | .hbm, ⟨19, _⟩ => ⟨S_, .f32⟩
  | .hbm, ⟨20, _⟩ => ⟨S1x56x1024, .f32⟩
  | .hbm, ⟨21, _⟩ => ⟨S1x56x1024, .f32⟩
  | .hbm, ⟨22, _⟩ => ⟨S_, .f32⟩
  | .hbm, ⟨23, _⟩ => ⟨S1x56x1024, .f32⟩
  | .hbm, ⟨24, _⟩ => ⟨S1x56x1024, .f32⟩
  | .hbm, ⟨25, _⟩ => ⟨S1x56x1024, .f32⟩
  | .hbm, ⟨26, _⟩ => ⟨S_, .f32⟩
  | .hbm, ⟨27, _⟩ => ⟨S1x56x1024, .f32⟩
  | .hbm, ⟨28, _⟩ => ⟨S1x56x1024, .f32⟩
  | .hbm, ⟨29, _⟩ => ⟨S1x56x1024, .f32⟩
  | .hbm, ⟨30, _⟩ => ⟨S_, .f32⟩
  | .hbm, ⟨31, _⟩ => ⟨S1x56x1024, .f32⟩
  | .hbm, ⟨32, _⟩ => ⟨S1x56x1024, .f32⟩
  | .hbm, ⟨33, _⟩ => ⟨S1x56x1024, .f32⟩
  | .hbm, ⟨34, _⟩ => ⟨S_, .f32⟩
  | .hbm, ⟨35, _⟩ => ⟨S1x56x1024, .f32⟩
  | .hbm, ⟨36, _⟩ => ⟨S1x56x1024, .f32⟩
  | _, _ => ⟨S1x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaFwd.lean ====
abbrev S16x1024 : Shape := ⟨2, ![16, 1024]⟩
abbrev S2x1024x768 : Shape := ⟨3, ![2, 1024, 768]⟩
abbrev S2x768 : Shape := ⟨2, ![2, 768]⟩
abbrev S2x1x768 : Shape := ⟨3, ![2, 1, 768]⟩
abbrev S2x8x768 : Shape := ⟨3, ![2, 8, 768]⟩
abbrev S2x16x768 : Shape := ⟨3, ![2, 16, 768]⟩
abbrev S1x1024x768 : Shape := ⟨3, ![1, 1024, 768]⟩
abbrev S1x8x768 : Shape := ⟨3, ![1, 8, 768]⟩
abbrev S1x16x768 : Shape := ⟨3, ![1, 16, 768]⟩
abbrev S1024x768 : Shape := ⟨2, ![1024, 768]⟩
abbrev S16x768 : Shape := ⟨2, ![16, 768]⟩
abbrev S1x1x768 : Shape := ⟨3, ![1, 1, 768]⟩
abbrev S1x768 : Shape := ⟨2, ![1, 768]⟩

abbrev nBuf : Space → Nat
  | .hbm => 6
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x768, .f32⟩
  | .hbm, ⟨3, _⟩ => ⟨S2x1x768, .f32⟩
  | .hbm, ⟨4, _⟩ => ⟨S2x8x768, .f32⟩
  | .hbm, ⟨5, _⟩ => ⟨S2x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x8x768, .f32⟩
  | .local _ .vmem, ⟨4, _⟩ => ⟨S1x8x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S16x1024 : Shape := ⟨2, ![16, 1024]⟩
abbrev S2x1024x768 : Shape := ⟨3, ![2, 1024, 768]⟩
abbrev S2x768 : Shape := ⟨2, ![2, 768]⟩
abbrev S_ : Shape := ⟨0, ![]⟩
abbrev S16x2x768 : Shape := ⟨3, ![16, 2, 768]⟩
abbrev S2x16x768 : Shape := ⟨3, ![2, 16, 768]⟩
abbrev S2x1x768 : Shape := ⟨3, ![2, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x2x768, .f32⟩
  | .hbm, ⟨13, _⟩ => ⟨S2x16x768, .f32⟩
  | .hbm, ⟨14, _⟩ => ⟨S2x1x768, .f32⟩
  | .hbm, ⟨15, _⟩ => ⟨S2x16x768, .f32⟩
  | .hbm, ⟨16, _⟩ => ⟨S2x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdaDw.lean ====
abbrev S16x1024 : Shape := ⟨2, ![16, 1024]⟩
abbrev S2x16x768 : Shape := ⟨3, ![2, 16, 768]⟩
abbrev S2x1024x768 : Shape := ⟨3, ![2, 1024, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S2x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaDwRefIdeal.lean ====
abbrev S16x1024 : Shape := ⟨2, ![16, 1024]⟩
abbrev S2x16x768 : Shape := ⟨3, ![2, 16, 768]⟩
abbrev S_ : Shape := ⟨0, ![]⟩
abbrev S2x1024x768 : Shape := ⟨3, ![2, 1024, 768]⟩
abbrev S2x768x16 : Shape := ⟨3, ![2, 768, 16]⟩
abbrev S2x768x1024 : Shape := ⟨3, ![2, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S_, .f32⟩
  | .hbm, ⟨3, _⟩ => ⟨S2x1024x768, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S2x768x16, .f32⟩
  | .hbm, ⟨14, _⟩ => ⟨S2x16x768, .f32⟩
  | .hbm, ⟨15, _⟩ => ⟨S2x768x16, .f32⟩
  | .hbm, ⟨16, _⟩ => ⟨S2x768x1024, .f32⟩
  | .hbm, ⟨17, _⟩ => ⟨S2x1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== SumSmall.lean ====
abbrev S8x56x1024 : Shape := ⟨3, ![8, 56, 1024]⟩
abbrev S56x1024 : Shape := ⟨2, ![56, 1024]⟩
abbrev S1x56x1024 : Shape := ⟨3, ![1, 56, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x56x1024, .f32⟩
  | .hbm, ⟨1, _⟩ => ⟨S56x1024, .f32⟩
  | .local _ .vmem, ⟨0, _⟩ => ⟨S8x56x1024, .f32⟩
  | .local _ .vmem, ⟨1, _⟩ => ⟨S56x1024, .f32⟩
  | _, _ => ⟨S8x56x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x56x1024 : Shape := ⟨3, ![8, 56, 1024]⟩
abbrev S_ : Shape := ⟨0, ![]⟩
abbrev S56x1024 : Shape := ⟨2, ![56, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x56x1024, .f32⟩
  | .hbm, ⟨1, _⟩ => ⟨S_, .f32⟩
  | .hbm, ⟨2, _⟩ => ⟨S56x1024, .f32⟩
  | _, _ => ⟨S8x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LossHead.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | .hbm, ⟨26, _⟩ => ⟨S_, .i32⟩
  | .hbm, ⟨27, _⟩ => ⟨S_, .f32⟩
  | .hbm, ⟨28, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== ConvFwd.lean ====
abbrev S2048x5760 : Shape := ⟨2, ![2048, 5760]⟩
abbrev S3x256 : Shape := ⟨2, ![3, 256]⟩
abbrev S_ : Shape := ⟨0, ![]⟩
abbrev S5x256 : Shape := ⟨2, ![5, 256]⟩
abbrev S8x256 : Shape := ⟨2, ![8, 256]⟩
abbrev S2048x256 : Shape := ⟨2, ![2048, 256]⟩
abbrev S1x256 : Shape := ⟨2, ![1, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x5760, .f32⟩
  | .hbm, ⟨1, _⟩ => ⟨S3x256, .f32⟩
  | .hbm, ⟨2, _⟩ => ⟨S_, .f32⟩
  | .hbm, ⟨3, _⟩ => ⟨S5x256, .f32⟩
  | .hbm, ⟨4, _⟩ => ⟨S8x256, .f32⟩
  | .hbm, ⟨5, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S8x256, .f32⟩
  | .local _ .vmem, ⟨4, _⟩ => ⟨S2048x256, .f32⟩
  | _, _ => ⟨S2048x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ConvFwdRefIdeal.lean ====
abbrev S2048x5760 : Shape := ⟨2, ![2048, 5760]⟩
abbrev S3x256 : Shape := ⟨2, ![3, 256]⟩
abbrev S2048x256 : Shape := ⟨2, ![2048, 256]⟩
abbrev S_ : Shape := ⟨0, ![]⟩
abbrev S1x256 : Shape := ⟨2, ![1, 256]⟩
abbrev S2047x256 : Shape := ⟨2, ![2047, 256]⟩
abbrev S2x256 : Shape := ⟨2, ![2, 256]⟩
abbrev S2046x256 : Shape := ⟨2, ![2046, 256]⟩

abbrev nBuf : Space → Nat
  | .hbm => 26
  | .vmem => 0
  | .smem => 0
  | _ => 0

abbrev bufTy : (tb : Table) → Fin (tcTables nBuf tb) → BufTy
  | .hbm, ⟨0, _⟩ => ⟨S2048x5760, .f32⟩
  | .hbm, ⟨1, _⟩ => ⟨S3x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S1x256, .f32⟩
  | .hbm, ⟨8, _⟩ => ⟨S2047x256, .f32⟩
  | .hbm, ⟨9, _⟩ => ⟨S2048x256, .f32⟩
  | .hbm, ⟨10, _⟩ => ⟨S_, .f32⟩
  | .hbm, ⟨11, _⟩ => ⟨S2x256, .f32⟩
  | .hbm, ⟨12, _⟩ => ⟨S2046x256, .f32⟩
  | .hbm, ⟨13, _⟩ => ⟨S2048x256, .f32⟩
  | .hbm, ⟨14, _⟩ => ⟨S1x256, .f32⟩
  | .hbm, ⟨15, _⟩ => ⟨S2048x256, .f32⟩
  | .hbm, ⟨16, _⟩ => ⟨S2048x256, .f32⟩
  | .hbm, ⟨17, _⟩ => ⟨S1x256, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S2048x256, .f32⟩
  | _, _ => ⟨S2048x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Conv.lean ====
abbrev S2048x256 : Shape := ⟨2, ![2048, 256]⟩
abbrev S3x256 : Shape := ⟨2, ![3, 256]⟩
abbrev S_ : Shape := ⟨0, ![]⟩
abbrev S2048x4736 : Shape := ⟨2, ![2048, 4736]⟩
abbrev S2048x5760 : Shape := ⟨2, ![2048, 5760]⟩
abbrev S5x256 : Shape := ⟨2, ![5, 256]⟩
abbrev S8x256 : Shape := ⟨2, ![8, 256]⟩
abbrev S2048x768 : Shape := ⟨2, ![2048, 768]⟩
abbrev S1x256 : Shape := ⟨2, ![1, 256]⟩
abbrev S256 : Shape := ⟨1, ![256]⟩

abbrev nBuf : Space → Nat
  | .hbm => 15
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S3x256, .f32⟩
  | .hbm, ⟨4, _⟩ => ⟨S2048x256, .f32⟩
  | .hbm, ⟨5, _⟩ => ⟨S_, .f32⟩
  | .hbm, ⟨6, _⟩ => ⟨S2048x256, .f32⟩
  | .hbm, ⟨7, _⟩ => ⟨S_, .f32⟩
  | .hbm, ⟨8, _⟩ => ⟨S2048x4736, .f32⟩
  | .hbm, ⟨9, _⟩ => ⟨S2048x5760, .f32⟩
  | .hbm, ⟨10, _⟩ => ⟨S_, .f32⟩
  | .hbm, ⟨11, _⟩ => ⟨S5x256, .f32⟩
  | .hbm, ⟨12, _⟩ => ⟨S8x256, .f32⟩
  | .hbm, ⟨13, _⟩ => ⟨S2048x768, .bf16⟩
  | .hbm, ⟨14, _⟩ => ⟨S8x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S8x256, .f32⟩
  | .local _ .vmem, ⟨4, _⟩ => ⟨S2048x256, .f32⟩
  | .local _ .vmem, ⟨5, _⟩ => ⟨S2048x768, .bf16⟩
  | .local _ .vmem, ⟨6, _⟩ => ⟨S8x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S2048x256 : Shape := ⟨2, ![2048, 256]⟩
abbrev S3x256 : Shape := ⟨2, ![3, 256]⟩
abbrev S_ : Shape := ⟨0, ![]⟩
abbrev S1x256 : Shape := ⟨2, ![1, 256]⟩
abbrev S2047x256 : Shape := ⟨2, ![2047, 256]⟩
abbrev S2x256 : Shape := ⟨2, ![2, 256]⟩
abbrev S2046x256 : Shape := ⟨2, ![2046, 256]⟩
abbrev S256 : Shape := ⟨1, ![256]⟩
abbrev S2048x768 : Shape := ⟨2, ![2048, 768]⟩
abbrev S5x256 : Shape := ⟨2, ![5, 256]⟩
abbrev S8x256 : Shape := ⟨2, ![8, 256]⟩

abbrev nBuf : Space → Nat
  | .hbm => 75
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S3x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S1x256, .f32⟩
  | .hbm, ⟨8, _⟩ => ⟨S2047x256, .f32⟩
  | .hbm, ⟨9, _⟩ => ⟨S2048x256, .f32⟩
  | .hbm, ⟨10, _⟩ => ⟨S_, .f32⟩
  | .hbm, ⟨11, _⟩ => ⟨S1x256, .f32⟩
  | .hbm, ⟨12, _⟩ => ⟨S_, .f32⟩
  | .hbm, ⟨13, _⟩ => ⟨S2x256, .f32⟩
  | .hbm, ⟨14, _⟩ => ⟨S2046x256, .f32⟩
  | .hbm, ⟨15, _⟩ => ⟨S2048x256, .f32⟩
  | .hbm, ⟨16, _⟩ => ⟨S_, .f32⟩
  | .hbm, ⟨17, _⟩ => ⟨S2x256, .f32⟩
  | .hbm, ⟨18, _⟩ => ⟨S1x256, .f32⟩
  | .hbm, ⟨19, _⟩ => ⟨S2048x256, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S1x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S2048x256, .f32⟩
  | .hbm, ⟨37, _⟩ => ⟨S2048x256, .f32⟩
  | .hbm, ⟨38, _⟩ => ⟨S_, .f32⟩
  | .hbm, ⟨39, _⟩ => ⟨S3x256, .f32⟩
  | .hbm, ⟨40, _⟩ => ⟨S2048x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S2048x256, .f32⟩
  | .hbm, ⟨45, _⟩ => ⟨S2048x256, .f32⟩
  | .hbm, ⟨46, _⟩ => ⟨S_, .f32⟩
  | .hbm, ⟨47, _⟩ => ⟨S3x256, .f32⟩
  | .hbm, ⟨48, _⟩ => ⟨S3x256, .f32⟩
  | .hbm, ⟨49, _⟩ => ⟨S2048x256, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S2048x256, .f32⟩
  | .hbm, ⟨54, _⟩ => ⟨S2048x256, .f32⟩
  | .hbm, ⟨55, _⟩ => ⟨S_, .f32⟩
  | .hbm, ⟨56, _⟩ => ⟨S3x256, .f32⟩
  | .hbm, ⟨57, _⟩ => ⟨S3x256, .f32⟩
  | .hbm, ⟨58, _⟩ => ⟨S2x256, .f32⟩
  | .hbm, ⟨59, _⟩ => ⟨S2046x256, .f32⟩
  | .hbm, ⟨60, _⟩ => ⟨S_, .f32⟩
  | .hbm, ⟨61, _⟩ => ⟨S2048x256, .f32⟩
  | .hbm, ⟨62, _⟩ => ⟨S2048x256, .f32⟩
  | .hbm, ⟨63, _⟩ => ⟨S1x256, .f32⟩
  | .hbm, ⟨64, _⟩ => ⟨S2047x256, .f32⟩
  | .hbm, ⟨65, _⟩ => ⟨S_, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S2048x768, .f32⟩
  | .hbm, ⟨71, _⟩ => ⟨S2048x768, .bf16⟩
  | .hbm, ⟨72, _⟩ => ⟨S_, .f32⟩
  | .hbm, ⟨73, _⟩ => ⟨S5x256, .f32⟩
  | .hbm, ⟨74, _⟩ => ⟨S8x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Proof.FfTwoDw.lean ====
module

public import proofs.«01_k».proof.Defs
public import proofs.«01_k».proof.Proof.Gen.FfTwoDwIdeal.Value
public import proofs.«01_k».proof.Proof.Gen.FfTwoDwRefIdeal.Run
public import Idealize.ShloMosaic.Lib.Pipeline.ValueKit
public import Idealize.ShloMosaic.Lib.Pointwise

@[expose] public section

set_option maxRecDepth 16384

noncomputable section

namespace Cert.FfTwoDwPart

open Idealize.ShloMosaic Idealize.ShloMosaic.TcCoe Idealize.SL.Sem
open Cert.FfTwoDwIdeal Cert.FfTwoDwIdeal.Gen

variable (m : (ℓ : Loc nD τ sig) → Buf (Elt Ideal) ℓ)

theorem idx0_0 : ∀ t : Fin cfg0.N, win0_0.index t = ![0, t.val] := (by decide +kernel)
theorem idx0_1 : ∀ t : Fin cfg0.N, win0_1.index t = ![0, 0] := (by decide +kernel)
theorem idx0_2 : ∀ t : Fin cfg0.N, win0_2.index t = ![t.val, 0] := (by decide +kernel)
theorem t_lt : ∀ t : Fin cfg0.N, t.val < 2 := (by decide +kernel)

/-- Entry (k, j) of the block of columns of `r` fetched at a point. -/
theorem left_eq (c : Dev nD) (t : Fin cfg0.N) (k : Fin 2048) (j : Fin 2048) :
    iblk m c 0 t (ix2 k j) = m ((c.tc : Thread nD τ).loc main_arg0) (ix2 k ⟨t.val * 2048 + j.val, by have := t_lt t; omega⟩) := by
  show V m c main_arg0 (((cfg0.win 0).blk t).view.emb _) = _
  rw [V_main_arg0]
  congr 1
  blk_ext [idx0_0]

/-- Entry (k, j) of `dy2`, fetched whole. -/
theorem right_eq (c : Dev nD) (t : Fin cfg0.N) (k : Fin 2048) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.FfTwoDwPart
namespace Cert.FfTwoDwRefIdeal
open Idealize.ShloMosaic Idealize.ShloMosaic.TcCoe Idealize.SL.Sem Cert.FfTwoDwRefIdeal.Gen
/-- The gradient of the second feed-forward product's weights as the reference composes it. -/
def Grad (m' : (ℓ : Loc nD τ sig) → Buf (Elt Ideal) ℓ) (c : Dev nD) : FVec Ideal S4096x1024 .bf16 :=
  truncf .bf16 (transpose S4096x1024 [1, 0] (Host.dotGeneral dot_S2048x1024_S2048x4096_S1024x4096_0_0_1_1_n_n none (extf .f32 (m' ((c.tc : Thread nD τ).loc main_arg1)) bitsLt_bf16_f32) (extf .f32 (m' ((c.tc : Thread nD τ).loc main_arg0)) bitsLt_bf16_f32)) transposes_S1024x4096_S4096x1024_1_0) bitsLt_bf16_f32
end Cert.FfTwoDwRefIdeal
namespace Cert.FfTwoDwPart
open Idealize.ShloMosaic Idealize.ShloMosaic.TcCoe Idealize.SL.Sem
open Cert.FfTwoDwIdeal Cert.FfTwoDwIdeal.Gen
variable (m : (ℓ : Loc nD τ sig) → Buf (Elt Ideal) ℓ)

/-- The array after the run is the reference's. -/
theorem grad_eq (c : Dev nD) (m' : (ℓ : Loc FfTwoDwRefIdeal.nD FfTwoDwRefIdeal.τ FfTwoDwRefIdeal.sig) → Buf (Elt Ideal) ℓ)
    (h0 : m' ((c.tc : Thread FfTwoDwRefIdeal.nD FfTwoDwRefIdeal.τ).loc FfTwoDwRefIdeal.main_arg0) = m ((c.tc : Thread nD τ).loc main_arg0))
    (h1 : m' ((c.tc : Thread FfTwoDwRefIdeal.nD FfTwoDwRefIdeal.τ).loc FfTwoDwRefIdeal.main_arg1) = m ((c.tc : Thread nD τ).loc main_arg1)) :
    (dats m 0 c).arrAt 2 cfg0.N = FfTwoDwRefIdeal.Grad m' c := by
  refine (dats m 0 c).arrAt_eq_of_covers 2 _ (by decide +kernel) fun t hf y => ?_
  blk_simp
  rw [after0_2]
  frame_out
  idx_vars y
  have ht := t_lt t
  rw [show (((View.whole main_v0).slice (win0_2.rect t)).emb (ix2 y0 y1)) = ix2 ⟨t.val * 2048 + y0.val, by omega⟩ y1 by blk_ext [idx0_2]]
  unfold FfTwoDwRefIdeal.Grad
  unfold_payloads
  pointwise
  simp only [left_eq, right_eq, h0, h1]
  exact Finset.sum_congr (M := EReal) rfl fun _ _ => mul_comm (G := EReal) _ _

/-- The reference ends with its arguments unchanged and its counters at zero. -/
theorem frame_ref : quiescent_FfTwoDwRefIdeal := by
  intro m ρ _
  exact (θ_run FfTwoDwRefIdeal.defs _ _).mono (fun r h => ⟨fun c => (h c).2, sem_eq_zero_of_no_sems (by decide) r.2⟩) (FfTwoDwRefIdeal.Value.run m ρ)

/-- The kernel's array and the reference's are the same. -/
theorem value : algebraic_FfTwoDwIdeal_FfTwoDwRefIdeal := by
  intro m g m' g' _ hag
  refine ⟨fun c => FfTwoDwRefIdeal.Grad m' c, ?_, ?_⟩
  · refine (θ_run _ _ _).mono (fun r h c => ?_) (FfTwoDwIdeal.Value.run_blocks m g)
    obtain ⟨h0, ha⟩ := h c
    exact ⟨h0.trans (grad_eq m c m' (hag c).1 (hag c).2), ha⟩
  · exact FfTwoDwRefIdeal.Value.run m' g'

end Cert.FfTwoDwPart
-- ==== Proof.FfOneDw.lean ====
module

public import proofs.«01_k».proof.Defs
public import proofs.«01_k».proof.Proof.Gen.FfOneDwIdeal.Value
public import proofs.«01_k».proof.Proof.Gen.FfOneDwRefIdeal.Run
public import Idealize.ShloMosaic.Lib.Pipeline.ValueKit
public import Idealize.ShloMosaic.Lib.Pointwise

@[expose] public section

set_option maxRecDepth 16384

noncomputable section

namespace Cert.FfOneDwPart

open Idealize.ShloMosaic Idealize.ShloMosaic.TcCoe Idealize.SL.Sem
open Cert.FfOneDwIdeal Cert.FfOneDwIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, t.val] := (by decide +kernel)
theorem idx0_2 : ∀ t : Fin cfg0.N, win0_2.index t = ![t.val, 0, 0] := (by decide +kernel)
theorem t_lt : ∀ t : Fin cfg0.N, t.val < 8 := (by decide +kernel)

/-- Entry (k, j) of `h2`, fetched whole. -/
theorem left_eq (c : Dev nD) (t : Fin cfg0.N) (k : Fin 2048) (j : Fin 1024) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of the block of columns of `da` fetched at a point. -/
theorem right_eq (c : Dev nD) (t : Fin cfg0.N) (k : Fin 2048) (j : Fin 512) :
    iblk m c 1 t (ix2 k j) = m ((c.tc : Thread nD τ).loc main_arg1) (ix2 k ⟨t.val * 512 + j.val, by have := t_lt t; omega⟩) := by
  show V m c main_arg1 (((cfg0.win 1).blk t).view.emb _) = _
  rw [V_main_arg1]
  congr 1
  blk_ext [idx0_1]

end Cert.FfOneDwPart
namespace Cert.FfOneDwRefIdeal
open Idealize.ShloMosaic Idealize.ShloMosaic.TcCoe Idealize.SL.Sem Cert.FfOneDwRefIdeal.Gen
/-- The gradient of the first feed-forward product's weights, cut into eight blocks of columns as the reference composes it. -/
def Grad (m' : (ℓ : Loc nD τ sig) → Buf (Elt Ideal) ℓ) (c : Dev nD) : FVec Ideal S8x1024x512 .bf16 :=
  truncf .bf16 (transpose S8x1024x512 [0, 2, 1] (Host.dotGeneral dot_S2048x8x512_S2048x1024_S8x512x1024_0_0_12_1_n_n none (shapeCast _ (extf .f32 (m' ((c.tc : Thread nD τ).loc main_arg1)) bitsLt_bf16_f32) shapeCasts_S2048x4096_S2048x8x512) (extf .f32 (m' ((c.tc : Thread nD τ).loc main_arg0)) bitsLt_bf16_f32)) transposes_S8x512x1024_S8x1024x512_0_2_1) bitsLt_bf16_f32
end Cert.FfOneDwRefIdeal
namespace Cert.FfOneDwPart
open Idealize.ShloMosaic Idealize.ShloMosaic.TcCoe Idealize.SL.Sem
open Cert.FfOneDwIdeal Cert.FfOneDwIdeal.Gen
variable (m : (ℓ : Loc nD τ sig) → Buf (Elt Ideal) ℓ)

/-- The array after the run is the reference's. -/
theorem grad_eq (c : Dev nD) (m' : (ℓ : Loc FfOneDwRefIdeal.nD FfOneDwRefIdeal.τ FfOneDwRefIdeal.sig) → Buf (Elt Ideal) ℓ)
    (h0 : m' ((c.tc : Thread FfOneDwRefIdeal.nD FfOneDwRefIdeal.τ).loc FfOneDwRefIdeal.main_arg0) = m ((c.tc : Thread nD τ).loc main_arg0))
    (h1 : m' ((c.tc : Thread FfOneDwRefIdeal.nD FfOneDwRefIdeal.τ).loc FfOneDwRefIdeal.main_arg1) = m ((c.tc : Thread nD τ).loc main_arg1)) :
    (dats m 0 c).arrAt 2 cfg0.N = FfOneDwRefIdeal.Grad m' c := by
  refine (dats m 0 c).arrAt_eq_of_covers 2 _ (by decide +kernel) fun t hf y => ?_
  blk_simp
  rw [after0_2]
  frame_out
  idx_vars y
  have ht := t_lt t
  rw [show (((View.whole main_v0).slice (win0_2.rect t)).emb (ix3 y0 y1 y2)) = ix3 ⟨t.val, ht⟩ y1 y2 by blk_ext [idx0_2]]
  unfold FfOneDwRefIdeal.Grad
  unfold_payloads
  pointwise
  simp only [left_eq, right_eq, h0, h1]
  exact Finset.sum_congr (M := EReal) rfl fun _ _ => mul_comm (G := EReal) _ _

/-- The reference ends with its arguments unchanged and its counters at zero. -/
theorem frame_ref : quiescent_FfOneDwRefIdeal := by
  intro m ρ _
  exact (θ_run FfOneDwRefIdeal.defs _ _).mono (fun r h => ⟨fun c => (h c).2, sem_eq_zero_of_no_sems (by decide) r.2⟩) (FfOneDwRefIdeal.Value.run m ρ)

/-- The kernel's array and the reference's are the same. -/
theorem value : algebraic_FfOneDwIdeal_FfOneDwRefIdeal := by
  intro m g m' g' _ hag
  refine ⟨fun c => FfOneDwRefIdeal.Grad m' c, ?_, ?_⟩
  · refine (θ_run _ _ _).mono (fun r h c => ?_) (FfOneDwIdeal.Value.run_blocks m g)
    obtain ⟨h0, ha⟩ := h c
    exact ⟨h0.trans (grad_eq m c m' (hag c).1 (hag c).2), ha⟩
  · exact FfOneDwRefIdeal.Value.run m' g'

end Cert.FfOneDwPart
-- ==== Proof.InDw.lean ====
module

public import proofs.«01_k».proof.Defs
public import proofs.«01_k».proof.Proof.Gen.InDwIdeal.Value
public import proofs.«01_k».proof.Proof.Gen.InDwRefIdeal.Run
public import Idealize.ShloMosaic.Lib.Pipeline.ValueKit
public import Idealize.ShloMosaic.Lib.Pointwise

@[expose] public section

set_option maxRecDepth 16384

noncomputable section

namespace Cert.InDwPart

open Idealize.ShloMosaic Idealize.ShloMosaic.TcCoe Idealize.SL.Sem
open Cert.InDwIdeal Cert.InDwIdeal.Gen

variable (m : (ℓ : Loc nD τ sig) → Buf (Elt Ideal) ℓ)

theorem idx0_0 : ∀ t : Fin cfg0.N, win0_0.index t = ![0, t.val] := (by decide +kernel)
theorem idx0_1 : ∀ t : Fin cfg0.N, win0_1.index t = ![0, 0] := (by decide +kernel)
theorem idx0_2 : ∀ t : Fin cfg0.N, win0_2.index t = ![t.val, 0] := (by decide +kernel)
theorem t_lt : ∀ t : Fin cfg0.N, t.val < 5 := (by decide +kernel)

/-- Entry (k, j) of the block of columns of `dz` fetched at a point. -/
theorem left_eq (c : Dev nD) (t : Fin cfg0.N) (k : Fin 2048) (j : Fin 1152) :
    iblk m c 0 t (ix2 k j) = m ((c.tc : Thread nD τ).loc main_arg0) (ix2 k ⟨t.val * 1152 + j.val, by have := t_lt t; omega⟩) := by
  show V m c main_arg0 (((cfg0.win 0).blk t).view.emb _) = _
  rw [V_main_arg0]
  congr 1
  blk_ext [idx0_0]

/-- Entry (k, j) of `h`, fetched whole. -/
theorem right_eq (c : Dev nD) (t : Fin cfg0.N) (k : Fin 2048) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.InDwPart
namespace Cert.InDwRefIdeal
open Idealize.ShloMosaic Idealize.ShloMosaic.TcCoe Idealize.SL.Sem Cert.InDwRefIdeal.Gen
/-- The gradient of the input projection's weights as the reference composes it. -/
def Grad (m' : (ℓ : Loc nD τ sig) → Buf (Elt Ideal) ℓ) (c : Dev nD) : FVec Ideal S5760x1024 .bf16 :=
  truncf .bf16 (transpose S5760x1024 [1, 0] (transpose S1024x5760 [1, 0] (Host.dotGeneral dot_S2048x5760_S2048x1024_S5760x1024_0_0_1_1_n_n none (extf .f32 (m' ((c.tc : Thread nD τ).loc main_arg0)) bitsLt_bf16_f32) (extf .f32 (m' ((c.tc : Thread nD τ).loc main_arg1)) bitsLt_bf16_f32)) transposes_S5760x1024_S1024x5760_1_0) transposes_S1024x5760_S5760x1024_1_0) bitsLt_bf16_f32
end Cert.InDwRefIdeal
namespace Cert.InDwPart
open Idealize.ShloMosaic Idealize.ShloMosaic.TcCoe Idealize.SL.Sem
open Cert.InDwIdeal Cert.InDwIdeal.Gen
variable (m : (ℓ : Loc nD τ sig) → Buf (Elt Ideal) ℓ)

/-- The array after the run is the reference's. -/
theorem grad_eq (c : Dev nD) (m' : (ℓ : Loc InDwRefIdeal.nD InDwRefIdeal.τ InDwRefIdeal.sig) → Buf (Elt Ideal) ℓ)
    (h0 : m' ((c.tc : Thread InDwRefIdeal.nD InDwRefIdeal.τ).loc InDwRefIdeal.main_arg0) = m ((c.tc : Thread nD τ).loc main_arg0))
    (h1 : m' ((c.tc : Thread InDwRefIdeal.nD InDwRefIdeal.τ).loc InDwRefIdeal.main_arg1) = m ((c.tc : Thread nD τ).loc main_arg1)) :
    (dats m 0 c).arrAt 2 cfg0.N = InDwRefIdeal.Grad m' c := by
  refine (dats m 0 c).arrAt_eq_of_covers 2 _ (by decide +kernel) fun t hf y => ?_
  blk_simp
  rw [after0_2]
  frame_out
  idx_vars y
  have ht := t_lt t
  rw [show (((View.whole main_v0).slice (win0_2.rect t)).emb (ix2 y0 y1)) = ix2 ⟨t.val * 1152 + y0.val, by omega⟩ y1 by blk_ext [idx0_2]]
  unfold InDwRefIdeal.Grad
  unfold_payloads
  pointwise
  simp only [left_eq, right_eq, h0, h1]

/-- The reference ends with its arguments unchanged and its counters at zero. -/
theorem frame_ref : quiescent_InDwRefIdeal := by
  intro m ρ _
  exact (θ_run InDwRefIdeal.defs _ _).mono (fun r h => ⟨fun c => (h c).2, sem_eq_zero_of_no_sems (by decide) r.2⟩) (InDwRefIdeal.Value.run m ρ)

/-- The kernel's array and the reference's are the same. -/
theorem value : algebraic_InDwIdeal_InDwRefIdeal := by
  intro m g m' g' _ hag
  refine ⟨fun c => InDwRefIdeal.Grad m' c, ?_, ?_⟩
  · refine (θ_run _ _ _).mono (fun r h c => ?_) (InDwIdeal.Value.run_blocks m g)
    obtain ⟨h0, ha⟩ := h c
    exact ⟨h0.trans (grad_eq m c m' (hag c).1 (hag c).2), ha⟩
  · exact InDwRefIdeal.Value.run m' g'

end Cert.InDwPart
-- ==== Proof.OutDw.lean ====
module

public import proofs.«01_k».proof.Defs
public import proofs.«01_k».proof.Proof.Gen.OutDwIdeal.Value
public import proofs.«01_k».proof.Proof.Gen.OutDwRefIdeal.Run
public import Idealize.ShloMosaic.Lib.Pipeline.ValueKit
public import Idealize.ShloMosaic.Lib.Pointwise

@[expose] public section

set_option maxRecDepth 16384

noncomputable section

namespace Cert.OutDwPart

open Idealize.ShloMosaic Idealize.ShloMosaic.TcCoe Idealize.SL.Sem
open Cert.OutDwIdeal Cert.OutDwIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, 0] := (by decide +kernel)
theorem idx0_2 : ∀ t : Fin cfg0.N, win0_2.index t = ![0, 0] := (by decide +kernel)

/-- Entry (k, j) of the merged branches, fetched whole. -/
theorem left_eq (c : Dev nD) (t : Fin cfg0.N) (k : Fin 2048) (j : Fin 1024) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of `dy`, fetched whole. -/
theorem right_eq (c : Dev nD) (t : Fin cfg0.N) (k : Fin 2048) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.OutDwPart
namespace Cert.OutDwRefIdeal
open Idealize.ShloMosaic Idealize.ShloMosaic.TcCoe Idealize.SL.Sem Cert.OutDwRefIdeal.Gen
/-- The gradient of the output projection's weights as the reference composes it. -/
def Grad (m' : (ℓ : Loc nD τ sig) → Buf (Elt Ideal) ℓ) (c : Dev nD) : FVec Ideal S1024x1024 .bf16 :=
  truncf .bf16 (transpose S1024x1024 [1, 0] (Host.dotGeneral dot_S2048x1024_S2048x1024_S1024x1024_0_0_1_1_n_n none (extf .f32 (m' ((c.tc : Thread nD τ).loc main_arg1)) bitsLt_bf16_f32) (extf .f32 (m' ((c.tc : Thread nD τ).loc main_arg0)) bitsLt_bf16_f32)) transposes_S1024x1024_S1024x1024_1_0) bitsLt_bf16_f32
end Cert.OutDwRefIdeal
namespace Cert.OutDwPart
open Idealize.ShloMosaic Idealize.ShloMosaic.TcCoe Idealize.SL.Sem
open Cert.OutDwIdeal Cert.OutDwIdeal.Gen
variable (m : (ℓ : Loc nD τ sig) → Buf (Elt Ideal) ℓ)

/-- The array after the run is the reference's. -/
theorem grad_eq (c : Dev nD) (m' : (ℓ : Loc OutDwRefIdeal.nD OutDwRefIdeal.τ OutDwRefIdeal.sig) → Buf (Elt Ideal) ℓ)
    (h0 : m' ((c.tc : Thread OutDwRefIdeal.nD OutDwRefIdeal.τ).loc OutDwRefIdeal.main_arg0) = m ((c.tc : Thread nD τ).loc main_arg0))
    (h1 : m' ((c.tc : Thread OutDwRefIdeal.nD OutDwRefIdeal.τ).loc OutDwRefIdeal.main_arg1) = m ((c.tc : Thread nD τ).loc main_arg1)) :
    (dats m 0 c).arrAt 2 cfg0.N = OutDwRefIdeal.Grad m' c := by
  refine (dats m 0 c).arrAt_eq_of_covers 2 _ (by decide +kernel) fun t hf y => ?_
  blk_simp
  rw [after0_2]
  frame_out
  idx_vars y
  rw [show (((View.whole main_v0).slice (win0_2.rect t)).emb (ix2 y0 y1)) = ix2 y0 y1 by blk_ext [idx0_2]]
  unfold OutDwRefIdeal.Grad
  unfold_payloads
  pointwise
  simp only [left_eq, right_eq, h0, h1]
  exact Finset.sum_congr (M := EReal) rfl fun _ _ => mul_comm (G := EReal) _ _

/-- The reference ends with its arguments unchanged and its counters at zero. -/
theorem frame_ref : quiescent_OutDwRefIdeal := by
  intro m ρ _
  exact (θ_run OutDwRefIdeal.defs _ _).mono (fun r h => ⟨fun c => (h c).2, sem_eq_zero_of_no_sems (by decide) r.2⟩) (OutDwRefIdeal.Value.run m ρ)

/-- The kernel's array and the reference's are the same. -/
theorem value : algebraic_OutDwIdeal_OutDwRefIdeal := by
  intro m g m' g' _ hag
  refine ⟨fun c => OutDwRefIdeal.Grad m' c, ?_, ?_⟩
  · refine (θ_run _ _ _).mono (fun r h c => ?_) (OutDwIdeal.Value.run_blocks m g)
    obtain ⟨h0, ha⟩ := h c
    exact ⟨h0.trans (grad_eq m c m' (hag c).1 (hag c).2), ha⟩
  · exact OutDwRefIdeal.Value.run m' g'

end Cert.OutDwPart
-- ==== Proof.NormGrad.lean ====
module

public import Idealize.ShloMosaic.Lib.IdealHost

@[expose] public section

noncomputable section

namespace Cert.NormGrad

open Idealize.ShloMosaic

theorem c1024 : Ideal.ofBits .f32 0x44800000#32 = ((1024 : ℝ) : EReal) := by
  simp [Ideal.ofBits, Ideal.ieee, -EReal.coe_mul]; norm_num

theorem chalf : Ideal.ofBits .f32 0xBF000000#32 = ((-(1/2) : ℝ) : EReal) := by
  simp [Ideal.ofBits, Ideal.ieee, -EReal.coe_mul, -EReal.coe_neg]; norm_num

theorem ceps : ∃ e : ℝ, 0 < e ∧ Ideal.ofBits .f32 0x358637BD#32 = (e : EReal) := by
  refine ⟨_, ?_, by simp [Ideal.ofBits, Ideal.ieee, -EReal.coe_mul]; rfl⟩
  positivity

/-- A square is not negative. -/
theorem sq_nonneg (x : EReal) : 0 ≤ x * x := by
  induction x using EReal.rec with
  | bot => simp
  | top => simp
  | coe r => exact_mod_cast mul_self_nonneg r

/-- A sum times a real that is not negative. -/
theorem sum_mul_coe {n : ℕ} (f : Fin n → EReal) (ρ : ℝ) (h : 0 ≤ ρ) : ∑ i, f i * (ρ : EReal) = (∑ i, f i) * (ρ : EReal) := by
  induction n with
  | zero => simp
  | succ n ih =>
    rw [Fin.sum_univ_succ, Fin.sum_univ_succ, ih,
      EReal.right_distrib_of_nonneg_of_ne_top (EReal.coe_nonneg.mpr h) (EReal.coe_ne_top _)]

/-- The mean square plus the small constant: `⊤` or a positive real. -/
theorem ms_cases {n : ℕ} (x : Fin n → EReal) (S : EReal) (hS : S = ∑ i, x i * x i) :
    let v := Ideal.div S (Ideal.ofBits .f32 0x44800000#32) + Ideal.ofBits .f32 0x358637BD#32
    v = ⊤ ∨ ∃ r : ℝ, 0 < r ∧ v = (r : EReal) := by
  intro v
  obtain ⟨e, he, hE⟩ := ceps
  have hv : v = S * ((1 / 1024 : ℝ) : EReal) + (e : EReal) := by
    show Ideal.div S _ + _ = _
    rw [c1024, Ideal.div_coe (by norm_num), hE]
  have h0 : 0 ≤ S := by rw [hS]; exact Finset.sum_nonneg fun i _ => sq_nonneg (x i)
  rw [hv]
  clear_value v
  clear hv hS
  induction S using EReal.rec with
  | bot => simp at h0
  | top => left; rw [EReal.top_mul_coe_of_pos (by norm_num)]; rfl
  | coe s =>
    right
    refine ⟨s * (1 / 1024) + e, ?_, by norm_cast⟩
    have : 0 ≤ s := by exact_mod_cast h0
    positivity

/-- A root-mean-square norm's gradient as the kernel factors it and as the chain rule leaves it. -/
theorem norm_grad {n : ℕ} (x d : Fin n → EReal) (v res xj dj : EReal) (hv : v = ⊤ ∨ ∃ r : ℝ, 0 < r ∧ v = (r : EReal)) :
    res + Ideal.rsqrt v * (dj - xj * Ideal.rsqrt v * Ideal.div (∑ i, d i * (x i * Ideal.rsqrt v)) (Ideal.ofBits .f32 0x44800000#32))
    = res + dj * Ideal.rsqrt v + xj * (Ideal.div ((∑ i, x i * d i) * (Ideal.ofBits .f32 0xBF000000#32 * Ideal.div (Ideal.rsqrt v) v)) (Ideal.ofBits .f32 0x44800000#32))
      + Ideal.div ((∑ i, x i * d i) * (Ideal.ofBits .f32 0xBF000000#32 * Ideal.div (Ideal.rsqrt v) v)) (Ideal.ofBits .f32 0x44800000#32) * xj := by
  rw [c1024, chalf, Ideal.div_coe (by norm_num), Ideal.div_coe (by norm_num)]
  rcases hv with rfl | ⟨r, hr, rfl⟩
  · simp [Ideal.div]
  · have hρ : Ideal.rsqrt (r : EReal) = (((Real.sqrt r)⁻¹ : ℝ) : EReal) := by
      rw [Ideal.rsqrt_coe, if_neg hr.not_gt, if_neg hr.ne']
    have hp : 0 < (Real.sqrt r)⁻¹ := by positivity
    rw [hρ, Ideal.div_coe hr.ne']
    have hsq : (1 / r : ℝ) = (Real.sqrt r)⁻¹ * (Real.sqrt r)⁻¹ := by
      rw [← mul_inv, Real.mul_self_sqrt hr.le, one_div]
    rw [hsq]
    generalize (Real.sqrt r)⁻¹ = ρ at *
    have hS : ∑ i, d i * (x i * (ρ : EReal)) = (∑ i, x i * d i) * (ρ : EReal) := by
      rw [← sum_mul_coe _ ρ hp.le]
      exact Finset.sum_congr (M := EReal) rfl fun i _ => by ac_rfl
    rw [hS]
    generalize ∑ i, x i * d i = S
    have two : ∀ y : EReal, y + y = y * ((2 : ℝ) : EReal) := by
      intro y
      rw [show ((2 : ℝ) : EReal) = 1 + 1 by norm_cast, EReal.left_distrib_of_nonneg zero_le_one zero_le_one, mul_one]
    rw [sub_eq_add_neg, EReal.left_distrib_of_nonneg_of_ne_top (EReal.coe_nonneg.mpr hp.le) (EReal.coe_ne_top _),
      add_assoc, add_assoc]
    congr 1
    rw [mul_comm (ρ : EReal) dj]
    rw [mul_comm (S * _ * _) xj, two]
    congr 1
    rw [mul_neg, ← neg_mul, ← EReal.coe_neg]
    have hk : ((-ρ : ℝ) : EReal) * (ρ * (ρ * ((1 / 1024 : ℝ) : EReal))) = (((-(1 / 2) : ℝ) : EReal) * (ρ * ((ρ * ρ : ℝ) : EReal))) * ((1 / 1024 : ℝ) : EReal) * ((2 : ℝ) : EReal) := by
      norm_cast
      ring
    calc _ = (xj * S) * (((-ρ : ℝ) : EReal) * (ρ * (ρ * ((1 / 1024 : ℝ) : EReal)))) := by ac_rfl
      _ = _ := by rw [hk]; ac_rfl

/-- A row's scale: one over its root mean square. -/
def inv (x : Fin 1024 → EReal) : EReal :=
  Ideal.rsqrt (Ideal.div (∑ i, x i * x i) (Ideal.ofBits .f32 0x44800000#32) + Ideal.ofBits .f32 0x358637BD#32)

/-- One column of the sums over a block of rows: at the shift, at the scale, at the weights, then zeros. -/
def sums (x d : Fin 1024 → Fin 1024 → EReal) (g s : EReal) (j : Fin 1024) (r : ℕ) : EReal :=
  if r = 2 then ∑ i, d i j * (1 + s) * (x i j * inv (x i))
  else if r = 1 then ∑ i, d i j * (x i j * inv (x i) * g)
  else if r = 0 then ∑ i, d i j else 0

/-- One entry of the gradient at the rows of a norm, `x` a row, `d` the gradient at the row normalised. -/
def grad (x d : Fin 1024 → EReal) (res : EReal) (j : Fin 1024) : EReal :=
  res + inv x * (d j - x j * inv x * Ideal.div (∑ i, d i * (x i * inv x)) (Ideal.ofBits .f32 0x44800000#32))

/-- One entry of a row `x` plus the row `y` normalised, weighted and gated. -/
def post (y : Fin 1024 → EReal) (x g gate : EReal) (j : Fin 1024) : EReal :=
  x + gate * (y j * inv y * g)

/-- One entry of the gradient at the rows normalised after a product, `y` a row, `d` the gradient at the row normalised. -/
def gated (y d : Fin 1024 → EReal) (j : Fin 1024) : EReal :=
  inv y * (d j - y j * inv y * Ideal.div (∑ i, d i * (y i * inv y)) (Ideal.ofBits .f32 0x44800000#32))

/-- One column of the sums over a block of rows: at the gate, at the weights, then zeros. -/
def gatedSums {n : ℕ} (y d : Fin n → Fin 1024 → EReal) (g gate : EReal) (j : Fin 1024) (r : ℕ) : EReal :=
  if r = 1 then ∑ i, d i j * gate * (y i j * inv (y i))
  else if r = 0 then ∑ i, d i j * (y i j * inv (y i) * g) else 0

/-- One entry of a row `x` normalised, weighted, scaled and shifted. -/
def modulated (x : Fin 1024 → EReal) (g shift scale : EReal) (j : Fin 1024) : EReal :=
  x j * inv x * g * (1 + scale) + shift

end Cert.NormGrad
-- ==== Proof.NormRef.lean ====
module

public import proofs.«01_k».proof.Defs
public import proofs.«01_k».proof.Proof.Gen.InDxRefIdeal.Run
public import proofs.«01_k».proof.Proof.NormGrad
public import Idealize.ShloMosaic.Lib.Pipeline.ValueKit
public import Idealize.ShloMosaic.Lib.Pointwise

@[expose] public section

set_option maxRecDepth 16384

noncomputable section

namespace Cert.NormRef

open Idealize.ShloMosaic Idealize.ShloMosaic.TcCoe Idealize.SL.Sem
open Cert.InDxRefIdeal Cert.InDxRefIdeal.Gen

/-- Each row's mean square plus the small constant. -/
def meanSq (x : FVec Ideal S2x1024x1024 .f32) : FVec Ideal S2x1024x1 .f32 :=
  addf (Host.divf (broadcastInDim S2x1024x1 ![0, 1] bcast_S2x1024_S2x1024x1_0_1 (Host.reduceAdd (mulf x x) (constant (F := Ideal) S_ .f32 0x00000000#32) reducesTo_S2x1024x1024_S2x1024_d2 h_S_)) (broadcastInDim S2x1024x1 ![] bcast_S_S2x1024x1 (constant (F := Ideal) S_ .f32 0x44800000#32))) (broadcastInDim S2x1024x1 ![] bcast_S_S2x1024x1 (constant (F := Ideal) S_ .f32 0x358637BD#32))

/-- The gradient at the norm's normalised rows. -/
def scaled (dh : FVec Ideal S2x1024x1024 .f32) (g s : FVec Ideal S1024 .f32) : FVec Ideal S2x1024x1024 .f32 :=
  mulf (mulf dh (broadcastInDim S2x1024x1024 ![0, 1, 2] bcast_S2x1x1024_S2x1024x1024_0_1_2 (addf (broadcastInDim S2x1x1024 ![] bcast_S_S2x1x1024 (constant (F := Ideal) S_ .f32 0x3F800000#32)) (broadcastInDim S2x1x1024 ![2] bcast_S1024_S2x1x1024_2 s)))) (broadcastInDim S2x1024x1024 ![0, 1, 2] bcast_S2x1x1024_S2x1024x1024_0_1_2 (broadcastInDim S2x1x1024 ![2] bcast_S1024_S2x1x1024_2 g))

/-- Half the gradient that flows through the mean square, for each row. -/
def half (dh x : FVec Ideal S2x1024x1024 .f32) (g s : FVec Ideal S1024 .f32) : FVec Ideal S2x1024 .f32 :=
  Host.reduceAdd (Host.divf (mulf (shapeCast _ (Host.reduceAdd (mulf x (scaled dh g s)) (constant (F := Ideal) S_ .f32 0x00000000#32) reducesTo_S2x1024x1024_S2x1024_d2 h_S_) shapeCasts_S2x1024_S2x1024x1) (mulf (broadcastInDim S2x1024x1 ![] bcast_S_S2x1024x1 (constant (F := Ideal) S_ .f32 0xBF000000#32)) (Host.divf (Host.rsqrt (meanSq x)) (meanSq x)))) (broadcastInDim S2x1024x1 ![] bcast_S_S2x1024x1 (constant (F := Ideal) S_ .f32 0x44800000#32))) (constant (F := Ideal) S_ .f32 0x00000000#32) reducesTo_S2x1024x1_S2x1024_d2 h_S_

/-- The gradient at the rows, as the reference composes it. -/
def Dx (res dh x : FVec Ideal S2x1024x1024 .f32) (g s : FVec Ideal S1024 .f32) : FVec Ideal S2048x1024 .f32 :=
  shapeCast S2048x1024 (addf (addf (addf res (mulf (scaled dh g s) (broadcastInDim S2x1024x1024 ![0, 1, 2] bcast_S2x1024x1_S2x1024x1024_0_1_2 (Host.rsqrt (meanSq x))))) (mulf x (broadcastInDim S2x1024x1024 ![0, 1] bcast_S2x1024_S2x1024x1024_0_1 (half dh x g s)))) (mulf (broadcastInDim S2x1024x1024 ![0, 1] bcast_S2x1024_S2x1024x1024_0_1 (half dh x g s)) x)) shapeCasts_S2x1024x1024_S2048x1024

/-- The gradients at the shift, the scale and the weights, as the reference lays them out. -/
def Rows (dh x : FVec Ideal S2x1024x1024 .f32) (g s : FVec Ideal S1024 .f32) : FVec Ideal S16x1024 .f32 :=
  shapeCast S16x1024 ((concatenate S2x8x1024 1 [⟨S2x1x1024, ((shapeCast _ (Host.reduceAdd dh (constant (F := Ideal) S_ .f32 0x00000000#32) reducesTo_S2x1024x1024_S2x1024_d1 h_S_) shapeCasts_S2x1024_S2x1x1024) : (⟨S2x1x1024, .f32⟩ : BufTy).Contents (Elt Ideal))⟩, ⟨S2x1x1024, ((shapeCast _ (Host.reduceAdd (mulf (mulf (mulf x (broadcastInDim S2x1024x1024 ![0, 1, 2] bcast_S2x1024x1_S2x1024x1024_0_1_2 (Host.rsqrt (meanSq x)))) (broadcastInDim S2x1024x1024 ![0, 1, 2] bcast_S2x1x1024_S2x1024x1024_0_1_2 (broadcastInDim S2x1x1024 ![2] bcast_S1024_S2x1x1024_2 g))) dh) (constant (F := Ideal) S_ .f32 0x00000000#32) reducesTo_S2x1024x1024_S2x1024_d1 h_S_) shapeCasts_S2x1024_S2x1x1024) : (⟨S2x1x1024, .f32⟩ : BufTy).Contents (Elt Ideal))⟩, ⟨S2x1x1024, ((shapeCast _ (Host.reduceAdd (mulf (mulf x (broadcastInDim S2x1024x1024 ![0, 1, 2] bcast_S2x1024x1_S2x1024x1024_0_1_2 (Host.rsqrt (meanSq x)))) (mulf dh (broadcastInDim S2x1024x1024 ![0, 1, 2] bcast_S2x1x1024_S2x1024x1024_0_1_2 (addf (broadcastInDim S2x1x1024 ![] bcast_S_S2x1x1024 (constant (F := Ideal) S_ .f32 0x3F800000#32)) (broadcastInDim S2x1x1024 ![2] bcast_S1024_S2x1x1024_2 s))))) (constant (F := Ideal) S_ .f32 0x00000000#32) reducesTo_S2x1024x1024_S2x1024_d1 h_S_) shapeCasts_S2x1024_S2x1x1024) : (⟨S2x1x1024, .f32⟩ : BufTy).Contents (Elt Ideal))⟩, ⟨S2x5x1024, ((broadcastInDim S2x5x1024 ![] bcast_S_S2x5x1024 (constant (F := Ideal) S_ .f32 0x00000000#32)) : (⟨S2x5x1024, .f32⟩ : BufTy).Contents (Elt Ideal))⟩] concatenates_S2x1x1024_S2x1x1024_S2x1x1024_S2x5x1024_S2x8x1024_d1 : (⟨S2x8x1024, .f32⟩ : BufTy).Contents (Elt Ideal))) shapeCasts_S2x8x1024_S16x1024

/-- An array of rows, by halves. -/
def halves (x : FVec Ideal S2048x1024 .f32) : FVec Ideal S2x1024x1024 .f32 :=
  shapeCast S2x1024x1024 x shapeCasts_S2048x1024_S2x1024x1024

theorem halves_apply (x : FVec Ideal S2048x1024 .f32) (p : Fin 2) (r j : Fin 1024) :
    halves x (ix3 p r j) = x (ix2 ⟨p.val * 1024 + r.val, by omega⟩ j) := by
  unfold halves
  pointwise

theorem meanSq_apply (x : FVec Ideal S2x1024x1024 .f32) (p : Fin 2) (r : Fin 1024) :
    meanSq x (ix3 p r (0 : Fin 1)) = Ideal.div (∑ i : Fin 1024, x (ix3 p r i) * x (ix3 p r i)) (Ideal.ofBits .f32 0x44800000#32) + Ideal.ofBits .f32 0x358637BD#32 := by
  unfold meanSq
  pointwise

theorem scaled_apply (dh : FVec Ideal S2x1024x1024 .f32) (g s : FVec Ideal S1024 .f32) (p : Fin 2) (r j : Fin 1024) :
    scaled dh g s (ix3 p r j) = dh (ix3 p r j) * (1 + s (ix1 j)) * g (ix1 j) := by
  unfold scaled
  pointwise

theorem half_apply (dh x : FVec Ideal S2x1024x1024 .f32) (g s : FVec Ideal S1024 .f32) (p : Fin 2) (r : Fin 1024) :
    half dh x g s (ix2 p r) = Ideal.div ((∑ i : Fin 1024, x (ix3 p r i) * scaled dh g s (ix3 p r i)) * (Ideal.ofBits .f32 0xBF000000#32 *
      Ideal.div (Ideal.rsqrt (meanSq x (ix3 p r (0 : Fin 1)))) (meanSq x (ix3 p r (0 : Fin 1))))) (Ideal.ofBits .f32 0x44800000#32) := by
  unfold half
  pointwise
  exact Fin.sum_univ_one (M := EReal) _

/-- One entry of the gradient, as the kernel factors it. -/
theorem Dx_apply (res dh x : FVec Ideal S2x1024x1024 .f32) (g s : FVec Ideal S1024 .f32) (p : Fin 2) (r j : Fin 1024) :
    Dx res dh x g s (ix2 ⟨p.val * 1024 + r.val, by omega⟩ j) = NormGrad.grad (fun i => x (ix3 p r i))
      (fun i => dh (ix3 p r i) * (1 + s (ix1 i)) * g (ix1 i)) (res (ix3 p r j)) j := by
  unfold Dx
  pointwise
  rw [half_apply, scaled_apply, meanSq_apply]
  simp only [scaled_apply]
  exact (NormGrad.norm_grad _ _ _ _ _ _ (NormGrad.ms_cases _ _ rfl)).symm

/-- One entry of the sums over half the rows. -/
theorem Rows_apply (dh x : FVec Ideal S2x1024x1024 .f32) (g s : FVec Ideal S1024 .f32) (p : Fin 2) (r : Fin 8) (j : Fin 1024) :
    Rows dh x g s (ix2 ⟨p.val * 8 + r.val, by omega⟩ j) = NormGrad.sums (fun i k => x (ix3 p i k)) (fun i k => dh (ix3 p i k)) (g (ix1 j)) (s (ix1 j)) j r.val := by
  unfold Rows
  pointwise
  unfold NormGrad.sums
  by_cases h0 : r.val = 0
  · rw [dif_pos (by omega), if_neg (by omega), if_neg (by omega), if_pos h0]
  rw [dif_neg (by omega)]
  by_cases h1 : r.val = 1
  · rw [dif_pos (by omega), if_neg (by omega), if_pos h1]
    simp only [meanSq_apply]
    exact Finset.sum_congr (M := EReal) rfl fun i _ => mul_comm (G := EReal) _ _
  rw [dif_neg (by omega)]
  by_cases h2 : r.val = 2
  · rw [dif_pos (by omega), if_pos h2]
    simp only [meanSq_apply]
    exact Finset.sum_congr (M := EReal) rfl fun i _ => mul_comm (G := EReal) _ _
  rw [dif_neg (by omega), if_neg h2, if_neg h1, if_neg h0]

end Cert.NormRef
-- ==== Proof.InDx.lean ====
module

public import proofs.«01_k».proof.Defs
public import proofs.«01_k».proof.Proof.Gen.InDxIdeal.Value
public import proofs.«01_k».proof.Proof.Gen.InDxRefIdeal.Run
public import Idealize.ShloMosaic.Lib.Pipeline.ValueKit
public import proofs.«01_k».proof.Proof.NormRef
public import Idealize.ShloMosaic.Lib.Pipeline.ReadBack
public import Idealize.ShloMosaic.Lib.Pointwise

@[expose] public section

set_option maxRecDepth 16384

noncomputable section

namespace Cert.InDxPart

open Idealize.ShloMosaic Idealize.ShloMosaic.TcCoe Idealize.SL.Sem
open Cert.InDxIdeal Cert.InDxIdeal.Gen

variable (m : (ℓ : Loc nD τ sig) → Buf (Elt Ideal) ℓ)

theorem idx0_0 : ∀ t : Fin cfg0.N, win0_0.index t = ![t.val / 5, t.val % 5] := (by decide +kernel)
theorem idx0_1 : ∀ t : Fin cfg0.N, win0_1.index t = ![t.val % 5, 0] := (by decide +kernel)
theorem idx0_2 : ∀ t : Fin cfg0.N, win0_2.index t = ![t.val / 5, 0] := (by decide +kernel)
theorem idx0_3 : ∀ t : Fin cfg0.N, win0_3.index t = ![t.val / 5, 0] := (by decide +kernel)
theorem idx0_4 : ∀ t : Fin cfg0.N, win0_4.index t = ![0, 0] := (by decide +kernel)
theorem idx0_5 : ∀ t : Fin cfg0.N, win0_5.index t = ![0, 0] := (by decide +kernel)
theorem idx0_6 : ∀ t : Fin cfg0.N, win0_6.index t = ![t.val / 5, 0] := (by decide +kernel)
theorem idx0_7 : ∀ t : Fin cfg0.N, win0_7.index t = ![t.val / 5, 0] := (by decide +kernel)
theorem t_lt : ∀ t : Fin cfg0.N, t.val < 10 := (by decide +kernel)

theorem dz_eq (c : Dev nD) (t : Fin cfg0.N) (r : Fin 1024) (k : Fin 1152) :
    iblk m c 0 t (ix2 r k) = m ((c.tc : Thread nD τ).loc main_arg0) (ix2 ⟨t.val / 5 * 1024 + r.val, by have := t_lt t; omega⟩ ⟨t.val % 5 * 1152 + k.val, by omega⟩) := by
  show V m c main_arg0 (((cfg0.win 0).blk t).view.emb _) = _
  rw [V_main_arg0]
  congr 1
  blk_ext [idx0_0]

theorem w_eq (c : Dev nD) (t : Fin cfg0.N) (k : Fin 1152) (j : Fin 1024) :
    iblk m c 1 t (ix2 k j) = m ((c.tc : Thread nD τ).loc main_arg1) (ix2 ⟨t.val % 5 * 1152 + k.val, by omega⟩ j) := by
  show V m c main_arg1 (((cfg0.win 1).blk t).view.emb _) = _
  rw [V_main_arg1]
  congr 1
  blk_ext [idx0_1]

theorem x_eq (c : Dev nD) (t : Fin cfg0.N) (r j : Fin 1024) :
    iblk m c 2 t (ix2 r j) = m ((c.tc : Thread nD τ).loc main_arg2) (ix2 ⟨t.val / 5 * 1024 + r.val, by have := t_lt t; omega⟩ j) := by
  show V m c main_arg2 (((cfg0.win 2).blk t).view.emb _) = _
  rw [V_main_arg2]
  congr 1
  blk_ext [idx0_2]

theorem res_eq (c : Dev nD) (t : Fin cfg0.N) (r j : Fin 1024) :
    iblk m c 3 t (ix2 r j) = m ((c.tc : Thread nD τ).loc main_arg3) (ix2 ⟨t.val / 5 * 1024 + r.val, by have := t_lt t; omega⟩ j) := by
  show V m c main_arg3 (((cfg0.win 3).blk t).view.emb _) = _
  rw [V_main_arg3]
  congr 1
  blk_ext [idx0_3]

set_option maxHeartbeats 1000000 in
theorem g_eq (c : Dev nD) (t : Fin cfg0.N) (j : Fin 1024) :
    iblk m c 4 t (ix2 (0 : Fin 8) j) = m ((c.tc : Thread nD τ).loc main_arg4) (ix1 j) := by
  blk_simp [iblk, V]; entry_read
  rw [show ((View.whole main_v2).slice (win0_4.rect t)).emb (ix2 0 j) = ix2 0 j by blk_ext [idx0_4]]
  pointwise

set_option maxHeartbeats 1000000 in
theorem V_mod (c : Dev nD) : V m c main_v6 = (concatenate S8x1024 0
      [⟨S1x1024, broadcastInDim S1x1024 ![1] bcast_S1024_S1x1024_1 (m ((c.tc : Thread nD τ).loc main_arg5))⟩,
       ⟨S1x1024, broadcastInDim S1x1024 ![1] bcast_S1024_S1x1024_1 (m ((c.tc : Thread nD τ).loc main_arg6))⟩,
       ⟨S6x1024, broadcastInDim S6x1024 ![] bcast_S_S6x1024 (constant (F := Ideal) S_ .f32 0x00000000#32)⟩]
        concatenates_S1x1024_S1x1024_S6x1024_S8x1024_d0 : S8x1024.Idx → EReal) := by
  show StableHlo.after _ _ _ = _
  after_results
  rfl

set_option maxHeartbeats 1000000 in
theorem scale_eq (c : Dev nD) (t : Fin cfg0.N) (j : Fin 1024) :
    iblk m c 5 t (ix2 (1 : Fin 8) j) = m ((c.tc : Thread nD τ).loc main_arg6) (ix1 j) := by
  show V m c main_v6 (((cfg0.win 5).blk t).view.emb _) = _
  rw [V_mod]
  rw [show ((cfg0.win 5).blk t).view.emb (ix2 1 j) = ix2 1 j by blk_ext [idx0_5]]
  pointwise

/-- The products of one block of columns of `dz`. -/
def term (c : Dev nD) (n : ℕ) (y : S1024x1024.Idx) : EReal :=
  if h : n < cfg0.N then k0_pay1 (F := Ideal) (iblk m c 1 ⟨n, h⟩) (iblk m c 0 ⟨n, h⟩) y else 0

/-- Adding a block's products to the sum so far. -/
theorem pay2_eq (c : Dev nD) (t : Fin cfg0.N) (A : S1024x1024.Idx → EReal) (j : S1024x1024.Idx) :
    k0_pay2 (F := Ideal) A (iblk m c 1 t) (iblk m c 0 t) j = A j + term m c t.val j := by
  rw [term, dif_pos t.isLt]
  idx_vars j
  unfold_payloads
  pointwise

theorem acc_eq (c : Dev nD) (t : Fin cfg0.N) (y : S1024x1024.Idx) :
    (outsAt0 m c t.val t.isLt).2.2 y = 0 + ∑ k ∈ Finset.range (t.val % 5 + 1), term m c (5 * (t.val / 5) + k) y := by
  refine Pipeline.eq_sum_of_reset_step_apply (fun n h => (outsAt0 m c n h).2.2) 5 (fun _ => 0) (fun n y => term m c n y) ?_ ?_ t y
  · intro t h j
    show (outsAt0 m c t.val t.isLt).2.2 j = _
    rw [outsAt0_A m c t h (by omega) (by omega)]
    frame_out
    rw [term, dif_pos t.isLt, zero_add]
  · intro t h j
    show (outsAt0 m c t.val t.isLt).2.2 j = (outsAt0 m c (t.val - 1) _).2.2 j + _
    by_cases h4 : t.val % 5 = 4
    · rw [outsAt0_C m c t (by omega) (by omega) h4]
      frame_out
      simp only [read_unread_whole]
      exact pay2_eq m c t _ j
    · rw [outsAt0_B m c t h (by omega) h4]
      frame_out
      simp only [read_unread_whole]
      exact pay2_eq m c t _ j

/-- An entry of a product of matrices. -/
def entry (a : S2048x5760.Idx → EReal) (b : S5760x1024.Idx → EReal) (R : Fin 2048) (j : Fin 1024) : EReal :=
  ∑ k : Fin 5760, a (ix2 R k) * b (ix2 k j)

/-- The product `dz wᵀ`. -/
abbrev dh (c : Dev nD) : Fin 2048 → Fin 1024 → EReal :=
  entry (m ((c.tc : Thread nD τ).loc main_arg0)) (m ((c.tc : Thread nD τ).loc main_arg1))

/-- A row of a block of 1024 rows. -/
abbrev row (t : Fin cfg0.N) (r : Fin 1024) : Fin 2048 := ⟨t.val / 5 * 1024 + r.val, by have := t_lt t; omega⟩

/-- The block of rows of the product that a last point holds. -/
theorem dh_eq (c : Dev nD) (t : Fin cfg0.N) (h4 : t.val % 5 = 4) (r j : Fin 1024) :
    (outsAt0 m c t.val t.isLt).2.2 (ix2 r j) = dh m c (row t r) j := by
  rw [acc_eq, zero_add, h4, Finset.sum_range]
  have cut : ∀ (a : S2048x5760.Idx → EReal) (b : S5760x1024.Idx → EReal), entry a b (row t r) j =
      ∑ s : Fin 5, ∑ k : Fin 1152, a (ix2 (row t r) ⟨s.val * 1152 + k.val, by omega⟩) * b (ix2 ⟨s.val * 1152 + k.val, by omega⟩ j) :=
    fun a b => (Fin.sum_mul_add_congr (F := fun s k => a (ix2 (row t r) ⟨s.val * 1152 + k.val, by omega⟩) * b (ix2 ⟨s.val * 1152 + k.val, by omega⟩ j)) fun s k hl => rfl).symm
  rw [dh, cut]
  refine Finset.sum_congr (M := EReal) rfl fun k _ => ?_
  have := t_lt t
  have hk : 5 * (t.val / 5) + k.val < cfg0.N := Nat.lt_of_lt_of_eq (show _ < 10 by omega) N_0.symm
  rw [term, dif_pos hk]
  unfold_payloads
  pointwise
  refine Finset.sum_congr (M := EReal) rfl fun l _ => ?_
  rw [dz_eq, w_eq]
  have e1 : (5 * (t.val / 5) + k.val) / 5 = t.val / 5 := by omega
  have e2 : (5 * (t.val / 5) + k.val) % 5 = k.val := by omega
  congr 3 <;> simp only [e1, e2]

/-- What a last point writes: the gradient of its rows and their sums, from the product it holds. -/
theorem last_eq (c : Dev nD) (t : Fin cfg0.N) (h4 : t.val % 5 = 4) :
    (outsAt0 m c t.val t.isLt).1 = k0_pay4 (F := Ideal) (iblk m c 3 t) (k0_pay9 (outsAt0 m c t.val t.isLt).2.2 (iblk m c 2 t) (iblk m c 4 t) (iblk m c 5 t))
    ∧ (outsAt0 m c t.val t.isLt).2.1 = k0_pay3 (F := Ideal) (k0_pay7 (iblk m c 2 t)) (k0_pay8 (outsAt0 m c t.val t.isLt).2.2 (iblk m c 5 t))
        (k0_pay10 (outsAt0 m c t.val t.isLt).2.2) (k0_pay11 (outsAt0 m c t.val t.isLt).2.2 (iblk m c 2 t) (iblk m c 4 t)) := by
  rw [outsAt0_C m c t (by omega) (by omega) h4]
  frame_out
  exact ⟨trivial, trivial⟩

theorem pay_dx (A x res : S1024x1024.Idx → EReal) (g s : S8x1024.Idx → EReal) (r j : Fin 1024) :
    k0_pay4 (F := Ideal) res (k0_pay9 A x g s) (ix2 r j) = NormGrad.grad (fun i => x (ix2 r i))
      (fun i => A (ix2 r i) * (1 + s (ix2 (1 : Fin 8) i)) * g (ix2 (0 : Fin 8) i)) (res (ix2 r j)) j := by
  unfold_payloads
  pointwise
  rfl

theorem pay_sums (A x : S1024x1024.Idx → EReal) (g s : S8x1024.Idx → EReal) (r : Fin 8) (j : Fin 1024) :
    k0_pay3 (F := Ideal) (k0_pay7 x) (k0_pay8 A s) (k0_pay10 A) (k0_pay11 A x g) (ix2 r j) =
      NormGrad.sums (fun i k => x (ix2 i k)) (fun i k => A (ix2 i k)) (g (ix2 (0 : Fin 8) j)) (s (ix2 (1 : Fin 8) j)) j r.val := by
  unfold_payloads
  pointwise
  fin_cases r <;> rfl

end Cert.InDxPart

namespace Cert.InDxRefIdeal

open Idealize.ShloMosaic Idealize.ShloMosaic.TcCoe Idealize.SL.Sem Cert.InDxRefIdeal.Gen

/-- The product as the reference composes it, by halves. -/
def product (a : FVec Ideal S2048x5760 .bf16) (b : FVec Ideal S5760x1024 .bf16) : FVec Ideal S2x1024x1024 .f32 :=
  NormRef.halves (Host.dotGeneral dot_S2048x5760_S1024x5760_S2048x1024_1_1_0_0_n_n none (extf .f32 a bitsLt_bf16_f32)
    (transpose S1024x5760 [1, 0] (extf .f32 b bitsLt_bf16_f32) transposes_S5760x1024_S1024x5760_1_0))

theorem product_apply (a : FVec Ideal S2048x5760 .bf16) (b : FVec Ideal S5760x1024 .bf16) (p : Fin 2) (r j : Fin 1024) :
    product a b (ix3 p r j) = InDxPart.entry a b ⟨p.val * 1024 + r.val, by omega⟩ j := by
  rw [product, NormRef.halves_apply]
  pointwise
  rfl

variable (m : (ℓ : Loc nD τ sig) → Buf (Elt Ideal) ℓ)

/-- The gradient at the rows. -/
def Grad (c : Dev nD) : FVec Ideal S2048x1024 .f32 :=
  NormRef.Dx (NormRef.halves (m ((c.tc : Thread nD τ).loc main_arg3))) (product (m ((c.tc : Thread nD τ).loc main_arg0)) (m ((c.tc : Thread nD τ).loc main_arg1)))
    (NormRef.halves (m ((c.tc : Thread nD τ).loc main_arg2))) (m ((c.tc : Thread nD τ).loc main_arg4)) (m ((c.tc : Thread nD τ).loc main_arg6))

/-- The gradients at the shift, the scale and the weights. -/
def Sums (c : Dev nD) : FVec Ideal S16x1024 .f32 :=
  NormRef.Rows (product (m ((c.tc : Thread nD τ).loc main_arg0)) (m ((c.tc : Thread nD τ).loc main_arg1)))
    (NormRef.halves (m ((c.tc : Thread nD τ).loc main_arg2))) (m ((c.tc : Thread nD τ).loc main_arg4)) (m ((c.tc : Thread nD τ).loc main_arg6))

theorem res_eq (c : Dev nD) : Value.res_main_v62 m c = Grad m c := rfl

end Cert.InDxRefIdeal

namespace Cert.InDxPart

open Idealize.ShloMosaic Idealize.ShloMosaic.TcCoe Idealize.SL.Sem
open Cert.InDxIdeal Cert.InDxIdeal.Gen

variable (m : (ℓ : Loc nD τ sig) → Buf (Elt Ideal) ℓ)
variable (m' : (ℓ : Loc InDxRefIdeal.nD InDxRefIdeal.τ InDxRefIdeal.sig) → Buf (Elt Ideal) ℓ)

/-- The two programs' arguments that matter are the same on a device. -/
def Same (c : Dev nD) : Prop :=
  m' ((c.tc : Thread InDxRefIdeal.nD InDxRefIdeal.τ).loc InDxRefIdeal.main_arg0) = m ((c.tc : Thread nD τ).loc main_arg0)
  ∧ m' ((c.tc : Thread InDxRefIdeal.nD InDxRefIdeal.τ).loc InDxRefIdeal.main_arg1) = m ((c.tc : Thread nD τ).loc main_arg1)
  ∧ m' ((c.tc : Thread InDxRefIdeal.nD InDxRefIdeal.τ).loc InDxRefIdeal.main_arg2) = m ((c.tc : Thread nD τ).loc main_arg2)
  ∧ m' ((c.tc : Thread InDxRefIdeal.nD InDxRefIdeal.τ).loc InDxRefIdeal.main_arg3) = m ((c.tc : Thread nD τ).loc main_arg3)
  ∧ m' ((c.tc : Thread InDxRefIdeal.nD InDxRefIdeal.τ).loc InDxRefIdeal.main_arg4) = m ((c.tc : Thread nD τ).loc main_arg4)
  ∧ m' ((c.tc : Thread InDxRefIdeal.nD InDxRefIdeal.τ).loc InDxRefIdeal.main_arg6) = m ((c.tc : Thread nD τ).loc main_arg6)

/-- The first array after the run is the reference's gradient. -/
theorem grad_eq (c : Dev nD) (h : Same m m' c) : (dats m 0 c).arrAt 6 cfg0.N = InDxRefIdeal.Grad m' c := by
  obtain ⟨h0, h1, h2, h3, h4, h6⟩ := h
  refine (dats m 0 c).arrAt_eq_of_covers 6 _ (by decide +kernel) fun t hf y => ?_
  have h4t : t.val % 5 = 4 := (flush0_6 t).mp hf
  blk_simp
  rw [after0_6, (last_eq m c t h4t).1]
  idx_vars y
  have ht := t_lt t
  rw [show (((View.whole main_v7_0).slice (win0_6.rect t)).emb (ix2 y0 y1)) = ix2 ⟨(⟨t.val / 5, by omega⟩ : Fin 2).val * 1024 + y0.val, by omega⟩ y1 by blk_ext [idx0_6]]
  rw [pay_dx, InDxRefIdeal.Grad, NormRef.Dx_apply]
  simp only [NormRef.halves_apply, InDxRefIdeal.product_apply, x_eq, res_eq, g_eq, scale_eq, dh_eq m c t h4t, h0, h1, h2, h3, h4, h6]

/-- The second array after the run holds the reference's sums. -/
theorem sums_eq (c : Dev nD) (h : Same m m' c) : (dats m 0 c).arrAt 7 cfg0.N = InDxRefIdeal.Sums m' c := by
  obtain ⟨h0, h1, h2, h3, h4, h6⟩ := h
  refine (dats m 0 c).arrAt_eq_of_covers 7 _ (by decide +kernel) fun t hf y => ?_
  have h4t : t.val % 5 = 4 := (flush0_7 t).mp hf
  blk_simp
  rw [after0_7, (last_eq m c t h4t).2]
  idx_vars y
  have ht := t_lt t
  rw [show (((View.whole main_v7_1).slice (win0_7.rect t)).emb (ix2 y0 y1)) = ix2 ⟨(⟨t.val / 5, by omega⟩ : Fin 2).val * 8 + y0.val, by omega⟩ y1 by blk_ext [idx0_7]]
  rw [pay_sums, InDxRefIdeal.Sums, NormRef.Rows_apply]
  simp only [NormRef.halves_apply, InDxRefIdeal.product_apply, x_eq, g_eq, scale_eq, dh_eq m c t h4t, h0, h1, h2, h4, h6]

/-- The reference ends with its arguments unchanged and its counters at zero. -/
theorem frame_ref : quiescent_InDxRefIdeal := by
  intro m ρ _
  exact (θ_run InDxRefIdeal.defs _ _).mono (fun r h => ⟨fun c => (h c).2.2, sem_eq_zero_of_no_sems (by decide) r.2⟩) (InDxRefIdeal.Value.run m ρ)

/-- The kernel's arrays and the reference's are the same. -/
theorem value : algebraic_InDxIdeal_InDxRefIdeal := by
  intro m g m' g' _ hag
  have hs : ∀ c, Same m m' c := fun c => let ⟨h0, h1, h2, h3, h4, _, h6⟩ := hag c; ⟨h0, h1, h2, h3, h4, h6⟩
  refine ⟨fun c => InDxRefIdeal.Grad m' c, fun c => InDxRefIdeal.Sums m' c, ?_, ?_⟩
  · refine (θ_run _ _ _).mono (fun r h c => ?_) (InDxIdeal.Value.run_blocks m g)
    obtain ⟨h0, h1, ha⟩ := h c
    exact ⟨h0.trans (grad_eq m m' c (hs c)), h1.trans (sums_eq m m' c (hs c)), ha⟩
  · exact InDxRefIdeal.Value.run m' g'

end Cert.InDxPart
-- ==== Proof.FfOneDx.lean ====
module

public import proofs.«01_k».proof.Defs
public import proofs.«01_k».proof.Proof.Gen.FfOneDxIdeal.Value
public import proofs.«01_k».proof.Proof.Gen.FfOneDxRefIdeal.Run
public import Idealize.ShloMosaic.Lib.Pipeline.ValueKit
public import proofs.«01_k».proof.Proof.NormRef
public import Idealize.ShloMosaic.Lib.Pipeline.ReadBack
public import Idealize.ShloMosaic.Lib.Pointwise

@[expose] public section

set_option maxRecDepth 16384

noncomputable section

namespace Cert.FfOneDxPart

open Idealize.ShloMosaic Idealize.ShloMosaic.TcCoe Idealize.SL.Sem
open Cert.FfOneDxIdeal Cert.FfOneDxIdeal.Gen

variable (m : (ℓ : Loc nD τ sig) → Buf (Elt Ideal) ℓ)

theorem idx0_0 : ∀ t : Fin cfg0.N, win0_0.index t = ![t.val / 4, t.val % 4] := (by decide +kernel)
theorem idx0_1 : ∀ t : Fin cfg0.N, win0_1.index t = ![t.val % 4, 0, 0] := (by decide +kernel)
theorem idx0_2 : ∀ t : Fin cfg0.N, win0_2.index t = ![t.val / 4, 0] := (by decide +kernel)
theorem idx0_3 : ∀ t : Fin cfg0.N, win0_3.index t = ![t.val / 4, 0] := (by decide +kernel)
theorem idx0_4 : ∀ t : Fin cfg0.N, win0_4.index t = ![0, 0] := (by decide +kernel)
theorem idx0_5 : ∀ t : Fin cfg0.N, win0_5.index t = ![0, 0] := (by decide +kernel)
theorem idx0_6 : ∀ t : Fin cfg0.N, win0_6.index t = ![t.val / 4, 0] := (by decide +kernel)
theorem idx0_7 : ∀ t : Fin cfg0.N, win0_7.index t = ![t.val / 4, 0] := (by decide +kernel)
theorem t_lt : ∀ t : Fin cfg0.N, t.val < 8 := (by decide +kernel)

theorem da_eq (c : Dev nD) (t : Fin cfg0.N) (r k : Fin 1024) :
    iblk m c 0 t (ix2 r k) = m ((c.tc : Thread nD τ).loc main_arg0) (ix2 ⟨t.val / 4 * 1024 + r.val, by have := t_lt t; omega⟩ ⟨t.val % 4 * 1024 + k.val, by omega⟩) := by
  show V m c main_arg0 (((cfg0.win 0).blk t).view.emb _) = _
  rw [V_main_arg0]
  congr 1
  blk_ext [idx0_0]

theorem w_eq (c : Dev nD) (t : Fin cfg0.N) (s : Fin 2) (j : Fin 1024) (k : Fin 512) :
    iblk m c 1 t (ix3 s j k) = m ((c.tc : Thread nD τ).loc main_arg1) (ix3 ⟨t.val % 4 * 2 + s.val, by omega⟩ j k) := by
  show V m c main_arg1 (((cfg0.win 1).blk t).view.emb _) = _
  rw [V_main_arg1]
  congr 1
  blk_ext [idx0_1]

theorem x_eq (c : Dev nD) (t : Fin cfg0.N) (r j : Fin 1024) :
    iblk m c 2 t (ix2 r j) = m ((c.tc : Thread nD τ).loc main_arg2) (ix2 ⟨t.val / 4 * 1024 + r.val, by have := t_lt t; omega⟩ j) := by
  show V m c main_arg2 (((cfg0.win 2).blk t).view.emb _) = _
  rw [V_main_arg2]
  congr 1
  blk_ext [idx0_2]

theorem res_eq (c : Dev nD) (t : Fin cfg0.N) (r j : Fin 1024) :
    iblk m c 3 t (ix2 r j) = m ((c.tc : Thread nD τ).loc main_arg3) (ix2 ⟨t.val / 4 * 1024 + r.val, by have := t_lt t; omega⟩ j) := by
  show V m c main_arg3 (((cfg0.win 3).blk t).view.emb _) = _
  rw [V_main_arg3]
  congr 1
  blk_ext [idx0_3]

set_option maxHeartbeats 1000000 in
theorem V_gvec (c : Dev nD) : V m c main_v3 = (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 (m ((c.tc : Thread nD τ).loc main_arg4))⟩,
       ⟨S5x1024, broadcastInDim S5x1024 ![] bcast_S_S5x1024 (constant (F := Ideal) S_ .f32 0x00000000#32)⟩]
        concatenates_S2x1024_S1x1024_S5x1024_S8x1024_d0 : S8x1024.Idx → EReal) := by
  show StableHlo.after _ _ _ = _
  after_results
  rfl

set_option maxHeartbeats 1000000 in
theorem g_eq (c : Dev nD) (t : Fin cfg0.N) (j : Fin 1024) :
    iblk m c 4 t (ix2 (2 : Fin 8) j) = m ((c.tc : Thread nD τ).loc main_arg4) (ix1 j) := by
  show V m c main_v3 (((cfg0.win 4).blk t).view.emb _) = _
  rw [V_gvec]
  rw [show ((cfg0.win 4).blk t).view.emb (ix2 2 j) = ix2 2 j by blk_ext [idx0_4]]
  pointwise

set_option maxHeartbeats 1000000 in
theorem V_mod (c : Dev nD) : V m c main_v8 = (concatenate S8x1024 0
      [⟨S3x1024, broadcastInDim S3x1024 ![] bcast_S_S3x1024 (constant (F := Ideal) S_ .f32 0x00000000#32)⟩,
       ⟨S1x1024, broadcastInDim S1x1024 ![1] bcast_S1024_S1x1024_1 (m ((c.tc : Thread nD τ).loc main_arg5))⟩,
       ⟨S1x1024, broadcastInDim S1x1024 ![1] bcast_S1024_S1x1024_1 (m ((c.tc : Thread nD τ).loc main_arg6))⟩,
       ⟨S3x1024, broadcastInDim S3x1024 ![] bcast_S_S3x1024 (constant (F := Ideal) S_ .f32 0x00000000#32)⟩]
        concatenates_S3x1024_S1x1024_S1x1024_S3x1024_S8x1024_d0 : S8x1024.Idx → EReal) := by
  show StableHlo.after _ _ _ = _
  after_results
  rfl

set_option maxHeartbeats 1000000 in
theorem scale_eq (c : Dev nD) (t : Fin cfg0.N) (j : Fin 1024) :
    iblk m c 5 t (ix2 (4 : Fin 8) j) = m ((c.tc : Thread nD τ).loc main_arg6) (ix1 j) := by
  show V m c main_v8 (((cfg0.win 5).blk t).view.emb _) = _
  rw [V_mod]
  rw [show ((cfg0.win 5).blk t).view.emb (ix2 4 j) = ix2 4 j by blk_ext [idx0_5]]
  pointwise

/-- The two shards of the block of weights fetched at a point. -/
abbrev lo (c : Dev nD) (t : Fin cfg0.N) : S1x1024x512.Idx → EReal :=
  View.ld (iblk m c 1 t) (Rect.unit ![0, 0, 0] ![1, 1024, 512] inb_S2x1024x512_S1x1024x512_0_0_0)
abbrev hi (c : Dev nD) (t : Fin cfg0.N) : S1x1024x512.Idx → EReal :=
  View.ld (iblk m c 1 t) (Rect.unit ![1, 0, 0] ![1, 1024, 512] inb_S2x1024x512_S1x1024x512_1_0_0)

theorem lo_eq (c : Dev nD) (t : Fin cfg0.N) (j : Fin 1024) (k : Fin 512) :
    lo m c t (ix3 (0 : Fin 1) j k) = iblk m c 1 t (ix3 (0 : Fin 2) j k) := by
  rw [lo]
  pointwise

theorem hi_eq (c : Dev nD) (t : Fin cfg0.N) (j : Fin 1024) (k : Fin 512) :
    hi m c t (ix3 (0 : Fin 1) j k) = iblk m c 1 t (ix3 (1 : Fin 2) j k) := by
  rw [hi]
  pointwise

/-- The products of one block of columns of `dz`. -/
def term (c : Dev nD) (n : ℕ) (y : S1024x1024.Idx) : EReal :=
  if h : n < cfg0.N then k0_pay1 (F := Ideal) (lo m c ⟨n, h⟩) (hi m c ⟨n, h⟩) (iblk m c 0 ⟨n, h⟩) y else 0

/-- Adding a block's products to the sum so far. -/
theorem pay2_eq (c : Dev nD) (t : Fin cfg0.N) (A : S1024x1024.Idx → EReal) (j : S1024x1024.Idx) :
    k0_pay2 (F := Ideal) A (lo m c t) (hi m c t) (iblk m c 0 t) j = A j + term m c t.val j := by
  rw [term, dif_pos t.isLt]
  idx_vars j
  unfold_payloads
  pointwise

theorem acc_eq (c : Dev nD) (t : Fin cfg0.N) (y : S1024x1024.Idx) :
    (outsAt0 m c t.val t.isLt).2.2 y = 0 + ∑ k ∈ Finset.range (t.val % 4 + 1), term m c (4 * (t.val / 4) + k) y := by
  refine Pipeline.eq_sum_of_reset_step_apply (fun n h => (outsAt0 m c n h).2.2) 4 (fun _ => 0) (fun n y => term m c n y) ?_ ?_ t y
  · intro t h j
    show (outsAt0 m c t.val t.isLt).2.2 j = _
    rw [outsAt0_A m c t h (by omega) (by omega)]
    frame_out
    rw [term, dif_pos t.isLt, zero_add]
    rfl
  · intro t h j
    show (outsAt0 m c t.val t.isLt).2.2 j = (outsAt0 m c (t.val - 1) _).2.2 j + _
    by_cases h4 : t.val % 4 = 3
    · rw [outsAt0_C m c t (by omega) (by omega) h4]
      frame_out
      simp only [read_unread_whole]
      exact pay2_eq m c t _ j
    · rw [outsAt0_B m c t h (by omega) h4]
      frame_out
      simp only [read_unread_whole]
      exact pay2_eq m c t _ j

/-- An entry of a product of a matrix with the transpose of one given by shards of its columns. -/
def entry (a : S2048x4096.Idx → EReal) (b : S8x1024x512.Idx → EReal) (R : Fin 2048) (j : Fin 1024) : EReal :=
  ∑ s : Fin 8, ∑ k : Fin 512, a (ix2 R ⟨s.val * 512 + k.val, by omega⟩) * b (ix3 s j k)

/-- The product `da wᵀ`. -/
abbrev dh (c : Dev nD) : Fin 2048 → Fin 1024 → EReal :=
  entry (m ((c.tc : Thread nD τ).loc main_arg0)) (m ((c.tc : Thread nD τ).loc main_arg1))

/-- A row of a block of 1024 rows. -/
abbrev row (t : Fin cfg0.N) (r : Fin 1024) : Fin 2048 := ⟨t.val / 4 * 1024 + r.val, by have := t_lt t; omega⟩

/-- The block of rows of the product that a last point holds. -/
theorem dh_eq (c : Dev nD) (t : Fin cfg0.N) (h4 : t.val % 4 = 3) (r j : Fin 1024) :
    (outsAt0 m c t.val t.isLt).2.2 (ix2 r j) = dh m c (row t r) j := by
  rw [acc_eq, zero_add, h4, Finset.sum_range]
  have cut : ∀ (a : S2048x4096.Idx → EReal) (b : S8x1024x512.Idx → EReal), entry a b (row t r) j =
      ∑ s : Fin 4, ((∑ k : Fin 512, a (ix2 (row t r) ⟨s.val * 1024 + k.val, by omega⟩) * b (ix3 ⟨s.val * 2, by omega⟩ j k))
        + ∑ k : Fin 512, a (ix2 (row t r) ⟨s.val * 1024 + (512 + k.val), by omega⟩) * b (ix3 ⟨s.val * 2 + 1, by omega⟩ j k)) := by
    intro a b
    refine (Fin.sum_mul_add_congr (S := 4) (n := 2) (F := fun s k => ∑ l : Fin 512, a (ix2 (row t r) ⟨(s.val * 2 + k.val) * 512 + l.val, by omega⟩) * b (ix3 ⟨s.val * 2 + k.val, by omega⟩ j l)) fun s k hl => rfl).symm.trans ?_
    refine Finset.sum_congr (M := EReal) rfl fun s _ => (Fin.sum_univ_two (M := EReal) _).trans ?_
    have e0 : (s.val * 2 + (0 : Fin 2).val) * 512 = s.val * 1024 := by show (s.val * 2 + 0) * 512 = _; omega
    have e1 : ∀ k, (s.val * 2 + (1 : Fin 2).val) * 512 + k = s.val * 1024 + (512 + k) := by intro k; show (s.val * 2 + 1) * 512 + k = _; omega
    simp only [e0, e1]
    rfl
  rw [dh, cut]
  refine Finset.sum_congr (M := EReal) rfl fun k _ => ?_
  have := t_lt t
  have hk : 4 * (t.val / 4) + k.val < cfg0.N := Nat.lt_of_lt_of_eq (show _ < 8 by omega) N_0.symm
  rw [term, dif_pos hk]
  unfold_payloads
  pointwise
  have e1 : (4 * (t.val / 4) + k.val) / 4 = t.val / 4 := by omega
  have e2 : (4 * (t.val / 4) + k.val) % 4 = k.val := by omega
  simp only [lo_eq, hi_eq, da_eq, w_eq, e1, e2]
  rfl

/-- What a last point writes: the gradient of its rows and their sums, from the product it holds. -/
theorem last_eq (c : Dev nD) (t : Fin cfg0.N) (h4 : t.val % 4 = 3) :
    (outsAt0 m c t.val t.isLt).1 = k0_pay4 (F := Ideal) (iblk m c 3 t) (k0_pay9 (outsAt0 m c t.val t.isLt).2.2 (iblk m c 2 t) (iblk m c 4 t) (iblk m c 5 t))
    ∧ (outsAt0 m c t.val t.isLt).2.1 = k0_pay3 (F := Ideal) (k0_pay7 (iblk m c 2 t)) (k0_pay8 (outsAt0 m c t.val t.isLt).2.2 (iblk m c 5 t))
        (k0_pay10 (outsAt0 m c t.val t.isLt).2.2) (k0_pay11 (outsAt0 m c t.val t.isLt).2.2 (iblk m c 2 t) (iblk m c 4 t)) := by
  rw [outsAt0_C m c t (by omega) (by omega) h4]
  frame_out
  exact ⟨trivial, trivial⟩

theorem pay_dx (A x res : S1024x1024.Idx → EReal) (g s : S8x1024.Idx → EReal) (r j : Fin 1024) :
    k0_pay4 (F := Ideal) res (k0_pay9 A x g s) (ix2 r j) = NormGrad.grad (fun i => x (ix2 r i))
      (fun i => A (ix2 r i) * (1 + s (ix2 (4 : Fin 8) i)) * g (ix2 (2 : Fin 8) i)) (res (ix2 r j)) j := by
  unfold_payloads
  pointwise
  rfl

theorem pay_sums (A x : S1024x1024.Idx → EReal) (g s : S8x1024.Idx → EReal) (r : Fin 8) (j : Fin 1024) :
    k0_pay3 (F := Ideal) (k0_pay7 x) (k0_pay8 A s) (k0_pay10 A) (k0_pay11 A x g) (ix2 r j) =
      NormGrad.sums (fun i k => x (ix2 i k)) (fun i k => A (ix2 i k)) (g (ix2 (2 : Fin 8) j)) (s (ix2 (4 : Fin 8) j)) j r.val := by
  unfold_payloads
  pointwise
  fin_cases r <;> rfl

end Cert.FfOneDxPart

namespace Cert.FfOneDxRefIdeal

open Idealize.ShloMosaic Idealize.ShloMosaic.TcCoe Idealize.SL.Sem Cert.FfOneDxRefIdeal.Gen

/-- The product as the reference composes it, by halves. -/
def product (a : FVec Ideal S2048x4096 .bf16) (b : FVec Ideal S8x1024x512 .bf16) : FVec Ideal S2x1024x1024 .f32 :=
  NormRef.halves (Host.dotGeneral dot_S2048x8x512_S8x1024x512_S2048x1024_12_02_0_1_n_n none (shapeCast S2048x8x512 (extf .f32 a bitsLt_bf16_f32) shapeCasts_S2048x4096_S2048x8x512) (extf .f32 b bitsLt_bf16_f32))

theorem product_apply (a : FVec Ideal S2048x4096 .bf16) (b : FVec Ideal S8x1024x512 .bf16) (p : Fin 2) (r j : Fin 1024) :
    product a b (ix3 p r j) = FfOneDxPart.entry a b ⟨p.val * 1024 + r.val, by omega⟩ j := by
  rw [product, NormRef.halves_apply]
  pointwise
  rfl

variable (m : (ℓ : Loc nD τ sig) → Buf (Elt Ideal) ℓ)

/-- The gradient at the rows. -/
def Grad (c : Dev nD) : FVec Ideal S2048x1024 .f32 :=
  NormRef.Dx (NormRef.halves (m ((c.tc : Thread nD τ).loc main_arg3))) (product (m ((c.tc : Thread nD τ).loc main_arg0)) (m ((c.tc : Thread nD τ).loc main_arg1)))
    (NormRef.halves (m ((c.tc : Thread nD τ).loc main_arg2))) (m ((c.tc : Thread nD τ).loc main_arg4)) (m ((c.tc : Thread nD τ).loc main_arg6))

/-- The gradients at the shift, the scale and the weights. -/
def Sums (c : Dev nD) : FVec Ideal S16x1024 .f32 :=
  NormRef.Rows (product (m ((c.tc : Thread nD τ).loc main_arg0)) (m ((c.tc : Thread nD τ).loc main_arg1)))
    (NormRef.halves (m ((c.tc : Thread nD τ).loc main_arg2))) (m ((c.tc : Thread nD τ).loc main_arg4)) (m ((c.tc : Thread nD τ).loc main_arg6))

theorem res_eq (c : Dev nD) : Value.res_main_v63 m c = Grad m c := rfl

end Cert.FfOneDxRefIdeal

namespace Cert.FfOneDxPart

open Idealize.ShloMosaic Idealize.ShloMosaic.TcCoe Idealize.SL.Sem
open Cert.FfOneDxIdeal Cert.FfOneDxIdeal.Gen

variable (m : (ℓ : Loc nD τ sig) → Buf (Elt Ideal) ℓ)
variable (m' : (ℓ : Loc FfOneDxRefIdeal.nD FfOneDxRefIdeal.τ FfOneDxRefIdeal.sig) → Buf (Elt Ideal) ℓ)

/-- The two programs' arguments that matter are the same on a device. -/
def Same (c : Dev nD) : Prop :=
  m' ((c.tc : Thread FfOneDxRefIdeal.nD FfOneDxRefIdeal.τ).loc FfOneDxRefIdeal.main_arg0) = m ((c.tc : Thread nD τ).loc main_arg0)
  ∧ m' ((c.tc : Thread FfOneDxRefIdeal.nD FfOneDxRefIdeal.τ).loc FfOneDxRefIdeal.main_arg1) = m ((c.tc : Thread nD τ).loc main_arg1)
  ∧ m' ((c.tc : Thread FfOneDxRefIdeal.nD FfOneDxRefIdeal.τ).loc FfOneDxRefIdeal.main_arg2) = m ((c.tc : Thread nD τ).loc main_arg2)
  ∧ m' ((c.tc : Thread FfOneDxRefIdeal.nD FfOneDxRefIdeal.τ).loc FfOneDxRefIdeal.main_arg3) = m ((c.tc : Thread nD τ).loc main_arg3)
  ∧ m' ((c.tc : Thread FfOneDxRefIdeal.nD FfOneDxRefIdeal.τ).loc FfOneDxRefIdeal.main_arg4) = m ((c.tc : Thread nD τ).loc main_arg4)
  ∧ m' ((c.tc : Thread FfOneDxRefIdeal.nD FfOneDxRefIdeal.τ).loc FfOneDxRefIdeal.main_arg6) = m ((c.tc : Thread nD τ).loc main_arg6)

/-- The first array after the run is the reference's gradient. -/
theorem grad_eq (c : Dev nD) (h : Same m m' c) : (dats m 0 c).arrAt 6 cfg0.N = FfOneDxRefIdeal.Grad m' c := by
  obtain ⟨h0, h1, h2, h3, h4, h6⟩ := h
  refine (dats m 0 c).arrAt_eq_of_covers 6 _ (by decide +kernel) fun t hf y => ?_
  have h4t : t.val % 4 = 3 := (flush0_6 t).mp hf
  blk_simp
  rw [after0_6, (last_eq m c t h4t).1]
  idx_vars y
  have ht := t_lt t
  rw [show (((View.whole main_v9_0).slice (win0_6.rect t)).emb (ix2 y0 y1)) = ix2 ⟨(⟨t.val / 4, by omega⟩ : Fin 2).val * 1024 + y0.val, by omega⟩ y1 by blk_ext [idx0_6]]
  rw [pay_dx, FfOneDxRefIdeal.Grad, NormRef.Dx_apply]
  simp only [NormRef.halves_apply, FfOneDxRefIdeal.product_apply, x_eq, res_eq, g_eq, scale_eq, dh_eq m c t h4t, h0, h1, h2, h3, h4, h6]

/-- The second array after the run holds the reference's sums. -/
theorem sums_eq (c : Dev nD) (h : Same m m' c) : (dats m 0 c).arrAt 7 cfg0.N = FfOneDxRefIdeal.Sums m' c := by
  obtain ⟨h0, h1, h2, h3, h4, h6⟩ := h
  refine (dats m 0 c).arrAt_eq_of_covers 7 _ (by decide +kernel) fun t hf y => ?_
  have h4t : t.val % 4 = 3 := (flush0_7 t).mp hf
  blk_simp
  rw [after0_7, (last_eq m c t h4t).2]
  idx_vars y
  have ht := t_lt t
  rw [show (((View.whole main_v9_1).slice (win0_7.rect t)).emb (ix2 y0 y1)) = ix2 ⟨(⟨t.val / 4, by omega⟩ : Fin 2).val * 8 + y0.val, by omega⟩ y1 by blk_ext [idx0_7]]
  rw [pay_sums, FfOneDxRefIdeal.Sums, NormRef.Rows_apply]
  simp only [NormRef.halves_apply, FfOneDxRefIdeal.product_apply, x_eq, g_eq, scale_eq, dh_eq m c t h4t, h0, h1, h2, h4, h6]

/-- The reference ends with its arguments unchanged and its counters at zero. -/
theorem frame_ref : quiescent_FfOneDxRefIdeal := by
  intro m ρ _
  exact (θ_run FfOneDxRefIdeal.defs _ _).mono (fun r h => ⟨fun c => (h c).2.2, sem_eq_zero_of_no_sems (by decide) r.2⟩) (FfOneDxRefIdeal.Value.run m ρ)

/-- The kernel's arrays and the reference's are the same. -/
theorem value : algebraic_FfOneDxIdeal_FfOneDxRefIdeal := by
  intro m g m' g' _ hag
  have hs : ∀ c, Same m m' c := fun c => let ⟨h0, h1, h2, h3, h4, _, h6⟩ := hag c; ⟨h0, h1, h2, h3, h4, h6⟩
  refine ⟨fun c => FfOneDxRefIdeal.Grad m' c, fun c => FfOneDxRefIdeal.Sums m' c, ?_, ?_⟩
  · refine (θ_run _ _ _).mono (fun r h c => ?_) (FfOneDxIdeal.Value.run_blocks m g)
    obtain ⟨h0, h1, ha⟩ := h c
    exact ⟨h0.trans (grad_eq m m' c (hs c)), h1.trans (sums_eq m m' c (hs c)), ha⟩
  · exact FfOneDxRefIdeal.Value.run m' g'

end Cert.FfOneDxPart
-- ==== Proof.Carried.lean ====
module

public import Idealize.ShloMosaic.Lib.Pipeline.FrameBody
public import Idealize.ShloMosaic.Lib.Pipeline.ValueKit
public import Idealize.ShloMosaic.Lib.Ring
public import Idealize.ShloMosaic.Lib.Tactic

@[expose] public section

/-! What the kernels with a prologue share: an output block the body stores at the first point of a row of points, and
    leaves alone at the others, still holds that at the point which writes it back. -/

namespace Cert.Carried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type} {Λ₀ : Labels}
variable {Ix : Type} [DecidableEq Ix] {Name : Type} [DecidableEq Name] {U : Type} [URA U] {Lvl : Type}
variable {cfg : Cfg sig Λ₀} {c : Dev nD} (dat : Dat τ Val Ix Name U Lvl cfg c)

/-- The point before a point which is not the first. -/
abbrev prev (t : Fin cfg.N) : Fin cfg.N := ⟨t.val - 1, Nat.lt_of_le_of_lt (Nat.sub_le _ _) t.isLt⟩

/-- An output window repeats what it held: wherever it is idle, the point before neither wrote it back nor left
    anything else in it than this point does. -/
def Repeats (w : Fin cfg.W) : Prop :=
  ∀ t : Fin cfg.N, cfg.idle w (cfg.grid.coords t) = true →
    t.val ≠ 0 ∧ (cfg.win w).flush (prev t) = false ∧ dat.after w (prev t) = dat.after w t

/-- Where such a window is idle its buffer holds what the point leaves in it. -/
theorem before_of_repeats (w : Fin cfg.W) (hw : (cfg.win w).isOut = true)
    (hclip : ∀ (i : cfg.grid.Coords) a, (cfg.win w).clip i a = none) (h : Repeats dat w) (d) :
    ∀ (n : ℕ) (hn : n < cfg.N), cfg.idle w (cfg.grid.coords ⟨n, hn⟩) = true →
      dat.before w ⟨n, hn⟩ d = dat.after w ⟨n, hn⟩ := by
  intro n
  induction n with
  | zero => intro hn hi; exact absurd rfl (h _ hi).1
  | succ n ih =>
    intro hn hi
    obtain ⟨h0, hf, ha⟩ := h _ hi
    rw [dat.before_of_pos w _ h0 ((cfg.win w).fetch_out hw _), hf, if_neg Bool.false_ne_true, ← ha]
    unfold Dat.left
    cases hp : cfg.idle w (cfg.grid.coords ⟨n, Nat.lt_of_succ_lt hn⟩) with
    | true =>
      have hp' : cfg.idle w (cfg.grid.coords (prev ⟨n + 1, hn⟩)) = true := hp
      rw [hp']
      exact ih (Nat.lt_of_succ_lt hn) hp
    | false =>
      have hp' : cfg.idle w (cfg.grid.coords (prev ⟨n + 1, hn⟩)) = false := hp
      rw [hp']
      show dat.kept w _ d = _
      unfold Dat.kept
      rw [fill_of_clip_none w _ (hclip _) d (dat.after w _), Window.fill_cut]

/-- The buffer at what the point leaves in it is what the body has to hand back, idle or not. -/
theorem leaves_of_repeats (w : Fin cfg.W) (hw : (cfg.win w).isOut = true)
    (hclip : ∀ (i : cfg.grid.Coords) a, (cfg.win w).clip i a = none) (h : Repeats dat w) (t : Fin cfg.N) :
    (owns (c : Thread nD τ) ((cfg.win w).stage (cfg.slots t w)) fullShare (dat.after w t) : sProp _)
      ⊢ dat.leavesExact w t := by
  unfold Dat.leavesExact
  cases hi : cfg.idle w (cfg.grid.coords t) with
  | false => exact .rfl
  | true =>
    cases hf : (cfg.win w).flush t with
    | true => exact .rfl
    | false =>
      dsimp only
      iintro H
      iexists (dat.after w t)
      rw [before_of_repeats dat w hw hclip h _ t.val t.isLt hi]
      iexact H

/-- A whole block stored and read back is what was stored. -/
theorem read_store [∀ e, Nonempty (Val e)] {κ : Kind} {sp : Space} {S : Shape} {e : EltTy} (v : View sig κ sp S e)
    (f : v.ty.Contents Val) {off : Fin S.rank → Nat} (inb : ∀ a, off a + S.size a ≤ S.size a) (x : S.Idx → Val e)
    (L : List (View.Piece Val S e)) (h : ∀ a, off a = 0) :
    v.read Val (v.writes Val f ((⟨Rect.unit off (no_index S.size) inb, x⟩ : View.Piece Val S e) :: L)) = x := by
  obtain rfl : off = fun _ => 0 := funext h
  rw [View.read_writes_of_cover v f v v.junk _ (fun y => ⟨_, List.mem_cons_self, by
    show y ∈ (Rect.whole S).set; rw [Rect.set_whole]; exact Finset.mem_univ y⟩), View.read_writes_junk_eq_canon,
    View.canon_cons_unit_lit' inb x L h]

end Cert.Carried
-- ==== Proof.FfTwoDxRun.lean ====
module

public import proofs.«01_k».proof.Proof.Gen.FfTwoDxIdeal.Frame
public import proofs.«01_k».proof.Proof.Gen.FfTwoDxIdeal.Skeleton
public import proofs.«01_k».proof.Proof.Carried

@[expose] public section

set_option maxRecDepth 16384

/-! The run of the gradient through the second feed-forward product, over any float values: at the first of the four
    points of a block of rows the body makes the left operand and the row sums, at the others it takes them over. -/

noncomputable section

namespace Cert.FfTwoDxPart

open Cert.FfTwoDxIdeal Cert.FfTwoDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The left operand made from the activation, the gradient and the two vectors' tables. -/
abbrev made (y dx : Vec F S1024x1024 .f32) (g md : Vec F S8x1024 .f32) : Vec F S1024x1024 .bf16 :=
  k0_pay3 (k0_pay9 y dx g md)

/-- The row sums made with it. -/
abbrev madeSums (y dx : Vec F S1024x1024 .f32) (g md : Vec F S8x1024 .f32) : Vec F S8x1024 .f32 :=
  k0_pay1 (k0_pay10 y dx g) (k0_pay11 y dx md) (iota .tc S8x1024 32 [0] iota_S8x1024_d0_w32) k0_pay12 k0_pay13

set_option maxHeartbeats 1000000 in
/-- The body at the first point of a block of rows. -/
theorem run_first (c : Dev nD) (i : grid0.Coords) (arg3 : Memref sig .tc .vmem S1024x1024 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S8x1024 .f32) (harg6 : arg6.IsWhole) (arg7 : Memref sig .tc .vmem S8x1024 .f32) (harg7 : arg7.IsWhole)
    (arg8 : Memref sig .tc .vmem S1024x1024 .bf16) (harg8 : arg8.IsWhole) (arg9 : Memref sig .tc .vmem S1024x1024 .bf16) (harg9 : arg9.IsWhole)
    (arg10 : Memref sig .tc .vmem S1024x1024 .bf16) (harg10 : arg10.IsWhole) (arg11 : Memref sig .tc .vmem S8x1024 .f32) (harg11 : arg11.IsWhole)
    (arg12 : Memref sig .tc .vmem S1024x1024 .bf16) (harg12 : arg12.IsWhole) (hc : k0_cond1 i = 1#1)
    (x0 : Vec F S1024x1024 .f32) (x1 : Vec F S1024x1024 .bf16) (x2 : Vec F S1024x1024 .f32) (x3 x4 : Vec F S8x1024 .f32)
    (x5 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (k0_pay4 x1 (made x0 x2 x3 x4) x5)
            ∗ owns (c : Thread nD τ) arg10 fullShare (k0_pay2 (k0_pay9 x0 x2 x3 x4))
            ∗ owns (c : Thread nD τ) arg11 fullShare (madeSums x0 x2 x3 x4)
            ∗ owns (c : Thread nD τ) arg12 fullShare (made x0 x2 x3 x4)) -∗ K ⟨⟩))
      ⊢ wp frame (wpE (defs₀ (F := F)) Variants.none c none) E
          (cc0_ff2_dx_l0 i arg3 harg3 arg4 harg4 arg5 harg5 arg6 harg6 arg7 harg7 arg8 harg8 arg9 harg9 arg10 harg10 arg11 harg11 arg12 harg12) K := by
  simp only [cc0_ff2_dx_l0_eq_skeleton]; unfold cc0_ff2_dx_l0_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    frame_open
    simp (disch := decide) only [Carried.read_store, View.readAt_eq_ld, Memref.IsWhole.read_unread, View.ld_unit_lit',
      View.readCov_unit_lit', View.readCov_cons_unit_lit']
  isplitl [H7]
  · iexists _; isplitr
    swap; · iexact H7
    ipureintro
    frame_open
    simp (disch := decide) only [Carried.read_store, View.readAt_eq_ld, Memref.IsWhole.read_unread, View.ld_unit_lit',
      View.readCov_unit_lit', View.readCov_cons_unit_lit']
  isplitl [H8]
  · iexists _; isplitr
    swap; · iexact H8
    ipureintro
    frame_open
    simp (disch := decide) only [Carried.read_store, View.readAt_eq_ld, Memref.IsWhole.read_unread, View.ld_unit_lit',
      View.readCov_unit_lit', View.readCov_cons_unit_lit']
  iexists _; isplitr
  swap; · iexact H9
  ipureintro
  frame_open
  simp (disch := decide) only [Carried.read_store, View.readAt_eq_ld, Memref.IsWhole.read_unread, View.ld_unit_lit',
    View.readCov_unit_lit', View.readCov_cons_unit_lit']

set_option maxHeartbeats 1000000 in
/-- The body at a later point: the left operand is the one the scratch holds, and two outputs stay as they are. -/
theorem run_later (c : Dev nD) (i : grid0.Coords) (arg3 : Memref sig .tc .vmem S1024x1024 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S8x1024 .f32) (harg6 : arg6.IsWhole) (arg7 : Memref sig .tc .vmem S8x1024 .f32) (harg7 : arg7.IsWhole)
    (arg8 : Memref sig .tc .vmem S1024x1024 .bf16) (harg8 : arg8.IsWhole) (arg9 : Memref sig .tc .vmem S1024x1024 .bf16) (harg9 : arg9.IsWhole)
    (arg10 : Memref sig .tc .vmem S1024x1024 .bf16) (harg10 : arg10.IsWhole) (arg11 : Memref sig .tc .vmem S8x1024 .f32) (harg11 : arg11.IsWhole)
    (arg12 : Memref sig .tc .vmem S1024x1024 .bf16) (harg12 : arg12.IsWhole) (hc : ¬k0_cond1 i = 1#1)
    (x1 : Vec F S1024x1024 .bf16) (x5 l : Vec F S1024x1024 .bf16) (E : Set ℕ) (K : PUnit → sProp 𝕄) :
    iprop(owns (c : Thread nD τ) arg4 fullShare x1 ∗ owns (c : Thread nD τ) arg8 fullShare x5
        ∗ (∃ d, owns (c : Thread nD τ) arg9 fullShare d) ∗ owns (c : Thread nD τ) arg12 fullShare l
        ∗ (iprop(owns (c : Thread nD τ) arg4 fullShare x1 ∗ owns (c : Thread nD τ) arg8 fullShare x5
            ∗ owns (c : Thread nD τ) arg9 fullShare (k0_pay4 x1 l x5) ∗ owns (c : Thread nD τ) arg12 fullShare l) -∗ K ⟨⟩))
      ⊢ wp frame (wpE (defs₀ (F := F)) Variants.none c none) E
          (cc0_ff2_dx_l0 i arg3 harg3 arg4 harg4 arg5 harg5 arg6 harg6 arg7 harg7 arg8 harg8 arg9 harg9 arg10 harg10 arg11 harg11 arg12 harg12) K := by
  simp only [cc0_ff2_dx_l0_eq_skeleton]; unfold cc0_ff2_dx_l0_skel
  unfold owns
  iintro ⟨⟨%f1, %hf1, H1⟩, ⟨%f5, %hf5, H5⟩, ⟨%d6, %f6, -, H6⟩, ⟨%f9, %hf9, H9⟩, Hk⟩
  obtain rfl := harg4.eq_unread hf1; obtain rfl := harg8.eq_unread hf5; obtain rfl := harg12.eq_unread hf9
  sl_exec (disch := first | sl_exact hc)
  sl_step
  iapply Hk
  isplitl [H1]
  · iexists _; isplitr; · ipureintro; exact harg4.read_unread _
    iexact H1
  isplitl [H5]
  · iexists _; isplitr; · ipureintro; exact harg8.read_unread _
    iexact H5
  isplitl [H6]
  · iexists _; isplitr
    swap; · iexact H6
    ipureintro
    frame_open
    simp (disch := decide) only [Carried.read_store, View.readAt_eq_ld, Memref.IsWhole.read_unread, View.ld_unit_lit',
      View.readCov_unit_lit', View.readCov_cons_unit_lit']
  iexists _; isplitr; · ipureintro; exact harg12.read_unread _
  iexact H9

/-! ## The pipeline's data -/

variable (m : (ℓ : Loc nD τ sig) → Buf (Elt F) ℓ) (ρ : Dev nD → PrngReg)

theorem N8 : cfg0.N = 8 := N_0

/-- The first point of the point's block of rows. -/
def at0 (t : Fin cfg0.N) : Fin cfg0.N := ⟨t.val / 4 * 4, Nat.lt_of_le_of_lt (Nat.div_mul_le_self _ _) t.isLt⟩

theorem at0_first (t : Fin cfg0.N) (h : t.val % 4 = 0) : at0 t = t := Fin.ext (by show t.val / 4 * 4 = t.val; omega)

theorem at0_prev (t : Fin cfg0.N) (h : ¬t.val % 4 = 0) : at0 (Carried.prev t) = at0 t :=
  Fin.ext (by show (t.val - 1) / 4 * 4 = t.val / 4 * 4; omega)

/-- The left operand the point works with. -/
def lhs (c : Dev nD) (t : Fin cfg0.N) : Vec F S1024x1024 .bf16 :=
  made (iblk m c 0 (at0 t)) (iblk m c 2 (at0 t)) (iblk m c 3 (at0 t)) (iblk m c 4 (at0 t))

/-- The same as the output holds it. -/
def lhsOut (c : Dev nD) (t : Fin cfg0.N) : Vec F S1024x1024 .bf16 :=
  k0_pay2 (k0_pay9 (iblk m c 0 (at0 t)) (iblk m c 2 (at0 t)) (iblk m c 3 (at0 t)) (iblk m c 4 (at0 t)))

/-- The row sums the point works with. -/
def sums (c : Dev nD) (t : Fin cfg0.N) : Vec F S8x1024 .f32 :=
  madeSums (iblk m c 0 (at0 t)) (iblk m c 2 (at0 t)) (iblk m c 3 (at0 t)) (iblk m c 4 (at0 t))

/-- The scratch, as the body is handed it. -/
abbrev scr : Memref sig .tc .vmem S1024x1024 .bf16 := Memref.whole cc0_scratch0

/-- What holds before a point: at first nothing is known of the scratch, later it holds the left operand of the point before. -/
def inv (c : Dev nD) : (n : ℕ) → n ≤ cfg0.N → sProp 𝕄
  | 0, _ => Pipeline.ΦA spec0 c
  | n + 1, hn => iprop(iprop(owns (c : Thread nD τ) scr fullShare (lhs m c ⟨n, hn⟩)) ∗ (∃ r, prngReg c r))

theorem inv_pos (c : Dev nD) (t : Fin cfg0.N) (h : t.val ≠ 0) :
    inv m c t.val (Nat.le_of_lt t.isLt)
      = iprop(iprop(owns (c : Thread nD τ) scr fullShare (lhs m c (Carried.prev t))) ∗ (∃ r, prngReg c r)) := by
  obtain ⟨n, hn⟩ := t
  cases n with
  | zero => exact absurd rfl h
  | succ n => rfl

theorem launch_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- What each point leaves in the windows' buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 1 t) (lhs m c t) (iblk m c 5 t)
    | ⟨7, _⟩ => lhsOut m c t
    | ⟨8, _⟩ => sums m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = k0_pay4 (iblk m c 1 t) (lhs m c t) (iblk m c 5 t) := by dsimp only [dats]
theorem after_7 (c : Dev nD) (t : Fin cfg0.N) : (dats m 0 c).after 7 t = lhsOut m c t := by dsimp only [dats]
theorem after_8 (c : Dev nD) (t : Fin cfg0.N) : (dats m 0 c).after 8 t = sums m c t := by dsimp only [dats]

theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem idle_7 : ∀ t : Fin cfg0.N, cfg0.idle 7 (grid0.coords t) = true ↔ ¬t.val % 4 = 0 :=
  (by decide +kernel : ∀ t : Fin grid0.N, idle0 7 (grid0.coords t) = true ↔ ¬t.val % 4 = 0)

theorem idle_8 : ∀ t : Fin cfg0.N, cfg0.idle 8 (grid0.coords t) = true ↔ ¬t.val % 4 = 0 :=
  (by decide +kernel : ∀ t : Fin grid0.N, idle0 8 (grid0.coords t) = true ↔ ¬t.val % 4 = 0)

theorem repeats_7 (c : Dev nD) : Carried.Repeats (dats m 0 c) 7 := fun t hi => by
  have h := (idle_7 t).mp hi
  refine ⟨fun h0 => h (by rw [h0]), ?_, ?_⟩
  · exact Bool.eq_false_iff.mpr fun hf => by
      have := (flush0_7 (Carried.prev t)).mp hf
      have h3 : (t.val - 1) % 4 = 3 := this
      omega
  · rw [after_7, after_7]; unfold lhsOut; rw [at0_prev t h]

theorem repeats_8 (c : Dev nD) : Carried.Repeats (dats m 0 c) 8 := fun t hi => by
  have h := (idle_8 t).mp hi
  refine ⟨fun h0 => h (by rw [h0]), ?_, ?_⟩
  · exact Bool.eq_false_iff.mpr fun hf => by
      have := (flush0_8 (Carried.prev t)).mp hf
      have h3 : (t.val - 1) % 4 = 3 := this
      omega
  · rw [after_8, after_8]; unfold sums; rw [at0_prev t h]

/-- The two outputs' buffers at what the point leaves in them are what the body hands back. -/
theorem leaves_7 (c : Dev nD) (t : Fin cfg0.N) :
    (owns (c : Thread nD τ) (win0_7.stage (cfg0.slots t 7)) fullShare (lhsOut m c t) : sProp 𝕄) ⊢ (dats m 0 c).leavesExact 7 t := by
  rw [← after_7 m c t]
  exact Carried.leaves_of_repeats (dats m 0 c) 7 rfl (fun _ _ => rfl) (repeats_7 m c) t

theorem leaves_8 (c : Dev nD) (t : Fin cfg0.N) :
    (owns (c : Thread nD τ) (win0_8.stage (cfg0.slots t 8)) fullShare (sums m c t) : sProp 𝕄) ⊢ (dats m 0 c).leavesExact 8 t := by
  rw [← after_8 m c t]
  exact Carried.leaves_of_repeats (dats m 0 c) 8 rfl (fun _ _ => rfl) (repeats_8 m c) t

theorem before_7 (c : Dev nD) (t : Fin cfg0.N) (h : cfg0.idle 7 (grid0.coords t) = true) (d) :
    (dats m 0 c).before 7 t d = lhsOut m c t :=
  (Carried.before_of_repeats (dats m 0 c) 7 rfl (fun _ _ => rfl) (repeats_7 m c) d t.val t.isLt h).trans (after_7 m c t)

theorem before_8 (c : Dev nD) (t : Fin cfg0.N) (h : cfg0.idle 8 (grid0.coords t) = true) (d) :
    (dats m 0 c).before 8 t d = sums m c t :=
  (Carried.before_of_repeats (dats m 0 c) 8 rfl (fun _ _ => rfl) (repeats_8 m c) d t.val t.isLt h).trans (after_8 m c t)

/-! ## The body at a point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A window no point leaves alone comes back at what the point leaves in it. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = iprop(iprop(owns (c : Thread nD τ) scr fullShare (lhs m c t)) ∗ (∃ r, prngReg c r)) from rfl]
  rw [show (dats m 0 c).Φ t.castSucc = inv m c t.val (Nat.le_of_lt t.isLt) from rfl]
  rw [leaves_live m c 0 t rfl, leaves_live m c 1 t rfl, leaves_live m c 2 t rfl, leaves_live m c 3 t rfl,
    leaves_live m c 4 t rfl, leaves_live m c 5 t rfl, leaves_live m c 6 t rfl,
    after_0, after_1, after_2, after_3, after_4, after_5, after_6]
  by_cases h0 : t.val % 4 = 0
  · have hinv : inv m c t.val (Nat.le_of_lt t.isLt)
        ⊢ iprop(iprop((∃ d, owns (c : Thread nD τ) scr fullShare d)) ∗ (∃ r, prngReg c r)) := by
      by_cases hz : t.val = 0
      · obtain ⟨n, hn⟩ := t
        obtain rfl : n = 0 := hz
        rw [← launch_eq c]
        exact .rfl
      · rw [inv_pos m c t hz]
        iintro ⟨HS, Hg⟩
        isplitl [HS]
        · iexists _; iexact HS
        iexact Hg
    refine BIBase.Entails.trans (sep_mono hinv .rfl) ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ ((first_iff t).mpr h0)
      (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    have e1 : lhs m c t = made (iblk m c 0 t) (iblk m c 2 t) (iblk m c 3 t) (iblk m c 4 t) := by
      unfold lhs; rw [at0_first t h0]
    have e7 : lhsOut m c t = k0_pay2 (k0_pay9 (iblk m c 0 t) (iblk m c 2 t) (iblk m c 3 t) (iblk m c 4 t)) := by
      unfold lhsOut; rw [at0_first t h0]
    have e8 : sums m c t = madeSums (iblk m c 0 t) (iblk m c 2 t) (iblk m c 3 t) (iblk m c 4 t) := by
      unfold sums; rw [at0_first t h0]
    rw [e1]
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves_7 m c t); rw [e7]; iexact H7
    iapply (leaves_8 m c t); rw [e8]; iexact H8
  · have hz : t.val ≠ 0 := fun hz => h0 (by rw [hz])
    have e1 : lhs m c (Carried.prev t) = lhs m c t := by unfold lhs; rw [at0_prev t h0]
    rw [inv_pos m c t hz, e1]
    simp only [before_7 m c t ((idle_7 t).mpr h0), before_8 m c t ((idle_8 t).mpr h0)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun h => h0 ((first_iff t).mp h))
      (iblk m c 1 t) (iblk m c 5 t) (lhs m c t) Set.univ _)
    isplitl [H1]; · iexact H1
    isplitl [H5]; · iexact H5
    isplitl [H6]; · iexists _; iexact H6
    isplitl [HS]; · iexact HS
    iintro ⟨H1, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves_7 m c t); iexact H7
    iapply (leaves_8 m c t); iexact H8

/-! ## The run -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N)
    = iprop(iprop(owns (c : Thread nD τ) scr fullShare (lhs m c ⟨7, by rw [N8]; decide⟩)) ∗ (∃ r, prngReg c r)) from rfl, launch_eq]
  iintro ⟨HS, Hg⟩
  isplitl [HS]
  · iexists _; iexact HS
  iexact Hg

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays after the run. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.FfTwoDxPart

end
-- ==== Proof.GateRef.lean ====
module

public import proofs.«01_k».proof.Defs
public import proofs.«01_k».proof.Proof.Gen.FfTwoDxRefIdeal.Run
public import proofs.«01_k».proof.Proof.NormGrad
public import Idealize.ShloMosaic.Lib.Pipeline.ValueKit
public import Idealize.ShloMosaic.Lib.Pointwise

@[expose] public section

set_option maxRecDepth 16384

noncomputable section

namespace Cert.GateRef

open Idealize.ShloMosaic Idealize.ShloMosaic.TcCoe Idealize.SL.Sem
open Cert.FfTwoDxRefIdeal Cert.FfTwoDxRefIdeal.Gen

/-- An array of rows, by halves. -/
def halves (x : FVec Ideal S2048x1024 .f32) : FVec Ideal S2x1024x1024 .f32 :=
  shapeCast S2x1024x1024 x shapeCasts_S2048x1024_S2x1024x1024

/-- Each row's mean square plus the small constant. -/
def meanSq (y : FVec Ideal S2x1024x1024 .f32) : FVec Ideal S2x1024x1 .f32 :=
  addf (Host.divf (broadcastInDim S2x1024x1 ![0, 1] bcast_S2x1024_S2x1024x1_0_1 (Host.reduceAdd (mulf y y) (constant (F := Ideal) S_ .f32 0x00000000#32) reducesTo_S2x1024x1024_S2x1024_d2 h_S_)) (broadcastInDim S2x1024x1 ![] bcast_S_S2x1024x1 (constant (F := Ideal) S_ .f32 0x44800000#32))) (broadcastInDim S2x1024x1 ![] bcast_S_S2x1024x1 (constant (F := Ideal) S_ .f32 0x358637BD#32))

/-- A row of 1024 entries, laid out over all the rows. -/
def spread (g : FVec Ideal S1024 .f32) : FVec Ideal S2x1024x1024 .f32 :=
  broadcastInDim S2x1024x1024 ![0, 1, 2] bcast_S2x1x1024_S2x1024x1024_0_1_2 (broadcastInDim S2x1x1024 ![2] bcast_S1024_S2x1x1024_2 g)

/-- The gradient at the rows normalised. -/
def scaled (d : FVec Ideal S2x1024x1024 .f32) (g gate : FVec Ideal S1024 .f32) : FVec Ideal S2x1024x1024 .f32 :=
  mulf (mulf (spread gate) d) (spread g)

/-- Half the gradient that flows through the mean square, for each row. -/
def half (d y : FVec Ideal S2x1024x1024 .f32) (g gate : FVec Ideal S1024 .f32) : FVec Ideal S2x1024 .f32 :=
  Host.reduceAdd (Host.divf (mulf (shapeCast _ (Host.reduceAdd (mulf y (scaled d g gate)) (constant (F := Ideal) S_ .f32 0x00000000#32) reducesTo_S2x1024x1024_S2x1024_d2 h_S_) shapeCasts_S2x1024_S2x1024x1) (mulf (broadcastInDim S2x1024x1 ![] bcast_S_S2x1024x1 (constant (F := Ideal) S_ .f32 0xBF000000#32)) (Host.divf (Host.rsqrt (meanSq y)) (meanSq y)))) (broadcastInDim S2x1024x1 ![] bcast_S_S2x1024x1 (constant (F := Ideal) S_ .f32 0x44800000#32))) (constant (F := Ideal) S_ .f32 0x00000000#32) reducesTo_S2x1024x1_S2x1024_d2 h_S_

/-- The gradient at the rows, as the reference composes it. -/
def Dy (d y : FVec Ideal S2x1024x1024 .f32) (g gate : FVec Ideal S1024 .f32) : FVec Ideal S2048x1024 .f32 :=
  shapeCast S2048x1024 (addf (addf (mulf (scaled d g gate) (broadcastInDim S2x1024x1024 ![0, 1, 2] bcast_S2x1024x1_S2x1024x1024_0_1_2 (Host.rsqrt (meanSq y)))) (mulf y (broadcastInDim S2x1024x1024 ![0, 1] bcast_S2x1024_S2x1024x1024_0_1 (half d y g gate)))) (mulf (broadcastInDim S2x1024x1024 ![0, 1] bcast_S2x1024_S2x1024x1024_0_1 (half d y g gate)) y)) shapeCasts_S2x1024x1024_S2048x1024

/-- The gradients at the gate and the weights, as the reference lays them out. -/
def Rows (d y : FVec Ideal S2x1024x1024 .f32) (g gate : FVec Ideal S1024 .f32) : FVec Ideal S16x1024 .f32 :=
  shapeCast S16x1024 ((concatenate S2x8x1024 1 [⟨S2x1x1024, ((shapeCast _ (Host.reduceAdd (mulf d (mulf (mulf y (broadcastInDim S2x1024x1024 ![0, 1, 2] bcast_S2x1024x1_S2x1024x1024_0_1_2 (Host.rsqrt (meanSq y)))) (spread g))) (constant (F := Ideal) S_ .f32 0x00000000#32) reducesTo_S2x1024x1024_S2x1024_d1 h_S_) shapeCasts_S2x1024_S2x1x1024) : (⟨S2x1x1024, .f32⟩ : BufTy).Contents (Elt Ideal))⟩, ⟨S2x1x1024, ((shapeCast _ (Host.reduceAdd (mulf (mulf y (broadcastInDim S2x1024x1024 ![0, 1, 2] bcast_S2x1024x1_S2x1024x1024_0_1_2 (Host.rsqrt (meanSq y)))) (mulf (spread gate) d)) (constant (F := Ideal) S_ .f32 0x00000000#32) reducesTo_S2x1024x1024_S2x1024_d1 h_S_) shapeCasts_S2x1024_S2x1x1024) : (⟨S2x1x1024, .f32⟩ : BufTy).Contents (Elt Ideal))⟩, ⟨S2x6x1024, ((broadcastInDim S2x6x1024 ![] bcast_S_S2x6x1024 (constant (F := Ideal) S_ .f32 0x00000000#32)) : (⟨S2x6x1024, .f32⟩ : BufTy).Contents (Elt Ideal))⟩] concatenates_S2x1x1024_S2x1x1024_S2x6x1024_S2x8x1024_d1 : (⟨S2x8x1024, .f32⟩ : BufTy).Contents (Elt Ideal))) shapeCasts_S2x8x1024_S16x1024

theorem halves_apply (x : FVec Ideal S2048x1024 .f32) (p : Fin 2) (r : Fin 1024) (j : Fin 1024) :
    halves x (ix3 p r j) = x (ix2 ⟨p.val * 1024 + r.val, by omega⟩ j) := by
  unfold halves
  pointwise

theorem meanSq_apply (y : FVec Ideal S2x1024x1024 .f32) (p : Fin 2) (r : Fin 1024) :
    meanSq y (ix3 p r (0 : Fin 1)) = Ideal.div (∑ i : Fin 1024, y (ix3 p r i) * y (ix3 p r i)) (Ideal.ofBits .f32 0x44800000#32) + Ideal.ofBits .f32 0x358637BD#32 := by
  unfold meanSq
  pointwise

theorem spread_apply (g : FVec Ideal S1024 .f32) (p : Fin 2) (r : Fin 1024) (j : Fin 1024) : spread g (ix3 p r j) = g (ix1 j) := by
  unfold spread
  pointwise

theorem scaled_apply (d : FVec Ideal S2x1024x1024 .f32) (g gate : FVec Ideal S1024 .f32) (p : Fin 2) (r : Fin 1024) (j : Fin 1024) :
    scaled d g gate (ix3 p r j) = d (ix3 p r j) * gate (ix1 j) * g (ix1 j) := by
  unfold scaled
  pointwise
  rw [spread_apply, spread_apply, mul_comm (G := EReal) (gate (ix1 j))]

theorem half_apply (d y : FVec Ideal S2x1024x1024 .f32) (g gate : FVec Ideal S1024 .f32) (p : Fin 2) (r : Fin 1024) :
    half d y g gate (ix2 p r) = Ideal.div ((∑ i : Fin 1024, y (ix3 p r i) * scaled d g gate (ix3 p r i)) * (Ideal.ofBits .f32 0xBF000000#32 *
      Ideal.div (Ideal.rsqrt (meanSq y (ix3 p r (0 : Fin 1)))) (meanSq y (ix3 p r (0 : Fin 1))))) (Ideal.ofBits .f32 0x44800000#32) := by
  unfold half
  pointwise
  exact Fin.sum_univ_one (M := EReal) _

/-- One entry of the gradient, as the kernel factors it. -/
theorem Dy_apply (d y : FVec Ideal S2x1024x1024 .f32) (g gate : FVec Ideal S1024 .f32) (p : Fin 2) (r : Fin 1024) (j : Fin 1024) :
    Dy d y g gate (ix2 ⟨p.val * 1024 + r.val, by omega⟩ j) = NormGrad.gated (fun i => y (ix3 p r i))
      (fun i => d (ix3 p r i) * gate (ix1 i) * g (ix1 i)) j := by
  unfold Dy
  pointwise
  rw [half_apply, scaled_apply, meanSq_apply]
  simp only [scaled_apply]
  have h := NormGrad.norm_grad (fun i => y (ix3 p r i)) (fun i => d (ix3 p r i) * gate (ix1 i) * g (ix1 i)) _ 0 (y (ix3 p r j))
    (d (ix3 p r j) * gate (ix1 j) * g (ix1 j)) (NormGrad.ms_cases (fun i => y (ix3 p r i)) _ rfl)
  rw [zero_add, zero_add] at h
  exact h.symm

/-- One entry of the sums over a part of the rows. -/
theorem Rows_apply (d y : FVec Ideal S2x1024x1024 .f32) (g gate : FVec Ideal S1024 .f32) (p : Fin 2) (r : Fin 8) (j : Fin 1024) :
    Rows d y g gate (ix2 ⟨p.val * 8 + r.val, by omega⟩ j) = NormGrad.gatedSums (fun (i : Fin 1024) k => y (ix3 p i k)) (fun (i : Fin 1024) k => d (ix3 p i k)) (g (ix1 j)) (gate (ix1 j)) j r.val := by
  unfold Rows
  pointwise
  unfold NormGrad.gatedSums
  by_cases h0 : r.val = 0
  · rw [dif_pos (by omega), if_neg (by omega), if_pos h0]
    simp only [meanSq_apply, spread_apply]
    rfl
  rw [dif_neg (by omega)]
  by_cases h1 : r.val = 1
  · rw [dif_pos (by omega), if_pos h1]
    simp only [meanSq_apply, spread_apply]
    refine Finset.sum_congr (M := EReal) rfl fun i _ => ?_
    rw [mul_comm (G := EReal) (gate (ix1 j))]
    exact mul_comm (G := EReal) _ _
  rw [dif_neg (by omega), if_neg h1, if_neg h0]

end Cert.GateRef
-- ==== Proof.FfTwoDx.lean ====
module

public import proofs.«01_k».proof.Defs
public import proofs.«01_k».proof.Proof.Gen.FfTwoDx.Frame
public import proofs.«01_k».proof.Proof.FfTwoDxRun
public import proofs.«01_k».proof.Proof.GateRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfTwoDxPart

open Idealize.ShloMosaic Idealize.ShloMosaic.TcCoe Idealize.SL.Sem
open Cert.FfTwoDxIdeal Cert.FfTwoDxIdeal.Gen

section Blocks

variable (m : (ℓ : Loc nD τ sig) → Buf (Elt Ideal) ℓ)

theorem idx0_0 : ∀ t : Fin cfg0.N, win0_0.index t = ![t.val / 4, 0] := (by decide +kernel)
theorem idx0_1 : ∀ t : Fin cfg0.N, win0_1.index t = ![t.val % 4, 0] := (by decide +kernel)
theorem idx0_2 : ∀ t : Fin cfg0.N, win0_2.index t = ![t.val / 4, 0] := (by decide +kernel)
theorem idx0_3 : ∀ t : Fin cfg0.N, win0_3.index t = ![0, 0] := (by decide +kernel)
theorem idx0_4 : ∀ t : Fin cfg0.N, win0_4.index t = ![0, 0] := (by decide +kernel)
theorem idx0_5 : ∀ t : Fin cfg0.N, win0_5.index t = ![t.val / 4, t.val % 4] := (by decide +kernel)
theorem idx0_6 : ∀ t : Fin cfg0.N, win0_6.index t = ![t.val / 4, t.val % 4] := (by decide +kernel)
theorem idx0_7 : ∀ t : Fin cfg0.N, win0_7.index t = ![t.val / 4, 0] := (by decide +kernel)
theorem idx0_8 : ∀ t : Fin cfg0.N, win0_8.index t = ![t.val / 4, 0] := (by decide +kernel)
theorem t_lt : ∀ t : Fin cfg0.N, t.val < 8 := (by decide +kernel)

/-- The half of the rows a point works on. -/
abbrev part (t : Fin cfg0.N) : Fin 2 := ⟨t.val / 4, by have := t_lt t; omega⟩

theorem y_eq (c : Dev nD) (t : Fin cfg0.N) (r j : Fin 1024) :
    iblk m c 0 t (ix2 r j) = m ((c.tc : Thread nD τ).loc main_arg0) (ix2 ⟨(part t).val * 1024 + r.val, by omega⟩ j) := by
  show V m c main_arg0 (((cfg0.win 0).blk t).view.emb _) = _
  rw [V_main_arg0]
  congr 1
  blk_ext [idx0_0]

theorem w_eq (c : Dev nD) (t : Fin cfg0.N) (k j : Fin 1024) :
    iblk m c 1 t (ix2 k j) = m ((c.tc : Thread nD τ).loc main_arg1) (ix2 ⟨t.val % 4 * 1024 + k.val, by omega⟩ j) := by
  show V m c main_arg1 (((cfg0.win 1).blk t).view.emb _) = _
  rw [V_main_arg1]
  congr 1
  blk_ext [idx0_1]

theorem dx_eq (c : Dev nD) (t : Fin cfg0.N) (r j : Fin 1024) :
    iblk m c 2 t (ix2 r j) = m ((c.tc : Thread nD τ).loc main_arg3) (ix2 ⟨(part t).val * 1024 + r.val, by omega⟩ j) := by
  show V m c main_arg3 (((cfg0.win 2).blk t).view.emb _) = _
  rw [V_main_arg3]
  congr 1
  blk_ext [idx0_2]

theorem a_eq (c : Dev nD) (t : Fin cfg0.N) (r j : Fin 1024) :
    iblk m c 5 t (ix2 r j) = m ((c.tc : Thread nD τ).loc main_arg2) (ix2 ⟨(part t).val * 1024 + r.val, by omega⟩ ⟨t.val % 4 * 1024 + j.val, by omega⟩) := by
  show V m c main_arg2 (((cfg0.win 5).blk t).view.emb _) = _
  rw [V_main_arg2]
  congr 1
  blk_ext [idx0_5]

set_option maxHeartbeats 1000000 in
theorem V_gvec (c : Dev nD) : V m c main_v3 = (concatenate S8x1024 0
      [⟨S3x1024, broadcastInDim S3x1024 ![] bcast_S_S3x1024 (constant (F := Ideal) S_ .f32 0x00000000#32)⟩,
       ⟨S1x1024, broadcastInDim S1x1024 ![1] bcast_S1024_S1x1024_1 (m ((c.tc : Thread nD τ).loc main_arg4))⟩,
       ⟨S4x1024, broadcastInDim S4x1024 ![] bcast_S_S4x1024 (constant (F := Ideal) S_ .f32 0x00000000#32)⟩]
        concatenates_S3x1024_S1x1024_S4x1024_S8x1024_d0 : S8x1024.Idx → EReal) := by
  show StableHlo.after _ _ _ = _
  after_results
  rfl

set_option maxHeartbeats 1000000 in
theorem g_eq (c : Dev nD) (t : Fin cfg0.N) (j : Fin 1024) :
    iblk m c 3 t (ix2 (3 : Fin 8) j) = m ((c.tc : Thread nD τ).loc main_arg4) (ix1 j) := by
  show V m c main_v3 (((cfg0.win 3).blk t).view.emb _) = _
  rw [V_gvec]
  rw [show ((cfg0.win 3).blk t).view.emb (ix2 3 j) = ix2 3 j by blk_ext [idx0_3]]
  pointwise

set_option maxHeartbeats 1000000 in
theorem V_mod (c : Dev nD) : V m c main_v7 = (concatenate S8x1024 0
      [⟨S5x1024, broadcastInDim S5x1024 ![] bcast_S_S5x1024 (constant (F := Ideal) S_ .f32 0x00000000#32)⟩,
       ⟨S1x1024, broadcastInDim S1x1024 ![1] bcast_S1024_S1x1024_1 (m ((c.tc : Thread nD τ).loc main_arg5))⟩,
       ⟨S2x1024, broadcastInDim S2x1024 ![] bcast_S_S2x1024 (constant (F := Ideal) S_ .f32 0x00000000#32)⟩]
        concatenates_S5x1024_S1x1024_S2x1024_S8x1024_d0 : S8x1024.Idx → EReal) := by
  show StableHlo.after _ _ _ = _
  after_results
  rfl

set_option maxHeartbeats 1000000 in
theorem gate_eq (c : Dev nD) (t : Fin cfg0.N) (j : Fin 1024) :
    iblk m c 4 t (ix2 (5 : Fin 8) j) = m ((c.tc : Thread nD τ).loc main_arg5) (ix1 j) := by
  show V m c main_v7 (((cfg0.win 4).blk t).view.emb _) = _
  rw [V_mod]
  rw [show ((cfg0.win 4).blk t).view.emb (ix2 5 j) = ix2 5 j by blk_ext [idx0_4]]
  pointwise

theorem at0_div (t : Fin cfg0.N) : (at0 t).val / 4 = t.val / 4 := by
  have h : (at0 t).val = t.val / 4 * 4 := rfl
  omega

end Blocks

theorem pay_dy (y dx : S1024x1024.Idx → EReal) (g md : S8x1024.Idx → EReal) (r j : Fin 1024) :
    k0_pay9 (F := Ideal) y dx g md (ix2 r j) = NormGrad.gated (fun i => y (ix2 r i))
      (fun i => dx (ix2 r i) * md (ix2 (5 : Fin 8) i) * g (ix2 (3 : Fin 8) i)) j := by
  unfold_payloads
  pointwise
  rfl

theorem pay_sums (y dx : S1024x1024.Idx → EReal) (g md : S8x1024.Idx → EReal) (r : Fin 8) (j : Fin 1024) :
    madeSums (F := Ideal) y dx g md (ix2 r j) = NormGrad.gatedSums (fun (i : Fin 1024) k => y (ix2 i k)) (fun (i : Fin 1024) k => dx (ix2 i k))
      (g (ix2 (3 : Fin 8) j)) (md (ix2 (5 : Fin 8) j)) j r.val := by
  unfold madeSums
  unfold_payloads
  pointwise
  fin_cases r <;> rfl

theorem pay_da (w l a : S1024x1024.Idx → EReal) (r j : Fin 1024) :
    k0_pay4 (F := Ideal) w l a (ix2 r j) = (∑ k : Fin 1024, l (ix2 r k) * w (ix2 j k)) * (Ideal.ofBits .bf16 0x4000#16 * max (a (ix2 r j)) 0) := by
  unfold_payloads
  pointwise

theorem pay_made (y dx : S1024x1024.Idx → EReal) (g md : S8x1024.Idx → EReal) (r j : Fin 1024) :
    made (F := Ideal) y dx g md (ix2 r j) = k0_pay9 (F := Ideal) y dx g md (ix2 r j) := by
  unfold made k0_pay3 k0_pay2
  pointwise

end Cert.FfTwoDxPart

namespace Cert.FfTwoDxRefIdeal

open Idealize.ShloMosaic Idealize.ShloMosaic.TcCoe Idealize.SL.Sem Cert.FfTwoDxRefIdeal.Gen

/-- The product of the gradient's rows, where the activation is positive twice itself times, elsewhere nothing. -/
def Da (dy : FVec Ideal S2048x1024 .f32) (w : FVec Ideal S4096x1024 .bf16) (a : FVec Ideal S2048x4096 .bf16) : FVec Ideal S2048x4096 .bf16 :=
  truncf .bf16 (select (cmpf .ogt (extf .f32 a bitsLt_bf16_f32) (broadcastInDim S2048x4096 ![] bcast_S_S2048x4096 (constant S_ .f32 0x00000000#32)))
    (mulf (Host.dotGeneral (φ₁ := .f32) (φ₂ := .f32) dot_S2048x1024_S4096x1024_S2048x4096_1_1_0_0_n_n none dy (extf .f32 w bitsLt_bf16_f32))
      (mulf (broadcastInDim S2048x4096 ![] bcast_S_S2048x4096 (constant S_ .f32 0x40000000#32)) (maximumf (extf .f32 a bitsLt_bf16_f32) (broadcastInDim S2048x4096 ![] bcast_S_S2048x4096 (constant S_ .f32 0x00000000#32)))))
    (broadcastInDim S2048x4096 ![] bcast_S_S2048x4096 (constant S_ .f32 0x00000000#32))) bitsLt_bf16_f32

/-- Two, in either width. -/
theorem two_eq : Ideal.ofBits .bf16 0x4000#16 = Ideal.ofBits .f32 0x40000000#32 := by
  simp [Ideal.ofBits, Ideal.ieee, -EReal.coe_mul]
  try norm_num

theorem Da_apply (dy : FVec Ideal S2048x1024 .f32) (w : FVec Ideal S4096x1024 .bf16) (a : FVec Ideal S2048x4096 .bf16) (r : Fin 2048) (j : Fin 4096) :
    Da dy w a (ix2 r j) = (∑ k : Fin 1024, dy (ix2 r k) * w (ix2 j k)) * (Ideal.ofBits .bf16 0x4000#16 * max (a (ix2 r j)) 0) := by
  unfold Da
  pointwise
  rw [two_eq]
  by_cases h : 0 < a (ix2 r j)
  · rw [if_pos h]
  · rw [if_neg h, max_eq_right (not_lt.mp h), mul_zero, mul_zero]

variable (m : (ℓ : Loc nD τ sig) → Buf (Elt Ideal) ℓ)

/-- The gradient at the rows. -/
def Grad (c : Dev nD) : FVec Ideal S2048x1024 .f32 :=
  GateRef.Dy (GateRef.halves (m ((c.tc : Thread nD τ).loc main_arg3))) (GateRef.halves (m ((c.tc : Thread nD τ).loc main_arg0)))
    (m ((c.tc : Thread nD τ).loc main_arg4)) (m ((c.tc : Thread nD τ).loc main_arg5))

/-- The gradients at the gate and the weights. -/
def Sums (c : Dev nD) : FVec Ideal S16x1024 .f32 :=
  GateRef.Rows (GateRef.halves (m ((c.tc : Thread nD τ).loc main_arg3))) (GateRef.halves (m ((c.tc : Thread nD τ).loc main_arg0)))
    (m ((c.tc : Thread nD τ).loc main_arg4)) (m ((c.tc : Thread nD τ).loc main_arg5))

theorem res_da (c : Dev nD) : Value.res_main_v63 m c = Da (Grad m c) (m ((c.tc : Thread nD τ).loc main_arg1)) (m ((c.tc : Thread nD τ).loc main_arg2)) := rfl
theorem res_dy (c : Dev nD) : Value.res_main_v64 m c = truncf .bf16 (Grad m c) bitsLt_bf16_f32 := rfl

end Cert.FfTwoDxRefIdeal

namespace Cert.FfTwoDxPart

open Idealize.ShloMosaic Idealize.ShloMosaic.TcCoe Idealize.SL.Sem
open Cert.FfTwoDxIdeal Cert.FfTwoDxIdeal.Gen

variable (m : (ℓ : Loc nD τ sig) → Buf (Elt Ideal) ℓ)
variable (m' : (ℓ : Loc FfTwoDxRefIdeal.nD FfTwoDxRefIdeal.τ FfTwoDxRefIdeal.sig) → Buf (Elt Ideal) ℓ)

/-- The two programs' arguments are the same on a device. -/
def Same (c : Dev nD) : Prop :=
  m' ((c.tc : Thread FfTwoDxRefIdeal.nD FfTwoDxRefIdeal.τ).loc FfTwoDxRefIdeal.main_arg0) = m ((c.tc : Thread nD τ).loc main_arg0)
  ∧ m' ((c.tc : Thread FfTwoDxRefIdeal.nD FfTwoDxRefIdeal.τ).loc FfTwoDxRefIdeal.main_arg1) = m ((c.tc : Thread nD τ).loc main_arg1)
  ∧ m' ((c.tc : Thread FfTwoDxRefIdeal.nD FfTwoDxRefIdeal.τ).loc FfTwoDxRefIdeal.main_arg2) = m ((c.tc : Thread nD τ).loc main_arg2)
  ∧ m' ((c.tc : Thread FfTwoDxRefIdeal.nD FfTwoDxRefIdeal.τ).loc FfTwoDxRefIdeal.main_arg3) = m ((c.tc : Thread nD τ).loc main_arg3)
  ∧ m' ((c.tc : Thread FfTwoDxRefIdeal.nD FfTwoDxRefIdeal.τ).loc FfTwoDxRefIdeal.main_arg4) = m ((c.tc : Thread nD τ).loc main_arg4)
  ∧ m' ((c.tc : Thread FfTwoDxRefIdeal.nD FfTwoDxRefIdeal.τ).loc FfTwoDxRefIdeal.main_arg5) = m ((c.tc : Thread nD τ).loc main_arg5)

/-- The gradient's rows made for a point are the reference's. -/
theorem made_eq (c : Dev nD) (h : Same m m' c) (t : Fin cfg0.N) (r j : Fin 1024) :
    k0_pay9 (F := Ideal) (iblk m c 0 (at0 t)) (iblk m c 2 (at0 t)) (iblk m c 3 (at0 t)) (iblk m c 4 (at0 t)) (ix2 r j)
      = FfTwoDxRefIdeal.Grad m' c (ix2 ⟨(part t).val * 1024 + r.val, by omega⟩ j) := by
  obtain ⟨h0, h1, h2, h3, h4, h5⟩ := h
  rw [pay_dy, FfTwoDxRefIdeal.Grad, GateRef.Dy_apply]
  simp only [GateRef.halves_apply, y_eq, dx_eq, g_eq, gate_eq, at0_div, h0, h3, h4, h5]

/-- The first array after the run is the reference's. -/
theorem da_eq (c : Dev nD) (h : Same m m' c) : (dats m 0 c).arrAt 6 cfg0.N = FfTwoDxRefIdeal.Value.res_main_v63 m' c := by
  rw [FfTwoDxRefIdeal.res_da]
  refine (dats m 0 c).arrAt_eq_of_covers 6 _ (by decide +kernel) fun t hf y => ?_
  blk_simp
  rw [after_6]
  idx_vars y
  have ht := t_lt t
  rw [show (((View.whole main_v8_0).slice (win0_6.rect t)).emb (ix2 y0 y1)) = ix2 ⟨(part t).val * 1024 + y0.val, by omega⟩ ⟨t.val % 4 * 1024 + y1.val, by omega⟩ by blk_ext [idx0_6]]
  rw [pay_da, FfTwoDxRefIdeal.Da_apply]
  unfold lhs
  simp only [pay_made, made_eq m m' c h t, w_eq, a_eq]
  obtain ⟨h0, h1, h2, h3, h4, h5⟩ := h
  rw [h1, h2]

/-- The second array after the run is the reference's. -/
theorem dy_eq (c : Dev nD) (h : Same m m' c) : (dats m 0 c).arrAt 7 cfg0.N = FfTwoDxRefIdeal.Value.res_main_v64 m' c := by
  rw [FfTwoDxRefIdeal.res_dy]
  refine (dats m 0 c).arrAt_eq_of_covers 7 _ (by decide +kernel) fun t hf y => ?_
  blk_simp
  rw [after_7]
  idx_vars y
  have ht := t_lt t
  rw [show (((View.whole main_v8_1).slice (win0_7.rect t)).emb (ix2 y0 y1)) = ix2 ⟨(part t).val * 1024 + y0.val, by omega⟩ y1 by blk_ext [idx0_7]]
  exact made_eq m m' c h t y0 y1

/-- The third array after the run holds the reference's sums. -/
theorem sums_eq (c : Dev nD) (h : Same m m' c) : (dats m 0 c).arrAt 8 cfg0.N = FfTwoDxRefIdeal.Sums m' c := by
  obtain ⟨h0, h1, h2, h3, h4, h5⟩ := h
  refine (dats m 0 c).arrAt_eq_of_covers 8 _ (by decide +kernel) fun t hf y => ?_
  blk_simp
  rw [after_8]
  idx_vars y
  have ht := t_lt t
  rw [show (((View.whole main_v8_2).slice (win0_8.rect t)).emb (ix2 y0 y1)) = ix2 ⟨(part t).val * 8 + y0.val, by omega⟩ y1 by blk_ext [idx0_8]]
  unfold sums
  rw [pay_sums, FfTwoDxRefIdeal.Sums, GateRef.Rows_apply]
  simp only [GateRef.halves_apply, y_eq, dx_eq, g_eq, gate_eq, at0_div, h0, h3, h4, h5]

/-- The reference ends with its arguments unchanged and its counters at zero. -/
theorem frame_ref : quiescent_FfTwoDxRefIdeal := by
  intro m ρ _
  exact (θ_run FfTwoDxRefIdeal.defs _ _).mono (fun r h => ⟨fun c => (h c).2.2.2, sem_eq_zero_of_no_sems (by decide) r.2⟩) (FfTwoDxRefIdeal.Value.run m ρ)

/-- The kernel's arrays and the reference's are the same. -/
theorem value : algebraic_FfTwoDxIdeal_FfTwoDxRefIdeal := by
  intro m g m' g' _ hag
  refine ⟨fun c => FfTwoDxRefIdeal.Value.res_main_v63 m' c, fun c => FfTwoDxRefIdeal.Value.res_main_v64 m' c, fun c => FfTwoDxRefIdeal.Sums m' c, ?_, ?_⟩
  · refine (θ_run _ _ _).mono (fun r h c => ?_) (θ_run_and (frame_of m g (dats m) (A_eq m) (run_main m g)) (run_main m g))
    have hw := (h.2 c).1
    exact ⟨(hw 6).trans (da_eq m m' c (hag c)), (hw 7).trans (dy_eq m m' c (hag c)), (hw 8).trans (sums_eq m m' c (hag c)), h.1 c⟩
  · exact FfTwoDxRefIdeal.Value.run m' g'

/-- Both programs call the same body. -/
theorem defs_eq : @Cert.FfTwoDx.defs Bits _ _ = @Cert.FfTwoDxIdeal.defs Bits _ _ := by
  refine congrArg (Pipeline.defs _) (congrArg Defs.onTc ?_)
  funext l a
  match l, a with
  | 0, (t, s) => rfl

/-- The program as written runs to the end as well, its arguments unchanged and its counters at zero. -/
theorem frame_kernel : Cert.quiescent_FfTwoDx := fun m g _ => by
  rw [defs_eq]
  exact frame_run (F := Bits) m g

end Cert.FfTwoDxPart

end
-- ==== Proof.MergeFwd.lean ====
module

public import proofs.«01_k».proof.Defs
public import proofs.«01_k».proof.Proof.Gen.MergeFwdIdeal.Value
public import proofs.«01_k».proof.Proof.Gen.MergeFwdRefIdeal.Run
public import Idealize.ShloMosaic.Lib.Pipeline.ValueKit
public import Idealize.ShloMosaic.Lib.Pointwise

@[expose] public section

set_option maxRecDepth 16384

noncomputable section

namespace Cert.MergeFwdPart

open Idealize.ShloMosaic Idealize.ShloMosaic.TcCoe Idealize.SL.Sem
open Cert.MergeFwdIdeal Cert.MergeFwdIdeal.Gen

variable (m : (ℓ : Loc nD τ sig) → Buf (Elt Ideal) ℓ)

theorem idx0_0 : ∀ t : Fin cfg0.N, win0_0.index t = ![t.val, 0] := (by decide +kernel)
theorem idx0_1 : ∀ t : Fin cfg0.N, win0_1.index t = ![0, 0] := (by decide +kernel)
theorem idx0_2 : ∀ t : Fin cfg0.N, win0_2.index t = ![t.val, 1] := (by decide +kernel)
theorem idx0_3 : ∀ t : Fin cfg0.N, win0_3.index t = ![t.val, 2] := (by decide +kernel)
theorem idx0_4 : ∀ t : Fin cfg0.N, win0_4.index t = ![t.val, 3] := (by decide +kernel)
theorem idx0_5 : ∀ t : Fin cfg0.N, win0_5.index t = ![t.val, 0] := (by decide +kernel)
theorem idx0_6 : ∀ t : Fin cfg0.N, win0_6.index t = ![t.val, 0] := (by decide +kernel)
theorem idx0_7 : ∀ t : Fin cfg0.N, win0_7.index t = ![t.val, 0] := (by decide +kernel)
theorem idx0_8 : ∀ t : Fin cfg0.N, win0_8.index t = ![t.val, 0] := (by decide +kernel)
theorem t_lt : ∀ t : Fin cfg0.N, t.val < 4 := (by decide +kernel)

/-- A row of a block of 512 rows. -/
abbrev row (t : Fin cfg0.N) (r : Fin 512) : Fin 2048 := ⟨t.val * 512 + r.val, by have := t_lt t; omega⟩

theorem c_eq (c : Dev nD) (t : Fin cfg0.N) (r : Fin 512) (k : Fin 256) :
    iblk m c 0 t (ix2 r k) = m ((c.tc : Thread nD τ).loc main_arg0) (ix2 (row t r) k) := by
  show V m c main_arg0 (((cfg0.win 0).blk t).view.emb _) = _
  rw [V_main_arg0]
  congr 1
  blk_ext [idx0_0]

theorem w_eq (c : Dev nD) (t : Fin cfg0.N) (k : Fin 256) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

/-- The first branch's gate logits lie from column 1024 of `z`, the second's and the third's after them. -/
theorem ga_eq (c : Dev nD) (t : Fin cfg0.N) (r : Fin 512) (j : Fin 1024) :
    X0_2 m c t (ix2 r j) = m ((c.tc : Thread nD τ).loc main_arg2) (ix2 (row t r) ⟨1024 + j.val, by omega⟩) := by
  unfold X0_2 Pipeline.Window.fill
  rw [dif_pos (moved0_2 t _)]
  show V m c main_arg2 (((cfg0.win 2).blk t).view.emb _) = _
  rw [V_main_arg2]
  congr 1
  blk_ext [idx0_2]

theorem gb_eq (c : Dev nD) (t : Fin cfg0.N) (r : Fin 512) (j : Fin 1024) :
    X0_3 m c t (ix2 r j) = m ((c.tc : Thread nD τ).loc main_arg2) (ix2 (row t r) ⟨2048 + j.val, by omega⟩) := by
  unfold X0_3 Pipeline.Window.fill
  rw [dif_pos (moved0_3 t _)]
  show V m c main_arg2 (((cfg0.win 3).blk t).view.emb _) = _
  rw [V_main_arg2]
  congr 1
  blk_ext [idx0_3]

theorem gc_eq (c : Dev nD) (t : Fin cfg0.N) (r : Fin 512) (j : Fin 1024) :
    X0_4 m c t (ix2 r j) = m ((c.tc : Thread nD τ).loc main_arg2) (ix2 (row t r) ⟨3072 + j.val, by omega⟩) := by
  unfold X0_4 Pipeline.Window.fill
  rw [dif_pos (moved0_4 t _)]
  show V m c main_arg2 (((cfg0.win 4).blk t).view.emb _) = _
  rw [V_main_arg2]
  congr 1
  blk_ext [idx0_4]

theorem pa_eq (c : Dev nD) (t : Fin cfg0.N) (r : Fin 512) (j : Fin 1024) :
    iblk m c 5 t (ix2 r j) = m ((c.tc : Thread nD τ).loc main_arg3) (ix2 (row t r) j) := by
  show V m c main_arg3 (((cfg0.win 5).blk t).view.emb _) = _
  rw [V_main_arg3]
  congr 1
  blk_ext [idx0_5]

theorem pb_eq (c : Dev nD) (t : Fin cfg0.N) (r : Fin 512) (j : Fin 1024) :
    iblk m c 6 t (ix2 r j) = m ((c.tc : Thread nD τ).loc main_arg4) (ix2 (row t r) j) := by
  show V m c main_arg4 (((cfg0.win 6).blk t).view.emb _) = _
  rw [V_main_arg4]
  congr 1
  blk_ext [idx0_6]

end Cert.MergeFwdPart

namespace Cert.MergeFwdRefIdeal

open Idealize.ShloMosaic Idealize.ShloMosaic.TcCoe Idealize.SL.Sem Cert.MergeFwdRefIdeal.Gen

/-- The third branch's projection as the reference composes it. -/
def product (a : FVec Ideal S2048x256 .f32) (b : FVec Ideal S256x1024 .bf16) : FVec Ideal S2048x1024 .f32 :=
  Host.dotGeneral dot_S2048x256_S256x1024_S2048x1024_1_0_0_1_n_n none a (extf .f32 b bitsLt_bf16_f32)

/-- A gate as the reference composes it. -/
def gate (x : FVec Ideal S2048x1024 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf x)))

/-- The three gates' logits. -/
def la (z : FVec Ideal S2048x5760 .f32) : FVec Ideal S2048x1024 .f32 := extractStridedSlice S2048x1024 ![0, 1024] z slices_S2048x5760_S2048x1024_0_1024
def lb (z : FVec Ideal S2048x5760 .f32) : FVec Ideal S2048x1024 .f32 := extractStridedSlice S2048x1024 ![0, 2048] z slices_S2048x5760_S2048x1024_0_2048
def lc (z : FVec Ideal S2048x5760 .f32) : FVec Ideal S2048x1024 .f32 := extractStridedSlice S2048x1024 ![0, 3072] z slices_S2048x5760_S2048x1024_0_3072

theorem product_apply (a : FVec Ideal S2048x256 .f32) (b : FVec Ideal S256x1024 .bf16) (r : Fin 2048) (j : Fin 1024) :
    product a b (ix2 r j) = ∑ k : Fin 256, a (ix2 r k) * b (ix2 k j) := by
  unfold product
  pointwise

theorem gate_apply (x : FVec Ideal S2048x1024 .f32) (r : Fin 2048) (j : Fin 1024) :
    gate x (ix2 r j) = Ideal.logistic (x (ix2 r j)) := by
  unfold gate
  pointwise
  rfl

theorem la_apply (z : FVec Ideal S2048x5760 .f32) (r : Fin 2048) (j : Fin 1024) : la z (ix2 r j) = z (ix2 r ⟨1024 + j.val, by omega⟩) := by
  unfold la
  pointwise

theorem lb_apply (z : FVec Ideal S2048x5760 .f32) (r : Fin 2048) (j : Fin 1024) : lb z (ix2 r j) = z (ix2 r ⟨2048 + j.val, by omega⟩) := by
  unfold lb
  pointwise

theorem lc_apply (z : FVec Ideal S2048x5760 .f32) (r : Fin 2048) (j : Fin 1024) : lc z (ix2 r j) = z (ix2 r ⟨3072 + j.val, by omega⟩) := by
  unfold lc
  pointwise

variable (m : (ℓ : Loc nD τ sig) → Buf (Elt Ideal) ℓ)

/-- The third branch's projection. -/
def Proj (c : Dev nD) : FVec Ideal S2048x1024 .bf16 :=
  truncf .bf16 (product (m ((c.tc : Thread nD τ).loc main_arg0)) (m ((c.tc : Thread nD τ).loc main_arg1))) bitsLt_bf16_f32

/-- The gated sum of the branches. -/
def Merged (c : Dev nD) : FVec Ideal S2048x1024 .bf16 :=
  truncf .bf16 (addf (addf (mulf (gate (la (m ((c.tc : Thread nD τ).loc main_arg2)))) (extf .f32 (m ((c.tc : Thread nD τ).loc main_arg3) : FVec Ideal S2048x1024 .bf16) bitsLt_bf16_f32))
      (mulf (gate (lb (m ((c.tc : Thread nD τ).loc main_arg2)))) (extf .f32 (m ((c.tc : Thread nD τ).loc main_arg4) : FVec Ideal S2048x1024 .bf16) bitsLt_bf16_f32)))
    (mulf (gate (lc (m ((c.tc : Thread nD τ).loc main_arg2)))) (product (m ((c.tc : Thread nD τ).loc main_arg0)) (m ((c.tc : Thread nD τ).loc main_arg1))))) bitsLt_bf16_f32

end Cert.MergeFwdRefIdeal

namespace Cert.MergeFwdPart

open Idealize.ShloMosaic Idealize.ShloMosaic.TcCoe Idealize.SL.Sem
open Cert.MergeFwdIdeal Cert.MergeFwdIdeal.Gen

variable (m : (ℓ : Loc nD τ sig) → Buf (Elt Ideal) ℓ)
variable (m' : (ℓ : Loc MergeFwdRefIdeal.nD MergeFwdRefIdeal.τ MergeFwdRefIdeal.sig) → Buf (Elt Ideal) ℓ)

/-- The two programs' arguments are the same on a device. -/
def Same (c : Dev nD) : Prop :=
  m' ((c.tc : Thread MergeFwdRefIdeal.nD MergeFwdRefIdeal.τ).loc MergeFwdRefIdeal.main_arg0) = m ((c.tc : Thread nD τ).loc main_arg0)
  ∧ m' ((c.tc : Thread MergeFwdRefIdeal.nD MergeFwdRefIdeal.τ).loc MergeFwdRefIdeal.main_arg1) = m ((c.tc : Thread nD τ).loc main_arg1)
  ∧ m' ((c.tc : Thread MergeFwdRefIdeal.nD MergeFwdRefIdeal.τ).loc MergeFwdRefIdeal.main_arg2) = m ((c.tc : Thread nD τ).loc main_arg2)
  ∧ m' ((c.tc : Thread MergeFwdRefIdeal.nD MergeFwdRefIdeal.τ).loc MergeFwdRefIdeal.main_arg3) = m ((c.tc : Thread nD τ).loc main_arg3)
  ∧ m' ((c.tc : Thread MergeFwdRefIdeal.nD MergeFwdRefIdeal.τ).loc MergeFwdRefIdeal.main_arg4) = m ((c.tc : Thread nD τ).loc main_arg4)

/-- The first array after the run is the third branch's projection. -/
theorem first_eq (c : Dev nD) (h : Same m m' c) : (dats m 0 c).arrAt 7 cfg0.N = MergeFwdRefIdeal.Proj m' c := by
  obtain ⟨h0, h1, h2, h3, h4⟩ := h
  refine (dats m 0 c).arrAt_eq_of_covers 7 _ (by decide +kernel) fun t hf y => ?_
  blk_simp
  rw [after0_7]
  unfold outsAt0
  frame_out
  idx_vars y
  rw [show (((View.whole main_v0_0).slice (win0_7.rect t)).emb (ix2 y0 y1)) = ix2 (row t y0) y1 by blk_ext [idx0_7]]
  unfold MergeFwdRefIdeal.Proj
  unfold_payloads
  pointwise
  rw [MergeFwdRefIdeal.product_apply]
  simp only [c_eq, w_eq, h0, h1]

/-- The second array after the run is the gated sum of the branches. -/
theorem second_eq (c : Dev nD) (h : Same m m' c) : (dats m 0 c).arrAt 8 cfg0.N = MergeFwdRefIdeal.Merged m' c := by
  obtain ⟨h0, h1, h2, h3, h4⟩ := h
  refine (dats m 0 c).arrAt_eq_of_covers 8 _ (by decide +kernel) fun t hf y => ?_
  blk_simp
  rw [after0_8]
  unfold outsAt0
  frame_out
  idx_vars y
  rw [show (((View.whole main_v0_1).slice (win0_8.rect t)).emb (ix2 y0 y1)) = ix2 (row t y0) y1 by blk_ext [idx0_8]]
  unfold MergeFwdRefIdeal.Merged
  unfold_payloads
  pointwise
  rw [MergeFwdRefIdeal.product_apply, MergeFwdRefIdeal.gate_apply, MergeFwdRefIdeal.gate_apply, MergeFwdRefIdeal.gate_apply,
    MergeFwdRefIdeal.la_apply, MergeFwdRefIdeal.lb_apply, MergeFwdRefIdeal.lc_apply]
  simp only [c_eq, w_eq, ga_eq, gb_eq, gc_eq, pa_eq, pb_eq, h0, h1, h2, h3, h4]

/-- The reference ends with its arguments unchanged and its counters at zero. -/
theorem frame_ref : quiescent_MergeFwdRefIdeal := by
  intro m ρ _
  exact (θ_run MergeFwdRefIdeal.defs _ _).mono (fun r h => ⟨fun c => (h c).2.2, sem_eq_zero_of_no_sems (by decide) r.2⟩) (MergeFwdRefIdeal.Value.run m ρ)

/-- The kernel's arrays and the reference's are the same. -/
theorem value : algebraic_MergeFwdIdeal_MergeFwdRefIdeal := by
  intro m g m' g' _ hag
  refine ⟨fun c => MergeFwdRefIdeal.Proj m' c, fun c => MergeFwdRefIdeal.Merged m' c, ?_, ?_⟩
  · refine (θ_run _ _ _).mono (fun r h c => ?_) (MergeFwdIdeal.Value.run_blocks m g)
    obtain ⟨h0, h1, ha⟩ := h c
    exact ⟨h0.trans (first_eq m m' c (hag c)), h1.trans (second_eq m m' c (hag c)), ha⟩
  · exact MergeFwdRefIdeal.Value.run m' g'

end Cert.MergeFwdPart
-- ==== Proof.GateQuarter.lean ====
module

public import proofs.«01_k».proof.Defs
public import proofs.«01_k».proof.Proof.Gen.OutDxRefIdeal.Run
public import proofs.«01_k».proof.Proof.NormGrad
public import Idealize.ShloMosaic.Lib.Pipeline.ValueKit
public import Idealize.ShloMosaic.Lib.Pointwise

@[expose] public section

set_option maxRecDepth 16384

noncomputable section

namespace Cert.GateQuarter

open Idealize.ShloMosaic Idealize.ShloMosaic.TcCoe Idealize.SL.Sem
open Cert.OutDxRefIdeal Cert.OutDxRefIdeal.Gen

/-- An array of rows, by quarters. -/
def quarters (x : FVec Ideal S2048x1024 .f32) : FVec Ideal S4x512x1024 .f32 :=
  shapeCast S4x512x1024 x shapeCasts_S2048x1024_S4x512x1024

/-- Each row's mean square plus the small constant. -/
def meanSq (y : FVec Ideal S4x512x1024 .f32) : FVec Ideal S4x512x1 .f32 :=
  addf (Host.divf (broadcastInDim S4x512x1 ![0, 1] bcast_S4x512_S4x512x1_0_1 (Host.reduceAdd (mulf y y) (constant (F := Ideal) S_ .f32 0x00000000#32) reducesTo_S4x512x1024_S4x512_d2 h_S_)) (broadcastInDim S4x512x1 ![] bcast_S_S4x512x1 (constant (F := Ideal) S_ .f32 0x44800000#32))) (broadcastInDim S4x512x1 ![] bcast_S_S4x512x1 (constant (F := Ideal) S_ .f32 0x358637BD#32))

/-- A row of 1024 entries, laid out over all the rows. -/
def spread (g : FVec Ideal S1024 .f32) : FVec Ideal S4x512x1024 .f32 :=
  broadcastInDim S4x512x1024 ![0, 1, 2] bcast_S4x1x1024_S4x512x1024_0_1_2 (broadcastInDim S4x1x1024 ![2] bcast_S1024_S4x1x1024_2 g)

/-- The gradient at the rows normalised. -/
def scaled (d : FVec Ideal S4x512x1024 .f32) (g gate : FVec Ideal S1024 .f32) : FVec Ideal S4x512x1024 .f32 :=
  mulf (mulf (spread gate) d) (spread g)

/-- Half the gradient that flows through the mean square, for each row. -/
def half (d y : FVec Ideal S4x512x1024 .f32) (g gate : FVec Ideal S1024 .f32) : FVec Ideal S4x512 .f32 :=
  Host.reduceAdd (Host.divf (mulf (shapeCast _ (Host.reduceAdd (mulf y (scaled d g gate)) (constant (F := Ideal) S_ .f32 0x00000000#32) reducesTo_S4x512x1024_S4x512_d2 h_S_) shapeCasts_S4x512_S4x512x1) (mulf (broadcastInDim S4x512x1 ![] bcast_S_S4x512x1 (constant (F := Ideal) S_ .f32 0xBF000000#32)) (Host.divf (Host.rsqrt (meanSq y)) (meanSq y)))) (broadcastInDim S4x512x1 ![] bcast_S_S4x512x1 (constant (F := Ideal) S_ .f32 0x44800000#32))) (constant (F := Ideal) S_ .f32 0x00000000#32) reducesTo_S4x512x1_S4x512_d2 h_S_

/-- The gradient at the rows, as the reference composes it. -/
def Dy (d y : FVec Ideal S4x512x1024 .f32) (g gate : FVec Ideal S1024 .f32) : FVec Ideal S2048x1024 .f32 :=
  shapeCast S2048x1024 (addf (addf (mulf (scaled d g gate) (broadcastInDim S4x512x1024 ![0, 1, 2] bcast_S4x512x1_S4x512x1024_0_1_2 (Host.rsqrt (meanSq y)))) (mulf y (broadcastInDim S4x512x1024 ![0, 1] bcast_S4x512_S4x512x1024_0_1 (half d y g gate)))) (mulf (broadcastInDim S4x512x1024 ![0, 1] bcast_S4x512_S4x512x1024_0_1 (half d y g gate)) y)) shapeCasts_S4x512x1024_S2048x1024

/-- The gradients at the gate and the weights, as the reference lays them out. -/
def Rows (d y : FVec Ideal S4x512x1024 .f32) (g gate : FVec Ideal S1024 .f32) : FVec Ideal S32x1024 .f32 :=
  shapeCast S32x1024 ((concatenate S4x8x1024 1 [⟨S4x1x1024, ((shapeCast _ (Host.reduceAdd (mulf d (mulf (mulf y (broadcastInDim S4x512x1024 ![0, 1, 2] bcast_S4x512x1_S4x512x1024_0_1_2 (Host.rsqrt (meanSq y)))) (spread g))) (constant (F := Ideal) S_ .f32 0x00000000#32) reducesTo_S4x512x1024_S4x1024_d1 h_S_) shapeCasts_S4x1024_S4x1x1024) : (⟨S4x1x1024, .f32⟩ : BufTy).Contents (Elt Ideal))⟩, ⟨S4x1x1024, ((shapeCast _ (Host.reduceAdd (mulf (mulf y (broadcastInDim S4x512x1024 ![0, 1, 2] bcast_S4x512x1_S4x512x1024_0_1_2 (Host.rsqrt (meanSq y)))) (mulf (spread gate) d)) (constant (F := Ideal) S_ .f32 0x00000000#32) reducesTo_S4x512x1024_S4x1024_d1 h_S_) shapeCasts_S4x1024_S4x1x1024) : (⟨S4x1x1024, .f32⟩ : BufTy).Contents (Elt Ideal))⟩, ⟨S4x6x1024, ((broadcastInDim S4x6x1024 ![] bcast_S_S4x6x1024 (constant (F := Ideal) S_ .f32 0x00000000#32)) : (⟨S4x6x1024, .f32⟩ : BufTy).Contents (Elt Ideal))⟩] concatenates_S4x1x1024_S4x1x1024_S4x6x1024_S4x8x1024_d1 : (⟨S4x8x1024, .f32⟩ : BufTy).Contents (Elt Ideal))) shapeCasts_S4x8x1024_S32x1024

theorem quarters_apply (x : FVec Ideal S2048x1024 .f32) (p : Fin 4) (r : Fin 512) (j : Fin 1024) :
    quarters x (ix3 p r j) = x (ix2 ⟨p.val * 512 + r.val, by omega⟩ j) := by
  unfold quarters
  pointwise

theorem meanSq_apply (y : FVec Ideal S4x512x1024 .f32) (p : Fin 4) (r : Fin 512) :
    meanSq y (ix3 p r (0 : Fin 1)) = Ideal.div (∑ i : Fin 1024, y (ix3 p r i) * y (ix3 p r i)) (Ideal.ofBits .f32 0x44800000#32) + Ideal.ofBits .f32 0x358637BD#32 := by
  unfold meanSq
  pointwise

theorem spread_apply (g : FVec Ideal S1024 .f32) (p : Fin 4) (r : Fin 512) (j : Fin 1024) : spread g (ix3 p r j) = g (ix1 j) := by
  unfold spread
  pointwise

theorem scaled_apply (d : FVec Ideal S4x512x1024 .f32) (g gate : FVec Ideal S1024 .f32) (p : Fin 4) (r : Fin 512) (j : Fin 1024) :
    scaled d g gate (ix3 p r j) = d (ix3 p r j) * gate (ix1 j) * g (ix1 j) := by
  unfold scaled
  pointwise
  rw [spread_apply, spread_apply, mul_comm (G := EReal) (gate (ix1 j))]

theorem half_apply (d y : FVec Ideal S4x512x1024 .f32) (g gate : FVec Ideal S1024 .f32) (p : Fin 4) (r : Fin 512) :
    half d y g gate (ix2 p r) = Ideal.div ((∑ i : Fin 1024, y (ix3 p r i) * scaled d g gate (ix3 p r i)) * (Ideal.ofBits .f32 0xBF000000#32 *
      Ideal.div (Ideal.rsqrt (meanSq y (ix3 p r (0 : Fin 1)))) (meanSq y (ix3 p r (0 : Fin 1))))) (Ideal.ofBits .f32 0x44800000#32) := by
  unfold half
  pointwise
  exact Fin.sum_univ_one (M := EReal) _

/-- One entry of the gradient, as the kernel factors it. -/
theorem Dy_apply (d y : FVec Ideal S4x512x1024 .f32) (g gate : FVec Ideal S1024 .f32) (p : Fin 4) (r : Fin 512) (j : Fin 1024) :
    Dy d y g gate (ix2 ⟨p.val * 512 + r.val, by omega⟩ j) = NormGrad.gated (fun i => y (ix3 p r i))
      (fun i => d (ix3 p r i) * gate (ix1 i) * g (ix1 i)) j := by
  unfold Dy
  pointwise
  rw [half_apply, scaled_apply, meanSq_apply]
  simp only [scaled_apply]
  have h := NormGrad.norm_grad (fun i => y (ix3 p r i)) (fun i => d (ix3 p r i) * gate (ix1 i) * g (ix1 i)) _ 0 (y (ix3 p r j))
    (d (ix3 p r j) * gate (ix1 j) * g (ix1 j)) (NormGrad.ms_cases (fun i => y (ix3 p r i)) _ rfl)
  rw [zero_add, zero_add] at h
  exact h.symm

/-- One entry of the sums over a part of the rows. -/
theorem Rows_apply (d y : FVec Ideal S4x512x1024 .f32) (g gate : FVec Ideal S1024 .f32) (p : Fin 4) (r : Fin 8) (j : Fin 1024) :
    Rows d y g gate (ix2 ⟨p.val * 8 + r.val, by omega⟩ j) = NormGrad.gatedSums (fun (i : Fin 512) k => y (ix3 p i k)) (fun (i : Fin 512) k => d (ix3 p i k)) (g (ix1 j)) (gate (ix1 j)) j r.val := by
  unfold Rows
  pointwise
  unfold NormGrad.gatedSums
  by_cases h0 : r.val = 0
  · rw [dif_pos (by omega), if_neg (by omega), if_pos h0]
    simp only [meanSq_apply, spread_apply]
    rfl
  rw [dif_neg (by omega)]
  by_cases h1 : r.val = 1
  · rw [dif_pos (by omega), if_pos h1]
    simp only [meanSq_apply, spread_apply]
    refine Finset.sum_congr (M := EReal) rfl fun i _ => ?_
    rw [mul_comm (G := EReal) (gate (ix1 j))]
    exact mul_comm (G := EReal) _ _
  rw [dif_neg (by omega), if_neg h1, if_neg h0]

end Cert.GateQuarter
-- ==== Proof.OutDx.lean ====
module

public import proofs.«01_k».proof.Defs
public import proofs.«01_k».proof.Proof.Gen.OutDxIdeal.Value
public import proofs.«01_k».proof.Proof.MergeFwd
public import proofs.«01_k».proof.Proof.GateQuarter
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutDxPart

open Idealize.ShloMosaic Idealize.ShloMosaic.TcCoe Idealize.SL.Sem
open Cert.OutDxIdeal Cert.OutDxIdeal.Gen

section Blocks

variable (m : (ℓ : Loc nD τ sig) → Buf (Elt Ideal) ℓ)

theorem idx0_0 : ∀ t : Fin cfg0.N, win0_0.index t = ![t.val, 0] := (by decide +kernel)
theorem idx0_1 : ∀ t : Fin cfg0.N, win0_1.index t = ![0, 0] := (by decide +kernel)
theorem idx0_2 : ∀ t : Fin cfg0.N, win0_2.index t = ![t.val, 0] := (by decide +kernel)
theorem idx0_3 : ∀ t : Fin cfg0.N, win0_3.index t = ![0, 0] := (by decide +kernel)
theorem idx0_4 : ∀ t : Fin cfg0.N, win0_4.index t = ![0, 0] := (by decide +kernel)
theorem idx0_5 : ∀ t : Fin cfg0.N, win0_5.index t = ![t.val, 1] := (by decide +kernel)
theorem idx0_6 : ∀ t : Fin cfg0.N, win0_6.index t = ![t.val, 2] := (by decide +kernel)
theorem idx0_7 : ∀ t : Fin cfg0.N, win0_7.index t = ![t.val, 3] := (by decide +kernel)
theorem idx0_8 : ∀ t : Fin cfg0.N, win0_8.index t = ![t.val, 0] := (by decide +kernel)
theorem idx0_9 : ∀ t : Fin cfg0.N, win0_9.index t = ![t.val, 0] := (by decide +kernel)
theorem idx0_10 : ∀ t : Fin cfg0.N, win0_10.index t = ![t.val, 0] := (by decide +kernel)
theorem idx0_11 : ∀ t : Fin cfg0.N, win0_11.index t = ![t.val, 0] := (by decide +kernel)
theorem idx0_12 : ∀ t : Fin cfg0.N, win0_12.index t = ![t.val, 0] := (by decide +kernel)
theorem idx0_13 : ∀ t : Fin cfg0.N, win0_13.index t = ![t.val, 0] := (by decide +kernel)
theorem idx0_14 : ∀ t : Fin cfg0.N, win0_14.index t = ![t.val, 0] := (by decide +kernel)
theorem idx0_15 : ∀ t : Fin cfg0.N, win0_15.index t = ![t.val, 0] := (by decide +kernel)
theorem idx0_16 : ∀ t : Fin cfg0.N, win0_16.index t = ![t.val, 0] := (by decide +kernel)
theorem idx0_17 : ∀ t : Fin cfg0.N, win0_17.index t = ![t.val, 0] := (by decide +kernel)
theorem idx0_18 : ∀ t : Fin cfg0.N, win0_18.index t = ![t.val, 0] := (by decide +kernel)
theorem t_lt : ∀ t : Fin cfg0.N, t.val < 4 := (by decide +kernel)

/-- The quarter of the rows a point works on. -/
abbrev part (t : Fin cfg0.N) : Fin 4 := ⟨t.val, t_lt t⟩

/-- A row of a point's quarter. -/
abbrev row (t : Fin cfg0.N) (r : Fin 512) : Fin 2048 := ⟨(part t).val * 512 + r.val, by omega⟩

theorem y_eq (c : Dev nD) (t : Fin cfg0.N) (r : Fin 512) (j : Fin 1024) :
    iblk m c 0 t (ix2 r j) = m ((c.tc : Thread nD τ).loc main_arg0) (ix2 (row t r) j) := by
  show V m c main_arg0 (((cfg0.win 0).blk t).view.emb _) = _
  rw [V_main_arg0]
  congr 1
  blk_ext [idx0_0]

theorem w_eq (c : Dev nD) (t : Fin cfg0.N) (k j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

theorem dx_eq (c : Dev nD) (t : Fin cfg0.N) (r : Fin 512) (j : Fin 1024) :
    iblk m c 2 t (ix2 r j) = m ((c.tc : Thread nD τ).loc main_arg6) (ix2 (row t r) j) := by
  show V m c main_arg6 (((cfg0.win 2).blk t).view.emb _) = _
  rw [V_main_arg6]
  congr 1
  blk_ext [idx0_2]

/-- The first branch's gate logits lie from column 1024 of `z`, the second's and the third's after them. -/
theorem ga_eq (c : Dev nD) (t : Fin cfg0.N) (r : Fin 512) (j : Fin 1024) :
    X0_5 m c t (ix2 r j) = m ((c.tc : Thread nD τ).loc main_arg2) (ix2 (row t r) ⟨1024 + j.val, by omega⟩) := by
  unfold X0_5 Pipeline.Window.fill
  rw [dif_pos (moved0_5 t _)]
  show V m c main_arg2 (((cfg0.win 5).blk t).view.emb _) = _
  rw [V_main_arg2]
  congr 1
  blk_ext [idx0_5]

theorem gb_eq (c : Dev nD) (t : Fin cfg0.N) (r : Fin 512) (j : Fin 1024) :
    X0_6 m c t (ix2 r j) = m ((c.tc : Thread nD τ).loc main_arg2) (ix2 (row t r) ⟨2048 + j.val, by omega⟩) := by
  unfold X0_6 Pipeline.Window.fill
  rw [dif_pos (moved0_6 t _)]
  show V m c main_arg2 (((cfg0.win 6).blk t).view.emb _) = _
  rw [V_main_arg2]
  congr 1
  blk_ext [idx0_6]

theorem gc_eq (c : Dev nD) (t : Fin cfg0.N) (r : Fin 512) (j : Fin 1024) :
    X0_7 m c t (ix2 r j) = m ((c.tc : Thread nD τ).loc main_arg2) (ix2 (row t r) ⟨3072 + j.val, by omega⟩) := by
  unfold X0_7 Pipeline.Window.fill
  rw [dif_pos (moved0_7 t _)]
  show V m c main_arg2 (((cfg0.win 7).blk t).view.emb _) = _
  rw [V_main_arg2]
  congr 1
  blk_ext [idx0_7]

theorem pa_eq (c : Dev nD) (t : Fin cfg0.N) (r : Fin 512) (j : Fin 1024) :
    iblk m c 8 t (ix2 r j) = m ((c.tc : Thread nD τ).loc main_arg3) (ix2 (row t r) j) := by
  show V m c main_arg3 (((cfg0.win 8).blk t).view.emb _) = _
  rw [V_main_arg3]
  congr 1
  blk_ext [idx0_8]

theorem pb_eq (c : Dev nD) (t : Fin cfg0.N) (r : Fin 512) (j : Fin 1024) :
    iblk m c 9 t (ix2 r j) = m ((c.tc : Thread nD τ).loc main_arg4) (ix2 (row t r) j) := by
  show V m c main_arg4 (((cfg0.win 9).blk t).view.emb _) = _
  rw [V_main_arg4]
  congr 1
  blk_ext [idx0_9]

theorem pc_eq (c : Dev nD) (t : Fin cfg0.N) (r : Fin 512) (j : Fin 1024) :
    iblk m c 10 t (ix2 r j) = m ((c.tc : Thread nD τ).loc main_arg5) (ix2 (row t r) j) := by
  show V m c main_arg5 (((cfg0.win 10).blk t).view.emb _) = _
  rw [V_main_arg5]
  congr 1
  blk_ext [idx0_10]

set_option maxHeartbeats 1000000 in
theorem V_gvec (c : Dev nD) : V m c main_v3 = (concatenate S8x1024 0
      [⟨S1x1024, broadcastInDim S1x1024 ![] bcast_S_S1x1024 (constant (F := Ideal) S_ .f32 0x00000000#32)⟩,
       ⟨S1x1024, broadcastInDim S1x1024 ![1] bcast_S1024_S1x1024_1 (m ((c.tc : Thread nD τ).loc main_arg7))⟩,
       ⟨S6x1024, broadcastInDim S6x1024 ![] bcast_S_S6x1024 (constant (F := Ideal) S_ .f32 0x00000000#32)⟩]
        concatenates_S1x1024_S1x1024_S6x1024_S8x1024_d0 : S8x1024.Idx → EReal) := by
  show StableHlo.after _ _ _ = _
  after_results
  rfl

set_option maxHeartbeats 1000000 in
theorem g_eq (c : Dev nD) (t : Fin cfg0.N) (j : Fin 1024) :
    iblk m c 3 t (ix2 (1 : Fin 8) j) = m ((c.tc : Thread nD τ).loc main_arg7) (ix1 j) := by
  show V m c main_v3 (((cfg0.win 3).blk t).view.emb _) = _
  rw [V_gvec]
  rw [show ((cfg0.win 3).blk t).view.emb (ix2 1 j) = ix2 1 j by blk_ext [idx0_3]]
  pointwise

set_option maxHeartbeats 1000000 in
theorem V_mod (c : Dev nD) : V m c main_v7 = (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 (m ((c.tc : Thread nD τ).loc main_arg8))⟩,
       ⟨S5x1024, broadcastInDim S5x1024 ![] bcast_S_S5x1024 (constant (F := Ideal) S_ .f32 0x00000000#32)⟩]
        concatenates_S2x1024_S1x1024_S5x1024_S8x1024_d0 : S8x1024.Idx → EReal) := by
  show StableHlo.after _ _ _ = _
  after_results
  rfl

set_option maxHeartbeats 1000000 in
theorem gate_eq (c : Dev nD) (t : Fin cfg0.N) (j : Fin 1024) :
    iblk m c 4 t (ix2 (2 : Fin 8) j) = m ((c.tc : Thread nD τ).loc main_arg8) (ix1 j) := by
  show V m c main_v7 (((cfg0.win 4).blk t).view.emb _) = _
  rw [V_mod]
  rw [show ((cfg0.win 4).blk t).view.emb (ix2 2 j) = ix2 2 j by blk_ext [idx0_4]]
  pointwise

end Blocks

theorem pay_dy (y dx : S512x1024.Idx → EReal) (g md : S8x1024.Idx → EReal) (r : Fin 512) (j : Fin 1024) :
    k0_pay11 (F := Ideal) y dx g md (ix2 r j) = NormGrad.gated (fun i => y (ix2 r i))
      (fun i => dx (ix2 r i) * md (ix2 (2 : Fin 8) i) * g (ix2 (1 : Fin 8) i)) j := by
  unfold_payloads
  pointwise
  rfl

theorem pay_sums (y dx : S512x1024.Idx → EReal) (g md : S8x1024.Idx → EReal) (r : Fin 8) (j : Fin 1024) :
    k0_pay16 (F := Ideal) (k0_pay12 y dx g) (k0_pay13 y dx md) (iota .tc S8x1024 32 [0] iota_S8x1024_d0_w32) (k0_pay14 (F := Ideal)) k0_pay15 (ix2 r j)
      = NormGrad.gatedSums (fun (i : Fin 512) k => y (ix2 i k)) (fun (i : Fin 512) k => dx (ix2 i k))
      (g (ix2 (1 : Fin 8) j)) (md (ix2 (2 : Fin 8) j)) j r.val := by
  unfold_payloads
  pointwise
  fin_cases r <;> rfl

theorem pay_prod (w : S1024x1024.Idx → EReal) (l : S512x1024.Idx → EReal) (r : Fin 512) (j : Fin 1024) :
    k0_pay19 (F := Ideal) w l (ix2 r j) = ∑ k : Fin 1024, l (ix2 r k) * w (ix2 j k) := by
  unfold_payloads
  pointwise

theorem pay_held (v : S512x1024.Idx → EReal) (r : Fin 512) (j : Fin 1024) : k0_pay18 (F := Ideal) v (ix2 r j) = v (ix2 r j) := by
  unfold k0_pay18 k0_pay17
  pointwise

end Cert.OutDxPart

namespace Cert.OutDxRefIdeal

open Idealize.ShloMosaic Idealize.ShloMosaic.TcCoe Idealize.SL.Sem Cert.OutDxRefIdeal.Gen

/-- The gradient's rows times the weights transposed. -/
def Product (dy : FVec Ideal S2048x1024 .f32) (w : FVec Ideal S1024x1024 .bf16) : FVec Ideal S2048x1024 .f32 :=
  Host.dotGeneral (φ₁ := .f32) (φ₂ := .f32) dot_S2048x1024_S1024x1024_S2048x1024_1_1_0_0_n_n none dy (extf .f32 w bitsLt_bf16_f32)

/-- The gradient at a branch: its gate times the product. -/
def Branch (p l : FVec Ideal S2048x1024 .f32) : FVec Ideal S2048x1024 .bf16 := truncf .bf16 (mulf (MergeFwdRefIdeal.gate l) p) bitsLt_bf16_f32

/-- The gradient at a gate's logits. -/
def Logits (p l : FVec Ideal S2048x1024 .f32) (b : FVec Ideal S2048x1024 .bf16) : FVec Ideal S2048x1024 .bf16 :=
  truncf .bf16 (mulf (mulf p (extf .f32 b bitsLt_bf16_f32)) (mulf (MergeFwdRefIdeal.gate l)
    (subf (broadcastInDim S2048x1024 ![] bcast_S_S2048x1024 (constant S_ .f32 0x3F800000#32)) (MergeFwdRefIdeal.gate l)))) bitsLt_bf16_f32

theorem Product_apply (dy : FVec Ideal S2048x1024 .f32) (w : FVec Ideal S1024x1024 .bf16) (r : Fin 2048) (j : Fin 1024) :
    Product dy w (ix2 r j) = ∑ k : Fin 1024, dy (ix2 r k) * w (ix2 j k) := by
  unfold Product
  pointwise

theorem Branch_apply (p l : FVec Ideal S2048x1024 .f32) (r : Fin 2048) (j : Fin 1024) :
    Branch p l (ix2 r j) = p (ix2 r j) * Ideal.logistic (l (ix2 r j)) := by
  unfold Branch
  pointwise
  rw [MergeFwdRefIdeal.gate_apply]
  exact mul_comm (G := EReal) _ _

theorem Logits_apply (p l : FVec Ideal S2048x1024 .f32) (b : FVec Ideal S2048x1024 .bf16) (r : Fin 2048) (j : Fin 1024) :
    Logits p l b (ix2 r j) = p (ix2 r j) * b (ix2 r j) * (Ideal.logistic (l (ix2 r j)) * (1 - Ideal.logistic (l (ix2 r j)))) := by
  unfold Logits
  pointwise
  rw [MergeFwdRefIdeal.gate_apply]

variable (m : (ℓ : Loc nD τ sig) → Buf (Elt Ideal) ℓ)

/-- The gradient at the rows. -/
def Grad (c : Dev nD) : FVec Ideal S2048x1024 .f32 :=
  GateQuarter.Dy (GateQuarter.quarters (m ((c.tc : Thread nD τ).loc main_arg6))) (GateQuarter.quarters (m ((c.tc : Thread nD τ).loc main_arg0)))
    (m ((c.tc : Thread nD τ).loc main_arg7)) (m ((c.tc : Thread nD τ).loc main_arg8))

/-- The gradients at the gate and the weights. -/
def Sums (c : Dev nD) : FVec Ideal S32x1024 .f32 :=
  GateQuarter.Rows (GateQuarter.quarters (m ((c.tc : Thread nD τ).loc main_arg6))) (GateQuarter.quarters (m ((c.tc : Thread nD τ).loc main_arg0)))
    (m ((c.tc : Thread nD τ).loc main_arg7)) (m ((c.tc : Thread nD τ).loc main_arg8))

/-- The gradient at the merged branches. -/
def Merged (c : Dev nD) : FVec Ideal S2048x1024 .f32 := Product (Grad m c) (m ((c.tc : Thread nD τ).loc main_arg1))

/-- The rows' gradient, kept. -/
def Kept (c : Dev nD) : FVec Ideal S2048x1024 .bf16 := truncf .bf16 (Grad m c) bitsLt_bf16_f32

/-- The three gates' logits. -/
def la (c : Dev nD) : FVec Ideal S2048x1024 .f32 := MergeFwdRefIdeal.la (m ((c.tc : Thread nD τ).loc main_arg2))
def lb (c : Dev nD) : FVec Ideal S2048x1024 .f32 := MergeFwdRefIdeal.lb (m ((c.tc : Thread nD τ).loc main_arg2))
def lc (c : Dev nD) : FVec Ideal S2048x1024 .f32 := MergeFwdRefIdeal.lc (m ((c.tc : Thread nD τ).loc main_arg2))

end Cert.OutDxRefIdeal

namespace Cert.OutDxPart

open Idealize.ShloMosaic Idealize.ShloMosaic.TcCoe Idealize.SL.Sem
open Cert.OutDxIdeal Cert.OutDxIdeal.Gen

variable (m : (ℓ : Loc nD τ sig) → Buf (Elt Ideal) ℓ)
variable (m' : (ℓ : Loc OutDxRefIdeal.nD OutDxRefIdeal.τ OutDxRefIdeal.sig) → Buf (Elt Ideal) ℓ)

/-- The two programs' arguments are the same on a device. -/
def Same (c : Dev nD) : Prop :=
  m' ((c.tc : Thread OutDxRefIdeal.nD OutDxRefIdeal.τ).loc OutDxRefIdeal.main_arg0) = m ((c.tc : Thread nD τ).loc main_arg0)
  ∧ m' ((c.tc : Thread OutDxRefIdeal.nD OutDxRefIdeal.τ).loc OutDxRefIdeal.main_arg1) = m ((c.tc : Thread nD τ).loc main_arg1)
  ∧ m' ((c.tc : Thread OutDxRefIdeal.nD OutDxRefIdeal.τ).loc OutDxRefIdeal.main_arg2) = m ((c.tc : Thread nD τ).loc main_arg2)
  ∧ m' ((c.tc : Thread OutDxRefIdeal.nD OutDxRefIdeal.τ).loc OutDxRefIdeal.main_arg3) = m ((c.tc : Thread nD τ).loc main_arg3)
  ∧ m' ((c.tc : Thread OutDxRefIdeal.nD OutDxRefIdeal.τ).loc OutDxRefIdeal.main_arg4) = m ((c.tc : Thread nD τ).loc main_arg4)
  ∧ m' ((c.tc : Thread OutDxRefIdeal.nD OutDxRefIdeal.τ).loc OutDxRefIdeal.main_arg5) = m ((c.tc : Thread nD τ).loc main_arg5)
  ∧ m' ((c.tc : Thread OutDxRefIdeal.nD OutDxRefIdeal.τ).loc OutDxRefIdeal.main_arg6) = m ((c.tc : Thread nD τ).loc main_arg6)
  ∧ m' ((c.tc : Thread OutDxRefIdeal.nD OutDxRefIdeal.τ).loc OutDxRefIdeal.main_arg7) = m ((c.tc : Thread nD τ).loc main_arg7)
  ∧ m' ((c.tc : Thread OutDxRefIdeal.nD OutDxRefIdeal.τ).loc OutDxRefIdeal.main_arg8) = m ((c.tc : Thread nD τ).loc main_arg8)

/-- The gradient's rows made at a point are the reference's. -/
theorem made_eq (c : Dev nD) (h : Same m m' c) (t : Fin cfg0.N) (r : Fin 512) (j : Fin 1024) :
    k0_pay11 (F := Ideal) (iblk m c 0 t) (iblk m c 2 t) (iblk m c 3 t) (iblk m c 4 t) (ix2 r j) = OutDxRefIdeal.Grad m' c (ix2 (row t r) j) := by
  obtain ⟨h0, h1, h2, h3, h4, h5, h6, h7, h8⟩ := h
  rw [pay_dy, OutDxRefIdeal.Grad, GateQuarter.Dy_apply]
  simp only [GateQuarter.quarters_apply, y_eq, dx_eq, g_eq, gate_eq, h0, h6, h7, h8]

/-- The product at a point is the reference's. -/
theorem prod_eq (c : Dev nD) (h : Same m m' c) (t : Fin cfg0.N) (r : Fin 512) (j : Fin 1024) :
    k0_pay19 (F := Ideal) (iblk m c 1 t) (k0_pay18 (k0_pay11 (F := Ideal) (iblk m c 0 t) (iblk m c 2 t) (iblk m c 3 t) (iblk m c 4 t))) (ix2 r j)
      = OutDxRefIdeal.Merged m' c (ix2 (row t r) j) := by
  rw [pay_prod, OutDxRefIdeal.Merged, OutDxRefIdeal.Product_apply]
  simp only [pay_held, made_eq m m' c h t, w_eq]
  rw [h.2.1]

/-- Window 11's array after the run is the reference's gradient. -/
theorem out_11 (c : Dev nD) (h : Same m m' c) : (dats m 0 c).arrAt 11 cfg0.N = OutDxRefIdeal.Branch (OutDxRefIdeal.Merged m' c) (OutDxRefIdeal.la m' c) := by
  refine (dats m 0 c).arrAt_eq_of_covers 11 _ (by decide +kernel) fun t hf y => ?_
  blk_simp
  rw [after0_11]
  unfold outsAt0
  frame_out
  idx_vars y
  rw [show (((View.whole main_v8_0).slice (win0_11.rect t)).emb (ix2 y0 y1)) = ix2 (row t y0) y1 by blk_ext [idx0_11]]
  unfold k0_pay1 k0_pay23 k0_pay20
  pointwise
  rw [prod_eq m m' c h t]
  rw [OutDxRefIdeal.Branch_apply, OutDxRefIdeal.la, MergeFwdRefIdeal.la_apply, ga_eq, h.2.2.1]

/-- Window 12's array after the run is the reference's gradient. -/
theorem out_12 (c : Dev nD) (h : Same m m' c) : (dats m 0 c).arrAt 12 cfg0.N = OutDxRefIdeal.Branch (OutDxRefIdeal.Merged m' c) (OutDxRefIdeal.lb m' c) := by
  refine (dats m 0 c).arrAt_eq_of_covers 12 _ (by decide +kernel) fun t hf y => ?_
  blk_simp
  rw [after0_12]
  unfold outsAt0
  frame_out
  idx_vars y
  rw [show (((View.whole main_v8_1).slice (win0_12.rect t)).emb (ix2 y0 y1)) = ix2 (row t y0) y1 by blk_ext [idx0_12]]
  unfold k0_pay2 k0_pay24 k0_pay21
  pointwise
  rw [prod_eq m m' c h t]
  rw [OutDxRefIdeal.Branch_apply, OutDxRefIdeal.lb, MergeFwdRefIdeal.lb_apply, gb_eq, h.2.2.1]

/-- Window 13's array after the run is the reference's gradient. -/
theorem out_13 (c : Dev nD) (h : Same m m' c) : (dats m 0 c).arrAt 13 cfg0.N = OutDxRefIdeal.Branch (OutDxRefIdeal.Merged m' c) (OutDxRefIdeal.lc m' c) := by
  refine (dats m 0 c).arrAt_eq_of_covers 13 _ (by decide +kernel) fun t hf y => ?_
  blk_simp
  rw [after0_13]
  unfold outsAt0
  frame_out
  idx_vars y
  rw [show (((View.whole main_v8_2).slice (win0_13.rect t)).emb (ix2 y0 y1)) = ix2 (row t y0) y1 by blk_ext [idx0_13]]
  unfold k0_pay3 k0_pay25 k0_pay22
  pointwise
  rw [prod_eq m m' c h t]
  rw [OutDxRefIdeal.Branch_apply, OutDxRefIdeal.lc, MergeFwdRefIdeal.lc_apply, gc_eq, h.2.2.1]

/-- Window 14's array after the run is the reference's gradient. -/
theorem out_14 (c : Dev nD) (h : Same m m' c) : (dats m 0 c).arrAt 14 cfg0.N = OutDxRefIdeal.Logits (OutDxRefIdeal.Merged m' c) (OutDxRefIdeal.la m' c) (m' ((c.tc : Thread OutDxRefIdeal.nD OutDxRefIdeal.τ).loc OutDxRefIdeal.main_arg3)) := by
  refine (dats m 0 c).arrAt_eq_of_covers 14 _ (by decide +kernel) fun t hf y => ?_
  blk_simp
  rw [after0_14]
  unfold outsAt0
  frame_out
  idx_vars y
  rw [show (((View.whole main_v8_3).slice (win0_14.rect t)).emb (ix2 y0 y1)) = ix2 (row t y0) y1 by blk_ext [idx0_14]]
  unfold k0_pay4 k0_pay26 k0_pay20
  pointwise
  rw [prod_eq m m' c h t]
  rw [OutDxRefIdeal.Logits_apply, OutDxRefIdeal.la, MergeFwdRefIdeal.la_apply, ga_eq, pa_eq, h.2.2.1, h.2.2.2.1]

/-- Window 15's array after the run is the reference's gradient. -/
theorem out_15 (c : Dev nD) (h : Same m m' c) : (dats m 0 c).arrAt 15 cfg0.N = OutDxRefIdeal.Logits (OutDxRefIdeal.Merged m' c) (OutDxRefIdeal.lb m' c) (m' ((c.tc : Thread OutDxRefIdeal.nD OutDxRefIdeal.τ).loc OutDxRefIdeal.main_arg4)) := by
  refine (dats m 0 c).arrAt_eq_of_covers 15 _ (by decide +kernel) fun t hf y => ?_
  blk_simp
  rw [after0_15]
  unfold outsAt0
  frame_out
  idx_vars y
  rw [show (((View.whole main_v8_4).slice (win0_15.rect t)).emb (ix2 y0 y1)) = ix2 (row t y0) y1 by blk_ext [idx0_15]]
  unfold k0_pay5 k0_pay27 k0_pay21
  pointwise
  rw [prod_eq m m' c h t]
  rw [OutDxRefIdeal.Logits_apply, OutDxRefIdeal.lb, MergeFwdRefIdeal.lb_apply, gb_eq, pb_eq, h.2.2.1, h.2.2.2.2.1]

/-- Window 16's array after the run is the reference's gradient. -/
theorem out_16 (c : Dev nD) (h : Same m m' c) : (dats m 0 c).arrAt 16 cfg0.N = OutDxRefIdeal.Logits (OutDxRefIdeal.Merged m' c) (OutDxRefIdeal.lc m' c) (m' ((c.tc : Thread OutDxRefIdeal.nD OutDxRefIdeal.τ).loc OutDxRefIdeal.main_arg5)) := by
  refine (dats m 0 c).arrAt_eq_of_covers 16 _ (by decide +kernel) fun t hf y => ?_
  blk_simp
  rw [after0_16]
  unfold outsAt0
  frame_out
  idx_vars y
  rw [show (((View.whole main_v8_5).slice (win0_16.rect t)).emb (ix2 y0 y1)) = ix2 (row t y0) y1 by blk_ext [idx0_16]]
  unfold k0_pay6 k0_pay28 k0_pay29 k0_pay22
  pointwise
  rw [prod_eq m m' c h t]
  rw [OutDxRefIdeal.Logits_apply, OutDxRefIdeal.lc, MergeFwdRefIdeal.lc_apply, gc_eq, pc_eq, h.2.2.1, h.2.2.2.2.2.1]

/-- The gradient's rows after the run are the reference's. -/
theorem out_17 (c : Dev nD) (h : Same m m' c) : (dats m 0 c).arrAt 17 cfg0.N = OutDxRefIdeal.Kept m' c := by
  refine (dats m 0 c).arrAt_eq_of_covers 17 _ (by decide +kernel) fun t hf y => ?_
  blk_simp
  rw [after0_17]
  unfold outsAt0
  frame_out
  idx_vars y
  rw [show (((View.whole main_v8_6).slice (win0_17.rect t)).emb (ix2 y0 y1)) = ix2 (row t y0) y1 by blk_ext [idx0_17]]
  exact made_eq m m' c h t y0 y1

/-- The last array after the run holds the reference's sums. -/
theorem out_18 (c : Dev nD) (h : Same m m' c) : (dats m 0 c).arrAt 18 cfg0.N = OutDxRefIdeal.Sums m' c := by
  obtain ⟨h0, h1, h2, h3, h4, h5, h6, h7, h8⟩ := h
  refine (dats m 0 c).arrAt_eq_of_covers 18 _ (by decide +kernel) fun t hf y => ?_
  blk_simp
  rw [after0_18]
  unfold outsAt0
  frame_out
  idx_vars y
  rw [show (((View.whole main_v8_7).slice (win0_18.rect t)).emb (ix2 y0 y1)) = ix2 ⟨(part t).val * 8 + y0.val, by omega⟩ y1 by blk_ext [idx0_18]]
  rw [pay_sums, OutDxRefIdeal.Sums, GateQuarter.Rows_apply]
  simp only [GateQuarter.quarters_apply, y_eq, dx_eq, g_eq, gate_eq, h0, h6, h7, h8]

/-- The reference ends with its arguments unchanged and its counters at zero. -/
theorem frame_ref : quiescent_OutDxRefIdeal := by
  intro m ρ _
  exact (θ_run OutDxRefIdeal.defs _ _).mono (fun r h => ⟨fun c => (h c).2.2.2.2.2.2.2.2, sem_eq_zero_of_no_sems (by decide) r.2⟩) (OutDxRefIdeal.Value.run m ρ)

/-- The kernel's arrays and the reference's are the same. -/
theorem value : algebraic_OutDxIdeal_OutDxRefIdeal := by
  intro m g m' g' _ hag
  refine ⟨fun c => _, fun c => _, fun c => _, fun c => _, fun c => _, fun c => _, fun c => _, fun c => _, ?_, OutDxRefIdeal.Value.run m' g'⟩
  refine (θ_run _ _ _).mono (fun r h c => ?_) (OutDxIdeal.Value.run_blocks m g)
  obtain ⟨h0, h1, h2, h3, h4, h5, h6, h7, ha⟩ := h c
  exact ⟨h0.trans (out_11 m m' c (hag c)), h1.trans (out_12 m m' c (hag c)), h2.trans (out_13 m m' c (hag c)), h3.trans (out_14 m m' c (hag c)),
    h4.trans (out_15 m m' c (hag c)), h5.trans (out_16 m m' c (hag c)), h6.trans (out_17 m m' c (hag c)), h7.trans (out_18 m m' c (hag c)), ha⟩

end Cert.OutDxPart

end
-- ==== Proof.WideDx.lean ====
module

public import proofs.«01_k».proof.Defs
public import proofs.«01_k».proof.Proof.Gen.WideDxIdeal.Value
public import proofs.«01_k».proof.Proof.Gen.WideDxRefIdeal.Run
public import Idealize.ShloMosaic.Lib.Pipeline.ValueKit
public import Idealize.ShloMosaic.Lib.Pointwise

@[expose] public section

set_option maxRecDepth 16384

noncomputable section

namespace Cert.WideDxPart

open Idealize.ShloMosaic Idealize.ShloMosaic.TcCoe Idealize.SL.Sem
open Cert.WideDxIdeal Cert.WideDxIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, 0] := (by decide +kernel)
theorem idx0_2 : ∀ t : Fin cfg0.N, win0_2.index t = ![0, 0] := (by decide +kernel)

/-- Entry (k, j) of the left operand, fetched whole. -/
theorem left_eq (c : Dev nD) (t : Fin cfg0.N) (k : Fin 2048) (j : Fin 1024) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of the right operand, fetched whole. -/
theorem right_eq (c : Dev nD) (t : Fin cfg0.N) (k : Fin 512) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.WideDxPart
namespace Cert.WideDxRefIdeal
open Idealize.ShloMosaic Idealize.ShloMosaic.TcCoe Idealize.SL.Sem Cert.WideDxRefIdeal.Gen
/-- The gradient at a branch as the reference composes it. -/
def Grad (m' : (ℓ : Loc nD τ sig) → Buf (Elt Ideal) ℓ) (c : Dev nD) : FVec Ideal S2048x512 .f32 :=
  Host.dotGeneral dot_S2048x1024_S512x1024_S2048x512_1_1_0_0_n_n none (extf .f32 (m' ((c.tc : Thread nD τ).loc main_arg0)) bitsLt_bf16_f32) (extf .f32 (m' ((c.tc : Thread nD τ).loc main_arg1)) bitsLt_bf16_f32)
end Cert.WideDxRefIdeal
namespace Cert.WideDxPart
open Idealize.ShloMosaic Idealize.ShloMosaic.TcCoe Idealize.SL.Sem
open Cert.WideDxIdeal Cert.WideDxIdeal.Gen
variable (m : (ℓ : Loc nD τ sig) → Buf (Elt Ideal) ℓ)

/-- The array after the run is the reference's. -/
theorem grad_eq (c : Dev nD) (m' : (ℓ : Loc WideDxRefIdeal.nD WideDxRefIdeal.τ WideDxRefIdeal.sig) → Buf (Elt Ideal) ℓ)
    (h0 : m' ((c.tc : Thread WideDxRefIdeal.nD WideDxRefIdeal.τ).loc WideDxRefIdeal.main_arg0) = m ((c.tc : Thread nD τ).loc main_arg0))
    (h1 : m' ((c.tc : Thread WideDxRefIdeal.nD WideDxRefIdeal.τ).loc WideDxRefIdeal.main_arg1) = m ((c.tc : Thread nD τ).loc main_arg1)) :
    (dats m 0 c).arrAt 2 cfg0.N = WideDxRefIdeal.Grad m' c := by
  refine (dats m 0 c).arrAt_eq_of_covers 2 _ (by decide +kernel) fun t hf y => ?_
  blk_simp
  rw [after0_2]
  frame_out
  idx_vars y
  rw [show (((View.whole main_v0).slice (win0_2.rect t)).emb (ix2 y0 y1)) = ix2 y0 y1 by blk_ext [idx0_2]]
  unfold WideDxRefIdeal.Grad
  unfold_payloads
  pointwise
  simp only [left_eq, right_eq, h0, h1]

/-- The reference ends with its arguments unchanged and its counters at zero. -/
theorem frame_ref : quiescent_WideDxRefIdeal := by
  intro m ρ _
  exact (θ_run WideDxRefIdeal.defs _ _).mono (fun r h => ⟨fun c => (h c).2, sem_eq_zero_of_no_sems (by decide) r.2⟩) (WideDxRefIdeal.Value.run m ρ)

/-- The kernel's array and the reference's are the same. -/
theorem value : algebraic_WideDxIdeal_WideDxRefIdeal := by
  intro m g m' g' _ hag
  refine ⟨fun c => WideDxRefIdeal.Grad m' c, ?_, ?_⟩
  · refine (θ_run _ _ _).mono (fun r h c => ?_) (WideDxIdeal.Value.run_blocks m g)
    obtain ⟨h0, ha⟩ := h c
    exact ⟨h0.trans (grad_eq m c m' (hag c).1 (hag c).2), ha⟩
  · exact WideDxRefIdeal.Value.run m' g'

end Cert.WideDxPart
-- ==== Proof.NarrowDx.lean ====
module

public import proofs.«01_k».proof.Defs
public import proofs.«01_k».proof.Proof.Gen.NarrowDxIdeal.Value
public import proofs.«01_k».proof.Proof.Gen.NarrowDxRefIdeal.Run
public import Idealize.ShloMosaic.Lib.Pipeline.ValueKit
public import Idealize.ShloMosaic.Lib.Pointwise

@[expose] public section

set_option maxRecDepth 16384

noncomputable section

namespace Cert.NarrowDxPart

open Idealize.ShloMosaic Idealize.ShloMosaic.TcCoe Idealize.SL.Sem
open Cert.NarrowDxIdeal Cert.NarrowDxIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, 0] := (by decide +kernel)
theorem idx0_2 : ∀ t : Fin cfg0.N, win0_2.index t = ![0, 0] := (by decide +kernel)

/-- Entry (k, j) of the left operand, fetched whole. -/
theorem left_eq (c : Dev nD) (t : Fin cfg0.N) (k : Fin 2048) (j : Fin 1024) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of the right operand, fetched whole. -/
theorem right_eq (c : Dev nD) (t : Fin cfg0.N) (k : Fin 256) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.NarrowDxPart
namespace Cert.NarrowDxRefIdeal
open Idealize.ShloMosaic Idealize.ShloMosaic.TcCoe Idealize.SL.Sem Cert.NarrowDxRefIdeal.Gen
/-- The gradient at a branch as the reference composes it. -/
def Grad (m' : (ℓ : Loc nD τ sig) → Buf (Elt Ideal) ℓ) (c : Dev nD) : FVec Ideal S2048x256 .f32 :=
  Host.dotGeneral dot_S2048x1024_S256x1024_S2048x256_1_1_0_0_n_n none (extf .f32 (m' ((c.tc : Thread nD τ).loc main_arg0)) bitsLt_bf16_f32) (extf .f32 (m' ((c.tc : Thread nD τ).loc main_arg1)) bitsLt_bf16_f32)
end Cert.NarrowDxRefIdeal
namespace Cert.NarrowDxPart
open Idealize.ShloMosaic Idealize.ShloMosaic.TcCoe Idealize.SL.Sem
open Cert.NarrowDxIdeal Cert.NarrowDxIdeal.Gen
variable (m : (ℓ : Loc nD τ sig) → Buf (Elt Ideal) ℓ)

/-- The array after the run is the reference's. -/
theorem grad_eq (c : Dev nD) (m' : (ℓ : Loc NarrowDxRefIdeal.nD NarrowDxRefIdeal.τ NarrowDxRefIdeal.sig) → Buf (Elt Ideal) ℓ)
    (h0 : m' ((c.tc : Thread NarrowDxRefIdeal.nD NarrowDxRefIdeal.τ).loc NarrowDxRefIdeal.main_arg0) = m ((c.tc : Thread nD τ).loc main_arg0))
    (h1 : m' ((c.tc : Thread NarrowDxRefIdeal.nD NarrowDxRefIdeal.τ).loc NarrowDxRefIdeal.main_arg1) = m ((c.tc : Thread nD τ).loc main_arg1)) :
    (dats m 0 c).arrAt 2 cfg0.N = NarrowDxRefIdeal.Grad m' c := by
  refine (dats m 0 c).arrAt_eq_of_covers 2 _ (by decide +kernel) fun t hf y => ?_
  blk_simp
  rw [after0_2]
  frame_out
  idx_vars y
  rw [show (((View.whole main_v0).slice (win0_2.rect t)).emb (ix2 y0 y1)) = ix2 y0 y1 by blk_ext [idx0_2]]
  unfold NarrowDxRefIdeal.Grad
  unfold_payloads
  pointwise
  simp only [left_eq, right_eq, h0, h1]

/-- The reference ends with its arguments unchanged and its counters at zero. -/
theorem frame_ref : quiescent_NarrowDxRefIdeal := by
  intro m ρ _
  exact (θ_run NarrowDxRefIdeal.defs _ _).mono (fun r h => ⟨fun c => (h c).2, sem_eq_zero_of_no_sems (by decide) r.2⟩) (NarrowDxRefIdeal.Value.run m ρ)

/-- The kernel's array and the reference's are the same. -/
theorem value : algebraic_NarrowDxIdeal_NarrowDxRefIdeal := by
  intro m g m' g' _ hag
  refine ⟨fun c => NarrowDxRefIdeal.Grad m' c, ?_, ?_⟩
  · refine (θ_run _ _ _).mono (fun r h c => ?_) (NarrowDxIdeal.Value.run_blocks m g)
    obtain ⟨h0, ha⟩ := h c
    exact ⟨h0.trans (grad_eq m c m' (hag c).1 (hag c).2), ha⟩
  · exact NarrowDxRefIdeal.Value.run m' g'

end Cert.NarrowDxPart
-- ==== Proof.WideDw.lean ====
module

public import proofs.«01_k».proof.Defs
public import proofs.«01_k».proof.Proof.Gen.WideDwIdeal.Value
public import proofs.«01_k».proof.Proof.Gen.WideDwRefIdeal.Run
public import Idealize.ShloMosaic.Lib.Pipeline.ValueKit
public import Idealize.ShloMosaic.Lib.Pointwise

@[expose] public section

set_option maxRecDepth 16384

noncomputable section

namespace Cert.WideDwPart

open Idealize.ShloMosaic Idealize.ShloMosaic.TcCoe Idealize.SL.Sem
open Cert.WideDwIdeal Cert.WideDwIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, 0] := (by decide +kernel)
theorem idx0_2 : ∀ t : Fin cfg0.N, win0_2.index t = ![0, 0] := (by decide +kernel)

/-- Entry (k, j) of the left operand, fetched whole. -/
theorem left_eq (c : Dev nD) (t : Fin cfg0.N) (k : Fin 2048) (j : Fin 512) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of the right operand, fetched whole. -/
theorem right_eq (c : Dev nD) (t : Fin cfg0.N) (k : Fin 2048) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.WideDwPart
namespace Cert.WideDwRefIdeal
open Idealize.ShloMosaic Idealize.ShloMosaic.TcCoe Idealize.SL.Sem Cert.WideDwRefIdeal.Gen
/-- The gradient of a branch projection's weights as the reference composes it. -/
def Grad (m' : (ℓ : Loc nD τ sig) → Buf (Elt Ideal) ℓ) (c : Dev nD) : FVec Ideal S512x1024 .bf16 :=
  truncf .bf16 (transpose S512x1024 [1, 0] (Host.dotGeneral (φ₁ := .f32) (φ₂ := .f32) dot_S2048x1024_S2048x512_S1024x512_0_0_1_1_n_n none (extf .f32 (m' ((c.tc : Thread nD τ).loc main_arg1)) bitsLt_bf16_f32) (m' ((c.tc : Thread nD τ).loc main_arg0) : FVec Ideal S2048x512 .f32)) transposes_S1024x512_S512x1024_1_0) bitsLt_bf16_f32
end Cert.WideDwRefIdeal
namespace Cert.WideDwPart
open Idealize.ShloMosaic Idealize.ShloMosaic.TcCoe Idealize.SL.Sem
open Cert.WideDwIdeal Cert.WideDwIdeal.Gen
variable (m : (ℓ : Loc nD τ sig) → Buf (Elt Ideal) ℓ)

/-- The array after the run is the reference's. -/
theorem grad_eq (c : Dev nD) (m' : (ℓ : Loc WideDwRefIdeal.nD WideDwRefIdeal.τ WideDwRefIdeal.sig) → Buf (Elt Ideal) ℓ)
    (h0 : m' ((c.tc : Thread WideDwRefIdeal.nD WideDwRefIdeal.τ).loc WideDwRefIdeal.main_arg0) = m ((c.tc : Thread nD τ).loc main_arg0))
    (h1 : m' ((c.tc : Thread WideDwRefIdeal.nD WideDwRefIdeal.τ).loc WideDwRefIdeal.main_arg1) = m ((c.tc : Thread nD τ).loc main_arg1)) :
    (dats m 0 c).arrAt 2 cfg0.N = WideDwRefIdeal.Grad m' c := by
  refine (dats m 0 c).arrAt_eq_of_covers 2 _ (by decide +kernel) fun t hf y => ?_
  blk_simp
  rw [after0_2]
  frame_out
  idx_vars y
  rw [show (((View.whole main_v0).slice (win0_2.rect t)).emb (ix2 y0 y1)) = ix2 y0 y1 by blk_ext [idx0_2]]
  unfold WideDwRefIdeal.Grad
  unfold_payloads
  pointwise
  simp only [left_eq, right_eq, h0, h1]
  exact Finset.sum_congr (M := EReal) rfl fun _ _ => mul_comm (G := EReal) _ _

/-- The reference ends with its arguments unchanged and its counters at zero. -/
theorem frame_ref : quiescent_WideDwRefIdeal := by
  intro m ρ _
  exact (θ_run WideDwRefIdeal.defs _ _).mono (fun r h => ⟨fun c => (h c).2, sem_eq_zero_of_no_sems (by decide) r.2⟩) (WideDwRefIdeal.Value.run m ρ)

/-- The kernel's array and the reference's are the same. -/
theorem value : algebraic_WideDwIdeal_WideDwRefIdeal := by
  intro m g m' g' _ hag
  refine ⟨fun c => WideDwRefIdeal.Grad m' c, ?_, ?_⟩
  · refine (θ_run _ _ _).mono (fun r h c => ?_) (WideDwIdeal.Value.run_blocks m g)
    obtain ⟨h0, ha⟩ := h c
    exact ⟨h0.trans (grad_eq m c m' (hag c).1 (hag c).2), ha⟩
  · exact WideDwRefIdeal.Value.run m' g'

end Cert.WideDwPart
-- ==== Proof.NarrowDw.lean ====
module

public import proofs.«01_k».proof.Defs
public import proofs.«01_k».proof.Proof.Gen.NarrowDwIdeal.Value
public import proofs.«01_k».proof.Proof.Gen.NarrowDwRefIdeal.Run
public import Idealize.ShloMosaic.Lib.Pipeline.ValueKit
public import Idealize.ShloMosaic.Lib.Pointwise

@[expose] public section

set_option maxRecDepth 16384

noncomputable section

namespace Cert.NarrowDwPart

open Idealize.ShloMosaic Idealize.ShloMosaic.TcCoe Idealize.SL.Sem
open Cert.NarrowDwIdeal Cert.NarrowDwIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, 0] := (by decide +kernel)
theorem idx0_2 : ∀ t : Fin cfg0.N, win0_2.index t = ![0, 0] := (by decide +kernel)

/-- Entry (k, j) of the left operand, fetched whole. -/
theorem left_eq (c : Dev nD) (t : Fin cfg0.N) (k : Fin 2048) (j : Fin 256) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of the right operand, fetched whole. -/
theorem right_eq (c : Dev nD) (t : Fin cfg0.N) (k : Fin 2048) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.NarrowDwPart
namespace Cert.NarrowDwRefIdeal
open Idealize.ShloMosaic Idealize.ShloMosaic.TcCoe Idealize.SL.Sem Cert.NarrowDwRefIdeal.Gen
/-- The gradient of a branch projection's weights as the reference composes it. -/
def Grad (m' : (ℓ : Loc nD τ sig) → Buf (Elt Ideal) ℓ) (c : Dev nD) : FVec Ideal S256x1024 .bf16 :=
  truncf .bf16 (transpose S256x1024 [1, 0] (Host.dotGeneral (φ₁ := .f32) (φ₂ := .f32) dot_S2048x1024_S2048x256_S1024x256_0_0_1_1_n_n none (extf .f32 (m' ((c.tc : Thread nD τ).loc main_arg1)) bitsLt_bf16_f32) (m' ((c.tc : Thread nD τ).loc main_arg0) : FVec Ideal S2048x256 .f32)) transposes_S1024x256_S256x1024_1_0) bitsLt_bf16_f32
end Cert.NarrowDwRefIdeal
namespace Cert.NarrowDwPart
open Idealize.ShloMosaic Idealize.ShloMosaic.TcCoe Idealize.SL.Sem
open Cert.NarrowDwIdeal Cert.NarrowDwIdeal.Gen
variable (m : (ℓ : Loc nD τ sig) → Buf (Elt Ideal) ℓ)

/-- The array after the run is the reference's. -/
theorem grad_eq (c : Dev nD) (m' : (ℓ : Loc NarrowDwRefIdeal.nD NarrowDwRefIdeal.τ NarrowDwRefIdeal.sig) → Buf (Elt Ideal) ℓ)
    (h0 : m' ((c.tc : Thread NarrowDwRefIdeal.nD NarrowDwRefIdeal.τ).loc NarrowDwRefIdeal.main_arg0) = m ((c.tc : Thread nD τ).loc main_arg0))
    (h1 : m' ((c.tc : Thread NarrowDwRefIdeal.nD NarrowDwRefIdeal.τ).loc NarrowDwRefIdeal.main_arg1) = m ((c.tc : Thread nD τ).loc main_arg1)) :
    (dats m 0 c).arrAt 2 cfg0.N = NarrowDwRefIdeal.Grad m' c := by
  refine (dats m 0 c).arrAt_eq_of_covers 2 _ (by decide +kernel) fun t hf y => ?_
  blk_simp
  rw [after0_2]
  frame_out
  idx_vars y
  rw [show (((View.whole main_v0).slice (win0_2.rect t)).emb (ix2 y0 y1)) = ix2 y0 y1 by blk_ext [idx0_2]]
  unfold NarrowDwRefIdeal.Grad
  unfold_payloads
  pointwise
  simp only [left_eq, right_eq, h0, h1]
  exact Finset.sum_congr (M := EReal) rfl fun _ _ => mul_comm (G := EReal) _ _

/-- The reference ends with its arguments unchanged and its counters at zero. -/
theorem frame_ref : quiescent_NarrowDwRefIdeal := by
  intro m ρ _
  exact (θ_run NarrowDwRefIdeal.defs _ _).mono (fun r h => ⟨fun c => (h c).2, sem_eq_zero_of_no_sems (by decide) r.2⟩) (NarrowDwRefIdeal.Value.run m ρ)

/-- The kernel's array and the reference's are the same. -/
theorem value : algebraic_NarrowDwIdeal_NarrowDwRefIdeal := by
  intro m g m' g' _ hag
  refine ⟨fun c => NarrowDwRefIdeal.Grad m' c, ?_, ?_⟩
  · refine (θ_run _ _ _).mono (fun r h c => ?_) (NarrowDwIdeal.Value.run_blocks m g)
    obtain ⟨h0, ha⟩ := h c
    exact ⟨h0.trans (grad_eq m c m' (hag c).1 (hag c).2), ha⟩
  · exact NarrowDwRefIdeal.Value.run m' g'

end Cert.NarrowDwPart
-- ==== Proof.InFwdRun.lean ====
module

public import proofs.«01_k».proof.Proof.Gen.InFwdIdeal.Frame
public import proofs.«01_k».proof.Proof.Gen.InFwdIdeal.Skeleton
public import proofs.«01_k».proof.Proof.Carried

@[expose] public section

set_option maxRecDepth 16384

/-! The run of the input product over a layer's normalised rows, over any float values: at the first of the five points
    of a block of rows the body normalises the rows, at the others it takes them over. -/

noncomputable section

namespace Cert.InFwdPart

open Cert.InFwdIdeal Cert.InFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a block of rows. -/
theorem run_first (c : Dev nD) (i : grid0.Coords) (arg3 : Memref sig .tc .vmem S1024x1024 .f32) (harg3 : arg3.IsWhole)
    (arg4 : Memref sig .tc .vmem S1152x1024 .bf16) (harg4 : arg4.IsWhole) (arg5 : Memref sig .tc .vmem S8x1024 .f32) (harg5 : arg5.IsWhole)
    (arg6 : Memref sig .tc .vmem S8x1024 .f32) (harg6 : arg6.IsWhole) (arg7 : Memref sig .tc .vmem S1024x1152 .f32) (harg7 : arg7.IsWhole)
    (arg8 : Memref sig .tc .vmem S1024x1024 .bf16) (harg8 : arg8.IsWhole) (arg9 : Memref sig .tc .vmem S1024x1024 .bf16) (harg9 : arg9.IsWhole)
    (hc : k0_cond1 i = 1#1) (x0 : Vec F S1024x1024 .f32) (x1 : Vec F S1152x1024 .bf16) (x2 x3 : Vec F S8x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (k0_pay3 x1 (k0_pay2 x0 x2 x3))
            ∗ owns (c : Thread nD τ) arg8 fullShare (k0_pay1 x0 x2 x3)
            ∗ owns (c : Thread nD τ) arg9 fullShare (k0_pay2 x0 x2 x3)) -∗ K ⟨⟩))
      ⊢ wp frame (wpE (defs₀ (F := F)) Variants.none c none) E
          (cc0_in_proj_l0 i arg3 harg3 arg4 harg4 arg5 harg5 arg6 harg6 arg7 harg7 arg8 harg8 arg9 harg9) K := by
  simp only [cc0_in_proj_l0_eq_skeleton]; unfold cc0_in_proj_l0_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg3.eq_unread hf0; obtain rfl := harg4.eq_unread hf1; obtain rfl := harg5.eq_unread hf2
  obtain rfl := harg6.eq_unread hf3
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    frame_open
    simp (disch := decide) only [Carried.read_store, View.readAt_eq_ld, Memref.IsWhole.read_unread, View.ld_unit_lit',
      View.readCov_unit_lit', View.readCov_cons_unit_lit']
  isplitl [H5]
  · iexists _; isplitr
    swap; · iexact H5
    ipureintro
    frame_open
    simp (disch := decide) only [Carried.read_store, View.readAt_eq_ld, Memref.IsWhole.read_unread, View.ld_unit_lit',
      View.readCov_unit_lit', View.readCov_cons_unit_lit']
  iexists _; isplitr
  swap; · iexact H6
  ipureintro
  frame_open
  simp (disch := decide) only [Carried.read_store, View.readAt_eq_ld, Memref.IsWhole.read_unread, View.ld_unit_lit',
    View.readCov_unit_lit', View.readCov_cons_unit_lit']

set_option maxHeartbeats 1000000 in
/-- The body at a later point: the normalised rows are those the scratch holds, and one output stays as it is. -/
theorem run_later (c : Dev nD) (i : grid0.Coords) (arg3 : Memref sig .tc .vmem S1024x1024 .f32) (harg3 : arg3.IsWhole)
    (arg4 : Memref sig .tc .vmem S1152x1024 .bf16) (harg4 : arg4.IsWhole) (arg5 : Memref sig .tc .vmem S8x1024 .f32) (harg5 : arg5.IsWhole)
    (arg6 : Memref sig .tc .vmem S8x1024 .f32) (harg6 : arg6.IsWhole) (arg7 : Memref sig .tc .vmem S1024x1152 .f32) (harg7 : arg7.IsWhole)
    (arg8 : Memref sig .tc .vmem S1024x1024 .bf16) (harg8 : arg8.IsWhole) (arg9 : Memref sig .tc .vmem S1024x1024 .bf16) (harg9 : arg9.IsWhole)
    (hc : ¬k0_cond1 i = 1#1) (x1 : Vec F S1152x1024 .bf16) (l : Vec F S1024x1024 .bf16) (E : Set ℕ) (K : PUnit → sProp 𝕄) :
    iprop(owns (c : Thread nD τ) arg4 fullShare x1
        ∗ (∃ d, owns (c : Thread nD τ) arg7 fullShare d) ∗ owns (c : Thread nD τ) arg9 fullShare l
        ∗ (iprop(owns (c : Thread nD τ) arg4 fullShare x1
            ∗ owns (c : Thread nD τ) arg7 fullShare (k0_pay3 x1 l) ∗ owns (c : Thread nD τ) arg9 fullShare l) -∗ K ⟨⟩))
      ⊢ wp frame (wpE (defs₀ (F := F)) Variants.none c none) E
          (cc0_in_proj_l0 i arg3 harg3 arg4 harg4 arg5 harg5 arg6 harg6 arg7 harg7 arg8 harg8 arg9 harg9) K := by
  simp only [cc0_in_proj_l0_eq_skeleton]; unfold cc0_in_proj_l0_skel
  unfold owns
  iintro ⟨⟨%f1, %hf1, H1⟩, ⟨%d4, %f4, -, H4⟩, ⟨%f6, %hf6, H6⟩, Hk⟩
  obtain rfl := harg4.eq_unread hf1; obtain rfl := harg9.eq_unread hf6
  sl_exec (disch := first | sl_exact hc)
  sl_step
  iapply Hk
  isplitl [H1]
  · iexists _; isplitr; · ipureintro; exact harg4.read_unread _
    iexact H1
  isplitl [H4]
  · iexists _; isplitr
    swap; · iexact H4
    ipureintro
    frame_open
    simp (disch := decide) only [Carried.read_store, View.readAt_eq_ld, Memref.IsWhole.read_unread, View.ld_unit_lit',
      View.readCov_unit_lit', View.readCov_cons_unit_lit']
  iexists _; isplitr; · ipureintro; exact harg9.read_unread _
  iexact H6

/-! ## The pipeline's data -/

variable (m : (ℓ : Loc nD τ sig) → Buf (Elt F) ℓ) (ρ : Dev nD → PrngReg)

theorem N10 : cfg0.N = 10 := N_0

/-- The first point of the point's block of rows. -/
def at0 (t : Fin cfg0.N) : Fin cfg0.N := ⟨t.val / 5 * 5, Nat.lt_of_le_of_lt (Nat.div_mul_le_self _ _) t.isLt⟩

theorem at0_first (t : Fin cfg0.N) (h : t.val % 5 = 0) : at0 t = t := Fin.ext (by show t.val / 5 * 5 = t.val; omega)

theorem at0_prev (t : Fin cfg0.N) (h : ¬t.val % 5 = 0) : at0 (Carried.prev t) = at0 t :=
  Fin.ext (by show (t.val - 1) / 5 * 5 = t.val / 5 * 5; omega)

/-- The normalised rows the point works with. -/
def lhs (c : Dev nD) (t : Fin cfg0.N) : Vec F S1024x1024 .bf16 :=
  k0_pay2 (iblk m c 0 (at0 t)) (iblk m c 2 (at0 t)) (iblk m c 3 (at0 t))

/-- The same as the output holds them. -/
def lhsOut (c : Dev nD) (t : Fin cfg0.N) : Vec F S1024x1024 .bf16 :=
  k0_pay1 (iblk m c 0 (at0 t)) (iblk m c 2 (at0 t)) (iblk m c 3 (at0 t))

/-- The scratch, as the body is handed it. -/
abbrev scr : Memref sig .tc .vmem S1024x1024 .bf16 := Memref.whole cc0_scratch0

/-- What holds before a point: at first nothing is known of the scratch, later it holds the rows of the point before. -/
def inv (c : Dev nD) : (n : ℕ) → n ≤ cfg0.N → sProp 𝕄
  | 0, _ => Pipeline.ΦA spec0 c
  | n + 1, hn => iprop(iprop(owns (c : Thread nD τ) scr fullShare (lhs m c ⟨n, hn⟩)) ∗ (∃ r, prngReg c r))

theorem inv_pos (c : Dev nD) (t : Fin cfg0.N) (h : t.val ≠ 0) :
    inv m c t.val (Nat.le_of_lt t.isLt)
      = iprop(iprop(owns (c : Thread nD τ) scr fullShare (lhs m c (Carried.prev t))) ∗ (∃ r, prngReg c r)) := by
  obtain ⟨n, hn⟩ := t
  cases n with
  | zero => exact absurd rfl h
  | succ n => rfl

theorem launch_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- What each point leaves in the windows' buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (iblk m c 1 t) (lhs m c t)
    | ⟨5, _⟩ => lhsOut m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (iblk m c 1 t) (lhs m c t) := by dsimp only [dats]
theorem after_5 (c : Dev nD) (t : Fin cfg0.N) : (dats m 0 c).after 5 t = lhsOut m c t := by dsimp only [dats]

theorem first_iff : ∀ t : Fin cfg0.N, k0_cond1 (grid0.coords t) = 1#1 ↔ t.val % 5 = 0 :=
  (by decide +kernel : ∀ t : Fin grid0.N, k0_cond1 (grid0.coords t) = 1#1 ↔ t.val % 5 = 0)

theorem idle_5 : ∀ t : Fin cfg0.N, cfg0.idle 5 (grid0.coords t) = true ↔ ¬t.val % 5 = 0 :=
  (by decide +kernel : ∀ t : Fin grid0.N, idle0 5 (grid0.coords t) = true ↔ ¬t.val % 5 = 0)

theorem repeats_5 (c : Dev nD) : Carried.Repeats (dats m 0 c) 5 := fun t hi => by
  have h := (idle_5 t).mp hi
  refine ⟨fun h0 => h (by rw [h0]), ?_, ?_⟩
  · exact Bool.eq_false_iff.mpr fun hf => by
      have := (flush0_5 (Carried.prev t)).mp hf
      have h3 : (t.val - 1) % 5 = 4 := this
      omega
  · rw [after_5, after_5]; unfold lhsOut; rw [at0_prev t h]

/-- The output's buffer at what the point leaves in it is what the body hands back. -/
theorem leaves_5 (c : Dev nD) (t : Fin cfg0.N) :
    (owns (c : Thread nD τ) (win0_5.stage (cfg0.slots t 5)) fullShare (lhsOut m c t) : sProp 𝕄) ⊢ (dats m 0 c).leavesExact 5 t := by
  rw [← after_5 m c t]
  exact Carried.leaves_of_repeats (dats m 0 c) 5 rfl (fun _ _ => rfl) (repeats_5 m c) t

theorem before_5 (c : Dev nD) (t : Fin cfg0.N) (h : cfg0.idle 5 (grid0.coords t) = true) (d) :
    (dats m 0 c).before 5 t d = lhsOut m c t :=
  (Carried.before_of_repeats (dats m 0 c) 5 rfl (fun _ _ => rfl) (repeats_5 m c) d t.val t.isLt h).trans (after_5 m c t)

/-! ## The body at a point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- A window no point leaves alone comes back at what the point leaves in it. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = iprop(iprop(owns (c : Thread nD τ) scr fullShare (lhs m c t)) ∗ (∃ r, prngReg c r)) from rfl]
  rw [show (dats m 0 c).Φ t.castSucc = inv m c t.val (Nat.le_of_lt t.isLt) from rfl]
  rw [leaves_live m c 0 t rfl, leaves_live m c 1 t rfl, leaves_live m c 2 t rfl, leaves_live m c 3 t rfl,
    leaves_live m c 4 t rfl, after_0, after_1, after_2, after_3, after_4]
  by_cases h0 : t.val % 5 = 0
  · have hinv : inv m c t.val (Nat.le_of_lt t.isLt)
        ⊢ iprop(iprop((∃ d, owns (c : Thread nD τ) scr fullShare d)) ∗ (∃ r, prngReg c r)) := by
      by_cases hz : t.val = 0
      · obtain ⟨n, hn⟩ := t
        obtain rfl : n = 0 := hz
        rw [← launch_eq c]
        exact .rfl
      · rw [inv_pos m c t hz]
        iintro ⟨HS, Hg⟩
        isplitl [HS]
        · iexists _; iexact HS
        iexact Hg
    refine BIBase.Entails.trans (sep_mono hinv .rfl) ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((first_iff t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    have e1 : lhs m c t = k0_pay2 (iblk m c 0 t) (iblk m c 2 t) (iblk m c 3 t) := by
      unfold lhs; rw [at0_first t h0]
    have e5 : lhsOut m c t = k0_pay1 (iblk m c 0 t) (iblk m c 2 t) (iblk m c 3 t) := by
      unfold lhsOut; rw [at0_first t h0]
    rw [e1]
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t); rw [e5]; iexact H5
  · have hz : t.val ≠ 0 := fun hz => h0 (by rw [hz])
    have e1 : lhs m c (Carried.prev t) = lhs m c t := by unfold lhs; rw [at0_prev t h0]
    rw [inv_pos m c t hz, e1]
    simp only [before_5 m c t ((idle_5 t).mpr h0)]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((first_iff t).mp h))
      (iblk m c 1 t) (lhs m c t) Set.univ _)
    isplitl [H1]; · iexact H1
    isplitl [H4]; · iexists _; iexact H4
    isplitl [HS]; · iexact HS
    iintro ⟨H1, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t); iexact H5

/-! ## The run -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N)
    = iprop(iprop(owns (c : Thread nD τ) scr fullShare (lhs m c ⟨9, by rw [N10]; decide⟩)) ∗ (∃ r, prngReg c r)) from rfl, launch_eq]
  iintro ⟨HS, Hg⟩
  isplitl [HS]
  · iexists _; iexact HS
  iexact Hg

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays after the run. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.InFwdPart

end
-- ==== Proof.PostRef.lean ====
module

public import proofs.«01_k».proof.Defs
public import proofs.«01_k».proof.Proof.Gen.FfTwoFwdRefIdeal.Run
public import proofs.«01_k».proof.Proof.NormGrad
public import Idealize.ShloMosaic.Lib.Pipeline.ValueKit
public import Idealize.ShloMosaic.Lib.Pointwise

@[expose] public section

set_option maxRecDepth 16384

noncomputable section

namespace Cert.PostRef

open Idealize.ShloMosaic Idealize.ShloMosaic.TcCoe Idealize.SL.Sem
open Cert.FfTwoFwdRefIdeal Cert.FfTwoFwdRefIdeal.Gen

/-- One over each row's root mean square. -/
def inv (y : FVec Ideal S2048x1024 .f32) : FVec Ideal S2048x1 .f32 :=
  Host.rsqrt (addf (Host.divf (broadcastInDim S2048x1 ![0] bcast_S2048_S2048x1_0 (Host.reduceAdd (mulf y y) (constant (F := Ideal) S_ .f32 0x00000000#32) reducesTo_S2048x1024_S2048_d1 h_S_)) (broadcastInDim S2048x1 ![] bcast_S_S2048x1 (constant (F := Ideal) S_ .f32 0x44800000#32))) (broadcastInDim S2048x1 ![] bcast_S_S2048x1 (constant (F := Ideal) S_ .f32 0x358637BD#32)))

/-- A row of 1024 entries, laid out over all the rows. -/
def spread (g : FVec Ideal S1024 .f32) : FVec Ideal S2048x1024 .f32 :=
  broadcastInDim S2048x1024 ![0, 1] bcast_S1x1024_S2048x1024_0_1 (broadcastInDim S1x1024 ![1] bcast_S1024_S1x1024_1 g)

/-- The rows normalised, as the reference composes them. -/
def norm (y : FVec Ideal S2048x1024 .f32) (g : FVec Ideal S1024 .f32) : FVec Ideal S2048x1024 .f32 :=
  mulf (mulf y (broadcastInDim S2048x1024 ![0, 1] bcast_S2048x1_S2048x1024_0_1 (inv y))) (spread g)

/-- The residual rows plus the gated norm of others, as the reference composes them. -/
def Out (x y : FVec Ideal S2048x1024 .f32) (g gate : FVec Ideal S1024 .f32) : FVec Ideal S2048x1024 .f32 :=
  addf x (mulf (spread gate) (norm y g))

theorem inv_apply (y : FVec Ideal S2048x1024 .f32) (r : Fin 2048) : inv y (ix2 r (0 : Fin 1)) = NormGrad.inv fun i => y (ix2 r i) := by
  unfold inv NormGrad.inv
  pointwise

theorem spread_apply (g : FVec Ideal S1024 .f32) (r : Fin 2048) (j : Fin 1024) : spread g (ix2 r j) = g (ix1 j) := by
  unfold spread
  pointwise

theorem norm_apply (y : FVec Ideal S2048x1024 .f32) (g : FVec Ideal S1024 .f32) (r : Fin 2048) (j : Fin 1024) :
    norm y g (ix2 r j) = y (ix2 r j) * NormGrad.inv (fun i => y (ix2 r i)) * g (ix1 j) := by
  unfold norm
  pointwise
  rw [inv_apply, spread_apply]

theorem Out_apply (x y : FVec Ideal S2048x1024 .f32) (g gate : FVec Ideal S1024 .f32) (r : Fin 2048) (j : Fin 1024) :
    Out x y g gate (ix2 r j) = NormGrad.post (fun i => y (ix2 r i)) (x (ix2 r j)) (g (ix1 j)) (gate (ix1 j)) j := by
  unfold Out NormGrad.post
  pointwise
  rw [norm_apply, spread_apply]

end Cert.PostRef
-- ==== Proof.ModRef.lean ====
module

public import proofs.«01_k».proof.Defs
public import proofs.«01_k».proof.Proof.PostRef
public import proofs.«01_k».proof.Proof.Gen.InFwdRefIdeal.Run
public import Idealize.ShloMosaic.Lib.Pipeline.ValueKit
public import Idealize.ShloMosaic.Lib.Pointwise

@[expose] public section

set_option maxRecDepth 16384

noncomputable section

namespace Cert.ModRef

open Idealize.ShloMosaic Idealize.ShloMosaic.TcCoe Idealize.SL.Sem
open Cert.InFwdRefIdeal Cert.InFwdRefIdeal.Gen

/-- The rows normalised, weighted, scaled and shifted, as the reference composes them. -/
def Rows (x : FVec Ideal S2048x1024 .f32) (g shift scale : FVec Ideal S1024 .f32) : FVec Ideal S2048x1024 .f32 :=
  addf (mulf (PostRef.norm x g) (PostRef.spread (addf (broadcastInDim S1024 ![] bcast_S_S1024 (constant (F := Ideal) S_ .f32 0x3F800000#32)) scale))) (PostRef.spread shift)

theorem Rows_apply (x : FVec Ideal S2048x1024 .f32) (g shift scale : FVec Ideal S1024 .f32) (r : Fin 2048) (j : Fin 1024) :
    Rows x g shift scale (ix2 r j) = NormGrad.modulated (fun i => x (ix2 r i)) (g (ix1 j)) (shift (ix1 j)) (scale (ix1 j)) j := by
  unfold Rows NormGrad.modulated
  pointwise
  rw [PostRef.norm_apply, PostRef.spread_apply, PostRef.spread_apply]
  pointwise

end Cert.ModRef
-- ==== Proof.InFwd.lean ====
module

public import proofs.«01_k».proof.Defs
public import proofs.«01_k».proof.Proof.Gen.InFwd.Frame
public import proofs.«01_k».proof.Proof.InFwdRun
public import proofs.«01_k».proof.Proof.ModRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InFwdPart

open Idealize.ShloMosaic Idealize.ShloMosaic.TcCoe Idealize.SL.Sem
open Cert.InFwdIdeal Cert.InFwdIdeal.Gen

section Blocks

variable (m : (ℓ : Loc nD τ sig) → Buf (Elt Ideal) ℓ)

theorem idx0_0 : ∀ t : Fin cfg0.N, win0_0.index t = ![t.val / 5, 0] := (by decide +kernel)
theorem idx0_1 : ∀ t : Fin cfg0.N, win0_1.index t = ![t.val % 5, 0] := (by decide +kernel)
theorem idx0_2 : ∀ t : Fin cfg0.N, win0_2.index t = ![0, 0] := (by decide +kernel)
theorem idx0_3 : ∀ t : Fin cfg0.N, win0_3.index t = ![0, 0] := (by decide +kernel)
theorem idx0_4 : ∀ t : Fin cfg0.N, win0_4.index t = ![t.val / 5, t.val % 5] := (by decide +kernel)
theorem idx0_5 : ∀ t : Fin cfg0.N, win0_5.index t = ![t.val / 5, 0] := (by decide +kernel)
theorem t_lt : ∀ t : Fin cfg0.N, t.val < 10 := (by decide +kernel)

/-- A row of the block of rows a point works on. -/
abbrev row (t : Fin cfg0.N) (r : Fin 1024) : Fin 2048 := ⟨t.val / 5 * 1024 + r.val, by have := t_lt t; omega⟩

theorem x_eq (c : Dev nD) (t : Fin cfg0.N) (r j : Fin 1024) :
    iblk m c 0 t (ix2 r j) = m ((c.tc : Thread nD τ).loc main_arg0) (ix2 (row t r) j) := by
  show V m c main_arg0 (((cfg0.win 0).blk t).view.emb _) = _
  rw [V_main_arg0]
  congr 1
  blk_ext [idx0_0]

theorem w_eq (c : Dev nD) (t : Fin cfg0.N) (k : Fin 1152) (j : Fin 1024) :
    iblk m c 1 t (ix2 k j) = m ((c.tc : Thread nD τ).loc main_arg1) (ix2 ⟨t.val % 5 * 1152 + k.val, by omega⟩ j) := by
  show V m c main_arg1 (((cfg0.win 1).blk t).view.emb _) = _
  rw [V_main_arg1]
  congr 1
  blk_ext [idx0_1]

set_option maxHeartbeats 1000000 in
theorem g_eq (c : Dev nD) (t : Fin cfg0.N) (j : Fin 1024) :
    iblk m c 2 t (ix2 (0 : Fin 8) j) = m ((c.tc : Thread nD τ).loc main_arg2) (ix1 j) := by
  blk_simp [iblk, V]; entry_read
  rw [show ((View.whole main_v2).slice (win0_2.rect t)).emb (ix2 0 j) = ix2 0 j by blk_ext [idx0_2]]
  pointwise

set_option maxHeartbeats 1000000 in
theorem V_mod (c : Dev nD) : V m c main_v6 = (concatenate S8x1024 0
      [⟨S1x1024, broadcastInDim S1x1024 ![1] bcast_S1024_S1x1024_1 (m ((c.tc : Thread nD τ).loc main_arg3))⟩,
       ⟨S1x1024, broadcastInDim S1x1024 ![1] bcast_S1024_S1x1024_1 (m ((c.tc : Thread nD τ).loc main_arg4))⟩,
       ⟨S6x1024, broadcastInDim S6x1024 ![] bcast_S_S6x1024 (constant (F := Ideal) S_ .f32 0x00000000#32)⟩]
        concatenates_S1x1024_S1x1024_S6x1024_S8x1024_d0 : S8x1024.Idx → EReal) := by
  show StableHlo.after _ _ _ = _
  after_results
  rfl

set_option maxHeartbeats 1000000 in
theorem shift_eq (c : Dev nD) (t : Fin cfg0.N) (j : Fin 1024) :
    iblk m c 3 t (ix2 (0 : Fin 8) j) = m ((c.tc : Thread nD τ).loc main_arg3) (ix1 j) := by
  show V m c main_v6 (((cfg0.win 3).blk t).view.emb _) = _
  rw [V_mod]
  rw [show ((cfg0.win 3).blk t).view.emb (ix2 0 j) = ix2 0 j by blk_ext [idx0_3]]
  pointwise

set_option maxHeartbeats 1000000 in
theorem scale_eq (c : Dev nD) (t : Fin cfg0.N) (j : Fin 1024) :
    iblk m c 3 t (ix2 (1 : Fin 8) j) = m ((c.tc : Thread nD τ).loc main_arg4) (ix1 j) := by
  show V m c main_v6 (((cfg0.win 3).blk t).view.emb _) = _
  rw [V_mod]
  rw [show ((cfg0.win 3).blk t).view.emb (ix2 1 j) = ix2 1 j by blk_ext [idx0_3]]
  pointwise

theorem row_at0 (t : Fin cfg0.N) (r : Fin 1024) : row (at0 t) r = row t r := by
  have h : (at0 t).val = t.val / 5 * 5 := rfl
  have e : (at0 t).val / 5 = t.val / 5 := by omega
  simp only [row, e]

end Blocks

theorem pay_h (x : S1024x1024.Idx → EReal) (g md : S8x1024.Idx → EReal) (r j : Fin 1024) :
    k0_pay1 (F := Ideal) x g md (ix2 r j) = NormGrad.modulated (fun i => x (ix2 r i)) (g (ix2 (0 : Fin 8) j))
      (md (ix2 (0 : Fin 8) j)) (md (ix2 (1 : Fin 8) j)) j := by
  unfold_payloads
  pointwise
  rfl

theorem pay_z (w : S1152x1024.Idx → EReal) (l : S1024x1024.Idx → EReal) (r : Fin 1024) (j : Fin 1152) :
    k0_pay3 (F := Ideal) w l (ix2 r j) = ∑ k : Fin 1024, l (ix2 r k) * w (ix2 j k) := by
  unfold_payloads
  pointwise

theorem pay_held (x : S1024x1024.Idx → EReal) (g md : S8x1024.Idx → EReal) (r j : Fin 1024) :
    k0_pay2 (F := Ideal) x g md (ix2 r j) = k0_pay1 (F := Ideal) x g md (ix2 r j) := by
  unfold k0_pay2
  pointwise

end Cert.InFwdPart

namespace Cert.InFwdRefIdeal

open Idealize.ShloMosaic Idealize.ShloMosaic.TcCoe Idealize.SL.Sem Cert.InFwdRefIdeal.Gen

/-- The rows times the weights transposed. -/
def Product (h : FVec Ideal S2048x1024 .f32) (w : FVec Ideal S5760x1024 .bf16) : FVec Ideal S2048x5760 .f32 :=
  Host.dotGeneral (φ₁ := .f32) (φ₂ := .f32) dot_S2048x1024_S1024x5760_S2048x5760_1_0_0_1_n_n none h
    (transpose S1024x5760 [1, 0] (extf .f32 w bitsLt_bf16_f32) transposes_S5760x1024_S1024x5760_1_0)

theorem Product_apply (h : FVec Ideal S2048x1024 .f32) (w : FVec Ideal S5760x1024 .bf16) (r : Fin 2048) (j : Fin 5760) :
    Product h w (ix2 r j) = ∑ k : Fin 1024, h (ix2 r k) * w (ix2 j k) := by
  unfold Product
  pointwise

variable (m : (ℓ : Loc nD τ sig) → Buf (Elt Ideal) ℓ)

/-- The rows normalised. -/
def Hid (c : Dev nD) : FVec Ideal S2048x1024 .f32 :=
  ModRef.Rows (m ((c.tc : Thread nD τ).loc main_arg0)) (m ((c.tc : Thread nD τ).loc main_arg2)) (m ((c.tc : Thread nD τ).loc main_arg3)) (m ((c.tc : Thread nD τ).loc main_arg4))

/-- The same as they are kept. -/
def Kept (c : Dev nD) : FVec Ideal S2048x1024 .bf16 := truncf .bf16 (Hid m c) bitsLt_bf16_f32

/-- Their product. -/
def Out (c : Dev nD) : FVec Ideal S2048x5760 .f32 := Product (Hid m c) (m ((c.tc : Thread nD τ).loc main_arg1))

end Cert.InFwdRefIdeal

namespace Cert.InFwdPart

open Idealize.ShloMosaic Idealize.ShloMosaic.TcCoe Idealize.SL.Sem
open Cert.InFwdIdeal Cert.InFwdIdeal.Gen

variable (m : (ℓ : Loc nD τ sig) → Buf (Elt Ideal) ℓ)
variable (m' : (ℓ : Loc InFwdRefIdeal.nD InFwdRefIdeal.τ InFwdRefIdeal.sig) → Buf (Elt Ideal) ℓ)

/-- The two programs' arguments are the same on a device. -/
def Same (c : Dev nD) : Prop :=
  m' ((c.tc : Thread InFwdRefIdeal.nD InFwdRefIdeal.τ).loc InFwdRefIdeal.main_arg0) = m ((c.tc : Thread nD τ).loc main_arg0)
  ∧ m' ((c.tc : Thread InFwdRefIdeal.nD InFwdRefIdeal.τ).loc InFwdRefIdeal.main_arg1) = m ((c.tc : Thread nD τ).loc main_arg1)
  ∧ m' ((c.tc : Thread InFwdRefIdeal.nD InFwdRefIdeal.τ).loc InFwdRefIdeal.main_arg2) = m ((c.tc : Thread nD τ).loc main_arg2)
  ∧ m' ((c.tc : Thread InFwdRefIdeal.nD InFwdRefIdeal.τ).loc InFwdRefIdeal.main_arg3) = m ((c.tc : Thread nD τ).loc main_arg3)
  ∧ m' ((c.tc : Thread InFwdRefIdeal.nD InFwdRefIdeal.τ).loc InFwdRefIdeal.main_arg4) = m ((c.tc : Thread nD τ).loc main_arg4)

/-- The rows normalised for a point are the reference's. -/
theorem made_eq (c : Dev nD) (h : Same m m' c) (t : Fin cfg0.N) (r j : Fin 1024) :
    k0_pay1 (F := Ideal) (iblk m c 0 (at0 t)) (iblk m c 2 (at0 t)) (iblk m c 3 (at0 t)) (ix2 r j) = InFwdRefIdeal.Hid m' c (ix2 (row t r) j) := by
  obtain ⟨h0, h1, h2, h3, h4⟩ := h
  rw [pay_h, InFwdRefIdeal.Hid, ModRef.Rows_apply]
  simp only [x_eq, g_eq, shift_eq, scale_eq, row_at0, h0, h2, h3, h4]

/-- The first array after the run is the reference's product. -/
theorem z_eq (c : Dev nD) (h : Same m m' c) : (dats m 0 c).arrAt 4 cfg0.N = InFwdRefIdeal.Out m' c := by
  refine (dats m 0 c).arrAt_eq_of_covers 4 _ (by decide +kernel) fun t hf y => ?_
  blk_simp
  rw [after_4]
  idx_vars y
  have ht := t_lt t
  rw [show (((View.whole main_v7_0).slice (win0_4.rect t)).emb (ix2 y0 y1)) = ix2 (row t y0) ⟨t.val % 5 * 1152 + y1.val, by omega⟩ by blk_ext [idx0_4]]
  rw [pay_z, InFwdRefIdeal.Out, InFwdRefIdeal.Product_apply]
  unfold lhs
  simp only [pay_held, made_eq m m' c h t, w_eq]
  rw [h.2.1]

/-- The second array after the run is the reference's normalised rows. -/
theorem h_eq (c : Dev nD) (h : Same m m' c) : (dats m 0 c).arrAt 5 cfg0.N = InFwdRefIdeal.Kept m' c := by
  refine (dats m 0 c).arrAt_eq_of_covers 5 _ (by decide +kernel) fun t hf y => ?_
  blk_simp
  rw [after_5]
  idx_vars y
  have ht := t_lt t
  rw [show (((View.whole main_v7_1).slice (win0_5.rect t)).emb (ix2 y0 y1)) = ix2 (row t y0) y1 by blk_ext [idx0_5]]
  exact made_eq m m' c h t y0 y1

/-- The reference ends with its arguments unchanged and its counters at zero. -/
theorem frame_ref : quiescent_InFwdRefIdeal := by
  intro m ρ _
  exact (θ_run InFwdRefIdeal.defs _ _).mono (fun r h => ⟨fun c => (h c).2.2, sem_eq_zero_of_no_sems (by decide) r.2⟩) (InFwdRefIdeal.Value.run m ρ)

/-- The kernel's arrays and the reference's are the same. -/
theorem value : algebraic_InFwdIdeal_InFwdRefIdeal := by
  intro m g m' g' _ hag
  refine ⟨fun c => InFwdRefIdeal.Out m' c, fun c => InFwdRefIdeal.Kept m' c, ?_, ?_⟩
  · refine (θ_run _ _ _).mono (fun r h c => ?_) (θ_run_and (frame_of m g (dats m) (A_eq m) (run_main m g)) (run_main m g))
    have hw := (h.2 c).1
    exact ⟨(hw 4).trans (z_eq m m' c (hag c)), (hw 5).trans (h_eq m m' c (hag c)), h.1 c⟩
  · exact InFwdRefIdeal.Value.run m' g'

/-- Both programs call the same body. -/
theorem defs_eq : @Cert.InFwd.defs Bits _ _ = @Cert.InFwdIdeal.defs Bits _ _ := by
  refine congrArg (Pipeline.defs _) (congrArg Defs.onTc ?_)
  funext l a
  match l, a with
  | 0, (t, s) => rfl

/-- The program as written runs to the end as well, its arguments unchanged and its counters at zero. -/
theorem frame_kernel : Cert.quiescent_InFwd := fun m g _ => by
  rw [defs_eq]
  exact frame_run (F := Bits) m g

end Cert.InFwdPart

end
-- ==== Proof.FfOneFwdRun.lean ====
module

public import proofs.«01_k».proof.Proof.Gen.FfOneFwdIdeal.Frame
public import proofs.«01_k».proof.Proof.Gen.FfOneFwdIdeal.Skeleton
public import proofs.«01_k».proof.Proof.Carried

@[expose] public section

set_option maxRecDepth 16384

/-! The run of the first feed-forward product over a layer's normalised rows, over any float values: at the first of the
    eight points the body normalises the rows, at the others it takes them over. -/

noncomputable section

namespace Cert.FfOneFwdPart

open Cert.FfOneFwdIdeal Cert.FfOneFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a block of rows. -/
theorem run_first (c : Dev nD) (i : grid0.Coords) (arg3 : Memref sig .tc .vmem S2048x1024 .f32) (harg3 : arg3.IsWhole)
    (arg4 : Memref sig .tc .vmem S1x1024x512 .bf16) (harg4 : arg4.IsWhole) (arg5 : Memref sig .tc .vmem S8x1024 .f32) (harg5 : arg5.IsWhole)
    (arg6 : Memref sig .tc .vmem S8x1024 .f32) (harg6 : arg6.IsWhole) (arg7 : Memref sig .tc .vmem S2048x512 .bf16) (harg7 : arg7.IsWhole)
    (arg8 : Memref sig .tc .vmem S2048x512 .bf16) (harg8 : arg8.IsWhole) (arg9 : Memref sig .tc .vmem S2048x1024 .bf16) (harg9 : arg9.IsWhole)
    (arg10 : Memref sig .tc .vmem S2048x1024 .bf16) (harg10 : arg10.IsWhole)
    (hc : k0_cond1 i = 1#1) (x0 : Vec F S2048x1024 .f32) (x1 : Vec F S1x1024x512 .bf16) (x2 x3 : Vec F S8x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (k0_pay4 x1 (k0_pay2 x0 x2 x3))
            ∗ owns (c : Thread nD τ) arg8 fullShare (k0_pay5 x1 (k0_pay2 x0 x2 x3))
            ∗ owns (c : Thread nD τ) arg9 fullShare (k0_pay1 x0 x2 x3)
            ∗ owns (c : Thread nD τ) arg10 fullShare (k0_pay2 x0 x2 x3)) -∗ K ⟨⟩))
      ⊢ wp frame (wpE (defs₀ (F := F)) Variants.none c none) E
          (cc0_ff1_l0 i arg3 harg3 arg4 harg4 arg5 harg5 arg6 harg6 arg7 harg7 arg8 harg8 arg9 harg9 arg10 harg10) K := by
  simp only [cc0_ff1_l0_eq_skeleton]; unfold cc0_ff1_l0_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg3.eq_unread hf0; obtain rfl := harg4.eq_unread hf1; obtain rfl := harg5.eq_unread hf2
  obtain rfl := harg6.eq_unread hf3
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    frame_open
    simp (disch := decide) only [Carried.read_store, View.readAt_eq_ld, Memref.IsWhole.read_unread, View.ld_unit_lit',
      View.readCov_unit_lit', View.readCov_cons_unit_lit']
  isplitl [H5]
  · iexists _; isplitr
    swap; · iexact H5
    ipureintro
    frame_open
    simp (disch := decide) only [Carried.read_store, View.readAt_eq_ld, Memref.IsWhole.read_unread, View.ld_unit_lit',
      View.readCov_unit_lit', View.readCov_cons_unit_lit']
  isplitl [H6]
  · iexists _; isplitr
    swap; · iexact H6
    ipureintro
    frame_open
    simp (disch := decide) only [Carried.read_store, View.readAt_eq_ld, Memref.IsWhole.read_unread, View.ld_unit_lit',
      View.readCov_unit_lit', View.readCov_cons_unit_lit']
  iexists _; isplitr
  swap; · iexact H7
  ipureintro
  frame_open
  simp (disch := decide) only [Carried.read_store, View.readAt_eq_ld, Memref.IsWhole.read_unread, View.ld_unit_lit',
    View.readCov_unit_lit', View.readCov_cons_unit_lit']

set_option maxHeartbeats 1000000 in
/-- The body at a later point: the normalised rows are those the scratch holds, and one output stays as it is. -/
theorem run_later (c : Dev nD) (i : grid0.Coords) (arg3 : Memref sig .tc .vmem S2048x1024 .f32) (harg3 : arg3.IsWhole)
    (arg4 : Memref sig .tc .vmem S1x1024x512 .bf16) (harg4 : arg4.IsWhole) (arg5 : Memref sig .tc .vmem S8x1024 .f32) (harg5 : arg5.IsWhole)
    (arg6 : Memref sig .tc .vmem S8x1024 .f32) (harg6 : arg6.IsWhole) (arg7 : Memref sig .tc .vmem S2048x512 .bf16) (harg7 : arg7.IsWhole)
    (arg8 : Memref sig .tc .vmem S2048x512 .bf16) (harg8 : arg8.IsWhole) (arg9 : Memref sig .tc .vmem S2048x1024 .bf16) (harg9 : arg9.IsWhole)
    (arg10 : Memref sig .tc .vmem S2048x1024 .bf16) (harg10 : arg10.IsWhole)
    (hc : ¬k0_cond1 i = 1#1) (x1 : Vec F S1x1024x512 .bf16) (l : Vec F S2048x1024 .bf16) (E : Set ℕ) (K : PUnit → sProp 𝕄) :
    iprop(owns (c : Thread nD τ) arg4 fullShare x1
        ∗ (∃ d, owns (c : Thread nD τ) arg7 fullShare d) ∗ (∃ d, owns (c : Thread nD τ) arg8 fullShare d) ∗ owns (c : Thread nD τ) arg10 fullShare l
        ∗ (iprop(owns (c : Thread nD τ) arg4 fullShare x1
            ∗ owns (c : Thread nD τ) arg7 fullShare (k0_pay4 x1 l) ∗ owns (c : Thread nD τ) arg8 fullShare (k0_pay5 x1 l)
            ∗ owns (c : Thread nD τ) arg10 fullShare l) -∗ K ⟨⟩))
      ⊢ wp frame (wpE (defs₀ (F := F)) Variants.none c none) E
          (cc0_ff1_l0 i arg3 harg3 arg4 harg4 arg5 harg5 arg6 harg6 arg7 harg7 arg8 harg8 arg9 harg9 arg10 harg10) K := by
  simp only [cc0_ff1_l0_eq_skeleton]; unfold cc0_ff1_l0_skel
  unfold owns
  iintro ⟨⟨%f1, %hf1, H1⟩, ⟨%d4, %f4, -, H4⟩, ⟨%d5, %f5, -, H5⟩, ⟨%f7, %hf7, H7⟩, Hk⟩
  obtain rfl := harg4.eq_unread hf1; obtain rfl := harg10.eq_unread hf7
  sl_exec (disch := first | sl_exact hc)
  sl_step
  iapply Hk
  isplitl [H1]
  · iexists _; isplitr; · ipureintro; exact harg4.read_unread _
    iexact H1
  isplitl [H4]
  · iexists _; isplitr
    swap; · iexact H4
    ipureintro
    frame_open
    simp (disch := decide) only [Carried.read_store, View.readAt_eq_ld, Memref.IsWhole.read_unread, View.ld_unit_lit',
      View.readCov_unit_lit', View.readCov_cons_unit_lit']
  isplitl [H5]
  · iexists _; isplitr
    swap; · iexact H5
    ipureintro
    frame_open
    simp (disch := decide) only [Carried.read_store, View.readAt_eq_ld, Memref.IsWhole.read_unread, View.ld_unit_lit',
      View.readCov_unit_lit', View.readCov_cons_unit_lit']
  iexists _; isplitr; · ipureintro; exact harg10.read_unread _
  iexact H7

/-! ## The pipeline's data -/

variable (m : (ℓ : Loc nD τ sig) → Buf (Elt F) ℓ) (ρ : Dev nD → PrngReg)

theorem N8 : cfg0.N = 8 := N_0

/-- The first point. -/
def at0 (t : Fin cfg0.N) : Fin cfg0.N := ⟨t.val / 8 * 8, Nat.lt_of_le_of_lt (Nat.div_mul_le_self _ _) t.isLt⟩

theorem at0_first (t : Fin cfg0.N) (h : t.val % 8 = 0) : at0 t = t := Fin.ext (by show t.val / 8 * 8 = t.val; omega)

theorem at0_prev (t : Fin cfg0.N) (h : ¬t.val % 8 = 0) : at0 (Carried.prev t) = at0 t :=
  Fin.ext (by show (t.val - 1) / 8 * 8 = t.val / 8 * 8; omega)

/-- The normalised rows the point works with. -/
def lhs (c : Dev nD) (t : Fin cfg0.N) : Vec F S2048x1024 .bf16 :=
  k0_pay2 (iblk m c 0 (at0 t)) (iblk m c 2 (at0 t)) (iblk m c 3 (at0 t))

/-- The same as the output holds them. -/
def lhsOut (c : Dev nD) (t : Fin cfg0.N) : Vec F S2048x1024 .bf16 :=
  k0_pay1 (iblk m c 0 (at0 t)) (iblk m c 2 (at0 t)) (iblk m c 3 (at0 t))

/-- The scratch, as the body is handed it. -/
abbrev scr : Memref sig .tc .vmem S2048x1024 .bf16 := Memref.whole cc0_scratch0

/-- What holds before a point: at first nothing is known of the scratch, later it holds the rows of the point before. -/
def inv (c : Dev nD) : (n : ℕ) → n ≤ cfg0.N → sProp 𝕄
  | 0, _ => Pipeline.ΦA spec0 c
  | n + 1, hn => iprop(iprop(owns (c : Thread nD τ) scr fullShare (lhs m c ⟨n, hn⟩)) ∗ (∃ r, prngReg c r))

theorem inv_pos (c : Dev nD) (t : Fin cfg0.N) (h : t.val ≠ 0) :
    inv m c t.val (Nat.le_of_lt t.isLt)
      = iprop(iprop(owns (c : Thread nD τ) scr fullShare (lhs m c (Carried.prev t))) ∗ (∃ r, prngReg c r)) := by
  obtain ⟨n, hn⟩ := t
  cases n with
  | zero => exact absurd rfl h
  | succ n => rfl

theorem launch_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- What each point leaves in the windows' buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 1 t) (lhs m c t)
    | ⟨5, _⟩ => k0_pay5 (iblk m c 1 t) (lhs m c t)
    | ⟨6, _⟩ => lhsOut m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay4 (iblk m c 1 t) (lhs m c t) := by dsimp only [dats]
theorem after_5 (c : Dev nD) (t : Fin cfg0.N) : (dats m 0 c).after 5 t = k0_pay5 (iblk m c 1 t) (lhs m c t) := by dsimp only [dats]
theorem after_6 (c : Dev nD) (t : Fin cfg0.N) : (dats m 0 c).after 6 t = lhsOut m c t := by dsimp only [dats]

theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

theorem idle_6 : ∀ t : Fin cfg0.N, cfg0.idle 6 (grid0.coords t) = true ↔ ¬t.val % 8 = 0 :=
  (by decide +kernel : ∀ t : Fin grid0.N, idle0 6 (grid0.coords t) = true ↔ ¬t.val % 8 = 0)

theorem repeats_6 (c : Dev nD) : Carried.Repeats (dats m 0 c) 6 := fun t hi => by
  have h := (idle_6 t).mp hi
  refine ⟨fun h0 => h (by rw [h0]), ?_, ?_⟩
  · exact Bool.eq_false_iff.mpr fun hf => by
      have := (flush0_6 (Carried.prev t)).mp hf
      have h3 : (t.val - 1) % 8 = 7 := this
      omega
  · rw [after_6, after_6]; unfold lhsOut; rw [at0_prev t h]

/-- The output's buffer at what the point leaves in it is what the body hands back. -/
theorem leaves_6 (c : Dev nD) (t : Fin cfg0.N) :
    (owns (c : Thread nD τ) (win0_6.stage (cfg0.slots t 6)) fullShare (lhsOut m c t) : sProp 𝕄) ⊢ (dats m 0 c).leavesExact 6 t := by
  rw [← after_6 m c t]
  exact Carried.leaves_of_repeats (dats m 0 c) 6 rfl (fun _ _ => rfl) (repeats_6 m c) t

theorem before_6 (c : Dev nD) (t : Fin cfg0.N) (h : cfg0.idle 6 (grid0.coords t) = true) (d) :
    (dats m 0 c).before 6 t d = lhsOut m c t :=
  (Carried.before_of_repeats (dats m 0 c) 6 rfl (fun _ _ => rfl) (repeats_6 m c) d t.val t.isLt h).trans (after_6 m c t)

/-! ## The body at a point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- A window no point leaves alone comes back at what the point leaves in it. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = iprop(iprop(owns (c : Thread nD τ) scr fullShare (lhs m c t)) ∗ (∃ r, prngReg c r)) from rfl]
  rw [show (dats m 0 c).Φ t.castSucc = inv m c t.val (Nat.le_of_lt t.isLt) from rfl]
  rw [leaves_live m c 0 t rfl, leaves_live m c 1 t rfl, leaves_live m c 2 t rfl, leaves_live m c 3 t rfl,
    leaves_live m c 4 t rfl, leaves_live m c 5 t rfl, after_0, after_1, after_2, after_3, after_4, after_5]
  by_cases h0 : t.val % 8 = 0
  · have hinv : inv m c t.val (Nat.le_of_lt t.isLt)
        ⊢ iprop(iprop((∃ d, owns (c : Thread nD τ) scr fullShare d)) ∗ (∃ r, prngReg c r)) := by
      by_cases hz : t.val = 0
      · obtain ⟨n, hn⟩ := t
        obtain rfl : n = 0 := hz
        rw [← launch_eq c]
        exact .rfl
      · rw [inv_pos m c t hz]
        iintro ⟨HS, Hg⟩
        isplitl [HS]
        · iexists _; iexact HS
        iexact Hg
    refine BIBase.Entails.trans (sep_mono hinv .rfl) ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ ((first_iff t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    have e1 : lhs m c t = k0_pay2 (iblk m c 0 t) (iblk m c 2 t) (iblk m c 3 t) := by
      unfold lhs; rw [at0_first t h0]
    have e6 : lhsOut m c t = k0_pay1 (iblk m c 0 t) (iblk m c 2 t) (iblk m c 3 t) := by
      unfold lhsOut; rw [at0_first t h0]
    rw [e1]
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t); rw [e6]; iexact H6
  · have hz : t.val ≠ 0 := fun hz => h0 (by rw [hz])
    have e1 : lhs m c (Carried.prev t) = lhs m c t := by unfold lhs; rw [at0_prev t h0]
    rw [inv_pos m c t hz, e1]
    simp only [before_6 m c t ((idle_6 t).mpr h0)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => h0 ((first_iff t).mp h))
      (iblk m c 1 t) (lhs m c t) Set.univ _)
    isplitl [H1]; · iexact H1
    isplitl [H4]; · iexists _; iexact H4
    isplitl [H5]; · iexists _; iexact H5
    isplitl [HS]; · iexact HS
    iintro ⟨H1, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t); iexact H6

/-! ## The run -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N)
    = iprop(iprop(owns (c : Thread nD τ) scr fullShare (lhs m c ⟨7, by rw [N8]; decide⟩)) ∗ (∃ r, prngReg c r)) from rfl, launch_eq]
  iintro ⟨HS, Hg⟩
  isplitl [HS]
  · iexists _; iexact HS
  iexact Hg

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays after the run. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.FfOneFwdPart

end
-- ==== Proof.FfOneFwd.lean ====
module

public import proofs.«01_k».proof.Defs
public import proofs.«01_k».proof.Proof.Gen.FfOneFwd.Frame
public import proofs.«01_k».proof.Proof.FfOneFwdRun
public import proofs.«01_k».proof.Proof.ModRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfOneFwdPart

open Idealize.ShloMosaic Idealize.ShloMosaic.TcCoe Idealize.SL.Sem
open Cert.FfOneFwdIdeal Cert.FfOneFwdIdeal.Gen

section Blocks

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![t.val, 0, 0] := (by decide +kernel)
theorem idx0_2 : ∀ t : Fin cfg0.N, win0_2.index t = ![0, 0] := (by decide +kernel)
theorem idx0_3 : ∀ t : Fin cfg0.N, win0_3.index t = ![0, 0] := (by decide +kernel)
theorem idx0_4 : ∀ t : Fin cfg0.N, win0_4.index t = ![0, t.val] := (by decide +kernel)
theorem idx0_5 : ∀ t : Fin cfg0.N, win0_5.index t = ![0, t.val] := (by decide +kernel)
theorem idx0_6 : ∀ t : Fin cfg0.N, win0_6.index t = ![0, 0] := (by decide +kernel)
theorem t_lt : ∀ t : Fin cfg0.N, t.val < 8 := (by decide +kernel)

/-- The shard of the weights a point works on. -/
abbrev shard (t : Fin cfg0.N) : Fin 8 := ⟨t.val, t_lt t⟩

theorem x_eq (c : Dev nD) (t : Fin cfg0.N) (r : Fin 2048) (j : Fin 1024) :
    iblk m c 0 t (ix2 r j) = m ((c.tc : Thread nD τ).loc main_arg0) (ix2 r j) := by
  show V m c main_arg0 (((cfg0.win 0).blk t).view.emb _) = _
  rw [V_main_arg0]
  congr 1
  blk_ext [idx0_0]

theorem w_eq (c : Dev nD) (t : Fin cfg0.N) (k : Fin 1024) (j : Fin 512) :
    iblk m c 1 t (ix3 (0 : Fin 1) k j) = m ((c.tc : Thread nD τ).loc main_arg1) (ix3 (shard t) k j) := by
  show V m c main_arg1 (((cfg0.win 1).blk t).view.emb _) = _
  rw [V_main_arg1]
  congr 1
  blk_ext [idx0_1]

set_option maxHeartbeats 1000000 in
theorem V_gvec (c : Dev nD) : V m c main_v3 = (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 (m ((c.tc : Thread nD τ).loc main_arg2))⟩,
       ⟨S5x1024, broadcastInDim S5x1024 ![] bcast_S_S5x1024 (constant (F := Ideal) S_ .f32 0x00000000#32)⟩]
        concatenates_S2x1024_S1x1024_S5x1024_S8x1024_d0 : S8x1024.Idx → EReal) := by
  show StableHlo.after _ _ _ = _
  after_results
  rfl

set_option maxHeartbeats 1000000 in
theorem g_eq (c : Dev nD) (t : Fin cfg0.N) (j : Fin 1024) :
    iblk m c 2 t (ix2 (2 : Fin 8) j) = m ((c.tc : Thread nD τ).loc main_arg2) (ix1 j) := by
  show V m c main_v3 (((cfg0.win 2).blk t).view.emb _) = _
  rw [V_gvec]
  rw [show ((cfg0.win 2).blk t).view.emb (ix2 2 j) = ix2 2 j by blk_ext [idx0_2]]
  pointwise

set_option maxHeartbeats 1000000 in
theorem V_mod (c : Dev nD) : V m c main_v8 = (concatenate S8x1024 0
      [⟨S3x1024, broadcastInDim S3x1024 ![] bcast_S_S3x1024 (constant (F := Ideal) S_ .f32 0x00000000#32)⟩,
       ⟨S1x1024, broadcastInDim S1x1024 ![1] bcast_S1024_S1x1024_1 (m ((c.tc : Thread nD τ).loc main_arg3))⟩,
       ⟨S1x1024, broadcastInDim S1x1024 ![1] bcast_S1024_S1x1024_1 (m ((c.tc : Thread nD τ).loc main_arg4))⟩,
       ⟨S3x1024, broadcastInDim S3x1024 ![] bcast_S_S3x1024 (constant (F := Ideal) S_ .f32 0x00000000#32)⟩]
        concatenates_S3x1024_S1x1024_S1x1024_S3x1024_S8x1024_d0 : S8x1024.Idx → EReal) := by
  show StableHlo.after _ _ _ = _
  after_results
  rfl

set_option maxHeartbeats 1000000 in
theorem shift_eq (c : Dev nD) (t : Fin cfg0.N) (j : Fin 1024) :
    iblk m c 3 t (ix2 (3 : Fin 8) j) = m ((c.tc : Thread nD τ).loc main_arg3) (ix1 j) := by
  show V m c main_v8 (((cfg0.win 3).blk t).view.emb _) = _
  rw [V_mod]
  rw [show ((cfg0.win 3).blk t).view.emb (ix2 3 j) = ix2 3 j by blk_ext [idx0_3]]
  pointwise

set_option maxHeartbeats 1000000 in
theorem scale_eq (c : Dev nD) (t : Fin cfg0.N) (j : Fin 1024) :
    iblk m c 3 t (ix2 (4 : Fin 8) j) = m ((c.tc : Thread nD τ).loc main_arg4) (ix1 j) := by
  show V m c main_v8 (((cfg0.win 3).blk t).view.emb _) = _
  rw [V_mod]
  rw [show ((cfg0.win 3).blk t).view.emb (ix2 4 j) = ix2 4 j by blk_ext [idx0_3]]
  pointwise

end Blocks

theorem pay_h (x : S2048x1024.Idx → EReal) (g md : S8x1024.Idx → EReal) (r : Fin 2048) (j : Fin 1024) :
    k0_pay1 (F := Ideal) x g md (ix2 r j) = NormGrad.modulated (fun i => x (ix2 r i)) (g (ix2 (2 : Fin 8) j))
      (md (ix2 (3 : Fin 8) j)) (md (ix2 (4 : Fin 8) j)) j := by
  unfold_payloads
  pointwise
  rfl

theorem pay_a (w : S1x1024x512.Idx → EReal) (l : S2048x1024.Idx → EReal) (r : Fin 2048) (j : Fin 512) :
    k0_pay4 (F := Ideal) w l (ix2 r j) = ∑ k : Fin 1024, l (ix2 r k) * w (ix3 (0 : Fin 1) k j) := by
  unfold_payloads
  pointwise

theorem pay_r (w : S1x1024x512.Idx → EReal) (l : S2048x1024.Idx → EReal) (r : Fin 2048) (j : Fin 512) :
    k0_pay5 (F := Ideal) w l (ix2 r j) = max (∑ k : Fin 1024, l (ix2 r k) * w (ix3 (0 : Fin 1) k j)) 0 * max (∑ k : Fin 1024, l (ix2 r k) * w (ix3 (0 : Fin 1) k j)) 0 := by
  unfold_payloads
  pointwise

theorem pay_held (x : S2048x1024.Idx → EReal) (g md : S8x1024.Idx → EReal) (r : Fin 2048) (j : Fin 1024) :
    k0_pay2 (F := Ideal) x g md (ix2 r j) = k0_pay1 (F := Ideal) x g md (ix2 r j) := by
  unfold k0_pay2
  pointwise

end Cert.FfOneFwdPart

namespace Cert.FfOneFwdRefIdeal

open Idealize.ShloMosaic Idealize.ShloMosaic.TcCoe Idealize.SL.Sem Cert.FfOneFwdRefIdeal.Gen

/-- The rows times the shards of the weights, side by side. -/
def Product (h : FVec Ideal S2048x1024 .f32) (w : FVec Ideal S8x1024x512 .bf16) : FVec Ideal S2048x4096 .f32 :=
  shapeCast _ (Host.dotGeneral (φ₁ := .f32) (φ₂ := .f32) dot_S2048x1024_S8x1024x512_S2048x8x512_1_1_0_02_n_n none h (extf .f32 w bitsLt_bf16_f32)) shapeCasts_S2048x8x512_S2048x4096

/-- The product's positive part, squared. -/
def Squared (h : FVec Ideal S2048x1024 .f32) (w : FVec Ideal S8x1024x512 .bf16) : FVec Ideal S2048x4096 .bf16 :=
  truncf .bf16 (mulf (maximumf (Product h w) (broadcastInDim S2048x4096 ![] bcast_S_S2048x4096 (constant (F := Ideal) S_ .f32 0x00000000#32)))
    (maximumf (Product h w) (broadcastInDim S2048x4096 ![] bcast_S_S2048x4096 (constant (F := Ideal) S_ .f32 0x00000000#32)))) bitsLt_bf16_f32

theorem Product_apply (h : FVec Ideal S2048x1024 .f32) (w : FVec Ideal S8x1024x512 .bf16) (r : Fin 2048) (s : Fin 8) (j : Fin 512) :
    Product h w (ix2 r ⟨s.val * 512 + j.val, by omega⟩) = ∑ k : Fin 1024, h (ix2 r k) * w (ix3 s k j) := by
  unfold Product
  pointwise

theorem Squared_apply (h : FVec Ideal S2048x1024 .f32) (w : FVec Ideal S8x1024x512 .bf16) (r : Fin 2048) (s : Fin 8) (j : Fin 512) :
    Squared h w (ix2 r ⟨s.val * 512 + j.val, by omega⟩) = max (∑ k : Fin 1024, h (ix2 r k) * w (ix3 s k j)) 0 * max (∑ k : Fin 1024, h (ix2 r k) * w (ix3 s k j)) 0 := by
  unfold Squared
  pointwise
  rw [Product_apply]

variable (m : (ℓ : Loc nD τ sig) → Buf (Elt Ideal) ℓ)

/-- The rows normalised. -/
def Hid (c : Dev nD) : FVec Ideal S2048x1024 .f32 :=
  ModRef.Rows (m ((c.tc : Thread nD τ).loc main_arg0)) (m ((c.tc : Thread nD τ).loc main_arg2)) (m ((c.tc : Thread nD τ).loc main_arg3)) (m ((c.tc : Thread nD τ).loc main_arg4))

/-- The same as they are kept. -/
def Kept (c : Dev nD) : FVec Ideal S2048x1024 .bf16 := truncf .bf16 (Hid m c) bitsLt_bf16_f32

/-- Their product. -/
def Act (c : Dev nD) : FVec Ideal S2048x4096 .bf16 := truncf .bf16 (Product (Hid m c) (m ((c.tc : Thread nD τ).loc main_arg1))) bitsLt_bf16_f32

/-- Its positive part, squared. -/
def Sq (c : Dev nD) : FVec Ideal S2048x4096 .bf16 := Squared (Hid m c) (m ((c.tc : Thread nD τ).loc main_arg1))

end Cert.FfOneFwdRefIdeal

namespace Cert.FfOneFwdPart

open Idealize.ShloMosaic Idealize.ShloMosaic.TcCoe Idealize.SL.Sem
open Cert.FfOneFwdIdeal Cert.FfOneFwdIdeal.Gen

variable (m : (ℓ : Loc nD τ sig) → Buf (Elt Ideal) ℓ)
variable (m' : (ℓ : Loc FfOneFwdRefIdeal.nD FfOneFwdRefIdeal.τ FfOneFwdRefIdeal.sig) → Buf (Elt Ideal) ℓ)

/-- The two programs' arguments are the same on a device. -/
def Same (c : Dev nD) : Prop :=
  m' ((c.tc : Thread FfOneFwdRefIdeal.nD FfOneFwdRefIdeal.τ).loc FfOneFwdRefIdeal.main_arg0) = m ((c.tc : Thread nD τ).loc main_arg0)
  ∧ m' ((c.tc : Thread FfOneFwdRefIdeal.nD FfOneFwdRefIdeal.τ).loc FfOneFwdRefIdeal.main_arg1) = m ((c.tc : Thread nD τ).loc main_arg1)
  ∧ m' ((c.tc : Thread FfOneFwdRefIdeal.nD FfOneFwdRefIdeal.τ).loc FfOneFwdRefIdeal.main_arg2) = m ((c.tc : Thread nD τ).loc main_arg2)
  ∧ m' ((c.tc : Thread FfOneFwdRefIdeal.nD FfOneFwdRefIdeal.τ).loc FfOneFwdRefIdeal.main_arg3) = m ((c.tc : Thread nD τ).loc main_arg3)
  ∧ m' ((c.tc : Thread FfOneFwdRefIdeal.nD FfOneFwdRefIdeal.τ).loc FfOneFwdRefIdeal.main_arg4) = m ((c.tc : Thread nD τ).loc main_arg4)

/-- The rows normalised for a point are the reference's. -/
theorem made_eq (c : Dev nD) (h : Same m m' c) (t : Fin cfg0.N) (r : Fin 2048) (j : Fin 1024) :
    k0_pay1 (F := Ideal) (iblk m c 0 t) (iblk m c 2 t) (iblk m c 3 t) (ix2 r j) = FfOneFwdRefIdeal.Hid m' c (ix2 r j) := by
  obtain ⟨h0, h1, h2, h3, h4⟩ := h
  rw [pay_h, FfOneFwdRefIdeal.Hid, ModRef.Rows_apply]
  simp only [x_eq, g_eq, shift_eq, scale_eq, h0, h2, h3, h4]

/-- The first array after the run is the reference's product. -/
theorem a_eq (c : Dev nD) (h : Same m m' c) : (dats m 0 c).arrAt 4 cfg0.N = FfOneFwdRefIdeal.Act m' c := by
  refine (dats m 0 c).arrAt_eq_of_covers 4 _ (by decide +kernel) fun t hf y => ?_
  blk_simp
  rw [after_4]
  idx_vars y
  rw [show (((View.whole main_v9_0).slice (win0_4.rect t)).emb (ix2 y0 y1)) = ix2 y0 ⟨(shard t).val * 512 + y1.val, by omega⟩ by blk_ext [idx0_4]]
  rw [pay_a]
  refine Eq.trans ?_ (FfOneFwdRefIdeal.Product_apply _ _ y0 (shard t) y1).symm
  unfold lhs
  simp only [pay_held, made_eq m m' c h (at0 t), w_eq]
  rw [h.2.1]

/-- The second array after the run is the square of its positive part. -/
theorem r_eq (c : Dev nD) (h : Same m m' c) : (dats m 0 c).arrAt 5 cfg0.N = FfOneFwdRefIdeal.Sq m' c := by
  refine (dats m 0 c).arrAt_eq_of_covers 5 _ (by decide +kernel) fun t hf y => ?_
  blk_simp
  rw [after_5]
  idx_vars y
  rw [show (((View.whole main_v9_1).slice (win0_5.rect t)).emb (ix2 y0 y1)) = ix2 y0 ⟨(shard t).val * 512 + y1.val, by omega⟩ by blk_ext [idx0_5]]
  rw [pay_r, FfOneFwdRefIdeal.Sq, FfOneFwdRefIdeal.Squared_apply]
  unfold lhs
  simp only [pay_held, made_eq m m' c h (at0 t), w_eq]
  rw [h.2.1]

/-- The third array after the run is the reference's normalised rows. -/
theorem h_eq (c : Dev nD) (h : Same m m' c) : (dats m 0 c).arrAt 6 cfg0.N = FfOneFwdRefIdeal.Kept m' c := by
  refine (dats m 0 c).arrAt_eq_of_covers 6 _ (by decide +kernel) fun t hf y => ?_
  blk_simp
  rw [after_6]
  idx_vars y
  rw [show (((View.whole main_v9_2).slice (win0_6.rect t)).emb (ix2 y0 y1)) = ix2 y0 y1 by blk_ext [idx0_6]]
  exact made_eq m m' c h (at0 t) y0 y1

/-- The reference ends with its arguments unchanged and its counters at zero. -/
theorem frame_ref : quiescent_FfOneFwdRefIdeal := by
  intro m ρ _
  exact (θ_run FfOneFwdRefIdeal.defs _ _).mono (fun r h => ⟨fun c => (h c).2.2.2, sem_eq_zero_of_no_sems (by decide) r.2⟩) (FfOneFwdRefIdeal.Value.run m ρ)

/-- The kernel's arrays and the reference's are the same. -/
theorem value : algebraic_FfOneFwdIdeal_FfOneFwdRefIdeal := by
  intro m g m' g' _ hag
  refine ⟨fun c => FfOneFwdRefIdeal.Act m' c, fun c => FfOneFwdRefIdeal.Sq m' c, fun c => FfOneFwdRefIdeal.Kept m' c, ?_, ?_⟩
  · refine (θ_run _ _ _).mono (fun r h c => ?_) (θ_run_and (frame_of m g (dats m) (A_eq m) (run_main m g)) (run_main m g))
    have hw := (h.2 c).1
    exact ⟨(hw 4).trans (a_eq m m' c (hag c)), (hw 5).trans (r_eq m m' c (hag c)), (hw 6).trans (h_eq m m' c (hag c)), h.1 c⟩
  · exact FfOneFwdRefIdeal.Value.run m' g'

/-- Both programs call the same body. -/
theorem defs_eq : @Cert.FfOneFwd.defs Bits _ _ = @Cert.FfOneFwdIdeal.defs Bits _ _ := by
  refine congrArg (Pipeline.defs _) (congrArg Defs.onTc ?_)
  funext l a
  match l, a with
  | 0, (t, s) => rfl

/-- The program as written runs to the end as well, its arguments unchanged and its counters at zero. -/
theorem frame_kernel : Cert.quiescent_FfOneFwd := fun m g _ => by
  rw [defs_eq]
  exact frame_run (F := Bits) m g

end Cert.FfOneFwdPart

end
-- ==== Proof.FfTwoFwd.lean ====
module

public import proofs.«01_k».proof.Defs
public import proofs.«01_k».proof.Proof.Gen.FfTwoFwdIdeal.Value
public import proofs.«01_k».proof.Proof.Gen.FfTwoFwdRefIdeal.Run
public import Idealize.ShloMosaic.Lib.Pipeline.ValueKit
public import proofs.«01_k».proof.Proof.PostRef
public import Idealize.ShloMosaic.Lib.Pipeline.ReadBack
public import Idealize.ShloMosaic.Lib.Pointwise

@[expose] public section

set_option maxRecDepth 16384

noncomputable section

namespace Cert.FfTwoFwdPart

open Idealize.ShloMosaic Idealize.ShloMosaic.TcCoe Idealize.SL.Sem
open Cert.FfTwoFwdIdeal Cert.FfTwoFwdIdeal.Gen

variable (m : (ℓ : Loc nD τ sig) → Buf (Elt Ideal) ℓ)

theorem idx0_0 : ∀ t : Fin cfg0.N, win0_0.index t = ![t.val / 4, t.val % 4] := (by decide +kernel)
theorem idx0_1 : ∀ t : Fin cfg0.N, win0_1.index t = ![t.val % 4, 0] := (by decide +kernel)
theorem idx0_2 : ∀ t : Fin cfg0.N, win0_2.index t = ![t.val / 4, 0] := (by decide +kernel)
theorem idx0_3 : ∀ t : Fin cfg0.N, win0_3.index t = ![0, 0] := (by decide +kernel)
theorem idx0_4 : ∀ t : Fin cfg0.N, win0_4.index t = ![0, 0] := (by decide +kernel)
theorem idx0_5 : ∀ t : Fin cfg0.N, win0_5.index t = ![t.val / 4, 0] := (by decide +kernel)
theorem idx0_6 : ∀ t : Fin cfg0.N, win0_6.index t = ![t.val / 4, 0] := (by decide +kernel)
theorem t_lt : ∀ t : Fin cfg0.N, t.val < 8 := (by decide +kernel)

/-- A row of a block of 1024 rows. -/
abbrev row (t : Fin cfg0.N) (r : Fin 1024) : Fin 2048 := ⟨t.val / 4 * 1024 + r.val, by have := t_lt t; omega⟩

theorem r_eq (c : Dev nD) (t : Fin cfg0.N) (r k : Fin 1024) :
    iblk m c 0 t (ix2 r k) = m ((c.tc : Thread nD τ).loc main_arg0) (ix2 (row t r) ⟨t.val % 4 * 1024 + k.val, by omega⟩) := by
  show V m c main_arg0 (((cfg0.win 0).blk t).view.emb _) = _
  rw [V_main_arg0]
  congr 1
  blk_ext [idx0_0]

theorem w_eq (c : Dev nD) (t : Fin cfg0.N) (k j : Fin 1024) :
    iblk m c 1 t (ix2 k j) = m ((c.tc : Thread nD τ).loc main_arg1) (ix2 ⟨t.val % 4 * 1024 + k.val, by omega⟩ j) := by
  show V m c main_arg1 (((cfg0.win 1).blk t).view.emb _) = _
  rw [V_main_arg1]
  congr 1
  blk_ext [idx0_1]

theorem x_eq (c : Dev nD) (t : Fin cfg0.N) (r j : Fin 1024) :
    iblk m c 2 t (ix2 r j) = m ((c.tc : Thread nD τ).loc main_arg2) (ix2 (row t r) j) := by
  show V m c main_arg2 (((cfg0.win 2).blk t).view.emb _) = _
  rw [V_main_arg2]
  congr 1
  blk_ext [idx0_2]

set_option maxHeartbeats 1000000 in
theorem V_gvec (c : Dev nD) : V m c main_v3 = (concatenate S8x1024 0
      [⟨S3x1024, broadcastInDim S3x1024 ![] bcast_S_S3x1024 (constant (F := Ideal) S_ .f32 0x00000000#32)⟩,
       ⟨S1x1024, broadcastInDim S1x1024 ![1] bcast_S1024_S1x1024_1 (m ((c.tc : Thread nD τ).loc main_arg3))⟩,
       ⟨S4x1024, broadcastInDim S4x1024 ![] bcast_S_S4x1024 (constant (F := Ideal) S_ .f32 0x00000000#32)⟩]
        concatenates_S3x1024_S1x1024_S4x1024_S8x1024_d0 : S8x1024.Idx → EReal) := by
  show StableHlo.after _ _ _ = _
  after_results
  rfl

set_option maxHeartbeats 1000000 in
theorem g_eq (c : Dev nD) (t : Fin cfg0.N) (j : Fin 1024) :
    iblk m c 3 t (ix2 (3 : Fin 8) j) = m ((c.tc : Thread nD τ).loc main_arg3) (ix1 j) := by
  show V m c main_v3 (((cfg0.win 3).blk t).view.emb _) = _
  rw [V_gvec]
  rw [show ((cfg0.win 3).blk t).view.emb (ix2 3 j) = ix2 3 j by blk_ext [idx0_3]]
  pointwise

set_option maxHeartbeats 1000000 in
theorem V_mod (c : Dev nD) : V m c main_v7 = (concatenate S8x1024 0
      [⟨S5x1024, broadcastInDim S5x1024 ![] bcast_S_S5x1024 (constant (F := Ideal) S_ .f32 0x00000000#32)⟩,
       ⟨S1x1024, broadcastInDim S1x1024 ![1] bcast_S1024_S1x1024_1 (m ((c.tc : Thread nD τ).loc main_arg4))⟩,
       ⟨S2x1024, broadcastInDim S2x1024 ![] bcast_S_S2x1024 (constant (F := Ideal) S_ .f32 0x00000000#32)⟩]
        concatenates_S5x1024_S1x1024_S2x1024_S8x1024_d0 : S8x1024.Idx → EReal) := by
  show StableHlo.after _ _ _ = _
  after_results
  rfl

set_option maxHeartbeats 1000000 in
theorem gate_eq (c : Dev nD) (t : Fin cfg0.N) (j : Fin 1024) :
    iblk m c 4 t (ix2 (5 : Fin 8) j) = m ((c.tc : Thread nD τ).loc main_arg4) (ix1 j) := by
  show V m c main_v7 (((cfg0.win 4).blk t).view.emb _) = _
  rw [V_mod]
  rw [show ((cfg0.win 4).blk t).view.emb (ix2 5 j) = ix2 5 j by blk_ext [idx0_4]]
  pointwise

/-- The products of one block of columns of `r`. -/
def term (c : Dev nD) (n : ℕ) (y : S1024x1024.Idx) : EReal :=
  if h : n < cfg0.N then k0_pay1 (F := Ideal) (iblk m c 1 ⟨n, h⟩) (iblk m c 0 ⟨n, h⟩) y else 0

/-- Adding a block's products to the sum so far. -/
theorem pay2_eq (c : Dev nD) (t : Fin cfg0.N) (A : S1024x1024.Idx → EReal) (j : S1024x1024.Idx) :
    k0_pay2 (F := Ideal) A (iblk m c 1 t) (iblk m c 0 t) j = A j + term m c t.val j := by
  rw [term, dif_pos t.isLt]
  idx_vars j
  unfold_payloads
  pointwise

theorem acc_eq (c : Dev nD) (t : Fin cfg0.N) (y : S1024x1024.Idx) :
    (outsAt0 m c t.val t.isLt).2.2 y = 0 + ∑ k ∈ Finset.range (t.val % 4 + 1), term m c (4 * (t.val / 4) + k) y := by
  refine Pipeline.eq_sum_of_reset_step_apply (fun n h => (outsAt0 m c n h).2.2) 4 (fun _ => 0) (fun n y => term m c n y) ?_ ?_ t y
  · intro t h j
    show (outsAt0 m c t.val t.isLt).2.2 j = _
    rw [outsAt0_A m c t h (by omega) (by omega)]
    frame_out
    rw [term, dif_pos t.isLt, zero_add]
  · intro t h j
    show (outsAt0 m c t.val t.isLt).2.2 j = (outsAt0 m c (t.val - 1) _).2.2 j + _
    by_cases h4 : t.val % 4 = 3
    · rw [outsAt0_C m c t (by omega) (by omega) h4]
      frame_out
      simp only [read_unread_whole]
      exact pay2_eq m c t _ j
    · rw [outsAt0_B m c t h (by omega) h4]
      frame_out
      simp only [read_unread_whole]
      exact pay2_eq m c t _ j

/-- An entry of a product of matrices. -/
def entry (a : S2048x4096.Idx → EReal) (b : S4096x1024.Idx → EReal) (R : Fin 2048) (j : Fin 1024) : EReal :=
  ∑ k : Fin 4096, a (ix2 R k) * b (ix2 k j)

/-- The product `r w`. -/
abbrev prod (c : Dev nD) : Fin 2048 → Fin 1024 → EReal :=
  entry (m ((c.tc : Thread nD τ).loc main_arg0)) (m ((c.tc : Thread nD τ).loc main_arg1))

/-- The block of rows of the product that a last point holds. -/
theorem prod_eq (c : Dev nD) (t : Fin cfg0.N) (h4 : t.val % 4 = 3) (r j : Fin 1024) :
    (outsAt0 m c t.val t.isLt).2.2 (ix2 r j) = prod m c (row t r) j := by
  rw [acc_eq, zero_add, h4, Finset.sum_range]
  have cut : ∀ (a : S2048x4096.Idx → EReal) (b : S4096x1024.Idx → EReal), entry a b (row t r) j =
      ∑ s : Fin 4, ∑ k : Fin 1024, a (ix2 (row t r) ⟨s.val * 1024 + k.val, by omega⟩) * b (ix2 ⟨s.val * 1024 + k.val, by omega⟩ j) :=
    fun a b => (Fin.sum_mul_add_congr (F := fun s k => a (ix2 (row t r) ⟨s.val * 1024 + k.val, by omega⟩) * b (ix2 ⟨s.val * 1024 + k.val, by omega⟩ j)) fun s k hl => rfl).symm
  rw [prod, cut]
  refine Finset.sum_congr (M := EReal) rfl fun k _ => ?_
  have := t_lt t
  have hk : 4 * (t.val / 4) + k.val < cfg0.N := Nat.lt_of_lt_of_eq (show _ < 8 by omega) N_0.symm
  rw [term, dif_pos hk]
  unfold_payloads
  pointwise
  refine Finset.sum_congr (M := EReal) rfl fun l _ => ?_
  rw [r_eq, w_eq]
  have e1 : (4 * (t.val / 4) + k.val) / 4 = t.val / 4 := by omega
  have e2 : (4 * (t.val / 4) + k.val) % 4 = k.val := by omega
  congr 3 <;> simp only [row, e1, e2]

/-- What a last point writes: the product it holds, and the residual rows plus its gated norm. -/
theorem last_eq (c : Dev nD) (t : Fin cfg0.N) (h4 : t.val % 4 = 3) :
    (outsAt0 m c t.val t.isLt).1 = (outsAt0 m c t.val t.isLt).2.2
    ∧ (outsAt0 m c t.val t.isLt).2.1 = k0_pay3 (F := Ideal) (outsAt0 m c t.val t.isLt).2.2 (iblk m c 2 t) (iblk m c 3 t) (iblk m c 4 t) := by
  rw [outsAt0_C m c t (by omega) (by omega) h4]
  frame_out
  exact ⟨trivial, trivial⟩

theorem pay_out (A x : S1024x1024.Idx → EReal) (g s : S8x1024.Idx → EReal) (r j : Fin 1024) :
    k0_pay3 (F := Ideal) A x g s (ix2 r j) =
      NormGrad.post (fun i => A (ix2 r i)) (x (ix2 r j)) (g (ix2 (3 : Fin 8) j)) (s (ix2 (5 : Fin 8) j)) j := by
  unfold_payloads
  pointwise
  rfl

end Cert.FfTwoFwdPart

namespace Cert.FfTwoFwdRefIdeal

open Idealize.ShloMosaic Idealize.ShloMosaic.TcCoe Idealize.SL.Sem Cert.FfTwoFwdRefIdeal.Gen

/-- The product as the reference composes it. -/
def product (a : FVec Ideal S2048x4096 .bf16) (b : FVec Ideal S4096x1024 .bf16) : FVec Ideal S2048x1024 .f32 :=
  Host.dotGeneral dot_S2048x4096_S4096x1024_S2048x1024_1_0_0_1_n_n none (extf .f32 a bitsLt_bf16_f32) (extf .f32 b bitsLt_bf16_f32)

theorem product_apply (a : FVec Ideal S2048x4096 .bf16) (b : FVec Ideal S4096x1024 .bf16) (r : Fin 2048) (j : Fin 1024) :
    product a b (ix2 r j) = FfTwoFwdPart.entry a b r j := by
  unfold product
  pointwise
  rfl

variable (m : (ℓ : Loc nD τ sig) → Buf (Elt Ideal) ℓ)

/-- The product. -/
def Prod (c : Dev nD) : FVec Ideal S2048x1024 .f32 :=
  product (m ((c.tc : Thread nD τ).loc main_arg0)) (m ((c.tc : Thread nD τ).loc main_arg1))

/-- The residual rows plus the product's gated norm. -/
def Next (c : Dev nD) : FVec Ideal S2048x1024 .f32 :=
  PostRef.Out (m ((c.tc : Thread nD τ).loc main_arg2)) (Prod m c) (m ((c.tc : Thread nD τ).loc main_arg3)) (m ((c.tc : Thread nD τ).loc main_arg4))

end Cert.FfTwoFwdRefIdeal

namespace Cert.FfTwoFwdPart

open Idealize.ShloMosaic Idealize.ShloMosaic.TcCoe Idealize.SL.Sem
open Cert.FfTwoFwdIdeal Cert.FfTwoFwdIdeal.Gen

variable (m : (ℓ : Loc nD τ sig) → Buf (Elt Ideal) ℓ)
variable (m' : (ℓ : Loc FfTwoFwdRefIdeal.nD FfTwoFwdRefIdeal.τ FfTwoFwdRefIdeal.sig) → Buf (Elt Ideal) ℓ)

/-- The two programs' arguments are the same on a device. -/
def Same (c : Dev nD) : Prop :=
  m' ((c.tc : Thread FfTwoFwdRefIdeal.nD FfTwoFwdRefIdeal.τ).loc FfTwoFwdRefIdeal.main_arg0) = m ((c.tc : Thread nD τ).loc main_arg0)
  ∧ m' ((c.tc : Thread FfTwoFwdRefIdeal.nD FfTwoFwdRefIdeal.τ).loc FfTwoFwdRefIdeal.main_arg1) = m ((c.tc : Thread nD τ).loc main_arg1)
  ∧ m' ((c.tc : Thread FfTwoFwdRefIdeal.nD FfTwoFwdRefIdeal.τ).loc FfTwoFwdRefIdeal.main_arg2) = m ((c.tc : Thread nD τ).loc main_arg2)
  ∧ m' ((c.tc : Thread FfTwoFwdRefIdeal.nD FfTwoFwdRefIdeal.τ).loc FfTwoFwdRefIdeal.main_arg3) = m ((c.tc : Thread nD τ).loc main_arg3)
  ∧ m' ((c.tc : Thread FfTwoFwdRefIdeal.nD FfTwoFwdRefIdeal.τ).loc FfTwoFwdRefIdeal.main_arg4) = m ((c.tc : Thread nD τ).loc main_arg4)

/-- The first array after the run is the product. -/
theorem first_eq (c : Dev nD) (h : Same m m' c) : (dats m 0 c).arrAt 5 cfg0.N = FfTwoFwdRefIdeal.Prod m' c := by
  obtain ⟨h0, h1, h2, h3, h4⟩ := h
  refine (dats m 0 c).arrAt_eq_of_covers 5 _ (by decide +kernel) fun t hf y => ?_
  have h4t : t.val % 4 = 3 := (flush0_5 t).mp hf
  blk_simp
  rw [after0_5, (last_eq m c t h4t).1]
  idx_vars y
  rw [show (((View.whole main_v8_0).slice (win0_5.rect t)).emb (ix2 y0 y1)) = ix2 (row t y0) y1 by blk_ext [idx0_5]]
  rw [FfTwoFwdRefIdeal.Prod, FfTwoFwdRefIdeal.product_apply, prod_eq m c t h4t, h0, h1]

/-- The second array after the run holds the residual rows plus the gated norm. -/
theorem second_eq (c : Dev nD) (h : Same m m' c) : (dats m 0 c).arrAt 6 cfg0.N = FfTwoFwdRefIdeal.Next m' c := by
  obtain ⟨h0, h1, h2, h3, h4⟩ := h
  refine (dats m 0 c).arrAt_eq_of_covers 6 _ (by decide +kernel) fun t hf y => ?_
  have h4t : t.val % 4 = 3 := (flush0_6 t).mp hf
  blk_simp
  rw [after0_6, (last_eq m c t h4t).2]
  idx_vars y
  rw [show (((View.whole main_v8_1).slice (win0_6.rect t)).emb (ix2 y0 y1)) = ix2 (row t y0) y1 by blk_ext [idx0_6]]
  rw [pay_out, FfTwoFwdRefIdeal.Next, PostRef.Out_apply]
  simp only [FfTwoFwdRefIdeal.Prod, FfTwoFwdRefIdeal.product_apply, x_eq, g_eq, gate_eq, prod_eq m c t h4t, h0, h1, h2, h3, h4]

/-- The reference ends with its arguments unchanged and its counters at zero. -/
theorem frame_ref : quiescent_FfTwoFwdRefIdeal := by
  intro m ρ _
  exact (θ_run FfTwoFwdRefIdeal.defs _ _).mono (fun r h => ⟨fun c => (h c).2.2, sem_eq_zero_of_no_sems (by decide) r.2⟩) (FfTwoFwdRefIdeal.Value.run m ρ)

/-- The kernel's arrays and the reference's are the same. -/
theorem value : algebraic_FfTwoFwdIdeal_FfTwoFwdRefIdeal := by
  intro m g m' g' _ hag
  refine ⟨fun c => FfTwoFwdRefIdeal.Prod m' c, fun c => FfTwoFwdRefIdeal.Next m' c, ?_, ?_⟩
  · refine (θ_run _ _ _).mono (fun r h c => ?_) (FfTwoFwdIdeal.Value.run_blocks m g)
    obtain ⟨h0, h1, ha⟩ := h c
    exact ⟨h0.trans (first_eq m m' c (hag c)), h1.trans (second_eq m m' c (hag c)), ha⟩
  · exact FfTwoFwdRefIdeal.Value.run m' g'

end Cert.FfTwoFwdPart
-- ==== Proof.OutFwd.lean ====
module

public import proofs.«01_k».proof.Defs
public import proofs.«01_k».proof.Proof.Gen.OutFwdIdeal.Value
public import proofs.«01_k».proof.Proof.Gen.OutFwdRefIdeal.Run
public import Idealize.ShloMosaic.Lib.Pipeline.ValueKit
public import proofs.«01_k».proof.Proof.PostRef
public import Idealize.ShloMosaic.Lib.Pipeline.ReadBack
public import Idealize.ShloMosaic.Lib.Pointwise

@[expose] public section

set_option maxRecDepth 16384

noncomputable section

namespace Cert.OutFwdPart

open Idealize.ShloMosaic Idealize.ShloMosaic.TcCoe Idealize.SL.Sem
open Cert.OutFwdIdeal Cert.OutFwdIdeal.Gen

variable (m : (ℓ : Loc nD τ sig) → Buf (Elt Ideal) ℓ)

theorem idx0_0 : ∀ t : Fin cfg0.N, win0_0.index t = ![t.val, 0] := (by decide +kernel)
theorem idx0_1 : ∀ t : Fin cfg0.N, win0_1.index t = ![0, 0] := (by decide +kernel)
theorem idx0_2 : ∀ t : Fin cfg0.N, win0_2.index t = ![t.val, 0] := (by decide +kernel)
theorem idx0_3 : ∀ t : Fin cfg0.N, win0_3.index t = ![0, 0] := (by decide +kernel)
theorem idx0_4 : ∀ t : Fin cfg0.N, win0_4.index t = ![0, 0] := (by decide +kernel)
theorem idx0_5 : ∀ t : Fin cfg0.N, win0_5.index t = ![t.val, 0] := (by decide +kernel)
theorem idx0_6 : ∀ t : Fin cfg0.N, win0_6.index t = ![t.val, 0] := (by decide +kernel)
theorem t_lt : ∀ t : Fin cfg0.N, t.val < 2 := (by decide +kernel)

/-- A row of a block of 1024 rows. -/
abbrev row (t : Fin cfg0.N) (r : Fin 1024) : Fin 2048 := ⟨t.val * 1024 + r.val, by have := t_lt t; omega⟩

theorem r_eq (c : Dev nD) (t : Fin cfg0.N) (r k : Fin 1024) :
    iblk m c 0 t (ix2 r k) = m ((c.tc : Thread nD τ).loc main_arg0) (ix2 (row t r) k) := by
  show V m c main_arg0 (((cfg0.win 0).blk t).view.emb _) = _
  rw [V_main_arg0]
  congr 1
  blk_ext [idx0_0]

theorem w_eq (c : Dev nD) (t : Fin cfg0.N) (k j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

theorem x_eq (c : Dev nD) (t : Fin cfg0.N) (r j : Fin 1024) :
    iblk m c 2 t (ix2 r j) = m ((c.tc : Thread nD τ).loc main_arg2) (ix2 (row t r) j) := by
  show V m c main_arg2 (((cfg0.win 2).blk t).view.emb _) = _
  rw [V_main_arg2]
  congr 1
  blk_ext [idx0_2]

set_option maxHeartbeats 1000000 in
theorem V_gvec (c : Dev nD) : V m c main_v3 = (concatenate S8x1024 0
      [⟨S1x1024, broadcastInDim S1x1024 ![] bcast_S_S1x1024 (constant (F := Ideal) S_ .f32 0x00000000#32)⟩,
       ⟨S1x1024, broadcastInDim S1x1024 ![1] bcast_S1024_S1x1024_1 (m ((c.tc : Thread nD τ).loc main_arg3))⟩,
       ⟨S6x1024, broadcastInDim S6x1024 ![] bcast_S_S6x1024 (constant (F := Ideal) S_ .f32 0x00000000#32)⟩]
        concatenates_S1x1024_S1x1024_S6x1024_S8x1024_d0 : S8x1024.Idx → EReal) := by
  show StableHlo.after _ _ _ = _
  after_results
  rfl

set_option maxHeartbeats 1000000 in
theorem g_eq (c : Dev nD) (t : Fin cfg0.N) (j : Fin 1024) :
    iblk m c 3 t (ix2 (1 : Fin 8) j) = m ((c.tc : Thread nD τ).loc main_arg3) (ix1 j) := by
  show V m c main_v3 (((cfg0.win 3).blk t).view.emb _) = _
  rw [V_gvec]
  rw [show ((cfg0.win 3).blk t).view.emb (ix2 1 j) = ix2 1 j by blk_ext [idx0_3]]
  pointwise

set_option maxHeartbeats 1000000 in
theorem V_mod (c : Dev nD) : V m c main_v7 = (concatenate S8x1024 0
      [⟨S2x1024, broadcastInDim S2x1024 ![] bcast_S_S2x1024 (constant (F := Ideal) S_ .f32 0x00000000#32)⟩,
       ⟨S1x1024, broadcastInDim S1x1024 ![1] bcast_S1024_S1x1024_1 (m ((c.tc : Thread nD τ).loc main_arg4))⟩,
       ⟨S5x1024, broadcastInDim S5x1024 ![] bcast_S_S5x1024 (constant (F := Ideal) S_ .f32 0x00000000#32)⟩]
        concatenates_S2x1024_S1x1024_S5x1024_S8x1024_d0 : S8x1024.Idx → EReal) := by
  show StableHlo.after _ _ _ = _
  after_results
  rfl

set_option maxHeartbeats 1000000 in
theorem gate_eq (c : Dev nD) (t : Fin cfg0.N) (j : Fin 1024) :
    iblk m c 4 t (ix2 (2 : Fin 8) j) = m ((c.tc : Thread nD τ).loc main_arg4) (ix1 j) := by
  show V m c main_v7 (((cfg0.win 4).blk t).view.emb _) = _
  rw [V_mod]
  rw [show ((cfg0.win 4).blk t).view.emb (ix2 2 j) = ix2 2 j by blk_ext [idx0_4]]
  pointwise

/-- An entry of a product of matrices. -/
def entry (a : S2048x1024.Idx → EReal) (b : S1024x1024.Idx → EReal) (R : Fin 2048) (j : Fin 1024) : EReal :=
  ∑ k : Fin 1024, a (ix2 R k) * b (ix2 k j)

/-- The product `r w`. -/
abbrev prod (c : Dev nD) : Fin 2048 → Fin 1024 → EReal :=
  entry (m ((c.tc : Thread nD τ).loc main_arg0)) (m ((c.tc : Thread nD τ).loc main_arg1))

/-- The block of rows of the product that a point makes. -/
theorem prod_eq (c : Dev nD) (t : Fin cfg0.N) (r j : Fin 1024) :
    k0_pay1 (F := Ideal) (iblk m c 1 t) (iblk m c 0 t) (ix2 r j) = prod m c (row t r) j := by
  unfold_payloads
  pointwise
  simp only [r_eq, w_eq]
  rfl

theorem pay_out (a b x : S1024x1024.Idx → EReal) (g s : S8x1024.Idx → EReal) (r j : Fin 1024) :
    k0_pay2 (F := Ideal) a b x g s (ix2 r j) =
      NormGrad.post (fun i => k0_pay1 (F := Ideal) a b (ix2 r i)) (x (ix2 r j)) (g (ix2 (1 : Fin 8) j)) (s (ix2 (2 : Fin 8) j)) j := by
  unfold_payloads
  pointwise
  rfl

end Cert.OutFwdPart

namespace Cert.OutFwdRefIdeal

open Idealize.ShloMosaic Idealize.ShloMosaic.TcCoe Idealize.SL.Sem Cert.OutFwdRefIdeal.Gen

/-- The product as the reference composes it. -/
def product (a : FVec Ideal S2048x1024 .bf16) (b : FVec Ideal S1024x1024 .bf16) : FVec Ideal S2048x1024 .f32 :=
  Host.dotGeneral dot_S2048x1024_S1024x1024_S2048x1024_1_0_0_1_n_n none (extf .f32 a bitsLt_bf16_f32) (extf .f32 b bitsLt_bf16_f32)

theorem product_apply (a : FVec Ideal S2048x1024 .bf16) (b : FVec Ideal S1024x1024 .bf16) (r : Fin 2048) (j : Fin 1024) :
    product a b (ix2 r j) = OutFwdPart.entry a b r j := by
  unfold product
  pointwise
  rfl

variable (m : (ℓ : Loc nD τ sig) → Buf (Elt Ideal) ℓ)

/-- The product. -/
def Prod (c : Dev nD) : FVec Ideal S2048x1024 .f32 :=
  product (m ((c.tc : Thread nD τ).loc main_arg0)) (m ((c.tc : Thread nD τ).loc main_arg1))

/-- The residual rows plus the product's gated norm. -/
def Next (c : Dev nD) : FVec Ideal S2048x1024 .f32 :=
  PostRef.Out (m ((c.tc : Thread nD τ).loc main_arg2)) (Prod m c) (m ((c.tc : Thread nD τ).loc main_arg3)) (m ((c.tc : Thread nD τ).loc main_arg4))

end Cert.OutFwdRefIdeal

namespace Cert.OutFwdPart

open Idealize.ShloMosaic Idealize.ShloMosaic.TcCoe Idealize.SL.Sem
open Cert.OutFwdIdeal Cert.OutFwdIdeal.Gen

variable (m : (ℓ : Loc nD τ sig) → Buf (Elt Ideal) ℓ)
variable (m' : (ℓ : Loc OutFwdRefIdeal.nD OutFwdRefIdeal.τ OutFwdRefIdeal.sig) → Buf (Elt Ideal) ℓ)

/-- The two programs' arguments are the same on a device. -/
def Same (c : Dev nD) : Prop :=
  m' ((c.tc : Thread OutFwdRefIdeal.nD OutFwdRefIdeal.τ).loc OutFwdRefIdeal.main_arg0) = m ((c.tc : Thread nD τ).loc main_arg0)
  ∧ m' ((c.tc : Thread OutFwdRefIdeal.nD OutFwdRefIdeal.τ).loc OutFwdRefIdeal.main_arg1) = m ((c.tc : Thread nD τ).loc main_arg1)
  ∧ m' ((c.tc : Thread OutFwdRefIdeal.nD OutFwdRefIdeal.τ).loc OutFwdRefIdeal.main_arg2) = m ((c.tc : Thread nD τ).loc main_arg2)
  ∧ m' ((c.tc : Thread OutFwdRefIdeal.nD OutFwdRefIdeal.τ).loc OutFwdRefIdeal.main_arg3) = m ((c.tc : Thread nD τ).loc main_arg3)
  ∧ m' ((c.tc : Thread OutFwdRefIdeal.nD OutFwdRefIdeal.τ).loc OutFwdRefIdeal.main_arg4) = m ((c.tc : Thread nD τ).loc main_arg4)

/-- The first array after the run is the product. -/
theorem first_eq (c : Dev nD) (h : Same m m' c) : (dats m 0 c).arrAt 5 cfg0.N = OutFwdRefIdeal.Prod m' c := by
  obtain ⟨h0, h1, h2, h3, h4⟩ := h
  refine (dats m 0 c).arrAt_eq_of_covers 5 _ (by decide +kernel) fun t hf y => ?_
  blk_simp
  rw [after0_5]
  frame_out
  idx_vars y
  rw [show (((View.whole main_v8_0).slice (win0_5.rect t)).emb (ix2 y0 y1)) = ix2 (row t y0) y1 by blk_ext [idx0_5]]
  rw [OutFwdRefIdeal.Prod, OutFwdRefIdeal.product_apply, prod_eq, h0, h1]

/-- The second array after the run holds the residual rows plus the gated norm. -/
theorem second_eq (c : Dev nD) (h : Same m m' c) : (dats m 0 c).arrAt 6 cfg0.N = OutFwdRefIdeal.Next m' c := by
  obtain ⟨h0, h1, h2, h3, h4⟩ := h
  refine (dats m 0 c).arrAt_eq_of_covers 6 _ (by decide +kernel) fun t hf y => ?_
  blk_simp
  rw [after0_6]
  frame_out
  idx_vars y
  rw [show (((View.whole main_v8_1).slice (win0_6.rect t)).emb (ix2 y0 y1)) = ix2 (row t y0) y1 by blk_ext [idx0_6]]
  rw [pay_out, OutFwdRefIdeal.Next, PostRef.Out_apply]
  simp only [OutFwdRefIdeal.Prod, OutFwdRefIdeal.product_apply, x_eq, g_eq, gate_eq, prod_eq, h0, h1, h2, h3, h4]

/-- The reference ends with its arguments unchanged and its counters at zero. -/
theorem frame_ref : quiescent_OutFwdRefIdeal := by
  intro m ρ _
  exact (θ_run OutFwdRefIdeal.defs _ _).mono (fun r h => ⟨fun c => (h c).2.2, sem_eq_zero_of_no_sems (by decide) r.2⟩) (OutFwdRefIdeal.Value.run m ρ)

/-- The kernel's arrays and the reference's are the same. -/
theorem value : algebraic_OutFwdIdeal_OutFwdRefIdeal := by
  intro m g m' g' _ hag
  refine ⟨fun c => OutFwdRefIdeal.Prod m' c, fun c => OutFwdRefIdeal.Next m' c, ?_, ?_⟩
  · refine (θ_run _ _ _).mono (fun r h c => ?_) (OutFwdIdeal.Value.run_blocks m g)
    obtain ⟨h0, h1, ha⟩ := h c
    exact ⟨h0.trans (first_eq m m' c (hag c)), h1.trans (second_eq m m' c (hag c)), ha⟩
  · exact OutFwdRefIdeal.Value.run m' g'

end Cert.OutFwdPart
-- ==== Proof.WideFwd.lean ====
module

public import proofs.«01_k».proof.Defs
public import proofs.«01_k».proof.Proof.Gen.WideFwdIdeal.Value
public import proofs.«01_k».proof.Proof.Gen.WideFwdRefIdeal.Run
public import Idealize.ShloMosaic.Lib.Pipeline.ValueKit
public import Idealize.ShloMosaic.Lib.Pointwise

@[expose] public section

set_option maxRecDepth 16384

noncomputable section

namespace Cert.WideFwdPart

open Idealize.ShloMosaic Idealize.ShloMosaic.TcCoe Idealize.SL.Sem
open Cert.WideFwdIdeal Cert.WideFwdIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, 0] := (by decide +kernel)
theorem idx0_2 : ∀ t : Fin cfg0.N, win0_2.index t = ![0, 0] := (by decide +kernel)

/-- Entry (k, j) of the left operand, fetched whole. -/
theorem left_eq (c : Dev nD) (t : Fin cfg0.N) (k : Fin 2048) (j : Fin 512) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of the right operand, fetched whole. -/
theorem right_eq (c : Dev nD) (t : Fin cfg0.N) (k : Fin 512) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.WideFwdPart
namespace Cert.WideFwdRefIdeal
open Idealize.ShloMosaic Idealize.ShloMosaic.TcCoe Idealize.SL.Sem Cert.WideFwdRefIdeal.Gen
/-- A branch's projection as the reference composes it. -/
def Proj (m' : (ℓ : Loc nD τ sig) → Buf (Elt Ideal) ℓ) (c : Dev nD) : FVec Ideal S2048x1024 .bf16 :=
  truncf .bf16 (Host.dotGeneral (φ₁ := .f32) (φ₂ := .f32) dot_S2048x512_S512x1024_S2048x1024_1_0_0_1_n_n none (m' ((c.tc : Thread nD τ).loc main_arg0) : FVec Ideal S2048x512 .f32) (extf .f32 (m' ((c.tc : Thread nD τ).loc main_arg1)) bitsLt_bf16_f32)) bitsLt_bf16_f32
end Cert.WideFwdRefIdeal
namespace Cert.WideFwdPart
open Idealize.ShloMosaic Idealize.ShloMosaic.TcCoe Idealize.SL.Sem
open Cert.WideFwdIdeal Cert.WideFwdIdeal.Gen
variable (m : (ℓ : Loc nD τ sig) → Buf (Elt Ideal) ℓ)

/-- The array after the run is the reference's. -/
theorem proj_eq (c : Dev nD) (m' : (ℓ : Loc WideFwdRefIdeal.nD WideFwdRefIdeal.τ WideFwdRefIdeal.sig) → Buf (Elt Ideal) ℓ)
    (h0 : m' ((c.tc : Thread WideFwdRefIdeal.nD WideFwdRefIdeal.τ).loc WideFwdRefIdeal.main_arg0) = m ((c.tc : Thread nD τ).loc main_arg0))
    (h1 : m' ((c.tc : Thread WideFwdRefIdeal.nD WideFwdRefIdeal.τ).loc WideFwdRefIdeal.main_arg1) = m ((c.tc : Thread nD τ).loc main_arg1)) :
    (dats m 0 c).arrAt 2 cfg0.N = WideFwdRefIdeal.Proj m' c := by
  refine (dats m 0 c).arrAt_eq_of_covers 2 _ (by decide +kernel) fun t hf y => ?_
  blk_simp
  rw [after0_2]
  frame_out
  idx_vars y
  rw [show (((View.whole main_v0).slice (win0_2.rect t)).emb (ix2 y0 y1)) = ix2 y0 y1 by blk_ext [idx0_2]]
  unfold WideFwdRefIdeal.Proj
  unfold_payloads
  pointwise
  simp only [left_eq, right_eq, h0, h1]

/-- The reference ends with its arguments unchanged and its counters at zero. -/
theorem frame_ref : quiescent_WideFwdRefIdeal := by
  intro m ρ _
  exact (θ_run WideFwdRefIdeal.defs _ _).mono (fun r h => ⟨fun c => (h c).2, sem_eq_zero_of_no_sems (by decide) r.2⟩) (WideFwdRefIdeal.Value.run m ρ)

/-- The kernel's array and the reference's are the same. -/
theorem value : algebraic_WideFwdIdeal_WideFwdRefIdeal := by
  intro m g m' g' _ hag
  refine ⟨fun c => WideFwdRefIdeal.Proj m' c, ?_, ?_⟩
  · refine (θ_run _ _ _).mono (fun r h c => ?_) (WideFwdIdeal.Value.run_blocks m g)
    obtain ⟨h0, ha⟩ := h c
    exact ⟨h0.trans (proj_eq m c m' (hag c).1 (hag c).2), ha⟩
  · exact WideFwdRefIdeal.Value.run m' g'

end Cert.WideFwdPart
-- ==== Proof.NarrowFwd.lean ====
module

public import proofs.«01_k».proof.Defs
public import proofs.«01_k».proof.Proof.Gen.NarrowFwdIdeal.Value
public import proofs.«01_k».proof.Proof.Gen.NarrowFwdRefIdeal.Run
public import Idealize.ShloMosaic.Lib.Pipeline.ValueKit
public import Idealize.ShloMosaic.Lib.Pointwise

@[expose] public section

set_option maxRecDepth 16384

noncomputable section

namespace Cert.NarrowFwdPart

open Idealize.ShloMosaic Idealize.ShloMosaic.TcCoe Idealize.SL.Sem
open Cert.NarrowFwdIdeal Cert.NarrowFwdIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![0, 0] := (by decide +kernel)
theorem idx0_2 : ∀ t : Fin cfg0.N, win0_2.index t = ![0, 0] := (by decide +kernel)

/-- Entry (k, j) of the left operand, fetched whole. -/
theorem left_eq (c : Dev nD) (t : Fin cfg0.N) (k : Fin 2048) (j : Fin 256) :
    iblk m c 0 t (ix2 k j) = m ((c.tc : Thread nD τ).loc main_arg0) (ix2 k j) := by
  show V m c main_arg0 (((cfg0.win 0).blk t).view.emb _) = _
  rw [V_main_arg0]
  congr 1
  blk_ext [idx0_0]

/-- Entry (k, j) of the right operand, fetched whole. -/
theorem right_eq (c : Dev nD) (t : Fin cfg0.N) (k : Fin 256) (j : Fin 1024) :
    iblk m c 1 t (ix2 k j) = m ((c.tc : Thread nD τ).loc main_arg1) (ix2 k j) := by
  show V m c main_arg1 (((cfg0.win 1).blk t).view.emb _) = _
  rw [V_main_arg1]
  congr 1
  blk_ext [idx0_1]

end Cert.NarrowFwdPart
namespace Cert.NarrowFwdRefIdeal
open Idealize.ShloMosaic Idealize.ShloMosaic.TcCoe Idealize.SL.Sem Cert.NarrowFwdRefIdeal.Gen
/-- A branch's projection as the reference composes it. -/
def Proj (m' : (ℓ : Loc nD τ sig) → Buf (Elt Ideal) ℓ) (c : Dev nD) : FVec Ideal S2048x1024 .bf16 :=
  truncf .bf16 (Host.dotGeneral (φ₁ := .f32) (φ₂ := .f32) dot_S2048x256_S256x1024_S2048x1024_1_0_0_1_n_n none (m' ((c.tc : Thread nD τ).loc main_arg0) : FVec Ideal S2048x256 .f32) (extf .f32 (m' ((c.tc : Thread nD τ).loc main_arg1)) bitsLt_bf16_f32)) bitsLt_bf16_f32
end Cert.NarrowFwdRefIdeal
namespace Cert.NarrowFwdPart
open Idealize.ShloMosaic Idealize.ShloMosaic.TcCoe Idealize.SL.Sem
open Cert.NarrowFwdIdeal Cert.NarrowFwdIdeal.Gen
variable (m : (ℓ : Loc nD τ sig) → Buf (Elt Ideal) ℓ)

/-- The array after the run is the reference's. -/
theorem proj_eq (c : Dev nD) (m' : (ℓ : Loc NarrowFwdRefIdeal.nD NarrowFwdRefIdeal.τ NarrowFwdRefIdeal.sig) → Buf (Elt Ideal) ℓ)
    (h0 : m' ((c.tc : Thread NarrowFwdRefIdeal.nD NarrowFwdRefIdeal.τ).loc NarrowFwdRefIdeal.main_arg0) = m ((c.tc : Thread nD τ).loc main_arg0))
    (h1 : m' ((c.tc : Thread NarrowFwdRefIdeal.nD NarrowFwdRefIdeal.τ).loc NarrowFwdRefIdeal.main_arg1) = m ((c.tc : Thread nD τ).loc main_arg1)) :
    (dats m 0 c).arrAt 2 cfg0.N = NarrowFwdRefIdeal.Proj m' c := by
  refine (dats m 0 c).arrAt_eq_of_covers 2 _ (by decide +kernel) fun t hf y => ?_
  blk_simp
  rw [after0_2]
  frame_out
  idx_vars y
  rw [show (((View.whole main_v0).slice (win0_2.rect t)).emb (ix2 y0 y1)) = ix2 y0 y1 by blk_ext [idx0_2]]
  unfold NarrowFwdRefIdeal.Proj
  unfold_payloads
  pointwise
  simp only [left_eq, right_eq, h0, h1]

/-- The reference ends with its arguments unchanged and its counters at zero. -/
theorem frame_ref : quiescent_NarrowFwdRefIdeal := by
  intro m ρ _
  exact (θ_run NarrowFwdRefIdeal.defs _ _).mono (fun r h => ⟨fun c => (h c).2, sem_eq_zero_of_no_sems (by decide) r.2⟩) (NarrowFwdRefIdeal.Value.run m ρ)

/-- The kernel's array and the reference's are the same. -/
theorem value : algebraic_NarrowFwdIdeal_NarrowFwdRefIdeal := by
  intro m g m' g' _ hag
  refine ⟨fun c => NarrowFwdRefIdeal.Proj m' c, ?_, ?_⟩
  · refine (θ_run _ _ _).mono (fun r h c => ?_) (NarrowFwdIdeal.Value.run_blocks m g)
    obtain ⟨h0, ha⟩ := h c
    exact ⟨h0.trans (proj_eq m c m' (hag c).1 (hag c).2), ha⟩
  · exact NarrowFwdRefIdeal.Value.run m' g'

end Cert.NarrowFwdPart
-- ==== Proof.AdamAda.lean ====
module

public import proofs.«01_k».proof.Defs
public import proofs.«01_k».proof.Proof.Gen.AdamAdaIdeal.Value
public import proofs.«01_k».proof.Proof.Gen.AdamAdaRefIdeal.Run
public import Idealize.ShloMosaic.Lib.Pipeline.ValueKit
public import Idealize.ShloMosaic.Lib.Pointwise

@[expose] public section

set_option maxRecDepth 16384

noncomputable section

namespace Cert.AdamAdaPart

open Idealize.ShloMosaic Idealize.ShloMosaic.TcCoe Idealize.SL.Sem

/-- The reference ends with its arguments unchanged and its counters at zero. -/
theorem frame_ref : quiescent_AdamAdaRefIdeal := by
  intro m ρ _
  exact (θ_run AdamAdaRefIdeal.defs _ _).mono (fun r h => ⟨fun c => (h c).2.2.2, sem_eq_zero_of_no_sems (by decide) r.2⟩) (AdamAdaRefIdeal.Value.run m ρ)

/-- The step and the two moments of the modulation's weights are the reference's. -/
theorem value : algebraic_AdamAdaIdeal_AdamAdaRefIdeal := by
  intro m g m' g' _ hag
  refine ⟨fun c => _, fun c => _, fun c => _, ?_, AdamAdaRefIdeal.Value.run m' g'⟩
  refine (θ_run _ _ _).mono (fun r h c => ?_) (AdamAdaIdeal.Value.run m g)
  obtain ⟨h0, h1, h2, ha⟩ := h c
  obtain ⟨a0, a1, a2, a3⟩ := hag c
  refine ⟨h0.trans ?_, h1.trans ?_, h2.trans ?_, ha⟩
  · dsimp only
    rw [a0, a1, a2, a3]
    rfl
  · dsimp only
    rw [a1, a2]
    rfl
  · dsimp only
    rw [a1, a3]
    rfl

end Cert.AdamAdaPart
-- ==== Proof.AdamRest.lean ====
module

public import proofs.«01_k».proof.Defs
public import proofs.«01_k».proof.Proof.Gen.AdamRestIdeal.Value
public import proofs.«01_k».proof.Proof.Gen.AdamRestRefIdeal.Run
public import Idealize.ShloMosaic.Lib.Pipeline.ValueKit
public import Idealize.ShloMosaic.Lib.Pointwise

@[expose] public section

set_option maxRecDepth 16384

noncomputable section

namespace Cert.AdamRestPart

open Idealize.ShloMosaic Idealize.ShloMosaic.TcCoe Idealize.SL.Sem

/-- The reference ends with its arguments unchanged and its counters at zero. -/
theorem frame_ref : quiescent_AdamRestRefIdeal := by
  intro m ρ _
  exact (θ_run AdamRestRefIdeal.defs _ _).mono (fun r h => ⟨fun c => (h c).2.2.2, sem_eq_zero_of_no_sems (by decide) r.2⟩) (AdamRestRefIdeal.Value.run m ρ)

/-- The step and the two moments of the packed small weights are the reference's. -/
theorem value : algebraic_AdamRestIdeal_AdamRestRefIdeal := by
  intro m g m' g' _ hag
  refine ⟨fun c => _, fun c => _, fun c => _, ?_, AdamRestRefIdeal.Value.run m' g'⟩
  refine (θ_run _ _ _).mono (fun r h c => ?_) (AdamRestIdeal.Value.run m g)
  obtain ⟨h0, h1, h2, ha⟩ := h c
  obtain ⟨a0, a1, a2, a3⟩ := hag c
  refine ⟨h0.trans ?_, h1.trans ?_, h2.trans ?_, ha⟩
  · dsimp only
    rw [a0, a1, a2, a3]
    rfl
  · dsimp only
    rw [a1, a2]
    rfl
  · dsimp only
    rw [a1, a3]
    rfl

end Cert.AdamRestPart
-- ==== Proof.AdaFwd.lean ====
module

public import proofs.«01_k».proof.Defs
public import proofs.«01_k».proof.Proof.Gen.AdaFwdIdeal.Value
public import proofs.«01_k».proof.Proof.Gen.AdaFwdRefIdeal.Run
public import Idealize.ShloMosaic.Lib.Pipeline.ValueKit
public import Idealize.ShloMosaic.Lib.Pointwise

@[expose] public section

set_option maxRecDepth 16384

noncomputable section

namespace Cert.AdaFwdPart

open Idealize.ShloMosaic Idealize.ShloMosaic.TcCoe Idealize.SL.Sem

open Cert.AdaFwdIdeal Cert.AdaFwdIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![t.val, 0, 0] := (by decide +kernel)
theorem idx0_2 : ∀ t : Fin cfg0.N, win0_2.index t = ![t.val, 0, 0] := (by decide +kernel)
theorem idx0_3 : ∀ t : Fin cfg0.N, win0_3.index t = ![t.val, 0, 0] := (by decide +kernel)
theorem t_lt : ∀ t : Fin cfg0.N, t.val < 2 := (by decide +kernel)

/-- The layer of a grid point. -/
abbrev layer (t : Fin cfg0.N) : Fin 2 := ⟨t.val, t_lt t⟩

theorem c_eq (c : Dev nD) (t : Fin cfg0.N) (r : Fin 16) (k : Fin 1024) :
    iblk m c 0 t (ix2 r k) = m ((c.tc : Thread nD τ).loc main_arg0) (ix2 r k) := by
  show V m c main_arg0 (((cfg0.win 0).blk t).view.emb _) = _
  rw [V_main_arg0]
  congr 1
  blk_ext [idx0_0]

theorem w_eq (c : Dev nD) (t : Fin cfg0.N) (k : Fin 1024) (j : Fin 768) :
    iblk m c 1 t (ix3 0 k j) = m ((c.tc : Thread nD τ).loc main_arg1) (ix3 (layer t) k j) := by
  show V m c main_arg1 (((cfg0.win 1).blk t).view.emb _) = _
  rw [V_main_arg1]
  congr 1
  blk_ext [idx0_1]

/-- The bias as the host spreads it over eight rows. -/
theorem V_bias (c : Dev nD) : V m c main_v1 = broadcastInDim S2x8x768 ![0, 1, 2] bcast_S2x1x768_S2x8x768_0_1_2
    (broadcastInDim S2x1x768 ![0, 2] bcast_S2x768_S2x1x768_0_2 (m ((c.tc : Thread nD τ).loc main_arg2))) := by
  show StableHlo.after _ _ _ = _
  after_results

theorem b_eq (c : Dev nD) (t : Fin cfg0.N) (i : Fin 8) (j : Fin 768) :
    iblk m c 2 t (ix3 0 i j) = m ((c.tc : Thread nD τ).loc main_arg2) (ix2 (layer t) j) := by
  show V m c main_v1 (((cfg0.win 2).blk t).view.emb _) = _
  rw [show ((cfg0.win 2).blk t).view.emb (ix3 0 i j) = ix3 (layer t) i j by blk_ext [idx0_2], V_bias]
  pointwise
  rfl

end Cert.AdaFwdPart

namespace Cert.AdaFwdRefIdeal

open Idealize.ShloMosaic Idealize.ShloMosaic.TcCoe Idealize.SL.Sem Cert.AdaFwdRefIdeal.Gen

/-- The modulation as the reference composes it. -/
def Mod (c : FVec Ideal S16x1024 .f32) (w : FVec Ideal S2x1024x768 .f32) (b : FVec Ideal S2x768 .f32) : FVec Ideal S2x16x768 .f32 :=
  addf (transpose S2x16x768 [1, 0, 2] (Host.dotGeneral dot_S16x1024_S2x1024x768_S16x2x768_1_1_0_02_n_n none (mulf c (Host.divf (broadcastInDim S16x1024 ![] bcast_S_S16x1024 (constant S_ .f32 0x3F800000#32)) (addf (broadcastInDim S16x1024 ![] bcast_S_S16x1024 (constant S_ .f32 0x3F800000#32)) (Host.exp (Host.negf c))))) w) transposes_S16x2x768_S2x16x768_1_0_2) (broadcastInDim S2x16x768 ![0, 1, 2] bcast_S2x1x768_S2x16x768_0_1_2 (broadcastInDim S2x1x768 ![0, 2] bcast_S2x768_S2x1x768_0_2 b))

end Cert.AdaFwdRefIdeal

namespace Cert.AdaFwdPart

open Idealize.ShloMosaic Idealize.ShloMosaic.TcCoe Idealize.SL.Sem
open Cert.AdaFwdIdeal Cert.AdaFwdIdeal.Gen

variable (m : (ℓ : Loc nD τ sig) → Buf (Elt Ideal) ℓ)

/-- The array after the run is the reference's modulation. -/
theorem mod_eq (c : Dev nD) : (dats m 0 c).arrAt 3 cfg0.N = AdaFwdRefIdeal.Mod (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  obtain rfl : y0 = 0 := Subsingleton.elim _ _
  rw [show (((View.whole main_v2).slice (win0_3.rect t)).emb (ix3 0 y1 y2)) = ix3 (layer t) y1 y2 by blk_ext [idx0_3]]
  unfold AdaFwdRefIdeal.Mod
  unfold_payloads
  pointwise
  simp only [c_eq, w_eq, b_eq]
  rfl

/-- The reference ends with its arguments unchanged and its counters at zero. -/
theorem frame_ref : quiescent_AdaFwdRefIdeal := by
  intro m ρ _
  exact (θ_run AdaFwdRefIdeal.defs _ _).mono (fun r h => ⟨fun c => (h c).2, sem_eq_zero_of_no_sems (by decide) r.2⟩) (AdaFwdRefIdeal.Value.run m ρ)

/-- The kernel's array and the reference's are the same. -/
theorem value : algebraic_AdaFwdIdeal_AdaFwdRefIdeal := by
  intro m g m' g' _ hag
  refine ⟨fun c => _, ?_, AdaFwdRefIdeal.Value.run m' g'⟩
  refine (θ_run _ _ _).mono (fun r h c => ?_) (AdaFwdIdeal.Value.run_blocks m g)
  obtain ⟨h0, ha⟩ := h c
  obtain ⟨a0, a1, a2⟩ := hag c
  refine ⟨h0.trans ((mod_eq m c).trans ?_), ha⟩
  dsimp only
  rw [a0, a1, a2]
  rfl

end Cert.AdaFwdPart
-- ==== Proof.AdaDw.lean ====
module

public import proofs.«01_k».proof.Defs
public import proofs.«01_k».proof.Proof.Gen.AdaDwIdeal.Value
public import proofs.«01_k».proof.Proof.Gen.AdaDwRefIdeal.Run
public import Idealize.ShloMosaic.Lib.Pipeline.ValueKit
public import Idealize.ShloMosaic.Lib.Pointwise

@[expose] public section

set_option maxRecDepth 16384

noncomputable section

namespace Cert.AdaDwPart

open Idealize.ShloMosaic Idealize.ShloMosaic.TcCoe Idealize.SL.Sem

open Cert.AdaDwIdeal Cert.AdaDwIdeal.Gen

variable (m : (ℓ : Loc nD τ sig) → Buf (Elt Ideal) ℓ)

theorem idx0_0 : ∀ t : Fin cfg0.N, win0_0.index t = ![0, 0] := (by decide +kernel)
theorem idx0_1 : ∀ t : Fin cfg0.N, win0_1.index t = ![t.val, 0, 0] := (by decide +kernel)
theorem idx0_2 : ∀ t : Fin cfg0.N, win0_2.index t = ![t.val, 0, 0] := (by decide +kernel)
theorem t_lt : ∀ t : Fin cfg0.N, t.val < 2 := (by decide +kernel)

/-- The layer of a grid point. -/
abbrev layer (t : Fin cfg0.N) : Fin 2 := ⟨t.val, t_lt t⟩

theorem c_eq (c : Dev nD) (t : Fin cfg0.N) (r : Fin 16) (k : Fin 1024) :
    iblk m c 0 t (ix2 r k) = m ((c.tc : Thread nD τ).loc main_arg0) (ix2 r k) := by
  show V m c main_arg0 (((cfg0.win 0).blk t).view.emb _) = _
  rw [V_main_arg0]
  congr 1
  blk_ext [idx0_0]

theorem d_eq (c : Dev nD) (t : Fin cfg0.N) (r : Fin 16) (j : Fin 768) :
    iblk m c 1 t (ix3 0 r j) = m ((c.tc : Thread nD τ).loc main_arg1) (ix3 (layer t) r j) := by
  show V m c main_arg1 (((cfg0.win 1).blk t).view.emb _) = _
  rw [V_main_arg1]
  congr 1
  blk_ext [idx0_1]

end Cert.AdaDwPart

namespace Cert.AdaDwRefIdeal

open Idealize.ShloMosaic Idealize.ShloMosaic.TcCoe Idealize.SL.Sem Cert.AdaDwRefIdeal.Gen

/-- The gradient of the modulation's weights as the reference composes it. -/
def Grad (c : FVec Ideal S16x1024 .f32) (d : FVec Ideal S2x16x768 .f32) : FVec Ideal S2x1024x768 .f32 :=
  transpose S2x1024x768 [0, 2, 1] (Host.dotGeneral dot_S2x768x16_S16x1024_S2x768x1024_2_0_01_1_n_n none (transpose S2x768x16 [0, 2, 1] d transposes_S2x16x768_S2x768x16_0_2_1) (mulf c (Host.divf (broadcastInDim S16x1024 ![] bcast_S_S16x1024 (constant S_ .f32 0x3F800000#32)) (addf (broadcastInDim S16x1024 ![] bcast_S_S16x1024 (constant S_ .f32 0x3F800000#32)) (Host.exp (Host.negf c)))))) transposes_S2x768x1024_S2x1024x768_0_2_1

end Cert.AdaDwRefIdeal

namespace Cert.AdaDwPart

open Idealize.ShloMosaic Idealize.ShloMosaic.TcCoe Idealize.SL.Sem
open Cert.AdaDwIdeal Cert.AdaDwIdeal.Gen

variable (m : (ℓ : Loc nD τ sig) → Buf (Elt Ideal) ℓ)

/-- The array after the run is the reference's gradient. -/
theorem grad_eq (c : Dev nD) : (dats m 0 c).arrAt 2 cfg0.N = AdaDwRefIdeal.Grad (m ((c.tc : Thread nD τ).loc main_arg0))
    (m ((c.tc : Thread nD τ).loc main_arg1)) := by
  refine (dats m 0 c).arrAt_eq_of_covers 2 _ (by decide +kernel) fun t hf y => ?_
  blk_simp
  rw [after0_2]
  frame_out
  idx_vars y
  obtain rfl : y0 = 0 := Subsingleton.elim _ _
  rw [show (((View.whole main_v0).slice (win0_2.rect t)).emb (ix3 0 y1 y2)) = ix3 (layer t) y1 y2 by blk_ext [idx0_2]]
  unfold AdaDwRefIdeal.Grad
  unfold_payloads
  pointwise
  simp only [c_eq, d_eq]
  exact Finset.sum_congr (M := EReal) rfl fun _ _ => mul_comm (G := EReal) _ _

/-- The reference ends with its arguments unchanged and its counters at zero. -/
theorem frame_ref : quiescent_AdaDwRefIdeal := by
  intro m ρ _
  exact (θ_run AdaDwRefIdeal.defs _ _).mono (fun r h => ⟨fun c => (h c).2, sem_eq_zero_of_no_sems (by decide) r.2⟩) (AdaDwRefIdeal.Value.run m ρ)

/-- The kernel's array and the reference's are the same. -/
theorem value : algebraic_AdaDwIdeal_AdaDwRefIdeal := by
  intro m g m' g' _ hag
  refine ⟨fun c => _, ?_, AdaDwRefIdeal.Value.run m' g'⟩
  refine (θ_run _ _ _).mono (fun r h c => ?_) (AdaDwIdeal.Value.run_blocks m g)
  obtain ⟨h0, ha⟩ := h c
  obtain ⟨a0, a1⟩ := hag c
  refine ⟨h0.trans ((grad_eq m c).trans ?_), ha⟩
  dsimp only
  rw [a0, a1]
  rfl

end Cert.AdaDwPart
-- ==== Proof.SumSmall.lean ====
module

public import proofs.«01_k».proof.Defs
public import proofs.«01_k».proof.Proof.Gen.SumSmallIdeal.Value
public import proofs.«01_k».proof.Proof.Gen.SumSmallRefIdeal.Run
public import Idealize.ShloMosaic.Lib.Pipeline.ValueKit
public import Idealize.ShloMosaic.Lib.Pointwise

@[expose] public section

set_option maxRecDepth 16384

noncomputable section

namespace Cert.SumSmallPart

open Idealize.ShloMosaic Idealize.ShloMosaic.TcCoe Idealize.SL.Sem

/-- The reference ends with its arguments unchanged and its counters at zero. -/
theorem frame_ref : quiescent_SumSmallRefIdeal := by
  intro m ρ _
  exact (θ_run SumSmallRefIdeal.defs _ _).mono (fun r h => ⟨fun c => (h c).2, sem_eq_zero_of_no_sems (by decide) r.2⟩) (SumSmallRefIdeal.Value.run m ρ)

open SumSmallIdeal SumSmallIdeal.Gen in
/-- The sum of the eight devices' slabs, taken one after the other, is their sum. -/
theorem sum_eq (x : FVec Ideal S8x56x1024 .f32) :
    (SumSmallIdeal.Value.G1 (F := Ideal) x : FVec Ideal SumSmallRefIdeal.S56x1024 .f32) = Host.reduceAdd x (constant (F := Ideal) SumSmallRefIdeal.S_ .f32 0x00000000#32 : FVec Ideal SumSmallRefIdeal.S_ .f32) SumSmallRefIdeal.Gen.reducesTo_S8x56x1024_S56x1024_d0 SumSmallRefIdeal.Gen.h_S_ := by
  funext y
  idx_vars y
  unfold SumSmallIdeal.Value.G1
  unfold_payloads
  pointwise
  simp only [Fin.sum_univ_eight]

/-- The array after the run is the reference's. -/
theorem value : algebraic_SumSmallIdeal_SumSmallRefIdeal := by
  intro m g m' g' _ hag
  refine ⟨fun c => _, ?_, SumSmallRefIdeal.Value.run m' g'⟩
  refine (θ_run _ _ _).mono (fun r h c => ?_) (SumSmallIdeal.Value.run m g)
  obtain ⟨h0, ha⟩ := h c
  exact ⟨h0.trans ((congrArg _ (hag c).symm).trans (sum_eq _)), ha⟩

end Cert.SumSmallPart
-- ==== Proof.LossHead.lean ====
module

public import proofs.«01_k».proof.Defs
public import proofs.«01_k».proof.Proof.Gen.LossHeadIdeal.Value
public import proofs.«01_k».proof.Proof.Gen.LossHeadRefIdeal.Run
public import Idealize.ShloMosaic.Lib.Pipeline.ValueKit
public import Idealize.ShloMosaic.Lib.Pointwise
public import Idealize.ShloMosaic.Lib.WritesUnit
public import proofs.«01_k».proof.Proof.NormGrad

@[expose] public section

set_option maxRecDepth 16384

noncomputable section

namespace Cert.LossHeadRefIdeal

open Idealize.ShloMosaic Idealize.ShloMosaic.TcCoe Idealize.SL.Sem Cert.LossHeadRefIdeal.Gen

/-- The loss's gradient at the last rows, as the reference composes it. -/
def Grad (x t : FVec Ideal S2048x1024 .f32) : FVec Ideal S2048x1024 .f32 :=
  mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf x t))

/-- The loss in the first entry of a tile of zeros. -/
def Loss (x t : FVec Ideal S2048x1024 .f32) : FVec Ideal S8x128 .f32 :=
  pad S8x128 ![0, 0] ![7, 127] ![0, 0] (shapeCast _ (mulf (constant S_ .f32 0x3F000000#32) (Host.reduceAdd (Host.divf (Host.reduceAdd (mulf (subf x t) (subf x t)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) shapeCasts_S_S1x1) (sitofp .f32 (constantI S_ 32 0#32)) pads_S1x1_S8x128_070_01270 h_S_

/-- Half. -/
abbrev half : EReal := Ideal.ofBits .f32 0x3F000000#32

theorem half_eq : half = ((1 / 2 : ℝ) : EReal) := by
  simp [half, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- A row's mean square error. -/
def rowLoss (x t : S2048x1024.Idx → EReal) (R : Fin 2048) : EReal :=
  Ideal.div (∑ k : Fin 1024, (x (ix2 R k) - t (ix2 R k)) * (x (ix2 R k) - t (ix2 R k))) (Ideal.ofBits .f32 0x44800000#32)

theorem loss_apply (x t : FVec Ideal S2048x1024 .f32) (a : Fin 8) (b : Fin 128) :
    Loss x t (ix2 a b) = if a.val < 1 ∧ b.val < 1 then half * ∑ R, rowLoss x t R else 0 := by
  unfold Loss
  pointwise
  by_cases h : a.val < 1 ∧ b.val < 1
  · rw [dif_pos h, if_pos h]
    rfl
  · rw [dif_neg h, if_neg h]
    show ((((0#32 : BitVec 32).toInt : ℝ)) : EReal) = 0
    simp

/-- The gradient's two constant factors. -/
theorem grad_const (e : EReal) : Ideal.div e (Ideal.ofBits .f32 0x44800000#32)
    = Ideal.div half (Ideal.ofBits .f32 0x44800000#32) * (Ideal.ofBits .f32 0x40000000#32 * e) := by
  rw [half_eq, two_eq, NormGrad.c1024, Ideal.div_coe (by norm_num), Ideal.div_coe (by norm_num), ← mul_assoc (G := EReal),
    ← EReal.coe_mul, ← EReal.coe_mul, mul_comm (G := EReal)]
  norm_num

end Cert.LossHeadRefIdeal

namespace Cert.LossHeadPart

open Idealize.ShloMosaic Idealize.ShloMosaic.TcCoe Idealize.SL.Sem
open Cert.LossHeadIdeal Cert.LossHeadIdeal.Gen

variable (m : (ℓ : Loc nD τ sig) → Buf (Elt Ideal) ℓ)

theorem idx0_0 : ∀ t : Fin cfg0.N, win0_0.index t = ![t.val, 0] := (by decide +kernel)
theorem idx0_1 : ∀ t : Fin cfg0.N, win0_1.index t = ![t.val, 0] := (by decide +kernel)
theorem idx0_2 : ∀ t : Fin cfg0.N, win0_2.index t = ![t.val, 0] := (by decide +kernel)
theorem idx0_3 : ∀ t : Fin cfg0.N, win0_3.index t = ![0, 0] := (by decide +kernel)
theorem t_lt : ∀ t : Fin cfg0.N, t.val < 4 := (by decide +kernel)

/-- The row of the whole array that a grid point's row is. -/
abbrev row (t : Fin cfg0.N) (r : Fin 512) : Fin 2048 := ⟨t.val * 512 + r.val, by have := t_lt t; omega⟩

theorem x_eq (c : Dev nD) (t : Fin cfg0.N) (r : Fin 512) (k : Fin 1024) :
    iblk m c 0 t (ix2 r k) = m ((c.tc : Thread nD τ).loc main_arg0) (ix2 (row t r) k) := by
  show V m c main_arg0 (((cfg0.win 0).blk t).view.emb _) = _
  rw [V_main_arg0]
  congr 1
  blk_ext [idx0_0]

theorem t_eq (c : Dev nD) (t : Fin cfg0.N) (r : Fin 512) (k : Fin 1024) :
    iblk m c 1 t (ix2 r k) = m ((c.tc : Thread nD τ).loc main_arg1) (ix2 (row t r) k) := by
  show V m c main_arg1 (((cfg0.win 1).blk t).view.emb _) = _
  rw [V_main_arg1]
  congr 1
  blk_ext [idx0_1]

theorem grad_A (c : Dev nD) (t : Fin cfg0.N) (h0 : t.val % 4 = 0) : (outsAt0 m c t.val t.isLt).1 = k0_pay3 (iblk m c 0 t) (iblk m c 1 t) := by
  rw [outsAt0_A m c t h0]
  dsimp only
  frame_out

theorem grad_B (c : Dev nD) (t : Fin cfg0.N) (h0 : ¬t.val % 4 = 0) : (outsAt0 m c t.val t.isLt).1 = k0_pay3 (iblk m c 0 t) (iblk m c 1 t) := by
  rw [outsAt0_B m c t h0]
  dsimp only
  frame_out

/-- The gradient after the run is the reference's. -/
theorem grad_eq (c : Dev nD) : (dats m 0 c).arrAt 2 cfg0.N = LossHeadRefIdeal.Grad (m ((c.tc : Thread nD τ).loc main_arg0))
    (m ((c.tc : Thread nD τ).loc main_arg1)) := by
  refine (dats m 0 c).arrAt_eq_of_covers 2 _ (by decide +kernel) fun t hf y => ?_
  blk_simp
  rw [after0_2, show (outsAt0 m c t.val t.isLt).1 = _ by by_cases h0 : t.val % 4 = 0; exacts [grad_A m c t h0, grad_B m c t h0]]
  idx_vars y
  rw [show (((View.whole main_v0_0).slice (win0_2.rect t)).emb (ix2 y0 y1)) = ix2 (row t y0) y1 by blk_ext [idx0_2]]
  unfold LossHeadRefIdeal.Grad
  unfold_payloads
  pointwise
  simp only [x_eq, t_eq]
  exact LossHeadRefIdeal.grad_const _

/-- What a point adds to the loss. -/
def part (c : Dev nD) (s : ℕ) : EReal :=
  if h : s < cfg0.N then LossHeadRefIdeal.half * ∑ r : Fin 512, LossHeadRefIdeal.rowLoss (m ((c.tc : Thread nD τ).loc main_arg0)) (m ((c.tc : Thread nD τ).loc main_arg1)) (row ⟨s, h⟩ r) else 0

theorem pay_apply (c : Dev nD) (t : Fin cfg0.N) (v : Vec Ideal S1x1 .f32) :
    k0_pay4 (iblk m c 0 t) (iblk m c 1 t) v (ix2 0 0) = v (ix2 0 0) + part m c t.val := by
  rw [part, dif_pos t.isLt]
  unfold_payloads
  pointwise
  simp only [x_eq, t_eq]
  rfl

/-- The tile that the first point lays down is zero. -/
theorem pay1_apply (y : S8x128.Idx) : k0_pay1 (F := Ideal) y = 0 := by
  idx_vars y
  unfold_payloads
  pointwise

theorem loss_A (c : Dev nD) (t : Fin cfg0.N) (h0 : t.val % 4 = 0) (a : Fin 8) (b : Fin 128) :
    (outsAt0 m c t.val t.isLt).2 (ix2 a b) = if a.val < 1 ∧ b.val < 1 then part m c t.val else 0 := by
  rw [outsAt0_A m c t h0]
  dsimp only
  frame_out
  rw [← View.read_writes_junk_eq_canon (v := (ms0_3 t).view), View.read_writes_cons_unit _ _ _ _ _ _ rfl]
  by_cases h : a.val < 1 ∧ b.val < 1
  · obtain ⟨rfl, rfl⟩ : a = 0 ∧ b = 0 := ⟨by omega, by omega⟩
    rw [if_pos h, dif_pos (by decide)]
    refine (pay_apply m c t _).trans ?_
    rw [View.readCov_eq_canon']
    dsimp only
    rw [View.canon_cons_unit_lit' _ _ _ (by decide)]
    exact (congrArg (· + part m c t.val) (pay1_apply _)).trans (zero_add _)
  · rw [if_neg h, dif_neg (fun k => h ⟨(k 0).2, (k 1).2⟩)]
    rw [View.read_writes_junk_eq_canon, View.canon_cons_unit_lit' _ _ _ (by decide), pay1_apply]

theorem loss_B (c : Dev nD) (t : Fin cfg0.N) (h0 : ¬t.val % 4 = 0) (a : Fin 8) (b : Fin 128) :
    (outsAt0 m c t.val t.isLt).2 (ix2 a b) = (outsAt0 m c (t.val - 1) (Nat.lt_of_le_of_lt (Nat.sub_le _ _) t.isLt)).2 (ix2 a b) + if a.val < 1 ∧ b.val < 1 then part m c t.val else 0 := by
  rw [outsAt0_B m c t h0]
  dsimp only
  frame_out
  rw [View.read_writes_cons_unit _ _ _ _ _ _ rfl]
  by_cases h : a.val < 1 ∧ b.val < 1
  · obtain ⟨rfl, rfl⟩ : a = 0 ∧ b = 0 := ⟨by omega, by omega⟩
    rw [if_pos h, dif_pos (by decide)]
    refine (pay_apply m c t _).trans ?_
    congr 1
    exact congrArg (outsAt0 m c (t.val - 1) _).2 (funext fun a => Fin.ext (by fin_cases a <;> rfl))
  · rw [if_neg h, dif_neg (fun k => h ⟨(k 0).2, (k 1).2⟩), add_zero]
    rw [View.writes_nil, Memref.IsWhole.read_unread]

/-- The tile of the loss after a point: the parts so far in its first entry. -/
theorem acc_eq (c : Dev nD) (a : Fin 8) (b : Fin 128) : ∀ (n : ℕ) (hn : n < cfg0.N),
    (outsAt0 m c n hn).2 (ix2 a b) = if a.val < 1 ∧ b.val < 1 then ∑ s ∈ Finset.range (n + 1), part m c s else 0
  | 0, hn => by
    rw [loss_A m c ⟨0, hn⟩ (Nat.zero_mod _), Finset.sum_range_one]
  | n + 1, hn => by
    have := t_lt ⟨n + 1, hn⟩
    rw [loss_B m c ⟨n + 1, hn⟩ (by dsimp only at this ⊢; omega)]
    show (outsAt0 m c n _).2 (ix2 a b) + _ = _
    rw [acc_eq c a b n (Nat.lt_of_succ_lt hn), Finset.sum_range_succ _ (n + 1)]
    split_ifs <;> simp

/-- The parts together are the loss. -/
theorem parts_eq (c : Dev nD) : ∑ s ∈ Finset.range 4, part m c s =
    LossHeadRefIdeal.half * ∑ R, LossHeadRefIdeal.rowLoss (m ((c.tc : Thread nD τ).loc main_arg0)) (m ((c.tc : Thread nD τ).loc main_arg1)) R := by
  have cut : ∀ f : Fin 2048 → EReal, ∑ R, f R = ∑ s : Fin 4, ∑ r : Fin 512, f ⟨s.val * 512 + r.val, by omega⟩ :=
    fun f => (Fin.sum_mul_add_congr (F := fun (s : Fin 4) (r : Fin 512) => f ⟨s.val * 512 + r.val, by omega⟩) fun s k hl => rfl).symm
  rw [cut, Finset.sum_range, LossHeadRefIdeal.half_eq, mul_comm (G := EReal), ← NormGrad.sum_mul_coe _ _ (by norm_num)]
  refine Finset.sum_congr (M := EReal) rfl fun s _ => ?_
  rw [part, dif_pos (show s.val < cfg0.N from s.isLt), LossHeadRefIdeal.half_eq, mul_comm (G := EReal)]

/-- The tile of the loss after the run is the reference's. -/
theorem loss_eq (c : Dev nD) : (dats m 0 c).arrAt 3 cfg0.N = LossHeadRefIdeal.Loss (m ((c.tc : Thread nD τ).loc main_arg0))
    (m ((c.tc : Thread nD τ).loc main_arg1)) := by
  refine (dats m 0 c).arrAt_eq_of_covers 3 _ (by decide +kernel) fun t hf y => ?_
  have ht : t.val = 3 := (by decide +kernel : ∀ t : Fin cfg0.N, (cfg0.win 3).flush t = true → t.val = 3) t hf
  blk_simp
  rw [after0_3]
  idx_vars y
  rw [show (((View.whole main_v0_1).slice (win0_3.rect t)).emb (ix2 y0 y1)) = ix2 y0 y1 by blk_ext [idx0_3],
    LossHeadRefIdeal.loss_apply, ← parts_eq m c]
  refine (acc_eq m c y0 y1 t.val t.isLt).trans ?_
  rw [ht]

/-- The reference ends with its arguments unchanged and its counters at zero. -/
theorem frame_ref : quiescent_LossHeadRefIdeal := by
  intro m ρ _
  exact (θ_run LossHeadRefIdeal.defs _ _).mono (fun r h => ⟨fun c => (h c).2.2, sem_eq_zero_of_no_sems (by decide) r.2⟩) (LossHeadRefIdeal.Value.run m ρ)

/-- The kernel's loss and gradient and the reference's are the same. -/
theorem value : algebraic_LossHeadIdeal_LossHeadRefIdeal := by
  intro m g m' g' _ hag
  refine ⟨fun c => _, fun c => _, ?_, LossHeadRefIdeal.Value.run m' g'⟩
  refine (θ_run _ _ _).mono (fun r h c => ?_) (LossHeadIdeal.Value.run_blocks m g)
  obtain ⟨h0, h1, ha⟩ := h c
  obtain ⟨a0, a1⟩ := hag c
  refine ⟨h0.trans ((grad_eq m c).trans ?_), h1.trans ((loss_eq m c).trans ?_), ha⟩
  · dsimp only
    rw [a0, a1]
    rfl
  · dsimp only
    rw [a0, a1]
    rfl

end Cert.LossHeadPart

end
-- ==== Proof.ConvA.lean ====
module

public import proofs.«01_k».proof.Defs
public import proofs.«01_k».proof.Proof.Gen.ConvIdeal.Value
public import proofs.«01_k».proof.Proof.Gen.ConvRefIdeal.Run
public import Idealize.ShloMosaic.Lib.Pipeline.ValueKit
public import Idealize.ShloMosaic.Lib.Pointwise

@[expose] public section

set_option maxRecDepth 16384

noncomputable section

namespace Cert.ConvPart

open Idealize.ShloMosaic Idealize.ShloMosaic.TcCoe Idealize.SL.Sem
open Cert.ConvIdeal Cert.ConvIdeal.Gen

variable (m : (ℓ : Loc nD τ sig) → Buf (Elt Ideal) ℓ)

set_option maxHeartbeats 2000000 in
theorem V_z (c : Dev nD) : V m c main_v2 = (concatenate S2048x5760 1
      [⟨S2048x256, broadcastInDim S2048x256 ![] bcast_S_S2048x256 (constant (F := Ideal) S_ .f32 0x00000000#32)⟩,
       ⟨S2048x256, m ((c.tc : Thread nD τ).loc main_arg0)⟩, ⟨S2048x256, m ((c.tc : Thread nD τ).loc main_arg1)⟩,
       ⟨S2048x256, m ((c.tc : Thread nD τ).loc main_arg2)⟩,
       ⟨S2048x4736, broadcastInDim S2048x4736 ![] bcast_S_S2048x4736 (constant (F := Ideal) S_ .f32 0x00000000#32)⟩]
        concatenates_S2048x256_S2048x256_S2048x256_S2048x256_S2048x4736_S2048x5760_d1 : S2048x5760.Idx → EReal) := by
  show StableHlo.after _ _ _ = _
  after_results
  rfl

theorem idx0_0 : ∀ t : Fin cfg0.N, win0_0.index t = ![0, 1] := (by decide +kernel)

theorem x0_eq (c : Dev nD) (t : Fin cfg0.N) (r : Fin 2048) (l : Fin 256) :
    X0_0 m c t (ix2 r l) = m ((c.tc : Thread nD τ).loc main_arg0) (ix2 r l) := by
  unfold X0_0 Pipeline.Window.fill
  rw [dif_pos (moved0_0 t _)]
  show V m c main_v2 (((cfg0.win 0).blk t).view.emb _) = _
  rw [V_z, show ((cfg0.win 0).blk t).view.emb (fun a => ⟨↑(ix2 r l a), _⟩) = ix2 r ⟨256 + l.val, by omega⟩ by blk_ext [idx0_0]]
  pointwise
  repeat (first | rw [dif_neg (by omega)] | rw [dif_pos (by omega)])
  blk_ext

theorem idx0_1 : ∀ t : Fin cfg0.N, win0_1.index t = ![0, 2] := (by decide +kernel)

theorem x1_eq (c : Dev nD) (t : Fin cfg0.N) (r : Fin 2048) (l : Fin 256) :
    X0_1 m c t (ix2 r l) = m ((c.tc : Thread nD τ).loc main_arg1) (ix2 r l) := by
  unfold X0_1 Pipeline.Window.fill
  rw [dif_pos (moved0_1 t _)]
  show V m c main_v2 (((cfg0.win 1).blk t).view.emb _) = _
  rw [V_z, show ((cfg0.win 1).blk t).view.emb (fun a => ⟨↑(ix2 r l a), _⟩) = ix2 r ⟨512 + l.val, by omega⟩ by blk_ext [idx0_1]]
  pointwise
  have := l.isLt
  repeat (first | rw [dif_neg (by omega)] | rw [dif_pos (by omega)])
  blk_ext

theorem idx0_2 : ∀ t : Fin cfg0.N, win0_2.index t = ![0, 3] := (by decide +kernel)

theorem x2_eq (c : Dev nD) (t : Fin cfg0.N) (r : Fin 2048) (l : Fin 256) :
    X0_2 m c t (ix2 r l) = m ((c.tc : Thread nD τ).loc main_arg2) (ix2 r l) := by
  unfold X0_2 Pipeline.Window.fill
  rw [dif_pos (moved0_2 t _)]
  show V m c main_v2 (((cfg0.win 2).blk t).view.emb _) = _
  rw [V_z, show ((cfg0.win 2).blk t).view.emb (fun a => ⟨↑(ix2 r l a), _⟩) = ix2 r ⟨768 + l.val, by omega⟩ by blk_ext [idx0_2]]
  pointwise
  have := l.isLt
  repeat (first | rw [dif_neg (by omega)] | rw [dif_pos (by omega)])
  blk_ext

theorem idx0_3 : ∀ t : Fin cfg0.N, win0_3.index t = ![0, 0] := (by decide +kernel)

theorem x3_eq (c : Dev nD) (t : Fin cfg0.N) (r : Fin 8) (l : Fin 256) (h : r.val < 3) :
    iblk m c 3 t (ix2 r l) = m ((c.tc : Thread nD τ).loc main_arg3) (ix2 ⟨r, h⟩ l) := by
  blk_simp [iblk, V]; entry_read
  rw [show ((View.whole main_v4).slice (win0_3.rect t)).emb (ix2 r l) = ix2 r l by blk_ext [idx0_3]]
  pointwise
  rw [dif_pos h]

theorem idx0_4 : ∀ t : Fin cfg0.N, win0_4.index t = ![0, 0] := (by decide +kernel)

theorem x4_eq (c : Dev nD) (t : Fin cfg0.N) (r : Fin 2048) (l : Fin 256) :
    iblk m c 4 t (ix2 r l) = m ((c.tc : Thread nD τ).loc main_arg4) (ix2 r l) := by
  blk_ext [iblk, V, idx0_4]

theorem idx0_5 : ∀ t : Fin cfg0.N, win0_5.index t = ![0, 0] := (by decide +kernel)

/-- A lane chosen by whether its row is below a bound. -/
theorem sel_slt {α : Type} (a n : ℕ) (ha : a < 2147483648) (hn : n < 2147483648) (x y : α) :
    Scalar.select (IntOp.cmpi .slt (BitVec.ofNat 32 a) (BitVec.ofNat 32 n)) x y = if a < n then x else y := by
  rw [WordCmp.cmpi_slt_ofNat ha hn]; by_cases h : a < n <;> simp [h, Scalar.select]

/-- A lane chosen by whether its row is at least a bound. -/
theorem sel_sge {α : Type} (a n : ℕ) (ha : a < 2147483648) (hn : n < 2147483648) (x y : α) :
    Scalar.select (IntOp.cmpi .sge (BitVec.ofNat 32 a) (BitVec.ofNat 32 n)) x y = if a < n then y else x := by
  rw [WordCmp.cmpi_sge_ofNat ha hn]; by_cases h : a < n
  · have : ¬ n ≤ a := by omega
    simp [h, this, Scalar.select]
  · have : n ≤ a := by omega
    simp [h, this, Scalar.select]

/-- The arguments of the two programs agree. -/
structure Agree (c : Dev nD) (m' : (ℓ : Loc ConvRefIdeal.nD ConvRefIdeal.τ ConvRefIdeal.sig) → Buf (Elt Ideal) ℓ) : Prop where
  a0 : m' ((c.tc : Thread ConvRefIdeal.nD ConvRefIdeal.τ).loc ConvRefIdeal.main_arg0) = m ((c.tc : Thread nD τ).loc main_arg0)
  a1 : m' ((c.tc : Thread ConvRefIdeal.nD ConvRefIdeal.τ).loc ConvRefIdeal.main_arg1) = m ((c.tc : Thread nD τ).loc main_arg1)
  a2 : m' ((c.tc : Thread ConvRefIdeal.nD ConvRefIdeal.τ).loc ConvRefIdeal.main_arg2) = m ((c.tc : Thread nD τ).loc main_arg2)
  a3 : m' ((c.tc : Thread ConvRefIdeal.nD ConvRefIdeal.τ).loc ConvRefIdeal.main_arg3) = m ((c.tc : Thread nD τ).loc main_arg3)
  a4 : m' ((c.tc : Thread ConvRefIdeal.nD ConvRefIdeal.τ).loc ConvRefIdeal.main_arg4) = m ((c.tc : Thread nD τ).loc main_arg4)

end Cert.ConvPart

end
-- ==== Proof.ConvFwd.lean ====
module

public import proofs.«01_k».proof.Defs
public import proofs.«01_k».proof.Proof.Gen.ConvFwdIdeal.Value
public import proofs.«01_k».proof.Proof.Gen.ConvFwdRefIdeal.Run
public import Idealize.ShloMosaic.Lib.Pipeline.ValueKit
public import Idealize.ShloMosaic.Lib.Pointwise
public import proofs.«01_k».proof.Proof.ConvA

@[expose] public section

set_option maxRecDepth 16384

noncomputable section

namespace Cert.ConvFwdPart

open Idealize.ShloMosaic Idealize.ShloMosaic.TcCoe Idealize.SL.Sem

open Cert.ConvFwdIdeal Cert.ConvFwdIdeal.Gen

variable (m : (ℓ : Loc nD τ sig) → Buf (Elt Ideal) ℓ)

theorem idx0_0 : ∀ t : Fin cfg0.N, win0_0.index t = ![0, 1] := (by decide +kernel)

theorem x0_eq (c : Dev nD) (t : Fin cfg0.N) (r : Fin 2048) (l : Fin 256) :
    X0_0 m c t (ix2 r l) = m ((c.tc : Thread nD τ).loc main_arg0) (ix2 r ⟨256 + l.val, by omega⟩) := by
  unfold X0_0 Pipeline.Window.fill
  rw [dif_pos (moved0_0 t _)]
  show V m c main_arg0 (((cfg0.win 0).blk t).view.emb _) = _
  rw [V_main_arg0]
  congr 1
  blk_ext [idx0_0]

theorem idx0_1 : ∀ t : Fin cfg0.N, win0_1.index t = ![0, 2] := (by decide +kernel)

theorem x1_eq (c : Dev nD) (t : Fin cfg0.N) (r : Fin 2048) (l : Fin 256) :
    X0_1 m c t (ix2 r l) = m ((c.tc : Thread nD τ).loc main_arg0) (ix2 r ⟨512 + l.val, by omega⟩) := by
  unfold X0_1 Pipeline.Window.fill
  rw [dif_pos (moved0_1 t _)]
  show V m c main_arg0 (((cfg0.win 1).blk t).view.emb _) = _
  rw [V_main_arg0]
  congr 1
  blk_ext [idx0_1]

theorem idx0_2 : ∀ t : Fin cfg0.N, win0_2.index t = ![0, 3] := (by decide +kernel)

theorem x2_eq (c : Dev nD) (t : Fin cfg0.N) (r : Fin 2048) (l : Fin 256) :
    X0_2 m c t (ix2 r l) = m ((c.tc : Thread nD τ).loc main_arg0) (ix2 r ⟨768 + l.val, by omega⟩) := by
  unfold X0_2 Pipeline.Window.fill
  rw [dif_pos (moved0_2 t _)]
  show V m c main_arg0 (((cfg0.win 2).blk t).view.emb _) = _
  rw [V_main_arg0]
  congr 1
  blk_ext [idx0_2]

theorem idx0_3 : ∀ t : Fin cfg0.N, win0_3.index t = ![0, 0] := (by decide +kernel)

/-- The taps, which the host pads to eight rows. -/
theorem w_eq (c : Dev nD) (t : Fin cfg0.N) (r : Fin 8) (l : Fin 256) (h : r.val < 3) :
    iblk m c 3 t (ix2 r l) = m ((c.tc : Thread nD τ).loc main_arg1) (ix2 ⟨r, h⟩ l) := by
  blk_simp [iblk, V]; entry_read
  rw [show ((View.whole main_v1).slice (win0_3.rect t)).emb (ix2 r l) = ix2 r l by blk_ext [idx0_3]]
  pointwise
  rw [dif_pos h]

theorem idx0_4 : ∀ t : Fin cfg0.N, win0_4.index t = ![0, 0] := (by decide +kernel)

end Cert.ConvFwdPart

namespace Cert.ConvFwdRefIdeal

open Idealize.ShloMosaic Idealize.ShloMosaic.TcCoe Idealize.SL.Sem Cert.ConvFwdRefIdeal.Gen

/-- The gated convolution as the reference composes it. -/
def Branch (z : FVec Ideal S2048x5760 .f32) (w : FVec Ideal S3x256 .f32) : FVec Ideal S2048x256 .f32 :=
  mulf (extractStridedSlice S2048x256 ![0, 512] z slices_S2048x5760_S2048x256_0_512) (addf (addf (mulf (concatenate S2048x256 0 [⟨S2x256, (broadcastInDim S2x256 ![] bcast_S_S2x256 (constant (F := Ideal) S_ .f32 0x00000000#32))⟩, ⟨S2046x256, (extractStridedSlice S2046x256 ![0, 0] (mulf (extractStridedSlice S2048x256 ![0, 768] z slices_S2048x5760_S2048x256_0_768) (extractStridedSlice S2048x256 ![0, 256] z slices_S2048x5760_S2048x256_0_256)) slices_S2048x256_S2046x256_0_0)⟩] concatenates_S2x256_S2046x256_S2048x256_d0) (broadcastInDim S2048x256 ![0, 1] bcast_S1x256_S2048x256_0_1 (extractStridedSlice S1x256 ![0, 0] w slices_S3x256_S1x256_0_0))) (mulf (concatenate S2048x256 0 [⟨S1x256, (broadcastInDim S1x256 ![] bcast_S_S1x256 (constant (F := Ideal) S_ .f32 0x00000000#32))⟩, ⟨S2047x256, (extractStridedSlice S2047x256 ![0, 0] (mulf (extractStridedSlice S2048x256 ![0, 768] z slices_S2048x5760_S2048x256_0_768) (extractStridedSlice S2048x256 ![0, 256] z slices_S2048x5760_S2048x256_0_256)) slices_S2048x256_S2047x256_0_0)⟩] concatenates_S1x256_S2047x256_S2048x256_d0) (broadcastInDim S2048x256 ![0, 1] bcast_S1x256_S2048x256_0_1 (extractStridedSlice S1x256 ![1, 0] w slices_S3x256_S1x256_1_0)))) (mulf (mulf (extractStridedSlice S2048x256 ![0, 768] z slices_S2048x5760_S2048x256_0_768) (extractStridedSlice S2048x256 ![0, 256] z slices_S2048x5760_S2048x256_0_256)) (broadcastInDim S2048x256 ![0, 1] bcast_S1x256_S2048x256_0_1 (extractStridedSlice S1x256 ![2, 0] w slices_S3x256_S1x256_2_0))))

end Cert.ConvFwdRefIdeal

namespace Cert.ConvFwdPart

open Idealize.ShloMosaic Idealize.ShloMosaic.TcCoe Idealize.SL.Sem
open Cert.ConvFwdIdeal Cert.ConvFwdIdeal.Gen

variable (m : (ℓ : Loc nD τ sig) → Buf (Elt Ideal) ℓ)

/-- The array after the run is the reference's convolution. -/
theorem branch_eq (c : Dev nD) : (dats m 0 c).arrAt 4 cfg0.N = ConvFwdRefIdeal.Branch (m ((c.tc : Thread nD τ).loc main_arg0))
    (m ((c.tc : Thread nD τ).loc main_arg1)) := by
  refine (dats m 0 c).arrAt_eq_of_covers 4 _ (by decide +kernel) fun t hf y => ?_
  blk_simp
  rw [after0_4]
  unfold outsAt0
  dsimp only
  frame_out
  idx_vars y
  rw [show (((View.whole main_v2).slice (win0_4.rect t)).emb (ix2 y0 y1)) = ix2 y0 y1 by blk_ext [idx0_4]]
  unfold ConvFwdRefIdeal.Branch
  unfold_payloads
  pointwise
  have hx : y0.val < 2147483648 := by omega
  simp only [x0_eq, x1_eq, x2_eq, w_eq m c t _ _ (show ((2 : Fin 8) : ℕ) < 3 by decide),
    w_eq m c t _ _ (show ((1 : Fin 8) : ℕ) < 3 by decide), w_eq m c t _ _ (show ((0 : Fin 8) : ℕ) < 3 by decide),
    ConvPart.sel_sge y0.val 1 hx (by norm_num), ConvPart.sel_sge y0.val 2 hx (by norm_num)]
  by_cases h1 : y0.val < 1
  · have h2 : y0.val < 2 := by omega
    simp only [h1, h2, if_true, if_false, dif_pos, dif_neg, not_false_eq_true, zero_add, zero_mul, mul_zero]
    show _ = _
    ac_rfl
  · have r1 : (y0.val + 2048 - 1) % 2048 = y0.val - 1 := by omega
    by_cases h2 : y0.val < 2
    · simp only [h1, h2, if_true, if_false, dif_pos, dif_neg, r1, not_false_eq_true, zero_add, zero_mul, mul_zero]
      show _ = _
      ac_rfl
    · have r2 : (y0.val + 2048 - 2) % 2048 = y0.val - 2 := by omega
      simp only [h1, h2, if_true, if_false, dif_pos, dif_neg, r1, r2, not_false_eq_true]
      show _ = _
      ac_rfl

/-- The reference ends with its arguments unchanged and its counters at zero. -/
theorem frame_ref : quiescent_ConvFwdRefIdeal := by
  intro m ρ _
  exact (θ_run ConvFwdRefIdeal.defs _ _).mono (fun r h => ⟨fun c => (h c).2, sem_eq_zero_of_no_sems (by decide) r.2⟩) (ConvFwdRefIdeal.Value.run m ρ)

/-- The kernel's array and the reference's are the same. -/
theorem value : algebraic_ConvFwdIdeal_ConvFwdRefIdeal := by
  intro m g m' g' _ hag
  refine ⟨fun c => _, ?_, ConvFwdRefIdeal.Value.run m' g'⟩
  refine (θ_run _ _ _).mono (fun r h c => ?_) (ConvFwdIdeal.Value.run_blocks m g)
  obtain ⟨h0, ha⟩ := h c
  obtain ⟨a0, a1⟩ := hag c
  refine ⟨h0.trans ((branch_eq m c).trans ?_), ha⟩
  dsimp only
  rw [a0, a1]
  rfl

end Cert.ConvFwdPart
-- ==== Proof.ConvB.lean ====
module

public import proofs.«01_k».proof.Defs
public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import proofs.«01_k».proof.Proof.ConvA

@[expose] public section

set_option maxRecDepth 16384

noncomputable section

namespace Cert.ConvPart

open Idealize.ShloMosaic Idealize.ShloMosaic.TcCoe Idealize.SL.Sem
open Cert.ConvIdeal Cert.ConvIdeal.Gen

variable (m : (ℓ : Loc nD τ sig) → Buf (Elt Ideal) ℓ)

/-- The array of the gradients of the three gates after the run, against the reference's. -/
theorem dconv_eq (c : Dev nD) (m' : (ℓ : Loc ConvRefIdeal.nD ConvRefIdeal.τ ConvRefIdeal.sig) → Buf (Elt Ideal) ℓ)
    (A : Agree m c m') :
    (dats m 0 c).arrAt 5 cfg0.N = ConvRefIdeal.Value.res_out0 m' c := by
  refine (dats m 0 c).arrAt_eq_of_covers 5 _ (by decide +kernel) fun t hf y => ?_
  blk_simp
  rw [after0_5]
  unfold outsAt0
  dsimp only
  frame_out
  canon_tiles x h
  all_goals idx_vars x
  all_goals unfold ConvRefIdeal.Value.res_out0 ConvRefIdeal.Value.res_main_v54
  case piece0 =>
    rw [show (((View.whole main_v5_0).slice (win0_5.rect t)).emb y) = ix2 x0 ⟨512 + x1.val, by omega⟩ by blk_ext [idx0_5]]
    unfold_payloads
    pointwise
    rw [dif_neg (by omega), dif_neg (by omega)]
    have hx : x0.val < 2147483648 := by omega
    simp only [A.a0, A.a1, A.a2, A.a3, A.a4, x0_eq, x1_eq, x2_eq, x3_eq m c t _ _ (show ((2 : Fin 8) : ℕ) < 3 by decide),
      x3_eq m c t _ _ (show ((1 : Fin 8) : ℕ) < 3 by decide), x3_eq m c t _ _ (show ((0 : Fin 8) : ℕ) < 3 by decide), x4_eq,
      sel_slt x0.val 2047 hx (by norm_num), sel_slt x0.val 2046 hx (by norm_num), sel_sge x0.val 1 hx (by norm_num), sel_sge x0.val 2 hx (by norm_num)]
    have e2 : 512 + x1.val - 256 - 256 = x1.val := by omega
    have e1 : x1.val < 256 := x1.isLt
    simp only [e2, e1, and_true, Fin.eta]
    by_cases h1 : x0.val < 2046
    · have h2 : x0.val < 2047 := by omega
      have r1 : (x0.val + 2048 - 2047) % 2048 = 1 + x0.val := by omega
      have r2 : (x0.val + 2048 - 2046) % 2048 = 2 + x0.val := by omega
      simp only [h1, h2, if_true, dif_pos, r1, r2]
      show _ = _
      ac_rfl
    · by_cases h2 : x0.val < 2047
      · have r1 : (x0.val + 2048 - 2047) % 2048 = 1 + x0.val := by omega
        simp only [h1, h2, if_true, if_false, dif_pos, dif_neg, r1, not_false_eq_true, add_zero]
        show _ = _
        ac_rfl
      · simp only [h1, h2, if_true, if_false, dif_pos, dif_neg, not_false_eq_true, add_zero]
        show _ = _
        ac_rfl
  case piece1 =>
    rw [show (((View.whole main_v5_0).slice (win0_5.rect t)).emb y) = ix2 x0 ⟨256 + x1.val, by omega⟩ by blk_ext [idx0_5]]
    unfold_payloads
    pointwise
    have hx : x0.val < 2147483648 := by omega
    simp only [A.a0, A.a1, A.a2, A.a3, A.a4, x0_eq, x1_eq, x2_eq, x3_eq m c t _ _ (show ((2 : Fin 8) : ℕ) < 3 by decide),
      x3_eq m c t _ _ (show ((1 : Fin 8) : ℕ) < 3 by decide), x3_eq m c t _ _ (show ((0 : Fin 8) : ℕ) < 3 by decide), x4_eq,
      sel_slt x0.val 2047 hx (by norm_num), sel_slt x0.val 2046 hx (by norm_num), sel_sge x0.val 1 hx (by norm_num), sel_sge x0.val 2 hx (by norm_num)]
    by_cases h1 : x0.val < 1
    · have h2 : x0.val < 2 := by omega
      simp only [h1, h2, if_true, if_false, dif_pos, dif_neg, not_false_eq_true, add_zero, zero_add, zero_mul]
      show _ = _
      ac_rfl
    · have r1 : (x0.val + 2048 - 1) % 2048 = x0.val - 1 := by omega
      by_cases h2 : x0.val < 2
      · simp only [h1, h2, if_true, if_false, dif_pos, dif_neg, r1, not_false_eq_true, zero_add, zero_mul]
        show _ = _
        ac_rfl
      · have r2 : (x0.val + 2048 - 2) % 2048 = x0.val - 2 := by omega
        simp only [h1, h2, if_true, if_false, dif_pos, dif_neg, r1, r2, not_false_eq_true]
        show _ = _
        ac_rfl
  case piece2 =>
    rw [show (((View.whole main_v5_0).slice (win0_5.rect t)).emb y) = ix2 x0 ⟨x1.val, by omega⟩ by blk_ext [idx0_5]]
    unfold_payloads
    pointwise
    have hx : x0.val < 2147483648 := by omega
    simp only [A.a0, A.a1, A.a2, A.a3, A.a4, x0_eq, x1_eq, x2_eq, x3_eq m c t _ _ (show ((2 : Fin 8) : ℕ) < 3 by decide),
      x3_eq m c t _ _ (show ((1 : Fin 8) : ℕ) < 3 by decide), x3_eq m c t _ _ (show ((0 : Fin 8) : ℕ) < 3 by decide), x4_eq,
      sel_slt x0.val 2047 hx (by norm_num), sel_slt x0.val 2046 hx (by norm_num), sel_sge x0.val 1 hx (by norm_num), sel_sge x0.val 2 hx (by norm_num)]
    by_cases h1 : x0.val < 2046
    · have h2 : x0.val < 2047 := by omega
      have r1 : (x0.val + 2048 - 2047) % 2048 = 1 + x0.val := by omega
      have r2 : (x0.val + 2048 - 2046) % 2048 = 2 + x0.val := by omega
      simp only [h1, h2, if_true, dif_pos, r1, r2]
      show _ = _
      ac_rfl
    · by_cases h2 : x0.val < 2047
      · have r1 : (x0.val + 2048 - 2047) % 2048 = 1 + x0.val := by omega
        simp only [h1, h2, if_true, if_false, dif_pos, dif_neg, r1, not_false_eq_true, add_zero]
        show _ = _
        ac_rfl
      · simp only [h1, h2, if_true, if_false, dif_pos, dif_neg, not_false_eq_true, add_zero]
        show _ = _
        ac_rfl
end Cert.ConvPart

end
-- ==== Proof.ConvC.lean ====
module

public import proofs.«01_k».proof.Defs
public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import proofs.«01_k».proof.Proof.ConvA

@[expose] public section

set_option maxRecDepth 16384

noncomputable section

namespace Cert.ConvPart

open Idealize.ShloMosaic Idealize.ShloMosaic.TcCoe Idealize.SL.Sem
open Cert.ConvIdeal Cert.ConvIdeal.Gen

variable (m : (ℓ : Loc nD τ sig) → Buf (Elt Ideal) ℓ)

theorem idx0_6 : ∀ t : Fin cfg0.N, win0_6.index t = ![0, 0] := (by decide +kernel)

end Cert.ConvPart
namespace Cert.ConvRefIdeal
open Idealize.ShloMosaic Idealize.ShloMosaic.TcCoe Idealize.SL.Sem Cert.ConvRefIdeal.Gen
/-- The gradient of the three taps as the reference composes it, five rows of zeros below. -/
def Taps (m' : (ℓ : Loc nD τ sig) → Buf (Elt Ideal) ℓ) (c : Dev nD) : FVec Ideal S8x256 .f32 :=
  concatenate S8x256 0 [⟨S3x256, (addf (addf (pad S3x256 ![2, 0] ![0, 0] ![0, 0] (shapeCast _ (Host.reduceAdd (mulf (mulf (m' ((c.tc : Thread nD τ).loc main_arg2)) (m' ((c.tc : Thread nD τ).loc main_arg0))) (mulf (m' ((c.tc : Thread nD τ).loc main_arg1)) (m' ((c.tc : Thread nD τ).loc main_arg4)))) (constant (F := Ideal) S_ .f32 0x00000000#32) reducesTo_S2048x256_S256_d0 h_S_) shapeCasts_S256_S1x256) (constant (F := Ideal) S_ .f32 0x00000000#32) pads_S1x256_S3x256_200_000 h_S_) (pad S3x256 ![1, 0] ![1, 0] ![0, 0] (shapeCast _ (Host.reduceAdd (mulf (concatenate S2048x256 0 [⟨S1x256, (broadcastInDim S1x256 ![] bcast_S_S1x256 (constant (F := Ideal) S_ .f32 0x00000000#32))⟩, ⟨S2047x256, (extractStridedSlice S2047x256 ![0, 0] (mulf (m' ((c.tc : Thread nD τ).loc main_arg2)) (m' ((c.tc : Thread nD τ).loc main_arg0))) slices_S2048x256_S2047x256_0_0)⟩] concatenates_S1x256_S2047x256_S2048x256_d0) (mulf (m' ((c.tc : Thread nD τ).loc main_arg1)) (m' ((c.tc : Thread nD τ).loc main_arg4)))) (constant (F := Ideal) S_ .f32 0x00000000#32) reducesTo_S2048x256_S256_d0 h_S_) shapeCasts_S256_S1x256) (constant (F := Ideal) S_ .f32 0x00000000#32) pads_S1x256_S3x256_110_000 h_S_)) (pad S3x256 ![0, 0] ![2, 0] ![0, 0] (shapeCast _ (Host.reduceAdd (mulf (concatenate S2048x256 0 [⟨S2x256, (broadcastInDim S2x256 ![] bcast_S_S2x256 (constant (F := Ideal) S_ .f32 0x00000000#32))⟩, ⟨S2046x256, (extractStridedSlice S2046x256 ![0, 0] (mulf (m' ((c.tc : Thread nD τ).loc main_arg2)) (m' ((c.tc : Thread nD τ).loc main_arg0))) slices_S2048x256_S2046x256_0_0)⟩] concatenates_S2x256_S2046x256_S2048x256_d0) (mulf (m' ((c.tc : Thread nD τ).loc main_arg1)) (m' ((c.tc : Thread nD τ).loc main_arg4)))) (constant (F := Ideal) S_ .f32 0x00000000#32) reducesTo_S2048x256_S256_d0 h_S_) shapeCasts_S256_S1x256) (constant (F := Ideal) S_ .f32 0x00000000#32) pads_S1x256_S3x256_020_000 h_S_))⟩, ⟨S5x256, (broadcastInDim S5x256 ![] bcast_S_S5x256 (constant (F := Ideal) S_ .f32 0x00000000#32))⟩] concatenates_S3x256_S5x256_S8x256_d0
end Cert.ConvRefIdeal
namespace Cert.ConvPart
open Idealize.ShloMosaic Idealize.ShloMosaic.TcCoe Idealize.SL.Sem
open Cert.ConvIdeal Cert.ConvIdeal.Gen
variable (m : (ℓ : Loc nD τ sig) → Buf (Elt Ideal) ℓ)
/-- A sum whose first terms vanish is the sum of the others. -/
theorem sum_drop (k n N : ℕ) (hN : k + n = N) (f : Fin N → EReal) (g : Fin n → EReal) (h0 : ∀ x : Fin N, x.val < k → f x = 0)
    (h : ∀ x : Fin n, f ⟨k + x.val, by omega⟩ = g x) : ∑ x, f x = ∑ x, g x := by
  subst hN
  rw [Fin.sum_univ_add, Finset.sum_eq_zero (fun x _ => h0 (Fin.castAdd n x) x.isLt), zero_add]
  exact Finset.sum_congr rfl fun x _ => h x

/-- A block of eight rows into which one row was stored last. -/
theorem canon_row2 (a : ℕ) (inb : ∀ k, (![a, 0] : Fin 2 → ℕ) k + (![1, 256] : Fin 2 → ℕ) k ≤ S8x256.size k)
    (w : (Rect.unit (s := S8x256) ![a, 0] ![1, 256] inb).shape.Idx → Elt Ideal .f32) (L : List (View.Piece (Elt Ideal) S8x256 .f32))
    (r : Fin 8) (l : Fin 256) :
    View.canon (⟨Rect.unit (s := S8x256) ![a, 0] ![1, 256] inb, w⟩ :: L) (ix2 r l) = if r.val = a then w (ix2 0 l) else View.canon L (ix2 r l) := by
  split
  · rename_i h
    rw [show (ix2 r l : S8x256.Idx) = (Rect.unit (s := S8x256) ![a, 0] ![1, 256] inb).emb (ix2 0 l) by blk_ext, View.canon_cons_emb]
  · rename_i h
    rw [View.canon_cons_of_not_mem]
    rw [Rect.mem_set_unit]
    intro hh
    have := hh 0
    simp at this
    omega

/-- The array of the gradient of the three taps after the run, against the reference's. -/
theorem red_eq (c : Dev nD) (m' : (ℓ : Loc ConvRefIdeal.nD ConvRefIdeal.τ ConvRefIdeal.sig) → Buf (Elt Ideal) ℓ)
    (A : Agree m c m') :
    (dats m 0 c).arrAt 6 cfg0.N = ConvRefIdeal.Taps m' c := by
  refine (dats m 0 c).arrAt_eq_of_covers 6 _ (by decide +kernel) fun t hf y => ?_
  blk_simp
  rw [after0_6]
  unfold outsAt0
  dsimp only
  frame_out
  show View.canon _ (y : S8x256.Idx) = _
  idx_vars y
  rw [canon_row2, canon_row2, canon_row2]
  rw [show (((View.whole main_v5_1).slice (win0_6.rect t)).emb (ix2 y0 y1)) = ix2 y0 y1 by blk_ext [idx0_6]]
  unfold ConvRefIdeal.Taps
  split
  · rename_i h
    obtain rfl : y0 = 2 := Fin.ext h
    unfold_payloads
    pointwise
    simp only [A.a0, A.a1, A.a2, A.a4, x0_eq, x1_eq, x2_eq, x4_eq]
    exact Finset.sum_congr rfl fun x _ => by show _ = _; ac_rfl
  split
  · rename_i h
    obtain rfl : y0 = 1 := Fin.ext h
    unfold_payloads
    pointwise
    simp only [zero_mul, Finset.sum_const_zero, zero_add, A.a0, A.a1, A.a2, A.a4, x0_eq, x1_eq, x2_eq, x4_eq]
    refine sum_drop 1 2047 2048 (by norm_num) _ _ (fun x hx => ?_) (fun x => ?_)
    · simp only [sel_sge x.val 1 (by omega) (by norm_num), hx, if_true]
    · have hx : ¬ 1 + x.val < 1 := by omega
      have r1 : (1 + x.val + 2048 - 1) % 2048 = x.val := by omega
      simp only [sel_sge (1 + x.val) 1 (by omega) (by norm_num), hx, if_false, r1]
      show _ = _
      ac_rfl
  split
  · rename_i h
    obtain rfl : y0 = 0 := Fin.ext h
    unfold_payloads
    pointwise
    simp only [zero_mul, Finset.sum_const_zero, zero_add, A.a0, A.a1, A.a2, A.a4, x0_eq, x1_eq, x2_eq, x4_eq]
    refine sum_drop 2 2046 2048 (by norm_num) _ _ (fun x hx => ?_) (fun x => ?_)
    · simp only [sel_sge x.val 2 (by omega) (by norm_num), hx, if_true]
    · have hx : ¬ 2 + x.val < 2 := by omega
      have r1 : (2 + x.val + 2048 - 2) % 2048 = x.val := by omega
      simp only [sel_sge (2 + x.val) 2 (by omega) (by norm_num), hx, if_false, r1]
      show _ = _
      ac_rfl
  · rw [View.canon_cons_unit_lit _ _ _ (by decide)]
    unfold_payloads
    pointwise
    have h3 : ¬ y0.val < 3 := by omega
    simp only [h3, dif_neg, not_false_eq_true]
end Cert.ConvPart
end
-- ==== Proof.ConvClaim.lean ====
module
public import proofs.«01_k».proof.Defs
public import proofs.«01_k».proof.Proof.ConvB
public import proofs.«01_k».proof.Proof.ConvC
public import Idealize.ShloMosaic.Lib.StableHlo.RunHlo

@[expose] public section

set_option maxRecDepth 16384

noncomputable section

namespace Cert.ConvPart

open Idealize.ShloMosaic Idealize.ShloMosaic.TcCoe Idealize.SL.Sem

/-- The reference of the convolution's gradient runs, leaves its arguments and ends with every counter at zero. -/
theorem frame_ref : quiescent_ConvRefIdeal := by
  intro m ρ _
  exact (θ_run ConvRefIdeal.defs _ _).mono (fun r h => ⟨fun c => (h c).2.2, sem_eq_zero_of_no_sems (by decide) r.2⟩)
    (ConvRefIdeal.Value.run m ρ)

/-- The gradients that the convolution's backward call returns are those of the reference. -/
theorem value : algebraic_ConvIdeal_ConvRefIdeal := by
  intro m g m' g' _ hag
  have A : ∀ c, Agree m c m' := fun c => ⟨(hag c).1, (hag c).2.1, (hag c).2.2.1, (hag c).2.2.2.1, (hag c).2.2.2.2⟩
  refine ⟨fun c => ConvRefIdeal.Value.res_out0 m' c, fun c => ConvRefIdeal.Taps m' c, ?_, ?_⟩
  · refine (θ_run _ _ _).mono (fun r h c => ?_) (ConvIdeal.Value.run_blocks m g)
    obtain ⟨h0, h1, ha⟩ := h c
    exact ⟨h0.trans (dconv_eq m c m' (A c)), h1.trans (red_eq m c m' (A c)), ha⟩
  · exact ConvRefIdeal.Value.run m' g'

end Cert.ConvPart

end
-- ==== Proof.lean ====
module

public import proofs.«01_k».proof.Defs
public import proofs.«01_k».proof.Proof.Gen.FfTwoDw.Frame
public import proofs.«01_k».proof.Proof.Gen.FfTwoDwIdeal.Value
public import proofs.«01_k».proof.Proof.Gen.FfTwoDwRefIdeal.Run
public import proofs.«01_k».proof.Proof.Gen.FfOneDw.Frame
public import proofs.«01_k».proof.Proof.Gen.FfOneDwIdeal.Value
public import proofs.«01_k».proof.Proof.Gen.FfOneDwRefIdeal.Run
public import proofs.«01_k».proof.Proof.Gen.InDw.Frame
public import proofs.«01_k».proof.Proof.Gen.InDwIdeal.Value
public import proofs.«01_k».proof.Proof.Gen.InDwRefIdeal.Run
public import proofs.«01_k».proof.Proof.Gen.OutDw.Frame
public import proofs.«01_k».proof.Proof.Gen.OutDwIdeal.Value
public import proofs.«01_k».proof.Proof.Gen.OutDwRefIdeal.Run
public import proofs.«01_k».proof.Proof.Gen.InDx.Frame
public import proofs.«01_k».proof.Proof.Gen.InDxIdeal.Value
public import proofs.«01_k».proof.Proof.Gen.InDxRefIdeal.Run
public import proofs.«01_k».proof.Proof.Gen.FfOneDx.Frame
public import proofs.«01_k».proof.Proof.Gen.FfOneDxIdeal.Value
public import proofs.«01_k».proof.Proof.Gen.FfOneDxRefIdeal.Run
public import proofs.«01_k».proof.Proof.Gen.FfTwoDx.Frame
public import proofs.«01_k».proof.Proof.Gen.FfTwoDxIdeal.Frame
public import proofs.«01_k».proof.Proof.Gen.FfTwoDxRefIdeal.Run
public import proofs.«01_k».proof.Proof.Gen.OutDx.Frame
public import proofs.«01_k».proof.Proof.Gen.OutDxIdeal.Value
public import proofs.«01_k».proof.Proof.Gen.OutDxRefIdeal.Run
public import proofs.«01_k».proof.Proof.Gen.WideDx.Frame
public import proofs.«01_k».proof.Proof.Gen.WideDxIdeal.Value
public import proofs.«01_k».proof.Proof.Gen.WideDxRefIdeal.Run
public import proofs.«01_k».proof.Proof.Gen.NarrowDx.Frame
public import proofs.«01_k».proof.Proof.Gen.NarrowDxIdeal.Value
public import proofs.«01_k».proof.Proof.Gen.NarrowDxRefIdeal.Run
public import proofs.«01_k».proof.Proof.Gen.WideDw.Frame
public import proofs.«01_k».proof.Proof.Gen.WideDwIdeal.Value
public import proofs.«01_k».proof.Proof.Gen.WideDwRefIdeal.Run
public import proofs.«01_k».proof.Proof.Gen.NarrowDw.Frame
public import proofs.«01_k».proof.Proof.Gen.NarrowDwIdeal.Value
public import proofs.«01_k».proof.Proof.Gen.NarrowDwRefIdeal.Run
public import proofs.«01_k».proof.Proof.Gen.InFwd.Frame
public import proofs.«01_k».proof.Proof.Gen.InFwdIdeal.Frame
public import proofs.«01_k».proof.Proof.Gen.InFwdRefIdeal.Run
public import proofs.«01_k».proof.Proof.Gen.FfOneFwd.Frame
public import proofs.«01_k».proof.Proof.Gen.FfOneFwdIdeal.Frame
public import proofs.«01_k».proof.Proof.Gen.FfOneFwdRefIdeal.Run
public import proofs.«01_k».proof.Proof.Gen.FfTwoFwd.Frame
public import proofs.«01_k».proof.Proof.Gen.FfTwoFwdIdeal.Value
public import proofs.«01_k».proof.Proof.Gen.FfTwoFwdRefIdeal.Run
public import proofs.«01_k».proof.Proof.Gen.OutFwd.Frame
public import proofs.«01_k».proof.Proof.Gen.OutFwdIdeal.Value
public import proofs.«01_k».proof.Proof.Gen.OutFwdRefIdeal.Run
public import proofs.«01_k».proof.Proof.Gen.WideFwd.Frame
public import proofs.«01_k».proof.Proof.Gen.WideFwdIdeal.Value
public import proofs.«01_k».proof.Proof.Gen.WideFwdRefIdeal.Run
public import proofs.«01_k».proof.Proof.Gen.NarrowFwd.Frame
public import proofs.«01_k».proof.Proof.Gen.NarrowFwdIdeal.Value
public import proofs.«01_k».proof.Proof.Gen.NarrowFwdRefIdeal.Run
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.AdamAda.Frame
public import proofs.«01_k».proof.Proof.Gen.AdamAdaIdeal.Value
public import proofs.«01_k».proof.Proof.Gen.AdamAdaRefIdeal.Run
public import proofs.«01_k».proof.Proof.Gen.AdamRest.Frame
public import proofs.«01_k».proof.Proof.Gen.AdamRestIdeal.Value
public import proofs.«01_k».proof.Proof.Gen.AdamRestRefIdeal.Run
public import proofs.«01_k».proof.Proof.Gen.AdaFwd.Frame
public import proofs.«01_k».proof.Proof.Gen.AdaFwdIdeal.Value
public import proofs.«01_k».proof.Proof.Gen.AdaFwdRefIdeal.Run
public import proofs.«01_k».proof.Proof.Gen.AdaDw.Frame
public import proofs.«01_k».proof.Proof.Gen.AdaDwIdeal.Value
public import proofs.«01_k».proof.Proof.Gen.AdaDwRefIdeal.Run
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.FfTwoDw
public import proofs.«01_k».proof.Proof.FfOneDw
public import proofs.«01_k».proof.Proof.InDw
public import proofs.«01_k».proof.Proof.OutDw
public import proofs.«01_k».proof.Proof.InDx
public import proofs.«01_k».proof.Proof.FfOneDx
public import proofs.«01_k».proof.Proof.FfTwoDx
public import proofs.«01_k».proof.Proof.OutDx
public import proofs.«01_k».proof.Proof.WideDx
public import proofs.«01_k».proof.Proof.NarrowDx
public import proofs.«01_k».proof.Proof.WideDw
public import proofs.«01_k».proof.Proof.NarrowDw
public import proofs.«01_k».proof.Proof.InFwd
public import proofs.«01_k».proof.Proof.FfOneFwd
public import proofs.«01_k».proof.Proof.FfTwoFwd
public import proofs.«01_k».proof.Proof.OutFwd
public import proofs.«01_k».proof.Proof.WideFwd
public import proofs.«01_k».proof.Proof.NarrowFwd
public import proofs.«01_k».proof.Proof.MergeFwd
public import proofs.«01_k».proof.Proof.AdamAda
public import proofs.«01_k».proof.Proof.AdamRest
public import proofs.«01_k».proof.Proof.AdaFwd
public import proofs.«01_k».proof.Proof.AdaDw
public import proofs.«01_k».proof.Proof.SumSmall
public import proofs.«01_k».proof.Proof.LossHead
public import proofs.«01_k».proof.Proof.ConvFwd
public import proofs.«01_k».proof.Proof.ConvClaim

@[expose] public section

/-- All the claims of the certificate. -/
theorem Cert.Proof.claim : Cert.Claim :=
  ⟨Cert.FfTwoDw.Gen.facts, Cert.FfTwoDwIdeal.Gen.facts, Cert.FfTwoDwRefIdeal.Gen.facts,
    Cert.FfOneDw.Gen.facts, Cert.FfOneDwIdeal.Gen.facts, Cert.FfOneDwRefIdeal.Gen.facts,
    Cert.InDw.Gen.facts, Cert.InDwIdeal.Gen.facts, Cert.InDwRefIdeal.Gen.facts,
    Cert.OutDw.Gen.facts, Cert.OutDwIdeal.Gen.facts, Cert.OutDwRefIdeal.Gen.facts,
    Cert.InDx.Gen.facts, Cert.InDxIdeal.Gen.facts, Cert.InDxRefIdeal.Gen.facts,
    Cert.FfOneDx.Gen.facts, Cert.FfOneDxIdeal.Gen.facts, Cert.FfOneDxRefIdeal.Gen.facts,
    Cert.FfTwoDx.Gen.facts, Cert.FfTwoDxIdeal.Gen.facts, Cert.FfTwoDxRefIdeal.Gen.facts,
    Cert.OutDx.Gen.facts, Cert.OutDxIdeal.Gen.facts, Cert.OutDxRefIdeal.Gen.facts,
    Cert.WideDx.Gen.facts, Cert.WideDxIdeal.Gen.facts, Cert.WideDxRefIdeal.Gen.facts,
    Cert.NarrowDx.Gen.facts, Cert.NarrowDxIdeal.Gen.facts, Cert.NarrowDxRefIdeal.Gen.facts,
    Cert.WideDw.Gen.facts, Cert.WideDwIdeal.Gen.facts, Cert.WideDwRefIdeal.Gen.facts,
    Cert.NarrowDw.Gen.facts, Cert.NarrowDwIdeal.Gen.facts, Cert.NarrowDwRefIdeal.Gen.facts,
    Cert.InFwd.Gen.facts, Cert.InFwdIdeal.Gen.facts, Cert.InFwdRefIdeal.Gen.facts,
    Cert.FfOneFwd.Gen.facts, Cert.FfOneFwdIdeal.Gen.facts, Cert.FfOneFwdRefIdeal.Gen.facts,
    Cert.FfTwoFwd.Gen.facts, Cert.FfTwoFwdIdeal.Gen.facts, Cert.FfTwoFwdRefIdeal.Gen.facts,
    Cert.OutFwd.Gen.facts, Cert.OutFwdIdeal.Gen.facts, Cert.OutFwdRefIdeal.Gen.facts,
    Cert.WideFwd.Gen.facts, Cert.WideFwdIdeal.Gen.facts, Cert.WideFwdRefIdeal.Gen.facts,
    Cert.NarrowFwd.Gen.facts, Cert.NarrowFwdIdeal.Gen.facts, Cert.NarrowFwdRefIdeal.Gen.facts,
    Cert.MergeFwd.Gen.facts, Cert.MergeFwdIdeal.Gen.facts, Cert.MergeFwdRefIdeal.Gen.facts,
    Cert.AdamAda.Gen.facts, Cert.AdamAdaIdeal.Gen.facts, Cert.AdamAdaRefIdeal.Gen.facts,
    Cert.AdamRest.Gen.facts, Cert.AdamRestIdeal.Gen.facts, Cert.AdamRestRefIdeal.Gen.facts,
    Cert.AdaFwd.Gen.facts, Cert.AdaFwdIdeal.Gen.facts, Cert.AdaFwdRefIdeal.Gen.facts,
    Cert.AdaDw.Gen.facts, Cert.AdaDwIdeal.Gen.facts, Cert.AdaDwRefIdeal.Gen.facts,
    Cert.SumSmall.Gen.facts, Cert.SumSmallIdeal.Gen.facts, Cert.SumSmallRefIdeal.Gen.facts,
    Cert.LossHead.Gen.facts, Cert.LossHeadIdeal.Gen.facts, Cert.LossHeadRefIdeal.Gen.facts,
    Cert.ConvFwd.Gen.facts, Cert.ConvFwdIdeal.Gen.facts, Cert.ConvFwdRefIdeal.Gen.facts,
    Cert.Conv.Gen.facts, Cert.ConvIdeal.Gen.facts, Cert.ConvRefIdeal.Gen.facts,
    fun m ρ _ => Cert.FfTwoDw.Gen.frame m ρ, fun m ρ _ => Cert.FfTwoDwIdeal.Gen.frame m ρ, Cert.FfTwoDwPart.frame_ref,
    fun m ρ _ => Cert.FfOneDw.Gen.frame m ρ, fun m ρ _ => Cert.FfOneDwIdeal.Gen.frame m ρ, Cert.FfOneDwPart.frame_ref,
    fun m ρ _ => Cert.InDw.Gen.frame m ρ, fun m ρ _ => Cert.InDwIdeal.Gen.frame m ρ, Cert.InDwPart.frame_ref,
    fun m ρ _ => Cert.OutDw.Gen.frame m ρ, fun m ρ _ => Cert.OutDwIdeal.Gen.frame m ρ, Cert.OutDwPart.frame_ref,
    fun m ρ _ => Cert.InDx.Gen.frame m ρ, fun m ρ _ => Cert.InDxIdeal.Gen.frame m ρ, Cert.InDxPart.frame_ref,
    fun m ρ _ => Cert.FfOneDx.Gen.frame m ρ, fun m ρ _ => Cert.FfOneDxIdeal.Gen.frame m ρ, Cert.FfOneDxPart.frame_ref,
    Cert.FfTwoDxPart.frame_kernel, fun m ρ _ => Cert.FfTwoDxPart.frame_run m ρ, Cert.FfTwoDxPart.frame_ref,
    fun m ρ _ => Cert.OutDx.Gen.frame m ρ, fun m ρ _ => Cert.OutDxIdeal.Gen.frame m ρ, Cert.OutDxPart.frame_ref,
    fun m ρ _ => Cert.WideDx.Gen.frame m ρ, fun m ρ _ => Cert.WideDxIdeal.Gen.frame m ρ, Cert.WideDxPart.frame_ref,
    fun m ρ _ => Cert.NarrowDx.Gen.frame m ρ, fun m ρ _ => Cert.NarrowDxIdeal.Gen.frame m ρ, Cert.NarrowDxPart.frame_ref,
    fun m ρ _ => Cert.WideDw.Gen.frame m ρ, fun m ρ _ => Cert.WideDwIdeal.Gen.frame m ρ, Cert.WideDwPart.frame_ref,
    fun m ρ _ => Cert.NarrowDw.Gen.frame m ρ, fun m ρ _ => Cert.NarrowDwIdeal.Gen.frame m ρ, Cert.NarrowDwPart.frame_ref,
    Cert.InFwdPart.frame_kernel, fun m ρ _ => Cert.InFwdPart.frame_run m ρ, Cert.InFwdPart.frame_ref,
    Cert.FfOneFwdPart.frame_kernel, fun m ρ _ => Cert.FfOneFwdPart.frame_run m ρ, Cert.FfOneFwdPart.frame_ref,
    fun m ρ _ => Cert.FfTwoFwd.Gen.frame m ρ, fun m ρ _ => Cert.FfTwoFwdIdeal.Gen.frame m ρ, Cert.FfTwoFwdPart.frame_ref,
    fun m ρ _ => Cert.OutFwd.Gen.frame m ρ, fun m ρ _ => Cert.OutFwdIdeal.Gen.frame m ρ, Cert.OutFwdPart.frame_ref,
    fun m ρ _ => Cert.WideFwd.Gen.frame m ρ, fun m ρ _ => Cert.WideFwdIdeal.Gen.frame m ρ, Cert.WideFwdPart.frame_ref,
    fun m ρ _ => Cert.NarrowFwd.Gen.frame m ρ, fun m ρ _ => Cert.NarrowFwdIdeal.Gen.frame m ρ, Cert.NarrowFwdPart.frame_ref,
    fun m ρ _ => Cert.MergeFwd.Gen.frame m ρ, fun m ρ _ => Cert.MergeFwdIdeal.Gen.frame m ρ, Cert.MergeFwdPart.frame_ref,
    fun m ρ _ => Cert.AdamAda.Gen.frame m ρ, fun m ρ _ => Cert.AdamAdaIdeal.Gen.frame m ρ, Cert.AdamAdaPart.frame_ref,
    fun m ρ _ => Cert.AdamRest.Gen.frame m ρ, fun m ρ _ => Cert.AdamRestIdeal.Gen.frame m ρ, Cert.AdamRestPart.frame_ref,
    fun m ρ _ => Cert.AdaFwd.Gen.frame m ρ, fun m ρ _ => Cert.AdaFwdIdeal.Gen.frame m ρ, Cert.AdaFwdPart.frame_ref,
    fun m ρ _ => Cert.AdaDw.Gen.frame m ρ, fun m ρ _ => Cert.AdaDwIdeal.Gen.frame m ρ, Cert.AdaDwPart.frame_ref,
    fun m ρ _ => Cert.SumSmall.Gen.frame m ρ, fun m ρ _ => Cert.SumSmallIdeal.Gen.frame m ρ, Cert.SumSmallPart.frame_ref,
    fun m ρ _ => Cert.LossHead.Gen.frame m ρ, fun m ρ _ => Cert.LossHeadIdeal.Gen.frame m ρ, Cert.LossHeadPart.frame_ref,
    fun m ρ _ => Cert.ConvFwd.Gen.frame m ρ, fun m ρ _ => Cert.ConvFwdIdeal.Gen.frame m ρ, Cert.ConvFwdPart.frame_ref,
    fun m ρ _ => Cert.Conv.Gen.frame m ρ, fun m ρ _ => Cert.ConvIdeal.Gen.frame m ρ, Cert.ConvPart.frame_ref,
    trivial, Cert.FfTwoDwPart.value,
    trivial, Cert.FfOneDwPart.value,
    trivial, Cert.InDwPart.value,
    trivial, Cert.OutDwPart.value,
    trivial, Cert.InDxPart.value,
    trivial, Cert.FfOneDxPart.value,
    trivial, Cert.FfTwoDxPart.value,
    trivial, Cert.OutDxPart.value,
    trivial, Cert.WideDxPart.value,
    trivial, Cert.NarrowDxPart.value,
    trivial, Cert.WideDwPart.value,
    trivial, Cert.NarrowDwPart.value,
    trivial, Cert.InFwdPart.value,
    trivial, Cert.FfOneFwdPart.value,
    trivial, Cert.FfTwoFwdPart.value,
    trivial, Cert.OutFwdPart.value,
    trivial, Cert.WideFwdPart.value,
    trivial, Cert.NarrowFwdPart.value,
    trivial, Cert.MergeFwdPart.value,
    trivial, Cert.AdamAdaPart.value,
    trivial, Cert.AdamRestPart.value,
    trivial, Cert.AdaFwdPart.value,
    trivial, Cert.AdaDwPart.value,
    trivial, Cert.SumSmallPart.value,
    trivial, Cert.LossHeadPart.value,
    trivial, Cert.ConvFwdPart.value,
    trivial, Cert.ConvPart.value⟩
